-- ==== Defs.lean ====
def Pre_Kernel [hPre_distinct_positions : Cert.Pre_distinct_positions.Facts] (m : (ℓ : Loc Cert.Kernel.nD Cert.Kernel.τ Cert.Kernel.sig) → Buf (Elt Bits) ℓ) : Prop :=
  ∀ c : Dev Cert.Kernel.nD,
    (Cert.Pre_distinct_positions.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_distinct_positions : Cert.Pre_distinct_positions.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference [hPre_distinct_positions : Cert.Pre_distinct_positions.Facts] (m : (ℓ : Loc Cert.Reference.nD Cert.Reference.τ Cert.Reference.sig) → Buf (Elt Bits) ℓ) : Prop :=
  ∀ c : Dev Cert.Reference.nD,
    (Cert.Pre_distinct_positions.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal [hPre_distinct_positions : Cert.Pre_distinct_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_tiles_of_experts : Cert.Pre_tiles_of_experts.Facts] (m : (ℓ : Loc Cert.Kernel2.nD Cert.Kernel2.τ Cert.Kernel2.sig) → Buf (Elt Bits) ℓ) : Prop :=
  ∀ c : Dev Cert.Kernel2.nD,
    (Cert.Pre_tiles_of_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_tiles_of_experts : Cert.Pre_tiles_of_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_of_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2 [hPre_tiles_of_experts : Cert.Pre_tiles_of_experts.Facts] (m : (ℓ : Loc Cert.Reference2.nD Cert.Reference2.τ Cert.Reference2.sig) → Buf (Elt Bits) ℓ) : Prop :=
  ∀ c : Dev Cert.Reference2.nD,
    (Cert.Pre_tiles_of_experts.fn (F := Bits) (m ((c.tc : Thread Cert.Reference2.nD Cert.Reference2.τ).loc Cert.Reference2.main_arg0)) (m ((c.tc : Thread Cert.Reference2.nD Cert.Reference2.τ).loc Cert.Reference2.main_arg1)) (m ((c.tc : Thread Cert.Reference2.nD Cert.Reference2.τ).loc Cert.Reference2.main_arg2)) (m ((c.tc : Thread Cert.Reference2.nD Cert.Reference2.τ).loc Cert.Reference2.main_arg3)) (m ((c.tc : Thread Cert.Reference2.nD Cert.Reference2.τ).loc Cert.Reference2.main_arg4)) (m ((c.tc : Thread Cert.Reference2.nD Cert.Reference2.τ).loc Cert.Reference2.main_arg5)) (m ((c.tc : Thread Cert.Reference2.nD Cert.Reference2.τ).loc Cert.Reference2.main_arg6)) (m ((c.tc : Thread Cert.Reference2.nD Cert.Reference2.τ).loc Cert.Reference2.main_arg7))) = (fun _ => 1#1)

def Pre_Reference2Ideal [hPre_tiles_of_experts : Cert.Pre_tiles_of_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_of_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 [hPre_rows_inside : Cert.Pre_rows_inside.Facts] (m : (ℓ : Loc Cert.Kernel3.nD Cert.Kernel3.τ Cert.Kernel3.sig) → Buf (Elt Bits) ℓ) : Prop :=
  ∀ c : Dev Cert.Kernel3.nD,
    (Cert.Pre_rows_inside.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_rows_inside : Cert.Pre_rows_inside.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_inside.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3 [hPre_rows_inside : Cert.Pre_rows_inside.Facts] (m : (ℓ : Loc Cert.Reference3.nD Cert.Reference3.τ Cert.Reference3.sig) → Buf (Elt Bits) ℓ) : Prop :=
  ∀ c : Dev Cert.Reference3.nD,
    (Cert.Pre_rows_inside.fn (F := Bits) (m ((c.tc : Thread Cert.Reference3.nD Cert.Reference3.τ).loc Cert.Reference3.main_arg0)) (m ((c.tc : Thread Cert.Reference3.nD Cert.Reference3.τ).loc Cert.Reference3.main_arg1)) (m ((c.tc : Thread Cert.Reference3.nD Cert.Reference3.τ).loc Cert.Reference3.main_arg2)) (m ((c.tc : Thread Cert.Reference3.nD Cert.Reference3.τ).loc Cert.Reference3.main_arg3))) = (fun _ => 1#1)

def Pre_Reference3Ideal [hPre_rows_inside : Cert.Pre_rows_inside.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_inside.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_distinct_positions : Cert.Pre_distinct_positions.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_distinct_positions : Cert.Pre_distinct_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] [hPre_distinct_positions : Cert.Pre_distinct_positions.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] [hPre_distinct_positions : Cert.Pre_distinct_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_tiles_of_experts : Cert.Pre_tiles_of_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_tiles_of_experts : Cert.Pre_tiles_of_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2 [hReference2 : Cert.Reference2.Facts] [hPre_tiles_of_experts : Cert.Pre_tiles_of_experts.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7))
      ∧ r.2.sem = fun _ => 0)

def quiescent_Reference2Ideal [hReference2Ideal : Cert.Reference2Ideal.Facts] [hPre_tiles_of_experts : Cert.Pre_tiles_of_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_rows_inside : Cert.Pre_rows_inside.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_rows_inside : Cert.Pre_rows_inside.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3 [hReference3 : Cert.Reference3.Facts] [hPre_rows_inside : Cert.Pre_rows_inside.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3))
      ∧ r.2.sem = fun _ => 0)

def quiescent_Reference3Ideal [hReference3Ideal : Cert.Reference3Ideal.Facts] [hPre_rows_inside : Cert.Pre_rows_inside.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6)
      ∧ r.2.mem ((c.tc : Thread Cert.Reference4.nD Cert.Reference4.τ).loc Cert.Reference4.main_arg7) = m ((c.tc : Thread Cert.Reference4.nD Cert.Reference4.τ).loc Cert.Reference4.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def bitexact_Kernel_Reference_on_assigned [hKernel : Cert.Kernel.Facts] [hReference : Cert.Reference.Facts] [hPre_distinct_positions : Cert.Pre_distinct_positions.Facts] [hOn_assigned : Cert.On_assigned.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          (∀ i : (⟨2, ![655360, 128]⟩ : Shape).Idx, (Cert.On_assigned.fn (F := Bits) (m ((c.tc : Thread Cert.Kernel.nD Cert.Kernel.τ).loc Cert.Kernel.main_arg0)) (m ((c.tc : Thread Cert.Kernel.nD Cert.Kernel.τ).loc Cert.Kernel.main_arg1))) i = 1#1 → r.2.mem ((c.tc : Thread Cert.Kernel.nD Cert.Kernel.τ).loc Cert.Kernel.main_v0) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          (∀ i : (⟨2, ![655360, 128]⟩ : Shape).Idx, (Cert.On_assigned.fn (F := Bits) (m ((c.tc : Thread Cert.Kernel.nD Cert.Kernel.τ).loc Cert.Kernel.main_arg0)) (m ((c.tc : Thread Cert.Kernel.nD Cert.Kernel.τ).loc Cert.Kernel.main_arg1))) i = 1#1 → r.2.mem ((c.tc : Thread Cert.Reference.nD Cert.Reference.τ).loc Cert.Reference.main_v14) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal_on_assigned [hKernelIdeal : Cert.KernelIdeal.Facts] [hReferenceIdeal : Cert.ReferenceIdeal.Facts] [hPre_distinct_positions : Cert.Pre_distinct_positions.Facts] [hOn_assigned : Cert.On_assigned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![655360, 128]⟩ : Shape).Idx, (Cert.On_assigned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![655360, 128]⟩ : Shape).Idx, (Cert.On_assigned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v14) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_valid_rows [hKernel2Ideal : Cert.Kernel2Ideal.Facts] [hReference2Ideal : Cert.Reference2Ideal.Facts] [hPre_tiles_of_experts : Cert.Pre_tiles_of_experts.Facts] [hOn_valid_rows : Cert.On_valid_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![655360, 128]⟩ : Shape).Idx, (Cert.On_valid_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![655360, 128]⟩ : Shape).Idx, (Cert.On_valid_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Reference2Ideal.nD Cert.Reference2Ideal.τ).loc Cert.Reference2Ideal.main_v52) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def bitexact_Kernel3_Reference3 [hKernel3 : Cert.Kernel3.Facts] [hReference3 : Cert.Reference3.Facts] [hPre_rows_inside : Cert.Pre_rows_inside.Facts] : Prop :=
  ∀ (m : (ℓ : Loc Cert.Kernel3.nD Cert.Kernel3.τ Cert.Kernel3.sig) → Buf (Elt Bits) ℓ) (g : Dev Cert.Kernel3.nD → PrngReg)
    (m' : (ℓ : Loc Cert.Reference3.nD Cert.Reference3.τ Cert.Reference3.sig) → Buf (Elt Bits) ℓ) (g' : Dev Cert.Reference3.nD → PrngReg), Pre_Kernel3 m →
    (∀ c : Dev Cert.Kernel3.nD,
      m' ((c.tc : Thread Cert.Reference3.nD Cert.Reference3.τ).loc Cert.Reference3.main_arg0) = m ((c.tc : Thread Cert.Kernel3.nD Cert.Kernel3.τ).loc Cert.Kernel3.main_arg0)
      ∧ m' ((c.tc : Thread Cert.Reference3.nD Cert.Reference3.τ).loc Cert.Reference3.main_arg1) = m ((c.tc : Thread Cert.Kernel3.nD Cert.Kernel3.τ).loc Cert.Kernel3.main_arg1)
      ∧ m' ((c.tc : Thread Cert.Reference3.nD Cert.Reference3.τ).loc Cert.Reference3.main_arg2) = m ((c.tc : Thread Cert.Kernel3.nD Cert.Kernel3.τ).loc Cert.Kernel3.main_arg2)
      ∧ m' ((c.tc : Thread Cert.Reference3.nD Cert.Reference3.τ).loc Cert.Reference3.main_arg3) = m ((c.tc : Thread Cert.Kernel3.nD Cert.Kernel3.τ).loc Cert.Kernel3.main_arg3)) →
    ∃ (v0 : (c : Dev Cert.Kernel3.nD) → Buf (Elt Bits) ((c.tc : Thread Cert.Kernel3.nD Cert.Kernel3.τ).loc Cert.Kernel3.main_v0)),
      θ_run (Cert.Kernel3.defs (F := Bits)) (onTc (τ := Cert.Kernel3.τ) (Cert.Kernel3.main (F := Bits))) ⟨m, fun _ => 0, g⟩ (fun r => ∀ c : Dev Cert.Kernel3.nD,
          r.2.mem ((c.tc : Thread Cert.Kernel3.nD Cert.Kernel3.τ).loc Cert.Kernel3.main_v0) = v0 c
          ∧ r.2.mem ((c.tc : Thread Cert.Kernel3.nD Cert.Kernel3.τ).loc Cert.Kernel3.main_arg0) = m ((c.tc : Thread Cert.Kernel3.nD Cert.Kernel3.τ).loc Cert.Kernel3.main_arg0)
          ∧ r.2.mem ((c.tc : Thread Cert.Kernel3.nD Cert.Kernel3.τ).loc Cert.Kernel3.main_arg1) = m ((c.tc : Thread Cert.Kernel3.nD Cert.Kernel3.τ).loc Cert.Kernel3.main_arg1)
          ∧ r.2.mem ((c.tc : Thread Cert.Kernel3.nD Cert.Kernel3.τ).loc Cert.Kernel3.main_arg2) = m ((c.tc : Thread Cert.Kernel3.nD Cert.Kernel3.τ).loc Cert.Kernel3.main_arg2)
          ∧ r.2.mem ((c.tc : Thread Cert.Kernel3.nD Cert.Kernel3.τ).loc Cert.Kernel3.main_arg3) = m ((c.tc : Thread Cert.Kernel3.nD Cert.Kernel3.τ).loc Cert.Kernel3.main_arg3))
      ∧ θ_run (Cert.Reference3.defs (F := Bits)) (onTc (τ := Cert.Reference3.τ) (Cert.Reference3.main (F := Bits))) ⟨m', fun _ => 0, g'⟩ (fun r => ∀ c : Dev Cert.Reference3.nD,
          r.2.mem ((c.tc : Thread Cert.Reference3.nD Cert.Reference3.τ).loc Cert.Reference3.main_v38) = v0 c
          ∧ r.2.mem ((c.tc : Thread Cert.Reference3.nD Cert.Reference3.τ).loc Cert.Reference3.main_arg0) = m' ((c.tc : Thread Cert.Reference3.nD Cert.Reference3.τ).loc Cert.Reference3.main_arg0)
          ∧ r.2.mem ((c.tc : Thread Cert.Reference3.nD Cert.Reference3.τ).loc Cert.Reference3.main_arg1) = m' ((c.tc : Thread Cert.Reference3.nD Cert.Reference3.τ).loc Cert.Reference3.main_arg1)
          ∧ r.2.mem ((c.tc : Thread Cert.Reference3.nD Cert.Reference3.τ).loc Cert.Reference3.main_arg2) = m' ((c.tc : Thread Cert.Reference3.nD Cert.Reference3.τ).loc Cert.Reference3.main_arg2)
          ∧ r.2.mem ((c.tc : Thread Cert.Reference3.nD Cert.Reference3.τ).loc Cert.Reference3.main_arg3) = m' ((c.tc : Thread Cert.Reference3.nD Cert.Reference3.τ).loc Cert.Reference3.main_arg3))

def algebraic_Kernel3Ideal_Reference3Ideal [hKernel3Ideal : Cert.Kernel3Ideal.Facts] [hReference3Ideal : Cert.Reference3Ideal.Facts] [hPre_rows_inside : Cert.Pre_rows_inside.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v43_0)) (v1 : (c : Dev Cert.Kernel4Ideal.nD) → Buf (Elt Ideal) ((c.tc : Thread Cert.Kernel4Ideal.nD Cert.Kernel4Ideal.τ).loc Cert.Kernel4Ideal.main_v43_1)) (v2 : (c : Dev Cert.Kernel4Ideal.nD) → Buf (Elt Ideal) ((c.tc : Thread Cert.Kernel4Ideal.nD Cert.Kernel4Ideal.τ).loc Cert.Kernel4Ideal.main_v43_2)) (v3 : (c : Dev Cert.Kernel4Ideal.nD) → Buf (Elt Ideal) ((c.tc : Thread Cert.Kernel4Ideal.nD Cert.Kernel4Ideal.τ).loc Cert.Kernel4Ideal.main_v43_3)) (v4 : (c : Dev Cert.Kernel4Ideal.nD) → Buf (Elt Ideal) ((c.tc : Thread Cert.Kernel4Ideal.nD Cert.Kernel4Ideal.τ).loc Cert.Kernel4Ideal.main_v43_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v43_0) = v0 c
          ∧ r.2.mem ((c.tc : Thread Cert.Kernel4Ideal.nD Cert.Kernel4Ideal.τ).loc Cert.Kernel4Ideal.main_v43_1) = v1 c
          ∧ r.2.mem ((c.tc : Thread Cert.Kernel4Ideal.nD Cert.Kernel4Ideal.τ).loc Cert.Kernel4Ideal.main_v43_2) = v2 c
          ∧ r.2.mem ((c.tc : Thread Cert.Kernel4Ideal.nD Cert.Kernel4Ideal.τ).loc Cert.Kernel4Ideal.main_v43_3) = v3 c
          ∧ r.2.mem ((c.tc : Thread Cert.Kernel4Ideal.nD Cert.Kernel4Ideal.τ).loc Cert.Kernel4Ideal.main_v43_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v20) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReference : Cert.Reference.Facts) (hReferenceIdeal : Cert.ReferenceIdeal.Facts) (hKernel2 : Cert.Kernel2.Facts) (hKernel2Ideal : Cert.Kernel2Ideal.Facts) (hReference2 : Cert.Reference2.Facts) (hReference2Ideal : Cert.Reference2Ideal.Facts) (hKernel3 : Cert.Kernel3.Facts) (hKernel3Ideal : Cert.Kernel3Ideal.Facts) (hReference3 : Cert.Reference3.Facts) (hReference3Ideal : Cert.Reference3Ideal.Facts) (hKernel4 : Cert.Kernel4.Facts) (hKernel4Ideal : Cert.Kernel4Ideal.Facts) (hReference4 : Cert.Reference4.Facts) (hReference4Ideal : Cert.Reference4Ideal.Facts) (hPre_distinct_positions : Cert.Pre_distinct_positions.Facts) (hPre_tiles_of_experts : Cert.Pre_tiles_of_experts.Facts) (hPre_rows_inside : Cert.Pre_rows_inside.Facts) (hOn_assigned : Cert.On_assigned.Facts) (hOn_valid_rows : Cert.On_valid_rows.Facts),
    quiescent_Kernel (hKernel := hKernel) (hPre_distinct_positions := hPre_distinct_positions)
    ∧ quiescent_KernelIdeal (hKernelIdeal := hKernelIdeal) (hPre_distinct_positions := hPre_distinct_positions)
    ∧ quiescent_Reference (hReference := hReference) (hPre_distinct_positions := hPre_distinct_positions)
    ∧ quiescent_ReferenceIdeal (hReferenceIdeal := hReferenceIdeal) (hPre_distinct_positions := hPre_distinct_positions)
    ∧ quiescent_Kernel2 (hKernel2 := hKernel2) (hPre_tiles_of_experts := hPre_tiles_of_experts)
    ∧ quiescent_Kernel2Ideal (hKernel2Ideal := hKernel2Ideal) (hPre_tiles_of_experts := hPre_tiles_of_experts)
    ∧ quiescent_Reference2 (hReference2 := hReference2) (hPre_tiles_of_experts := hPre_tiles_of_experts)
    ∧ quiescent_Reference2Ideal (hReference2Ideal := hReference2Ideal) (hPre_tiles_of_experts := hPre_tiles_of_experts)
    ∧ quiescent_Kernel3 (hKernel3 := hKernel3) (hPre_rows_inside := hPre_rows_inside)
    ∧ quiescent_Kernel3Ideal (hKernel3Ideal := hKernel3Ideal) (hPre_rows_inside := hPre_rows_inside)
    ∧ quiescent_Reference3 (hReference3 := hReference3) (hPre_rows_inside := hPre_rows_inside)
    ∧ quiescent_Reference3Ideal (hReference3Ideal := hReference3Ideal) (hPre_rows_inside := hPre_rows_inside)
    ∧ quiescent_Kernel4 (hKernel4 := hKernel4)
    ∧ quiescent_Kernel4Ideal (hKernel4Ideal := hKernel4Ideal)
    ∧ quiescent_Reference4 (hReference4 := hReference4)
    ∧ quiescent_Reference4Ideal (hReference4Ideal := hReference4Ideal)
    ∧ preserves_Kernel_KernelIdeal
    ∧ bitexact_Kernel_Reference_on_assigned (hKernel := hKernel) (hReference := hReference) (hPre_distinct_positions := hPre_distinct_positions) (hOn_assigned := hOn_assigned)
    ∧ algebraic_KernelIdeal_ReferenceIdeal_on_assigned (hKernelIdeal := hKernelIdeal) (hReferenceIdeal := hReferenceIdeal) (hPre_distinct_positions := hPre_distinct_positions) (hOn_assigned := hOn_assigned)
    ∧ preserves_Kernel2_Kernel2Ideal
    ∧ algebraic_Kernel2Ideal_Reference2Ideal_on_valid_rows (hKernel2Ideal := hKernel2Ideal) (hReference2Ideal := hReference2Ideal) (hPre_tiles_of_experts := hPre_tiles_of_experts) (hOn_valid_rows := hOn_valid_rows)
    ∧ preserves_Kernel3_Kernel3Ideal
    ∧ bitexact_Kernel3_Reference3 (hKernel3 := hKernel3) (hReference3 := hReference3) (hPre_rows_inside := hPre_rows_inside)
    ∧ algebraic_Kernel3Ideal_Reference3Ideal (hKernel3Ideal := hKernel3Ideal) (hReference3Ideal := hReference3Ideal) (hPre_rows_inside := hPre_rows_inside)
    ∧ preserves_Kernel4_Kernel4Ideal
    ∧ algebraic_Kernel4Ideal_Reference4Ideal (hKernel4Ideal := hKernel4Ideal) (hReference4Ideal := hReference4Ideal)
-- ==== On_assigned.lean ====
abbrev S32x1x2048 : Shape := ⟨3, ![32, 1, 2048]⟩
abbrev S131072x128 : Shape := ⟨2, ![131072, 128]⟩
abbrev S65536 : Shape := ⟨1, ![65536]⟩
abbrev S_ : Shape := ⟨0, ![]⟩
abbrev S81920 : Shape := ⟨1, ![81920]⟩
abbrev S65536x1 : Shape := ⟨2, ![65536, 1]⟩
abbrev S81920x1x1 : Shape := ⟨3, ![81920, 1, 1]⟩
abbrev S81920x8x128 : Shape := ⟨3, ![81920, 8, 128]⟩
abbrev S655360x128 : Shape := ⟨2, ![655360, 128]⟩

class Facts : Prop where
  shapeCasts_S32x1x2048_S65536 : S32x1x2048.ShapeCasts S65536
  bcast_S_S65536 : S_.BroadcastsInDim S65536 (![] : Fin 0 → Fin S65536.rank)
  bcast_S_S81920 : S_.BroadcastsInDim S81920 (![] : Fin 0 → Fin S81920.rank)
  bcast_S65536_S65536x1_0 : S65536.BroadcastsInDim S65536x1 (![0] : Fin 1 → Fin S65536x1.rank)
  bcast_S81920_S81920x1x1_0 : S81920.BroadcastsInDim S81920x1x1 (![0] : Fin 1 → Fin S81920x1x1.rank)
  bcast_S81920x1x1_S81920x8x128_0_1_2 : S81920x1x1.BroadcastsInDim S81920x8x128 (![0, 1, 2] : Fin 3 → Fin S81920x8x128.rank)
  shapeCasts_S81920x8x128_S655360x128 : S81920x8x128.ShapeCasts S655360x128
  scatter_S81920_S65536x1_S65536_n_0_0_1_wf : ScatterDims.WF S81920 S65536x1 S65536 [] [0] [0] 1

variable [Facts]

def scatter_S81920_S65536x1_S65536_n_0_0_1 : ScatterDims S81920 S65536x1 S65536 where
  updateWindowDims := []
  insertedWindowDims := [0]
  scatterDimsToOperandDims := [0]
  indexVectorDim := 1
  wf := scatter_S81920_S65536x1_S65536_n_0_0_1_wf
def fn {F : FTy → Type} [FloatOps F] (main_arg0 : IVec S32x1x2048 32) (main_arg1 : FVec F S131072x128 .f32) : IVec S655360x128 1 :=
  let main_v0 : IVec S65536 32 := shapeCast S65536 main_arg0 shapeCasts_S32x1x2048_S65536
  let main_c : IVec S_ 32 := constantI S_ 32 8#32
  let main_v1 : IVec S65536 32 := broadcastInDim S65536 ![] bcast_S_S65536 main_c
  let main_v2 : IVec S65536 32 := Host.divsi main_v0 main_v1
  let main_c_0 : IVec S_ 32 := constantI S_ 32 0#32
  let main_v3 : IVec S81920 32 := broadcastInDim S81920 ![] bcast_S_S81920 main_c_0
  let main_c_1 : IVec S_ 32 := constantI S_ 32 0#32
  let main_v4 : IVec S65536 32 := broadcastInDim S65536 ![] bcast_S_S65536 main_c_1
  let main_v5 : IVec S65536 1 := cmpi .slt main_v2 main_v4
  let main_c_2 : IVec S_ 32 := constantI S_ 32 81920#32
  let main_v6 : IVec S65536 32 := broadcastInDim S65536 ![] bcast_S_S65536 main_c_2
  let main_v7 : IVec S65536 32 := addi main_v2 main_v6
  let main_v8 : IVec S65536 32 := select main_v5 main_v7 main_v2
  let main_v9 : IVec S65536x1 32 := broadcastInDim S65536x1 ![0] bcast_S65536_S65536x1_0 main_v8
  let main_c_3 : IVec S_ 32 := constantI S_ 32 1#32
  let main_v10 : IVec S65536 32 := broadcastInDim S65536 ![] bcast_S_S65536 main_c_3
  let main_v11 : IVec S81920 32 := (fun x i u => Host.scatter scatter_S81920_S65536x1_S65536_n_0_0_1 (fun _ b => b) x i u) main_v3 main_v9 main_v10
  let main_c_4 : IVec S_ 32 := constantI S_ 32 0#32
  let main_v12 : IVec S81920 32 := broadcastInDim S81920 ![] bcast_S_S81920 main_c_4
  let main_v13 : IVec S81920 1 := cmpi .sgt main_v11 main_v12
  let main_v14 : IVec S81920x1x1 1 := broadcastInDim S81920x1x1 ![0] bcast_S81920_S81920x1x1_0 main_v13
  let main_v15 : IVec S81920x8x128 1 := broadcastInDim S81920x8x128 ![0, 1, 2] bcast_S81920x1x1_S81920x8x128_0_1_2 main_v14
  let main_v16 : IVec S655360x128 1 := shapeCast S655360x128 main_v15 shapeCasts_S81920x8x128_S655360x128
  main_v16
-- ==== On_valid_rows.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S160x512x8x128 : Shape := ⟨4, ![160, 512, 8, 128]⟩
abbrev S_ : Shape := ⟨0, ![]⟩
abbrev S160x1x1x1 : Shape := ⟨4, ![160, 1, 1, 1]⟩

class Facts : Prop where
  shapeCasts_S1_S_ : S1.ShapeCasts S_
  bcast_S_S160x512x8x128 : S_.BroadcastsInDim S160x512x8x128 (![] : Fin 0 → Fin S160x512x8x128.rank)
  bcast_S160_S160x1x1x1_0 : S160.BroadcastsInDim S160x1x1x1 (![0] : Fin 1 → Fin S160x1x1x1.rank)
  bcast_S160x1x1x1_S160x512x8x128_0_1_2_3 : S160x1x1x1.BroadcastsInDim S160x512x8x128 (![0, 1, 2, 3] : Fin 4 → Fin S160x512x8x128.rank)
  shapeCasts_S160x512x8x128_S655360x128 : S160x512x8x128.ShapeCasts S655360x128

variable [Facts]

def fn {F : FTy → Type} [FloatOps F] (main_arg0 : IVec S160 32) (main_arg1 : IVec S160 32) (main_arg2 : IVec S1 32) (main_arg3 : FVec F S655360x128 .f32) (main_arg4 : FVec F S32x1024x2048 .f32) (main_arg5 : FVec F S32x1x2048 .f32) (main_arg6 : FVec F S32x1024x1024 .f32) (main_arg7 : FVec F S32x1x1024 .f32) : IVec S655360x128 1 :=
  let main_v0 : IVec S160x512x8x128 32 := iotaInDim S160x512x8x128 32 0
  let main_v1 : IVec S160x512x8x128 32 := iotaInDim S160x512x8x128 32 1
  let main_v2 : IVec S_ 32 := shapeCast S_ main_arg2 shapeCasts_S1_S_
  let main_v3 : IVec S160x512x8x128 32 := broadcastInDim S160x512x8x128 ![] bcast_S_S160x512x8x128 main_v2
  let main_v4 : IVec S160x512x8x128 1 := cmpi .slt main_v0 main_v3
  let main_v5 : IVec S160x1x1x1 32 := broadcastInDim S160x1x1x1 ![0] bcast_S160_S160x1x1x1_0 main_arg1
  let main_v6 : IVec S160x512x8x128 32 := broadcastInDim S160x512x8x128 ![0, 1, 2, 3] bcast_S160x1x1x1_S160x512x8x128_0_1_2_3 main_v5
  let main_v7 : IVec S160x512x8x128 1 := cmpi .slt main_v1 main_v6
  let main_v8 : IVec S160x512x8x128 1 := andi main_v4 main_v7
  let main_v9 : IVec S655360x128 1 := shapeCast S655360x128 main_v8 shapeCasts_S160x512x8x128_S655360x128
  main_v9
-- ==== Pre_distinct_positions.lean ====
abbrev S32x1x2048 : Shape := ⟨3, ![32, 1, 2048]⟩
abbrev S131072x128 : Shape := ⟨2, ![131072, 128]⟩
abbrev S65536 : Shape := ⟨1, ![65536]⟩
abbrev S_ : Shape := ⟨0, ![]⟩
abbrev S65535 : Shape := ⟨1, ![65535]⟩

class Facts : Prop where
  shapeCasts_S32x1x2048_S65536 : S32x1x2048.ShapeCasts S65536
  bcast_S_S65536 : S_.BroadcastsInDim S65536 (![] : Fin 0 → Fin S65536.rank)
  reducesTo_S65536_S_d0 : S65536.ReducesTo [0] S_
  h_S_ : 0 < S_.numel
  slices_S65536_S65535_0 : S65536.Slices ![0] S65535
  slices_S65536_S65535_1 : S65536.Slices ![1] S65535
  reducesTo_S65535_S_d0 : S65535.ReducesTo [0] S_

variable [Facts]

def comparator_i32_d0 : BitVec 32 → BitVec 32 → BitVec 1 :=
  fun l r =>
    let v20 := IntOp.cmpi .slt l r
    v20
def fn_part1 {F : FTy → Type} [FloatOps F] (main_v14 : IVec S_ 1) (main_v15 : IVec S65535 32) (main_v16 : IVec S65535 32) : IVec S_ 1 :=
  let main_v17 : IVec S65535 1 := cmpi .slt main_v15 main_v16
  let main_c_6 : IVec S_ 1 := constantI S_ 1 1#1
  let main_v18 : IVec S_ 1 := (fun x v => Host.reduce IntOp.andi x v reducesTo_S65535_S_d0 h_S_) main_v17 main_c_6
  let main_v19 : IVec S_ 1 := andi main_v14 main_v18
  main_v19

def fn {F : FTy → Type} [FloatOps F] (main_arg0 : IVec S32x1x2048 32) (main_arg1 : FVec F S131072x128 .f32) : IVec S_ 1 :=
  let main_v0 : IVec S65536 32 := shapeCast S65536 main_arg0 shapeCasts_S32x1x2048_S65536
  let main_v1 : IVec S65536 32 := (fun x => Host.sort S65536 0 comparator_i32_d0 x) main_v0
  let main_c : IVec S_ 32 := constantI S_ 32 0#32
  let main_v2 : IVec S65536 32 := broadcastInDim S65536 ![] bcast_S_S65536 main_c
  let main_v3 : IVec S65536 1 := cmpi .sge main_v0 main_v2
  let main_c_0 : IVec S_ 1 := constantI S_ 1 1#1
  let main_v4 : IVec S_ 1 := (fun x v => Host.reduce IntOp.andi x v reducesTo_S65536_S_d0 h_S_) main_v3 main_c_0
  let main_c_1 : IVec S_ 32 := constantI S_ 32 655352#32
  let main_v5 : IVec S65536 32 := broadcastInDim S65536 ![] bcast_S_S65536 main_c_1
  let main_v6 : IVec S65536 1 := cmpi .sle main_v0 main_v5
  let main_c_2 : IVec S_ 1 := constantI S_ 1 1#1
  let main_v7 : IVec S_ 1 := (fun x v => Host.reduce IntOp.andi x v reducesTo_S65536_S_d0 h_S_) main_v6 main_c_2
  let main_v8 : IVec S_ 1 := andi main_v4 main_v7
  let main_c_3 : IVec S_ 32 := constantI S_ 32 7#32
  let main_v9 : IVec S65536 32 := broadcastInDim S65536 ![] bcast_S_S65536 main_c_3
  let main_v10 : IVec S65536 32 := andi main_v0 main_v9
  let main_c_4 : IVec S_ 32 := constantI S_ 32 0#32
  let main_v11 : IVec S65536 32 := broadcastInDim S65536 ![] bcast_S_S65536 main_c_4
  let main_v12 : IVec S65536 1 := cmpi .eq main_v10 main_v11
  let main_c_5 : IVec S_ 1 := constantI S_ 1 1#1
  let main_v13 : IVec S_ 1 := (fun x v => Host.reduce IntOp.andi x v reducesTo_S65536_S_d0 h_S_) main_v12 main_c_5
  let main_v14 : IVec S_ 1 := andi main_v8 main_v13
  let main_v15 : IVec S65535 32 := (extractStridedSlice S65535 ![0] · slices_S65536_S65535_0) main_v1
  let main_v16 : IVec S65535 32 := (extractStridedSlice S65535 ![1] · slices_S65536_S65535_1) main_v1
  fn_part1 (F := F) main_v14 main_v15 main_v16
-- ==== Pre_rows_inside.lean ====
abbrev S32x1x2048 : Shape := ⟨3, ![32, 1, 2048]⟩
abbrev S655360x128 : Shape := ⟨2, ![655360, 128]⟩
abbrev S16384x1024 : Shape := ⟨2, ![16384, 1024]⟩
abbrev S16384x128 : Shape := ⟨2, ![16384, 128]⟩
abbrev S_ : Shape := ⟨0, ![]⟩

class Facts : Prop where
  bcast_S_S32x1x2048 : S_.BroadcastsInDim S32x1x2048 (![] : Fin 0 → Fin S32x1x2048.rank)
  reducesTo_S32x1x2048_S_d0_1_2 : S32x1x2048.ReducesTo [0, 1, 2] S_
  h_S_ : 0 < S_.numel

variable [Facts]

def fn {F : FTy → Type} [FloatOps F] (main_arg0 : IVec S32x1x2048 32) (main_arg1 : FVec F S655360x128 .f32) (main_arg2 : FVec F S16384x1024 .f32) (main_arg3 : FVec F S16384x128 .f32) : IVec S_ 1 :=
  let main_c : IVec S_ 32 := constantI S_ 32 0#32
  let main_v0 : IVec S32x1x2048 32 := broadcastInDim S32x1x2048 ![] bcast_S_S32x1x2048 main_c
  let main_v1 : IVec S32x1x2048 1 := cmpi .sge main_arg0 main_v0
  let main_c_0 : IVec S_ 1 := constantI S_ 1 1#1
  let main_v2 : IVec S_ 1 := (fun x v => Host.reduce IntOp.andi x v reducesTo_S32x1x2048_S_d0_1_2 h_S_) main_v1 main_c_0
  let main_c_1 : IVec S_ 32 := constantI S_ 32 655352#32
  let main_v3 : IVec S32x1x2048 32 := broadcastInDim S32x1x2048 ![] bcast_S_S32x1x2048 main_c_1
  let main_v4 : IVec S32x1x2048 1 := cmpi .sle main_arg0 main_v3
  let main_c_2 : IVec S_ 1 := constantI S_ 1 1#1
  let main_v5 : IVec S_ 1 := (fun x v => Host.reduce IntOp.andi x v reducesTo_S32x1x2048_S_d0_1_2 h_S_) main_v4 main_c_2
  let main_v6 : IVec S_ 1 := andi main_v2 main_v5
  let main_c_3 : IVec S_ 32 := constantI S_ 32 7#32
  let main_v7 : IVec S32x1x2048 32 := broadcastInDim S32x1x2048 ![] bcast_S_S32x1x2048 main_c_3
  let main_v8 : IVec S32x1x2048 32 := andi main_arg0 main_v7
  let main_c_4 : IVec S_ 32 := constantI S_ 32 0#32
  let main_v9 : IVec S32x1x2048 32 := broadcastInDim S32x1x2048 ![] bcast_S_S32x1x2048 main_c_4
  let main_v10 : IVec S32x1x2048 1 := cmpi .eq main_v8 main_v9
  let main_c_5 : IVec S_ 1 := constantI S_ 1 1#1
  let main_v11 : IVec S_ 1 := (fun x v => Host.reduce IntOp.andi x v reducesTo_S32x1x2048_S_d0_1_2 h_S_) main_v10 main_c_5
  let main_v12 : IVec S_ 1 := andi main_v6 main_v11
  main_v12
-- ==== Pre_tiles_of_experts.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_
  shapeCasts_S1_S_ : S1.ShapeCasts S_

variable [Facts]

def fn_part1 {F : FTy → Type} [FloatOps F] (main_v10 : IVec S_ 1) (main_v14 : IVec S160 1) (main_v16 : IVec S160 1) : IVec S_ 1 :=
  let main_v17 : IVec S160 1 := ori main_v14 main_v16
  let main_c_6 : IVec S_ 1 := constantI S_ 1 1#1
  let main_v18 : IVec S_ 1 := (fun x v => Host.reduce IntOp.andi x v reducesTo_S160_S_d0 h_S_) main_v17 main_c_6
  let main_v19 : IVec S_ 1 := andi main_v10 main_v18
  main_v19

def fn {F : FTy → Type} [FloatOps F] (main_arg0 : IVec S160 32) (main_arg1 : IVec S160 32) (main_arg2 : IVec S1 32) (main_arg3 : FVec F S655360x128 .f32) (main_arg4 : FVec F S32x1024x2048 .f32) (main_arg5 : FVec F S32x1x2048 .f32) (main_arg6 : FVec F S32x1024x1024 .f32) (main_arg7 : FVec F S32x1x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 32#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_c_3 : IVec S_ 32 := constantI S_ 32 0#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_v11 : IVec S160 32 := iotaInDim S160 32 0
  let main_v12 : IVec S_ 32 := shapeCast S_ main_arg2 shapeCasts_S1_S_
  let main_v13 : IVec S160 32 := broadcastInDim S160 ![] bcast_S_S160 main_v12
  let main_v14 : IVec S160 1 := cmpi .sge main_v11 main_v13
  let main_c_5 : IVec S_ 32 := constantI S_ 32 0#32
  let main_v15 : IVec S160 32 := broadcastInDim S160 ![] bcast_S_S160 main_c_5
  let main_v16 : IVec S160 1 := cmpi .sgt main_arg1 main_v15
  fn_part1 (F := F) main_v10 main_v14 main_v16
-- ==== Kernel.lean ====
abbrev S32x1x2048 : Shape := ⟨3, ![32, 1, 2048]⟩
abbrev S131072x128 : Shape := ⟨2, ![131072, 128]⟩
abbrev S655360x128 : Shape := ⟨2, ![655360, 128]⟩
abbrev S1x1x2048 : Shape := ⟨3, ![1, 1, 2048]⟩
abbrev S4096x128 : Shape := ⟨2, ![4096, 128]⟩
abbrev S_ : Shape := ⟨0, ![]⟩
abbrev S1x1x1 : Shape := ⟨3, ![1, 1, 1]⟩
abbrev S8x128 : Shape := ⟨2, ![8, 128]⟩

abbrev nBuf : Space → Nat
  | .hbm => 3
  | .vmem => 2
  | .smem => 2
  | _ => 0

abbrev bufTy : (tb : Table) → Fin (tcTables nBuf tb) → BufTy
  | .hbm, ⟨0, _⟩ => ⟨S32x1x2048, .i32⟩
  | .hbm, ⟨1, _⟩ => ⟨S131072x128, .f32⟩
  | .hbm, ⟨2, _⟩ => ⟨S655360x128, .f32⟩
  | .local _ .vmem, ⟨0, _⟩ => ⟨S4096x128, .f32⟩
  | .local _ .vmem, ⟨1, _⟩ => ⟨S4096x128, .f32⟩
  | .local _ .smem, ⟨0, _⟩ => ⟨S1x1x2048, .i32⟩
  | .local _ .smem, ⟨1, _⟩ => ⟨S1x1x2048, .i32⟩
  | _, _ => ⟨S32x1x2048, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v5 : BitVec 32 := Scalar.muli arg5 c8_i32
  v5
def k0_off1 (k0_t1 : Fin k0_t1_loop.trips) : Fin 3 → Nat :=
  let c0 : Index := 0#32
  let c0_10 : Index := 0#32
  let c0_i32_9 : BitVec 32 := 0#32
  let c0_i32 : BitVec 32 := 0#32
  let c1_i32 : BitVec 32 := 1#32
  let arg5 : BitVec 32 := Scf.iv c0_i32 c1_i32 k0_t1
  let v7 : BitVec 32 := Scalar.addi c0_i32_9 arg5
  let v8 : Index := Scalar.indexCast v7
  ![0, 0, v8.toNat]
def k0_mult2 (v9 : BitVec 32) : BitVec 32 :=
  v9

def k0_off2 (v9 : BitVec 32) : Fin 2 → Nat :=
  let v10 : BitVec 32 := v9
  let c0_i32_11 : BitVec 32 := 0#32
  ![v10.toNat, 0]

def k0_chk1 (v9 : BitVec 32) : Prop :=
  (8 ∣ (k0_mult2 v9).toNat) ∧
  (∀ a, (k0_off2 v9) a + S8x128.size a ≤ S655360x128.size a)
theorem k0_mult2_dvd : ∀ (v9 : BitVec 32) (k0_hw1 : k0_chk1 v9), 8 ∣ (k0_mult2 v9).toNat := fun v9 k0_hw1 => k0_hw1.1
theorem k0_off2_inb : ∀ (v9 : BitVec 32) (k0_hw1 : k0_chk1 v9), ∀ a, (k0_off2 v9) a + S8x128.size a ≤ S655360x128.size a := fun v9 k0_hw1 => k0_hw1.2

def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v5 : BitVec 32 := Scalar.muli arg5 c8_i32
  let v6 : BitVec 32 := v5
  let c0_i32_12 : BitVec 32 := 0#32
  ![v6.toNat, 0]
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_13 : BitVec 32 := 8#32
  let v13 : BitVec 32 := Scalar.muli arg5 c8_i32_13
  v13
def k0_off4 (k0_t1 : Fin k0_t1_loop.trips) : Fin 3 → Nat :=
  let c0_15 : Index := 0#32
  let c0_16 : Index := 0#32
  let c512_i32_14 : BitVec 32 := 512#32
  let c0_i32 : BitVec 32 := 0#32
  let c1_i32 : BitVec 32 := 1#32
  let arg5 : BitVec 32 := Scf.iv c0_i32 c1_i32 k0_t1
  let v15 : BitVec 32 := Scalar.addi c512_i32_14 arg5
  let v16 : Index := Scalar.indexCast v15
  ![0, 0, v16.toNat]
def k0_mult4 (v17 : BitVec 32) : BitVec 32 :=
  v17

def k0_off5 (v17 : BitVec 32) : Fin 2 → Nat :=
  let v18 : BitVec 32 := v17
  let c0_i32_17 : BitVec 32 := 0#32
  ![v18.toNat, 0]

def k0_chk2 (v17 : BitVec 32) : Prop :=
  (8 ∣ (k0_mult4 v17).toNat) ∧
  (∀ a, (k0_off5 v17) a + S8x128.size a ≤ S655360x128.size a)
theorem k0_mult4_dvd : ∀ (v17 : BitVec 32) (k0_hw2 : k0_chk2 v17), 8 ∣ (k0_mult4 v17).toNat := fun v17 k0_hw2 => k0_hw2.1
theorem k0_off5_inb : ∀ (v17 : BitVec 32) (k0_hw2 : k0_chk2 v17), ∀ a, (k0_off5 v17) a + S8x128.size a ≤ S655360x128.size a := fun v17 k0_hw2 => k0_hw2.2

def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32_13 : BitVec 32 := 8#32
  let v13 : BitVec 32 := Scalar.muli arg5 c8_i32_13
  let v14 : BitVec 32 := v13
  let c0_i32_18 : BitVec 32 := 0#32
  ![v14.toNat, 0]
def k0_mult5 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_19 : BitVec 32 := 8#32
  let v21 : BitVec 32 := Scalar.muli arg5 c8_i32_19
  v21
def k0_off7 (k0_t1 : Fin k0_t1_loop.trips) : Fin 3 → Nat :=
  let c0_20 : Index := 0#32
  let c0_21 : Index := 0#32
  let c1024_i32 : BitVec 32 := 1024#32
  let c0_i32 : BitVec 32 := 0#32
  let c1_i32 : BitVec 32 := 1#32
  let arg5 : BitVec 32 := Scf.iv c0_i32 c1_i32 k0_t1
  let v23 : BitVec 32 := Scalar.addi c1024_i32 arg5
  let v24 : Index := Scalar.indexCast v23
  ![0, 0, v24.toNat]
def k0_mult6 (v25 : BitVec 32) : BitVec 32 :=
  v25

def k0_off8 (v25 : BitVec 32) : Fin 2 → Nat :=
  let v26 : BitVec 32 := v25
  let c0_i32_22 : BitVec 32 := 0#32
  ![v26.toNat, 0]

def k0_chk3 (v25 : BitVec 32) : Prop :=
  (8 ∣ (k0_mult6 v25).toNat) ∧
  (∀ a, (k0_off8 v25) a + S8x128.size a ≤ S655360x128.size a)
theorem k0_mult6_dvd : ∀ (v25 : BitVec 32) (k0_hw3 : k0_chk3 v25), 8 ∣ (k0_mult6 v25).toNat := fun v25 k0_hw3 => k0_hw3.1
theorem k0_off8_inb : ∀ (v25 : BitVec 32) (k0_hw3 : k0_chk3 v25), ∀ a, (k0_off8 v25) a + S8x128.size a ≤ S655360x128.size a := fun v25 k0_hw3 => k0_hw3.2

def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32_19 : BitVec 32 := 8#32
  let v21 : BitVec 32 := Scalar.muli arg5 c8_i32_19
  let v22 : BitVec 32 := v21
  let c0_i32_23 : BitVec 32 := 0#32
  ![v22.toNat, 0]
def k0_mult7 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_24 : BitVec 32 := 8#32
  let v29 : BitVec 32 := Scalar.muli arg5 c8_i32_24
  v29
def k0_off10 (k0_t1 : Fin k0_t1_loop.trips) : Fin 3 → Nat :=
  let c0_25 : Index := 0#32
  let c0_26 : Index := 0#32
  let c1536_i32 : BitVec 32 := 1536#32
  let c0_i32 : BitVec 32 := 0#32
  let c1_i32 : BitVec 32 := 1#32
  let arg5 : BitVec 32 := Scf.iv c0_i32 c1_i32 k0_t1
  let v31 : BitVec 32 := Scalar.addi c1536_i32 arg5
  let v32 : Index := Scalar.indexCast v31
  ![0, 0, v32.toNat]
def k0_mult8 (v33 : BitVec 32) : BitVec 32 :=
  v33

def k0_off11 (v33 : BitVec 32) : Fin 2 → Nat :=
  let v34 : BitVec 32 := v33
  let c0_i32_27 : BitVec 32 := 0#32
  ![v34.toNat, 0]

def k0_chk4 (v33 : BitVec 32) : Prop :=
  (8 ∣ (k0_mult8 v33).toNat) ∧
  (∀ a, (k0_off11 v33) a + S8x128.size a ≤ S655360x128.size a)
theorem k0_mult8_dvd : ∀ (v33 : BitVec 32) (k0_hw4 : k0_chk4 v33), 8 ∣ (k0_mult8 v33).toNat := fun v33 k0_hw4 => k0_hw4.1
theorem k0_off11_inb : ∀ (v33 : BitVec 32) (k0_hw4 : k0_chk4 v33), ∀ a, (k0_off11 v33) a + S8x128.size a ≤ S655360x128.size a := fun v33 k0_hw4 => k0_hw4.2

def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32_24 : BitVec 32 := 8#32
  let v29 : BitVec 32 := Scalar.muli arg5 c8_i32_24
  let v30 : BitVec 32 := v29
  let c0_i32_28 : BitVec 32 := 0#32
  ![v30.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S32x1x2048 : Shape := ⟨3, ![32, 1, 2048]⟩
abbrev S131072x128 : Shape := ⟨2, ![131072, 128]⟩
abbrev S65536 : Shape := ⟨1, ![65536]⟩
abbrev S_ : Shape := ⟨0, ![]⟩
abbrev S32x1x512x8x128 : Shape := ⟨5, ![32, 1, 512, 8, 128]⟩
abbrev S32x4x512x8x128 : Shape := ⟨5, ![32, 4, 512, 8, 128]⟩
abbrev S65536x8x128 : Shape := ⟨3, ![65536, 8, 128]⟩
abbrev S81920x8x128 : Shape := ⟨3, ![81920, 8, 128]⟩
abbrev S65536x1 : Shape := ⟨2, ![65536, 1]⟩
abbrev S655360x128 : Shape := ⟨2, ![655360, 128]⟩

abbrev nBuf : Space → Nat
  | .hbm => 21
  | .vmem => 0
  | .smem => 0
  | _ => 0

abbrev bufTy : (tb : Table) → Fin (tcTables nBuf tb) → BufTy
  | .hbm, ⟨0, _⟩ => ⟨S32x1x2048, .i32⟩
  | .hbm, ⟨1, _⟩ => ⟨S131072x128, .f32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i32⟩
  | .hbm, ⟨6, _⟩ => ⟨S32x1x512x8x128, .f32⟩
  | .hbm, ⟨7, _⟩ => ⟨S32x4x512x8x128, .f32⟩
  | .hbm, ⟨8, _⟩ => ⟨S65536x8x128, .f32⟩
  | .hbm, ⟨9, _⟩ => ⟨S_, .f32⟩
  | .hbm, ⟨10, _⟩ => ⟨S81920x8x128, .f32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S81920x8x128, .f32⟩
  | .hbm, ⟨20, _⟩ => ⟨S655360x128, .f32⟩
  | _, _ => ⟨S32x1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x1024 : Shape := ⟨2, ![512, 1024]⟩
abbrev S512x1 : Shape := ⟨2, ![512, 1]⟩
abbrev S512x128 : Shape := ⟨2, ![512, 128]⟩
abbrev S1x1024 : Shape := ⟨2, ![1, 1024]⟩

abbrev nBuf : Space → Nat
  | .hbm => 6
  | .vmem => 15
  | .smem => 3
  | _ => 0

abbrev bufTy : (tb : Table) → Fin (tcTables nBuf tb) → BufTy
  | .hbm, ⟨0, _⟩ => ⟨S655360x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .vmem, ⟨14, _⟩ => ⟨S512x1024, .f32⟩
  | .local _ .smem, ⟨0, _⟩ => ⟨S160, .i32⟩
  | .local _ .smem, ⟨1, _⟩ => ⟨S160, .i32⟩
  | .local _ .smem, ⟨2, _⟩ => ⟨S1, .i32⟩
  | _, _ => ⟨S655360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_3 : BitVec 32 := 0#32
  let v15 : BitVec 1 := Scalar.cmpi .sgt v1 c0_i32_3
  let v16 : BitVec 32 := Scalar.extui v15
  let c0_i32_4 : BitVec 32 := 0#32
  let v17 : BitVec 1 := Scalar.cmpi .ne v16 c0_i32_4
  v17

def k0_cond3 (v1 : BitVec 32) : BitVec 1 :=
  let c0_i32_5 : BitVec 32 := 0#32
  let v18 : BitVec 1 := Scalar.cmpi .sle v1 c0_i32_5
  let v19 : BitVec 32 := Scalar.extui v18
  let c0_i32_6 : BitVec 32 := 0#32
  let v20 : BitVec 1 := Scalar.cmpi .ne v19 c0_i32_6
  v20

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let v1 : BitVec 32 := Scalar.minsi arg0 v0
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let v1 : BitVec 32 := Scalar.minsi arg0 v0
  let c0_i32 : BitVec 32 := 0#32
  let c0_i32_0 : BitVec 32 := 0#32
  ![v1.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S160x512x1024 : Shape := ⟨3, ![160, 512, 1024]⟩
abbrev S_ : Shape := ⟨0, ![]⟩
abbrev S160x1 : Shape := ⟨2, ![160, 1]⟩
abbrev S160x1024x2048 : Shape := ⟨3, ![160, 1024, 2048]⟩
abbrev S160x512x2048 : Shape := ⟨3, ![160, 512, 2048]⟩
abbrev S160x1x2048 : Shape := ⟨3, ![160, 1, 2048]⟩
abbrev S160x1024x1024 : Shape := ⟨3, ![160, 1024, 1024]⟩
abbrev S160x1x1024 : Shape := ⟨3, ![160, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S1, .i32⟩
  | .hbm, ⟨3, _⟩ => ⟨S655360x128, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S160x512x1024, .f32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S160, .i32⟩
  | .hbm, ⟨16, _⟩ => ⟨S160x1, .i32⟩
  | .hbm, ⟨17, _⟩ => ⟨S160x1024x2048, .f32⟩
  | .hbm, ⟨18, _⟩ => ⟨S160x512x2048, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x1x2048, .f32⟩
  | .hbm, ⟨28, _⟩ => ⟨S160x512x2048, .f32⟩
  | .hbm, ⟨29, _⟩ => ⟨S160x512x2048, .f32⟩
  | .hbm, ⟨30, _⟩ => ⟨S160x512x1024, .f32⟩
  | .hbm, ⟨31, _⟩ => ⟨S_, .f32⟩
  | .hbm, ⟨32, _⟩ => ⟨S160x512x1024, .f32⟩
  | .hbm, ⟨33, _⟩ => ⟨S160x512x1024, .f32⟩
  | .hbm, ⟨34, _⟩ => ⟨S160x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S160x512x1024, .f32⟩
  | .hbm, ⟨39, _⟩ => ⟨S160x512x1024, .f32⟩
  | .hbm, ⟨40, _⟩ => ⟨S_, .f32⟩
  | .hbm, ⟨41, _⟩ => ⟨S160x512x1024, .f32⟩
  | .hbm, ⟨42, _⟩ => ⟨S160x512x1024, .f32⟩
  | .hbm, ⟨43, _⟩ => ⟨S_, .f32⟩
  | .hbm, ⟨44, _⟩ => ⟨S160x512x1024, .f32⟩
  | .hbm, ⟨45, _⟩ => ⟨S160x512x1024, .f32⟩
  | .hbm, ⟨46, _⟩ => ⟨S_, .f32⟩
  | .hbm, ⟨47, _⟩ => ⟨S160x512x1024, .f32⟩
  | .hbm, ⟨48, _⟩ => ⟨S160x512x1024, .f32⟩
  | .hbm, ⟨49, _⟩ => ⟨S160x512x1024, .f32⟩
  | .hbm, ⟨50, _⟩ => ⟨S160x512x1024, .f32⟩
  | .hbm, ⟨51, _⟩ => ⟨S_, .f32⟩
  | .hbm, ⟨52, _⟩ => ⟨S160x512x1024, .f32⟩
  | .hbm, ⟨53, _⟩ => ⟨S160x512x1024, .f32⟩
  | .hbm, ⟨54, _⟩ => ⟨S_, .f32⟩
  | .hbm, ⟨55, _⟩ => ⟨S160x512x1024, .f32⟩
  | .hbm, ⟨56, _⟩ => ⟨S160x512x1024, .f32⟩
  | .hbm, ⟨57, _⟩ => ⟨S160x512x1024, .f32⟩
  | .hbm, ⟨58, _⟩ => ⟨S160x512x1024, .f32⟩
  | .hbm, ⟨59, _⟩ => ⟨S_, .i32⟩
  | .hbm, ⟨60, _⟩ => ⟨S160, .i32⟩
  | .hbm, ⟨61, _⟩ => ⟨S160, .i1⟩
  | .hbm, ⟨62, _⟩ => ⟨S_, .i32⟩
  | .hbm, ⟨63, _⟩ => ⟨S160, .i32⟩
  | .hbm, ⟨64, _⟩ => ⟨S160, .i32⟩
  | .hbm, ⟨65, _⟩ => ⟨S160, .i32⟩
  | .hbm, ⟨66, _⟩ => ⟨S160x1, .i32⟩
  | .hbm, ⟨67, _⟩ => ⟨S160x1024x1024, .f32⟩
  | .hbm, ⟨68, _⟩ => ⟨S160x512x1024, .f32⟩
  | .hbm, ⟨69, _⟩ => ⟨S_, .i32⟩
  | .hbm, ⟨70, _⟩ => ⟨S160, .i32⟩
  | .hbm, ⟨71, _⟩ => ⟨S160, .i1⟩
  | .hbm, ⟨72, _⟩ => ⟨S_, .i32⟩
  | .hbm, ⟨73, _⟩ => ⟨S160, .i32⟩
  | .hbm, ⟨74, _⟩ => ⟨S160, .i32⟩
  | .hbm, ⟨75, _⟩ => ⟨S160, .i32⟩
  | .hbm, ⟨76, _⟩ => ⟨S160x1, .i32⟩
  | .hbm, ⟨77, _⟩ => ⟨S160x1x1024, .f32⟩
  | .hbm, ⟨78, _⟩ => ⟨S160x512x1024, .f32⟩
  | .hbm, ⟨79, _⟩ => ⟨S160x512x1024, .f32⟩
  | .hbm, ⟨80, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Kernel3.lean ====
abbrev S32x1x2048 : Shape := ⟨3, ![32, 1, 2048]⟩
abbrev S655360x128 : Shape := ⟨2, ![655360, 128]⟩
abbrev S16384x1024 : Shape := ⟨2, ![16384, 1024]⟩
abbrev S16384x128 : Shape := ⟨2, ![16384, 128]⟩
abbrev S1x1x2048 : Shape := ⟨3, ![1, 1, 2048]⟩
abbrev S512x1024 : Shape := ⟨2, ![512, 1024]⟩
abbrev S512x128 : Shape := ⟨2, ![512, 128]⟩
abbrev S4x4096x128 : Shape := ⟨3, ![4, 4096, 128]⟩
abbrev S4 : Shape := ⟨1, ![4]⟩
abbrev S1x1x1 : Shape := ⟨3, ![1, 1, 1]⟩
abbrev S1 : Shape := ⟨1, ![1]⟩
abbrev S_ : Shape := ⟨0, ![]⟩
abbrev S1x8x128 : Shape := ⟨3, ![1, 8, 128]⟩
abbrev S8x128 : Shape := ⟨2, ![8, 128]⟩
abbrev S1x1024x128 : Shape := ⟨3, ![1, 1024, 128]⟩
abbrev S1024x128 : Shape := ⟨2, ![1024, 128]⟩
abbrev S128x128 : Shape := ⟨2, ![128, 128]⟩
abbrev S1x4096x128 : Shape := ⟨3, ![1, 4096, 128]⟩
abbrev S4096x128 : Shape := ⟨2, ![4096, 128]⟩
abbrev S128x1 : Shape := ⟨2, ![128, 1]⟩

abbrev nBuf : Space → Nat
  | .hbm => 5
  | .vmem => 7
  | .smem => 2
  | _ => 0

abbrev bufTy : (tb : Table) → Fin (tcTables nBuf tb) → BufTy
  | .hbm, ⟨0, _⟩ => ⟨S32x1x2048, .i32⟩
  | .hbm, ⟨1, _⟩ => ⟨S655360x128, .f32⟩
  | .hbm, ⟨2, _⟩ => ⟨S16384x1024, .f32⟩
  | .hbm, ⟨3, _⟩ => ⟨S16384x128, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S4x4096x128, .f32⟩
  | .local _ .smem, ⟨0, _⟩ => ⟨S1x1x2048, .i32⟩
  | .local _ .smem, ⟨1, _⟩ => ⟨S1x1x2048, .i32⟩
  | _, _ => ⟨S32x1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 3 → Nat :=
  let c0_840 : Index := 0#32
  let c0_841 : Index := 0#32
  let c0_i32_839 : BitVec 32 := 0#32
  let c0_i32 : BitVec 32 := 0#32
  let c1_i32 : BitVec 32 := 1#32
  let arg8 : BitVec 32 := Scf.iv c0_i32 c1_i32 k0_t1
  let v1048 : BitVec 32 := Scalar.addi c0_i32_839 arg8
  let v1049 : Index := Scalar.indexCast v1048
  ![0, 0, v1049.toNat]
def k0_mult1 (v1050 : BitVec 32) : BitVec 32 :=
  v1050

def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v1052 : BitVec 32 := Scalar.muli arg8 c8_i32
  v1052
def k0_off2 (k0_t1 : Fin k0_t1_loop.trips) : Fin 3 → Nat :=
  let c0_i32_842 : BitVec 32 := 0#32
  let c0_i32 : BitVec 32 := 0#32
  let c1_i32 : BitVec 32 := 1#32
  let arg8 : BitVec 32 := Scf.iv c0_i32 c1_i32 k0_t1
  let c8_i32 : BitVec 32 := 8#32
  let v1052 : BitVec 32 := Scalar.muli arg8 c8_i32
  let v1053 : BitVec 32 := v1052
  let c0_i32_844 : BitVec 32 := 0#32
  ![0, v1053.toNat, 0]
def k0_off3 (v1050 : BitVec 32) : Fin 2 → Nat :=
  let v1051 : BitVec 32 := v1050
  let c0_i32_845 : BitVec 32 := 0#32
  ![v1051.toNat, 0]

def k0_chk1 (v1050 : BitVec 32) : Prop :=
  (8 ∣ (k0_mult1 v1050).toNat) ∧
  (∀ a, (k0_off3 v1050) a + S8x128.size a ≤ S655360x128.size a)
theorem k0_mult1_dvd : ∀ (v1050 : BitVec 32) (k0_hw1 : k0_chk1 v1050), 8 ∣ (k0_mult1 v1050).toNat := fun v1050 k0_hw1 => k0_hw1.1
theorem k0_off3_inb : ∀ (v1050 : BitVec 32) (k0_hw1 : k0_chk1 v1050), ∀ a, (k0_off3 v1050) a + S8x128.size a ≤ S655360x128.size a := fun v1050 k0_hw1 => k0_hw1.2

def k0_off4 (k0_t1 : Fin k0_t1_loop.trips) : Fin 3 → Nat :=
  let c0_846 : Index := 0#32
  let c0_847 : Index := 0#32
  let c512_i32 : BitVec 32 := 512#32
  let c0_i32 : BitVec 32 := 0#32
  let c1_i32 : BitVec 32 := 1#32
  let arg8 : BitVec 32 := Scf.iv c0_i32 c1_i32 k0_t1
  let v1059 : BitVec 32 := Scalar.addi c512_i32 arg8
  let v1060 : Index := Scalar.indexCast v1059
  ![0, 0, v1060.toNat]
def k0_mult3 (v1061 : BitVec 32) : BitVec 32 :=
  v1061

def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_848 : BitVec 32 := 8#32
  let v1063 : BitVec 32 := Scalar.muli arg8 c8_i32_848
  v1063
def k0_off5 (k0_t1 : Fin k0_t1_loop.trips) : Fin 3 → Nat :=
  let c1_i32_849 : BitVec 32 := 1#32
  let c0_i32 : BitVec 32 := 0#32
  let c1_i32 : BitVec 32 := 1#32
  let arg8 : BitVec 32 := Scf.iv c0_i32 c1_i32 k0_t1
  let c8_i32_848 : BitVec 32 := 8#32
  let v1063 : BitVec 32 := Scalar.muli arg8 c8_i32_848
  let v1064 : BitVec 32 := v1063
  let c0_i32_851 : BitVec 32 := 0#32
  ![1, v1064.toNat, 0]
def k0_off6 (v1061 : BitVec 32) : Fin 2 → Nat :=
  let v1062 : BitVec 32 := v1061
  let c0_i32_852 : BitVec 32 := 0#32
  ![v1062.toNat, 0]

def k0_chk2 (v1061 : BitVec 32) : Prop :=
  (8 ∣ (k0_mult3 v1061).toNat) ∧
  (∀ a, (k0_off6 v1061) a + S8x128.size a ≤ S655360x128.size a)
theorem k0_mult3_dvd : ∀ (v1061 : BitVec 32) (k0_hw2 : k0_chk2 v1061), 8 ∣ (k0_mult3 v1061).toNat := fun v1061 k0_hw2 => k0_hw2.1
theorem k0_off6_inb : ∀ (v1061 : BitVec 32) (k0_hw2 : k0_chk2 v1061), ∀ a, (k0_off6 v1061) a + S8x128.size a ≤ S655360x128.size a := fun v1061 k0_hw2 => k0_hw2.2

def k0_off7 (k0_t1 : Fin k0_t1_loop.trips) : Fin 3 → Nat :=
  let c0_854 : Index := 0#32
  let c0_855 : Index := 0#32
  let c1024_i32_853 : BitVec 32 := 1024#32
  let c0_i32 : BitVec 32 := 0#32
  let c1_i32 : BitVec 32 := 1#32
  let arg8 : BitVec 32 := Scf.iv c0_i32 c1_i32 k0_t1
  let v1070 : BitVec 32 := Scalar.addi c1024_i32_853 arg8
  let v1071 : Index := Scalar.indexCast v1070
  ![0, 0, v1071.toNat]
def k0_mult5 (v1072 : BitVec 32) : BitVec 32 :=
  v1072

def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_856 : BitVec 32 := 8#32
  let v1074 : BitVec 32 := Scalar.muli arg8 c8_i32_856
  v1074
def k0_off8 (k0_t1 : Fin k0_t1_loop.trips) : Fin 3 → Nat :=
  let c2_i32_857 : BitVec 32 := 2#32
  let c0_i32 : BitVec 32 := 0#32
  let c1_i32 : BitVec 32 := 1#32
  let arg8 : BitVec 32 := Scf.iv c0_i32 c1_i32 k0_t1
  let c8_i32_856 : BitVec 32 := 8#32
  let v1074 : BitVec 32 := Scalar.muli arg8 c8_i32_856
  let v1075 : BitVec 32 := v1074
  let c0_i32_859 : BitVec 32 := 0#32
  ![2, v1075.toNat, 0]
def k0_off9 (v1072 : BitVec 32) : Fin 2 → Nat :=
  let v1073 : BitVec 32 := v1072
  let c0_i32_860 : BitVec 32 := 0#32
  ![v1073.toNat, 0]

def k0_chk3 (v1072 : BitVec 32) : Prop :=
  (8 ∣ (k0_mult5 v1072).toNat) ∧
  (∀ a, (k0_off9 v1072) a + S8x128.size a ≤ S655360x128.size a)
theorem k0_mult5_dvd : ∀ (v1072 : BitVec 32) (k0_hw3 : k0_chk3 v1072), 8 ∣ (k0_mult5 v1072).toNat := fun v1072 k0_hw3 => k0_hw3.1
theorem k0_off9_inb : ∀ (v1072 : BitVec 32) (k0_hw3 : k0_chk3 v1072), ∀ a, (k0_off9 v1072) a + S8x128.size a ≤ S655360x128.size a := fun v1072 k0_hw3 => k0_hw3.2

def k0_off10 (k0_t1 : Fin k0_t1_loop.trips) : Fin 3 → Nat :=
  let c0_861 : Index := 0#32
  let c0_862 : Index := 0#32
  let c1536_i32 : BitVec 32 := 1536#32
  let c0_i32 : BitVec 32 := 0#32
  let c1_i32 : BitVec 32 := 1#32
  let arg8 : BitVec 32 := Scf.iv c0_i32 c1_i32 k0_t1
  let v1081 : BitVec 32 := Scalar.addi c1536_i32 arg8
  let v1082 : Index := Scalar.indexCast v1081
  ![0, 0, v1082.toNat]
def k0_mult7 (v1083 : BitVec 32) : BitVec 32 :=
  v1083

def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_863 : BitVec 32 := 8#32
  let v1085 : BitVec 32 := Scalar.muli arg8 c8_i32_863
  v1085
def k0_off11 (k0_t1 : Fin k0_t1_loop.trips) : Fin 3 → Nat :=
  let c3_i32_864 : BitVec 32 := 3#32
  let c0_i32 : BitVec 32 := 0#32
  let c1_i32 : BitVec 32 := 1#32
  let arg8 : BitVec 32 := Scf.iv c0_i32 c1_i32 k0_t1
  let c8_i32_863 : BitVec 32 := 8#32
  let v1085 : BitVec 32 := Scalar.muli arg8 c8_i32_863
  let v1086 : BitVec 32 := v1085
  let c0_i32_866 : BitVec 32 := 0#32
  ![3, v1086.toNat, 0]
def k0_off12 (v1083 : BitVec 32) : Fin 2 → Nat :=
  let v1084 : BitVec 32 := v1083
  let c0_i32_867 : BitVec 32 := 0#32
  ![v1084.toNat, 0]

def k0_chk4 (v1083 : BitVec 32) : Prop :=
  (8 ∣ (k0_mult7 v1083).toNat) ∧
  (∀ a, (k0_off12 v1083) a + S8x128.size a ≤ S655360x128.size a)
theorem k0_mult7_dvd : ∀ (v1083 : BitVec 32) (k0_hw4 : k0_chk4 v1083), 8 ∣ (k0_mult7 v1083).toNat := fun v1083 k0_hw4 => k0_hw4.1
theorem k0_off12_inb : ∀ (v1083 : BitVec 32) (k0_hw4 : k0_chk4 v1083), ∀ a, (k0_off12 v1083) a + S8x128.size a ≤ S655360x128.size a := fun v1083 k0_hw4 => k0_hw4.2

@[reducible] def k0_t2_loop : Scf.Loop 32 :=
  let c128_i32_1 : BitVec 32 := 128#32
  let c128_i32_2 : BitVec 32 := 128#32
  let v1 : BitVec 32 := Scalar.addi c128_i32_1 c128_i32_2
  let c1_i32_3 : BitVec 32 := 1#32
  ⟨c128_i32_1, v1, c1_i32_3⟩
def k0_off13 (k0_t2 : Fin k0_t2_loop.trips) : Fin 3 → Nat :=
  let c0_840 : Index := 0#32
  let c0_841 : Index := 0#32
  let c0_i32_839 : BitVec 32 := 0#32
  let c128_i32_1 : BitVec 32 := 128#32
  let c1_i32_3 : BitVec 32 := 1#32
  let arg8 : BitVec 32 := Scf.iv c128_i32_1 c1_i32_3 k0_t2
  let v1048 : BitVec 32 := Scalar.addi c0_i32_839 arg8
  let v1049 : Index := Scalar.indexCast v1048
  ![0, 0, v1049.toNat]
def k0_mult9 (v1050 : BitVec 32) : BitVec 32 :=
  v1050

def k0_mult10 (k0_t2 : Fin k0_t2_loop.trips) : BitVec 32 :=
  let c128_i32_1 : BitVec 32 := 128#32
  let c1_i32_3 : BitVec 32 := 1#32
  let arg8 : BitVec 32 := Scf.iv c128_i32_1 c1_i32_3 k0_t2
  let c8_i32 : BitVec 32 := 8#32
  let v1052 : BitVec 32 := Scalar.muli arg8 c8_i32
  v1052
def k0_off14 (k0_t2 : Fin k0_t2_loop.trips) : Fin 3 → Nat :=
  let c0_i32_842 : BitVec 32 := 0#32
  let c128_i32_1 : BitVec 32 := 128#32
  let c1_i32_3 : BitVec 32 := 1#32
  let arg8 : BitVec 32 := Scf.iv c128_i32_1 c1_i32_3 k0_t2
  let c8_i32 : BitVec 32 := 8#32
  let v1052 : BitVec 32 := Scalar.muli arg8 c8_i32
  let v1053 : BitVec 32 := v1052
  let c0_i32_844 : BitVec 32 := 0#32
  ![0, v1053.toNat, 0]
def k0_off15 (v1050 : BitVec 32) : Fin 2 → Nat :=
  let v1051 : BitVec 32 := v1050
  let c0_i32_845 : BitVec 32 := 0#32
  ![v1051.toNat, 0]

def k0_chk5 (v1050 : BitVec 32) : Prop :=
  (8 ∣ (k0_mult9 v1050).toNat) ∧
  (∀ a, (k0_off15 v1050) a + S8x128.size a ≤ S655360x128.size a)
theorem k0_mult9_dvd : ∀ (v1050 : BitVec 32) (k0_hw5 : k0_chk5 v1050), 8 ∣ (k0_mult9 v1050).toNat := fun v1050 k0_hw5 => k0_hw5.1
theorem k0_off15_inb : ∀ (v1050 : BitVec 32) (k0_hw5 : k0_chk5 v1050), ∀ a, (k0_off15 v1050) a + S8x128.size a ≤ S655360x128.size a := fun v1050 k0_hw5 => k0_hw5.2

def k0_off16 (k0_t2 : Fin k0_t2_loop.trips) : Fin 3 → Nat :=
  let c0_846 : Index := 0#32
  let c0_847 : Index := 0#32
  let c512_i32 : BitVec 32 := 512#32
  let c128_i32_1 : BitVec 32 := 128#32
  let c1_i32_3 : BitVec 32 := 1#32
  let arg8 : BitVec 32 := Scf.iv c128_i32_1 c1_i32_3 k0_t2
  let v1059 : BitVec 32 := Scalar.addi c512_i32 arg8
  let v1060 : Index := Scalar.indexCast v1059
  ![0, 0, v1060.toNat]
def k0_mult11 (v1061 : BitVec 32) : BitVec 32 :=
  v1061

def k0_mult12 (k0_t2 : Fin k0_t2_loop.trips) : BitVec 32 :=
  let c128_i32_1 : BitVec 32 := 128#32
  let c1_i32_3 : BitVec 32 := 1#32
  let arg8 : BitVec 32 := Scf.iv c128_i32_1 c1_i32_3 k0_t2
  let c8_i32_848 : BitVec 32 := 8#32
  let v1063 : BitVec 32 := Scalar.muli arg8 c8_i32_848
  v1063
def k0_off17 (k0_t2 : Fin k0_t2_loop.trips) : Fin 3 → Nat :=
  let c1_i32_849 : BitVec 32 := 1#32
  let c128_i32_1 : BitVec 32 := 128#32
  let c1_i32_3 : BitVec 32 := 1#32
  let arg8 : BitVec 32 := Scf.iv c128_i32_1 c1_i32_3 k0_t2
  let c8_i32_848 : BitVec 32 := 8#32
  let v1063 : BitVec 32 := Scalar.muli arg8 c8_i32_848
  let v1064 : BitVec 32 := v1063
  let c0_i32_851 : BitVec 32 := 0#32
  ![1, v1064.toNat, 0]
def k0_off18 (v1061 : BitVec 32) : Fin 2 → Nat :=
  let v1062 : BitVec 32 := v1061
  let c0_i32_852 : BitVec 32 := 0#32
  ![v1062.toNat, 0]

def k0_chk6 (v1061 : BitVec 32) : Prop :=
  (8 ∣ (k0_mult11 v1061).toNat) ∧
  (∀ a, (k0_off18 v1061) a + S8x128.size a ≤ S655360x128.size a)
theorem k0_mult11_dvd : ∀ (v1061 : BitVec 32) (k0_hw6 : k0_chk6 v1061), 8 ∣ (k0_mult11 v1061).toNat := fun v1061 k0_hw6 => k0_hw6.1
theorem k0_off18_inb : ∀ (v1061 : BitVec 32) (k0_hw6 : k0_chk6 v1061), ∀ a, (k0_off18 v1061) a + S8x128.size a ≤ S655360x128.size a := fun v1061 k0_hw6 => k0_hw6.2

def k0_off19 (k0_t2 : Fin k0_t2_loop.trips) : Fin 3 → Nat :=
  let c0_854 : Index := 0#32
  let c0_855 : Index := 0#32
  let c1024_i32_853 : BitVec 32 := 1024#32
  let c128_i32_1 : BitVec 32 := 128#32
  let c1_i32_3 : BitVec 32 := 1#32
  let arg8 : BitVec 32 := Scf.iv c128_i32_1 c1_i32_3 k0_t2
  let v1070 : BitVec 32 := Scalar.addi c1024_i32_853 arg8
  let v1071 : Index := Scalar.indexCast v1070
  ![0, 0, v1071.toNat]
def k0_mult13 (v1072 : BitVec 32) : BitVec 32 :=
  v1072

def k0_mult14 (k0_t2 : Fin k0_t2_loop.trips) : BitVec 32 :=
  let c128_i32_1 : BitVec 32 := 128#32
  let c1_i32_3 : BitVec 32 := 1#32
  let arg8 : BitVec 32 := Scf.iv c128_i32_1 c1_i32_3 k0_t2
  let c8_i32_856 : BitVec 32 := 8#32
  let v1074 : BitVec 32 := Scalar.muli arg8 c8_i32_856
  v1074
def k0_off20 (k0_t2 : Fin k0_t2_loop.trips) : Fin 3 → Nat :=
  let c2_i32_857 : BitVec 32 := 2#32
  let c128_i32_1 : BitVec 32 := 128#32
  let c1_i32_3 : BitVec 32 := 1#32
  let arg8 : BitVec 32 := Scf.iv c128_i32_1 c1_i32_3 k0_t2
  let c8_i32_856 : BitVec 32 := 8#32
  let v1074 : BitVec 32 := Scalar.muli arg8 c8_i32_856
  let v1075 : BitVec 32 := v1074
  let c0_i32_859 : BitVec 32 := 0#32
  ![2, v1075.toNat, 0]
def k0_off21 (v1072 : BitVec 32) : Fin 2 → Nat :=
  let v1073 : BitVec 32 := v1072
  let c0_i32_860 : BitVec 32 := 0#32
  ![v1073.toNat, 0]

def k0_chk7 (v1072 : BitVec 32) : Prop :=
  (8 ∣ (k0_mult13 v1072).toNat) ∧
  (∀ a, (k0_off21 v1072) a + S8x128.size a ≤ S655360x128.size a)
theorem k0_mult13_dvd : ∀ (v1072 : BitVec 32) (k0_hw7 : k0_chk7 v1072), 8 ∣ (k0_mult13 v1072).toNat := fun v1072 k0_hw7 => k0_hw7.1
theorem k0_off21_inb : ∀ (v1072 : BitVec 32) (k0_hw7 : k0_chk7 v1072), ∀ a, (k0_off21 v1072) a + S8x128.size a ≤ S655360x128.size a := fun v1072 k0_hw7 => k0_hw7.2

def k0_off22 (k0_t2 : Fin k0_t2_loop.trips) : Fin 3 → Nat :=
  let c0_861 : Index := 0#32
  let c0_862 : Index := 0#32
  let c1536_i32 : BitVec 32 := 1536#32
  let c128_i32_1 : BitVec 32 := 128#32
  let c1_i32_3 : BitVec 32 := 1#32
  let arg8 : BitVec 32 := Scf.iv c128_i32_1 c1_i32_3 k0_t2
  let v1081 : BitVec 32 := Scalar.addi c1536_i32 arg8
  let v1082 : Index := Scalar.indexCast v1081
  ![0, 0, v1082.toNat]
def k0_mult15 (v1083 : BitVec 32) : BitVec 32 :=
  v1083

def k0_mult16 (k0_t2 : Fin k0_t2_loop.trips) : BitVec 32 :=
  let c128_i32_1 : BitVec 32 := 128#32
  let c1_i32_3 : BitVec 32 := 1#32
  let arg8 : BitVec 32 := Scf.iv c128_i32_1 c1_i32_3 k0_t2
  let c8_i32_863 : BitVec 32 := 8#32
  let v1085 : BitVec 32 := Scalar.muli arg8 c8_i32_863
  v1085
def k0_off23 (k0_t2 : Fin k0_t2_loop.trips) : Fin 3 → Nat :=
  let c3_i32_864 : BitVec 32 := 3#32
  let c128_i32_1 : BitVec 32 := 128#32
  let c1_i32_3 : BitVec 32 := 1#32
  let arg8 : BitVec 32 := Scf.iv c128_i32_1 c1_i32_3 k0_t2
  let c8_i32_863 : BitVec 32 := 8#32
  let v1085 : BitVec 32 := Scalar.muli arg8 c8_i32_863
  let v1086 : BitVec 32 := v1085
  let c0_i32_866 : BitVec 32 := 0#32
  ![3, v1086.toNat, 0]
def k0_off24 (v1083 : BitVec 32) : Fin 2 → Nat :=
  let v1084 : BitVec 32 := v1083
  let c0_i32_867 : BitVec 32 := 0#32
  ![v1084.toNat, 0]

def k0_chk8 (v1083 : BitVec 32) : Prop :=
  (8 ∣ (k0_mult15 v1083).toNat) ∧
  (∀ a, (k0_off24 v1083) a + S8x128.size a ≤ S655360x128.size a)
theorem k0_mult15_dvd : ∀ (v1083 : BitVec 32) (k0_hw8 : k0_chk8 v1083), 8 ∣ (k0_mult15 v1083).toNat := fun v1083 k0_hw8 => k0_hw8.1
theorem k0_off24_inb : ∀ (v1083 : BitVec 32) (k0_hw8 : k0_chk8 v1083), ∀ a, (k0_off24 v1083) a + S8x128.size a ≤ S655360x128.size a := fun v1083 k0_hw8 => k0_hw8.2

@[reducible] def k0_t3_loop : Scf.Loop 32 :=
  let c256_i32 : BitVec 32 := 256#32
  let c128_i32_5 : BitVec 32 := 128#32
  let v2 : BitVec 32 := Scalar.addi c256_i32 c128_i32_5
  let c1_i32_6 : BitVec 32 := 1#32
  ⟨c256_i32, v2, c1_i32_6⟩
def k0_off25 (k0_t3 : Fin k0_t3_loop.trips) : Fin 3 → Nat :=
  let c0_840 : Index := 0#32
  let c0_841 : Index := 0#32
  let c0_i32_839 : BitVec 32 := 0#32
  let c256_i32 : BitVec 32 := 256#32
  let c1_i32_6 : BitVec 32 := 1#32
  let arg8 : BitVec 32 := Scf.iv c256_i32 c1_i32_6 k0_t3
  let v1048 : BitVec 32 := Scalar.addi c0_i32_839 arg8
  let v1049 : Index := Scalar.indexCast v1048
  ![0, 0, v1049.toNat]
def k0_mult17 (v1050 : BitVec 32) : BitVec 32 :=
  v1050

def k0_mult18 (k0_t3 : Fin k0_t3_loop.trips) : BitVec 32 :=
  let c256_i32 : BitVec 32 := 256#32
  let c1_i32_6 : BitVec 32 := 1#32
  let arg8 : BitVec 32 := Scf.iv c256_i32 c1_i32_6 k0_t3
  let c8_i32 : BitVec 32 := 8#32
  let v1052 : BitVec 32 := Scalar.muli arg8 c8_i32
  v1052
def k0_off26 (k0_t3 : Fin k0_t3_loop.trips) : Fin 3 → Nat :=
  let c0_i32_842 : BitVec 32 := 0#32
  let c256_i32 : BitVec 32 := 256#32
  let c1_i32_6 : BitVec 32 := 1#32
  let arg8 : BitVec 32 := Scf.iv c256_i32 c1_i32_6 k0_t3
  let c8_i32 : BitVec 32 := 8#32
  let v1052 : BitVec 32 := Scalar.muli arg8 c8_i32
  let v1053 : BitVec 32 := v1052
  let c0_i32_844 : BitVec 32 := 0#32
  ![0, v1053.toNat, 0]
def k0_off27 (v1050 : BitVec 32) : Fin 2 → Nat :=
  let v1051 : BitVec 32 := v1050
  let c0_i32_845 : BitVec 32 := 0#32
  ![v1051.toNat, 0]

def k0_chk9 (v1050 : BitVec 32) : Prop :=
  (8 ∣ (k0_mult17 v1050).toNat) ∧
  (∀ a, (k0_off27 v1050) a + S8x128.size a ≤ S655360x128.size a)
theorem k0_mult17_dvd : ∀ (v1050 : BitVec 32) (k0_hw9 : k0_chk9 v1050), 8 ∣ (k0_mult17 v1050).toNat := fun v1050 k0_hw9 => k0_hw9.1
theorem k0_off27_inb : ∀ (v1050 : BitVec 32) (k0_hw9 : k0_chk9 v1050), ∀ a, (k0_off27 v1050) a + S8x128.size a ≤ S655360x128.size a := fun v1050 k0_hw9 => k0_hw9.2

def k0_off28 (k0_t3 : Fin k0_t3_loop.trips) : Fin 3 → Nat :=
  let c0_846 : Index := 0#32
  let c0_847 : Index := 0#32
  let c512_i32 : BitVec 32 := 512#32
  let c256_i32 : BitVec 32 := 256#32
  let c1_i32_6 : BitVec 32 := 1#32
  let arg8 : BitVec 32 := Scf.iv c256_i32 c1_i32_6 k0_t3
  let v1059 : BitVec 32 := Scalar.addi c512_i32 arg8
  let v1060 : Index := Scalar.indexCast v1059
  ![0, 0, v1060.toNat]
def k0_mult19 (v1061 : BitVec 32) : BitVec 32 :=
  v1061

def k0_mult20 (k0_t3 : Fin k0_t3_loop.trips) : BitVec 32 :=
  let c256_i32 : BitVec 32 := 256#32
  let c1_i32_6 : BitVec 32 := 1#32
  let arg8 : BitVec 32 := Scf.iv c256_i32 c1_i32_6 k0_t3
  let c8_i32_848 : BitVec 32 := 8#32
  let v1063 : BitVec 32 := Scalar.muli arg8 c8_i32_848
  v1063
def k0_off29 (k0_t3 : Fin k0_t3_loop.trips) : Fin 3 → Nat :=
  let c1_i32_849 : BitVec 32 := 1#32
  let c256_i32 : BitVec 32 := 256#32
  let c1_i32_6 : BitVec 32 := 1#32
  let arg8 : BitVec 32 := Scf.iv c256_i32 c1_i32_6 k0_t3
  let c8_i32_848 : BitVec 32 := 8#32
  let v1063 : BitVec 32 := Scalar.muli arg8 c8_i32_848
  let v1064 : BitVec 32 := v1063
  let c0_i32_851 : BitVec 32 := 0#32
  ![1, v1064.toNat, 0]
def k0_off30 (v1061 : BitVec 32) : Fin 2 → Nat :=
  let v1062 : BitVec 32 := v1061
  let c0_i32_852 : BitVec 32 := 0#32
  ![v1062.toNat, 0]

def k0_chk10 (v1061 : BitVec 32) : Prop :=
  (8 ∣ (k0_mult19 v1061).toNat) ∧
  (∀ a, (k0_off30 v1061) a + S8x128.size a ≤ S655360x128.size a)
theorem k0_mult19_dvd : ∀ (v1061 : BitVec 32) (k0_hw10 : k0_chk10 v1061), 8 ∣ (k0_mult19 v1061).toNat := fun v1061 k0_hw10 => k0_hw10.1
theorem k0_off30_inb : ∀ (v1061 : BitVec 32) (k0_hw10 : k0_chk10 v1061), ∀ a, (k0_off30 v1061) a + S8x128.size a ≤ S655360x128.size a := fun v1061 k0_hw10 => k0_hw10.2

def k0_off31 (k0_t3 : Fin k0_t3_loop.trips) : Fin 3 → Nat :=
  let c0_854 : Index := 0#32
  let c0_855 : Index := 0#32
  let c1024_i32_853 : BitVec 32 := 1024#32
  let c256_i32 : BitVec 32 := 256#32
  let c1_i32_6 : BitVec 32 := 1#32
  let arg8 : BitVec 32 := Scf.iv c256_i32 c1_i32_6 k0_t3
  let v1070 : BitVec 32 := Scalar.addi c1024_i32_853 arg8
  let v1071 : Index := Scalar.indexCast v1070
  ![0, 0, v1071.toNat]
def k0_mult21 (v1072 : BitVec 32) : BitVec 32 :=
  v1072

def k0_mult22 (k0_t3 : Fin k0_t3_loop.trips) : BitVec 32 :=
  let c256_i32 : BitVec 32 := 256#32
  let c1_i32_6 : BitVec 32 := 1#32
  let arg8 : BitVec 32 := Scf.iv c256_i32 c1_i32_6 k0_t3
  let c8_i32_856 : BitVec 32 := 8#32
  let v1074 : BitVec 32 := Scalar.muli arg8 c8_i32_856
  v1074
def k0_off32 (k0_t3 : Fin k0_t3_loop.trips) : Fin 3 → Nat :=
  let c2_i32_857 : BitVec 32 := 2#32
  let c256_i32 : BitVec 32 := 256#32
  let c1_i32_6 : BitVec 32 := 1#32
  let arg8 : BitVec 32 := Scf.iv c256_i32 c1_i32_6 k0_t3
  let c8_i32_856 : BitVec 32 := 8#32
  let v1074 : BitVec 32 := Scalar.muli arg8 c8_i32_856
  let v1075 : BitVec 32 := v1074
  let c0_i32_859 : BitVec 32 := 0#32
  ![2, v1075.toNat, 0]
def k0_off33 (v1072 : BitVec 32) : Fin 2 → Nat :=
  let v1073 : BitVec 32 := v1072
  let c0_i32_860 : BitVec 32 := 0#32
  ![v1073.toNat, 0]

def k0_chk11 (v1072 : BitVec 32) : Prop :=
  (8 ∣ (k0_mult21 v1072).toNat) ∧
  (∀ a, (k0_off33 v1072) a + S8x128.size a ≤ S655360x128.size a)
theorem k0_mult21_dvd : ∀ (v1072 : BitVec 32) (k0_hw11 : k0_chk11 v1072), 8 ∣ (k0_mult21 v1072).toNat := fun v1072 k0_hw11 => k0_hw11.1
theorem k0_off33_inb : ∀ (v1072 : BitVec 32) (k0_hw11 : k0_chk11 v1072), ∀ a, (k0_off33 v1072) a + S8x128.size a ≤ S655360x128.size a := fun v1072 k0_hw11 => k0_hw11.2

def k0_off34 (k0_t3 : Fin k0_t3_loop.trips) : Fin 3 → Nat :=
  let c0_861 : Index := 0#32
  let c0_862 : Index := 0#32
  let c1536_i32 : BitVec 32 := 1536#32
  let c256_i32 : BitVec 32 := 256#32
  let c1_i32_6 : BitVec 32 := 1#32
  let arg8 : BitVec 32 := Scf.iv c256_i32 c1_i32_6 k0_t3
  let v1081 : BitVec 32 := Scalar.addi c1536_i32 arg8
  let v1082 : Index := Scalar.indexCast v1081
  ![0, 0, v1082.toNat]
def k0_mult23 (v1083 : BitVec 32) : BitVec 32 :=
  v1083

def k0_mult24 (k0_t3 : Fin k0_t3_loop.trips) : BitVec 32 :=
  let c256_i32 : BitVec 32 := 256#32
  let c1_i32_6 : BitVec 32 := 1#32
  let arg8 : BitVec 32 := Scf.iv c256_i32 c1_i32_6 k0_t3
  let c8_i32_863 : BitVec 32 := 8#32
  let v1085 : BitVec 32 := Scalar.muli arg8 c8_i32_863
  v1085
def k0_off35 (k0_t3 : Fin k0_t3_loop.trips) : Fin 3 → Nat :=
  let c3_i32_864 : BitVec 32 := 3#32
  let c256_i32 : BitVec 32 := 256#32
  let c1_i32_6 : BitVec 32 := 1#32
  let arg8 : BitVec 32 := Scf.iv c256_i32 c1_i32_6 k0_t3
  let c8_i32_863 : BitVec 32 := 8#32
  let v1085 : BitVec 32 := Scalar.muli arg8 c8_i32_863
  let v1086 : BitVec 32 := v1085
  let c0_i32_866 : BitVec 32 := 0#32
  ![3, v1086.toNat, 0]
def k0_off36 (v1083 : BitVec 32) : Fin 2 → Nat :=
  let v1084 : BitVec 32 := v1083
  let c0_i32_867 : BitVec 32 := 0#32
  ![v1084.toNat, 0]

def k0_chk12 (v1083 : BitVec 32) : Prop :=
  (8 ∣ (k0_mult23 v1083).toNat) ∧
  (∀ a, (k0_off36 v1083) a + S8x128.size a ≤ S655360x128.size a)
theorem k0_mult23_dvd : ∀ (v1083 : BitVec 32) (k0_hw12 : k0_chk12 v1083), 8 ∣ (k0_mult23 v1083).toNat := fun v1083 k0_hw12 => k0_hw12.1
theorem k0_off36_inb : ∀ (v1083 : BitVec 32) (k0_hw12 : k0_chk12 v1083), ∀ a, (k0_off36 v1083) a + S8x128.size a ≤ S655360x128.size a := fun v1083 k0_hw12 => k0_hw12.2

@[reducible] def k0_t4_loop : Scf.Loop 32 :=
  let c384_i32 : BitVec 32 := 384#32
  let c128_i32_8 : BitVec 32 := 128#32
  let v3 : BitVec 32 := Scalar.addi c384_i32 c128_i32_8
  let c1_i32_9 : BitVec 32 := 1#32
  ⟨c384_i32, v3, c1_i32_9⟩
def k0_off37 (k0_t4 : Fin k0_t4_loop.trips) : Fin 3 → Nat :=
  let c0_840 : Index := 0#32
  let c0_841 : Index := 0#32
  let c0_i32_839 : BitVec 32 := 0#32
  let c384_i32 : BitVec 32 := 384#32
  let c1_i32_9 : BitVec 32 := 1#32
  let arg8 : BitVec 32 := Scf.iv c384_i32 c1_i32_9 k0_t4
  let v1048 : BitVec 32 := Scalar.addi c0_i32_839 arg8
  let v1049 : Index := Scalar.indexCast v1048
  ![0, 0, v1049.toNat]
def k0_mult25 (v1050 : BitVec 32) : BitVec 32 :=
  v1050

def k0_mult26 (k0_t4 : Fin k0_t4_loop.trips) : BitVec 32 :=
  let c384_i32 : BitVec 32 := 384#32
  let c1_i32_9 : BitVec 32 := 1#32
  let arg8 : BitVec 32 := Scf.iv c384_i32 c1_i32_9 k0_t4
  let c8_i32 : BitVec 32 := 8#32
  let v1052 : BitVec 32 := Scalar.muli arg8 c8_i32
  v1052
def k0_off38 (k0_t4 : Fin k0_t4_loop.trips) : Fin 3 → Nat :=
  let c0_i32_842 : BitVec 32 := 0#32
  let c384_i32 : BitVec 32 := 384#32
  let c1_i32_9 : BitVec 32 := 1#32
  let arg8 : BitVec 32 := Scf.iv c384_i32 c1_i32_9 k0_t4
  let c8_i32 : BitVec 32 := 8#32
  let v1052 : BitVec 32 := Scalar.muli arg8 c8_i32
  let v1053 : BitVec 32 := v1052
  let c0_i32_844 : BitVec 32 := 0#32
  ![0, v1053.toNat, 0]
def k0_off39 (v1050 : BitVec 32) : Fin 2 → Nat :=
  let v1051 : BitVec 32 := v1050
  let c0_i32_845 : BitVec 32 := 0#32
  ![v1051.toNat, 0]

def k0_chk13 (v1050 : BitVec 32) : Prop :=
  (8 ∣ (k0_mult25 v1050).toNat) ∧
  (∀ a, (k0_off39 v1050) a + S8x128.size a ≤ S655360x128.size a)
theorem k0_mult25_dvd : ∀ (v1050 : BitVec 32) (k0_hw13 : k0_chk13 v1050), 8 ∣ (k0_mult25 v1050).toNat := fun v1050 k0_hw13 => k0_hw13.1
theorem k0_off39_inb : ∀ (v1050 : BitVec 32) (k0_hw13 : k0_chk13 v1050), ∀ a, (k0_off39 v1050) a + S8x128.size a ≤ S655360x128.size a := fun v1050 k0_hw13 => k0_hw13.2

def k0_off40 (k0_t4 : Fin k0_t4_loop.trips) : Fin 3 → Nat :=
  let c0_846 : Index := 0#32
  let c0_847 : Index := 0#32
  let c512_i32 : BitVec 32 := 512#32
  let c384_i32 : BitVec 32 := 384#32
  let c1_i32_9 : BitVec 32 := 1#32
  let arg8 : BitVec 32 := Scf.iv c384_i32 c1_i32_9 k0_t4
  let v1059 : BitVec 32 := Scalar.addi c512_i32 arg8
  let v1060 : Index := Scalar.indexCast v1059
  ![0, 0, v1060.toNat]
def k0_mult27 (v1061 : BitVec 32) : BitVec 32 :=
  v1061

def k0_mult28 (k0_t4 : Fin k0_t4_loop.trips) : BitVec 32 :=
  let c384_i32 : BitVec 32 := 384#32
  let c1_i32_9 : BitVec 32 := 1#32
  let arg8 : BitVec 32 := Scf.iv c384_i32 c1_i32_9 k0_t4
  let c8_i32_848 : BitVec 32 := 8#32
  let v1063 : BitVec 32 := Scalar.muli arg8 c8_i32_848
  v1063
def k0_off41 (k0_t4 : Fin k0_t4_loop.trips) : Fin 3 → Nat :=
  let c1_i32_849 : BitVec 32 := 1#32
  let c384_i32 : BitVec 32 := 384#32
  let c1_i32_9 : BitVec 32 := 1#32
  let arg8 : BitVec 32 := Scf.iv c384_i32 c1_i32_9 k0_t4
  let c8_i32_848 : BitVec 32 := 8#32
  let v1063 : BitVec 32 := Scalar.muli arg8 c8_i32_848
  let v1064 : BitVec 32 := v1063
  let c0_i32_851 : BitVec 32 := 0#32
  ![1, v1064.toNat, 0]
def k0_off42 (v1061 : BitVec 32) : Fin 2 → Nat :=
  let v1062 : BitVec 32 := v1061
  let c0_i32_852 : BitVec 32 := 0#32
  ![v1062.toNat, 0]

def k0_chk14 (v1061 : BitVec 32) : Prop :=
  (8 ∣ (k0_mult27 v1061).toNat) ∧
  (∀ a, (k0_off42 v1061) a + S8x128.size a ≤ S655360x128.size a)
theorem k0_mult27_dvd : ∀ (v1061 : BitVec 32) (k0_hw14 : k0_chk14 v1061), 8 ∣ (k0_mult27 v1061).toNat := fun v1061 k0_hw14 => k0_hw14.1
theorem k0_off42_inb : ∀ (v1061 : BitVec 32) (k0_hw14 : k0_chk14 v1061), ∀ a, (k0_off42 v1061) a + S8x128.size a ≤ S655360x128.size a := fun v1061 k0_hw14 => k0_hw14.2

def k0_off43 (k0_t4 : Fin k0_t4_loop.trips) : Fin 3 → Nat :=
  let c0_854 : Index := 0#32
  let c0_855 : Index := 0#32
  let c1024_i32_853 : BitVec 32 := 1024#32
  let c384_i32 : BitVec 32 := 384#32
  let c1_i32_9 : BitVec 32 := 1#32
  let arg8 : BitVec 32 := Scf.iv c384_i32 c1_i32_9 k0_t4
  let v1070 : BitVec 32 := Scalar.addi c1024_i32_853 arg8
  let v1071 : Index := Scalar.indexCast v1070
  ![0, 0, v1071.toNat]
def k0_mult29 (v1072 : BitVec 32) : BitVec 32 :=
  v1072

def k0_mult30 (k0_t4 : Fin k0_t4_loop.trips) : BitVec 32 :=
  let c384_i32 : BitVec 32 := 384#32
  let c1_i32_9 : BitVec 32 := 1#32
  let arg8 : BitVec 32 := Scf.iv c384_i32 c1_i32_9 k0_t4
  let c8_i32_856 : BitVec 32 := 8#32
  let v1074 : BitVec 32 := Scalar.muli arg8 c8_i32_856
  v1074
def k0_off44 (k0_t4 : Fin k0_t4_loop.trips) : Fin 3 → Nat :=
  let c2_i32_857 : BitVec 32 := 2#32
  let c384_i32 : BitVec 32 := 384#32
  let c1_i32_9 : BitVec 32 := 1#32
  let arg8 : BitVec 32 := Scf.iv c384_i32 c1_i32_9 k0_t4
  let c8_i32_856 : BitVec 32 := 8#32
  let v1074 : BitVec 32 := Scalar.muli arg8 c8_i32_856
  let v1075 : BitVec 32 := v1074
  let c0_i32_859 : BitVec 32 := 0#32
  ![2, v1075.toNat, 0]
def k0_off45 (v1072 : BitVec 32) : Fin 2 → Nat :=
  let v1073 : BitVec 32 := v1072
  let c0_i32_860 : BitVec 32 := 0#32
  ![v1073.toNat, 0]

def k0_chk15 (v1072 : BitVec 32) : Prop :=
  (8 ∣ (k0_mult29 v1072).toNat) ∧
  (∀ a, (k0_off45 v1072) a + S8x128.size a ≤ S655360x128.size a)
theorem k0_mult29_dvd : ∀ (v1072 : BitVec 32) (k0_hw15 : k0_chk15 v1072), 8 ∣ (k0_mult29 v1072).toNat := fun v1072 k0_hw15 => k0_hw15.1
theorem k0_off45_inb : ∀ (v1072 : BitVec 32) (k0_hw15 : k0_chk15 v1072), ∀ a, (k0_off45 v1072) a + S8x128.size a ≤ S655360x128.size a := fun v1072 k0_hw15 => k0_hw15.2

def k0_off46 (k0_t4 : Fin k0_t4_loop.trips) : Fin 3 → Nat :=
  let c0_861 : Index := 0#32
  let c0_862 : Index := 0#32
  let c1536_i32 : BitVec 32 := 1536#32
  let c384_i32 : BitVec 32 := 384#32
  let c1_i32_9 : BitVec 32 := 1#32
  let arg8 : BitVec 32 := Scf.iv c384_i32 c1_i32_9 k0_t4
  let v1081 : BitVec 32 := Scalar.addi c1536_i32 arg8
  let v1082 : Index := Scalar.indexCast v1081
  ![0, 0, v1082.toNat]
def k0_mult31 (v1083 : BitVec 32) : BitVec 32 :=
  v1083

def k0_mult32 (k0_t4 : Fin k0_t4_loop.trips) : BitVec 32 :=
  let c384_i32 : BitVec 32 := 384#32
  let c1_i32_9 : BitVec 32 := 1#32
  let arg8 : BitVec 32 := Scf.iv c384_i32 c1_i32_9 k0_t4
  let c8_i32_863 : BitVec 32 := 8#32
  let v1085 : BitVec 32 := Scalar.muli arg8 c8_i32_863
  v1085
def k0_off47 (k0_t4 : Fin k0_t4_loop.trips) : Fin 3 → Nat :=
  let c3_i32_864 : BitVec 32 := 3#32
  let c384_i32 : BitVec 32 := 384#32
  let c1_i32_9 : BitVec 32 := 1#32
  let arg8 : BitVec 32 := Scf.iv c384_i32 c1_i32_9 k0_t4
  let c8_i32_863 : BitVec 32 := 8#32
  let v1085 : BitVec 32 := Scalar.muli arg8 c8_i32_863
  let v1086 : BitVec 32 := v1085
  let c0_i32_866 : BitVec 32 := 0#32
  ![3, v1086.toNat, 0]
def k0_off48 (v1083 : BitVec 32) : Fin 2 → Nat :=
  let v1084 : BitVec 32 := v1083
  let c0_i32_867 : BitVec 32 := 0#32
  ![v1084.toNat, 0]

def k0_chk16 (v1083 : BitVec 32) : Prop :=
  (8 ∣ (k0_mult31 v1083).toNat) ∧
  (∀ a, (k0_off48 v1083) a + S8x128.size a ≤ S655360x128.size a)
theorem k0_mult31_dvd : ∀ (v1083 : BitVec 32) (k0_hw16 : k0_chk16 v1083), 8 ∣ (k0_mult31 v1083).toNat := fun v1083 k0_hw16 => k0_hw16.1
theorem k0_off48_inb : ∀ (v1083 : BitVec 32) (k0_hw16 : k0_chk16 v1083), ∀ a, (k0_off48 v1083) a + S8x128.size a ≤ S655360x128.size a := fun v1083 k0_hw16 => k0_hw16.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3.lean ====
abbrev S32x1x2048 : Shape := ⟨3, ![32, 1, 2048]⟩
abbrev S655360x128 : Shape := ⟨2, ![655360, 128]⟩
abbrev S16384x1024 : Shape := ⟨2, ![16384, 1024]⟩
abbrev S16384x128 : Shape := ⟨2, ![16384, 128]⟩
abbrev S65536 : Shape := ⟨1, ![65536]⟩
abbrev S_ : Shape := ⟨0, ![]⟩
abbrev S81920x1024 : Shape := ⟨2, ![81920, 1024]⟩
abbrev S65536x1 : Shape := ⟨2, ![65536, 1]⟩
abbrev S65536x1024 : Shape := ⟨2, ![65536, 1024]⟩
abbrev S32x4x512x1024 : Shape := ⟨4, ![32, 4, 512, 1024]⟩
abbrev S32x512x128 : Shape := ⟨3, ![32, 512, 128]⟩
abbrev S32x512x1024 : Shape := ⟨3, ![32, 512, 1024]⟩
abbrev S32x512x1 : Shape := ⟨3, ![32, 512, 1]⟩
abbrev S32x1x512x1024 : Shape := ⟨4, ![32, 1, 512, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32x1x2048, .i32⟩
  | .hbm, ⟨1, _⟩ => ⟨S655360x128, .f32⟩
  | .hbm, ⟨2, _⟩ => ⟨S16384x1024, .f32⟩
  | .hbm, ⟨3, _⟩ => ⟨S16384x128, .f32⟩
  | .hbm, ⟨4, _⟩ => ⟨S65536, .i32⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S81920x1024, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1024, .f32⟩
  | .hbm, ⟨18, _⟩ => ⟨S32x4x512x1024, .f32⟩
  | .hbm, ⟨19, _⟩ => ⟨S32x512x128, .f32⟩
  | .hbm, ⟨20, _⟩ => ⟨S32x512x1024, .f32⟩
  | .hbm, ⟨21, _⟩ => ⟨S32x512x1, .f32⟩
  | .hbm, ⟨22, _⟩ => ⟨S32x1x512x1024, .f32⟩
  | .hbm, ⟨23, _⟩ => ⟨S32x512x1024, .f32⟩
  | .hbm, ⟨24, _⟩ => ⟨S32x512x1024, .f32⟩
  | .hbm, ⟨25, _⟩ => ⟨S32x512x1024, .f32⟩
  | .hbm, ⟨26, _⟩ => ⟨S32x512x1024, .f32⟩
  | .hbm, ⟨27, _⟩ => ⟨S32x512x1, .f32⟩
  | .hbm, ⟨28, _⟩ => ⟨S32x1x512x1024, .f32⟩
  | .hbm, ⟨29, _⟩ => ⟨S32x512x1024, .f32⟩
  | .hbm, ⟨30, _⟩ => ⟨S32x512x1024, .f32⟩
  | .hbm, ⟨31, _⟩ => ⟨S32x512x1024, .f32⟩
  | .hbm, ⟨32, _⟩ => ⟨S32x512x1024, .f32⟩
  | .hbm, ⟨33, _⟩ => ⟨S32x512x1, .f32⟩
  | .hbm, ⟨34, _⟩ => ⟨S32x1x512x1024, .f32⟩
  | .hbm, ⟨35, _⟩ => ⟨S32x512x1024, .f32⟩
  | .hbm, ⟨36, _⟩ => ⟨S32x512x1024, .f32⟩
  | .hbm, ⟨37, _⟩ => ⟨S32x512x1024, .f32⟩
  | .hbm, ⟨38, _⟩ => ⟨S32x512x1024, .f32⟩
  | .hbm, ⟨39, _⟩ => ⟨S32x512x1, .f32⟩
  | .hbm, ⟨40, _⟩ => ⟨S32x1x512x1024, .f32⟩
  | .hbm, ⟨41, _⟩ => ⟨S32x512x1024, .f32⟩
  | .hbm, ⟨42, _⟩ => ⟨S32x512x1024, .f32⟩
  | .hbm, ⟨43, _⟩ => ⟨S32x512x1024, .f32⟩
  | .hbm, ⟨44, _⟩ => ⟨S32x512x1024, .f32⟩
  | .hbm, ⟨45, _⟩ => ⟨S16384x1024, .f32⟩
  | _, _ => ⟨S32x1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3600 : Shape := ⟨2, ![1024, 3600]⟩
abbrev S8 : Shape := ⟨1, ![8]⟩
abbrev S64 : Shape := ⟨1, ![64]⟩
abbrev S4 : Shape := ⟨1, ![4]⟩
abbrev S1024x1536 : Shape := ⟨2, ![1024, 1536]⟩
abbrev S1024x512 : Shape := ⟨2, ![1024, 512]⟩
abbrev S1024x3584 : Shape := ⟨2, ![1024, 3584]⟩
abbrev S1024x8 : Shape := ⟨2, ![1024, 8]⟩
abbrev S_ : Shape := ⟨0, ![]⟩
abbrev S1024x112 : Shape := ⟨2, ![1024, 112]⟩
abbrev S1024x128 : Shape := ⟨2, ![1024, 128]⟩
abbrev S8x128 : Shape := ⟨2, ![8, 128]⟩
abbrev S1 : Shape := ⟨1, ![1]⟩
abbrev S2 : Shape := ⟨1, ![2]⟩
abbrev S2x128 : Shape := ⟨2, ![2, 128]⟩
abbrev S128x2 : Shape := ⟨2, ![128, 2]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S128x1024 : Shape := ⟨2, ![128, 1024]⟩
abbrev S1x64 : Shape := ⟨2, ![1, 64]⟩
abbrev S8x64 : Shape := ⟨2, ![8, 64]⟩
abbrev S16384x512 : Shape := ⟨2, ![16384, 512]⟩
abbrev S16384x1536 : Shape := ⟨2, ![16384, 1536]⟩
abbrev S16384x128 : Shape := ⟨2, ![16384, 128]⟩
abbrev S128x16384 : Shape := ⟨2, ![128, 16384]⟩
abbrev S512x1024 : Shape := ⟨2, ![512, 1024]⟩
abbrev S512x1536 : Shape := ⟨2, ![512, 1536]⟩
abbrev S512x128 : Shape := ⟨2, ![512, 128]⟩
abbrev S128x512 : Shape := ⟨2, ![128, 512]⟩
abbrev S1x128 : Shape := ⟨2, ![1, 128]⟩
abbrev S128x1 : Shape := ⟨2, ![128, 1]⟩

abbrev nBuf : Space → Nat
  | .hbm => 83
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3600, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S4, .f32⟩
  | .hbm, ⟨7, _⟩ => ⟨S4, .f32⟩
  | .hbm, ⟨8, _⟩ => ⟨S1024x1536, .f32⟩
  | .hbm, ⟨9, _⟩ => ⟨S1024x1536, .f32⟩
  | .hbm, ⟨10, _⟩ => ⟨S1024x512, .f32⟩
  | .hbm, ⟨11, _⟩ => ⟨S1024x3584, .f32⟩
  | .hbm, ⟨12, _⟩ => ⟨S1024x3584, .bf16⟩
  | .hbm, ⟨13, _⟩ => ⟨S1024x8, .f32⟩
  | .hbm, ⟨14, _⟩ => ⟨S1024x8, .f32⟩
  | .hbm, ⟨15, _⟩ => ⟨S_, .f32⟩
  | .hbm, ⟨16, _⟩ => ⟨S1024x112, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S8x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S8x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S8x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S8x128, .f32⟩
  | .hbm, ⟨39, _⟩ => ⟨S2x128, .f32⟩
  | .hbm, ⟨40, _⟩ => ⟨S128x2, .f32⟩
  | .hbm, ⟨41, _⟩ => ⟨S512, .i32⟩
  | .hbm, ⟨42, _⟩ => ⟨S_, .i32⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S_, .i32⟩
  | .hbm, ⟨48, _⟩ => ⟨S512, .i32⟩
  | .hbm, ⟨49, _⟩ => ⟨S512, .i1⟩
  | .hbm, ⟨50, _⟩ => ⟨S512, .i32⟩
  | .hbm, ⟨51, _⟩ => ⟨S512, .i32⟩
  | .hbm, ⟨52, _⟩ => ⟨S_, .i32⟩
  | .hbm, ⟨53, _⟩ => ⟨S512, .i32⟩
  | .hbm, ⟨54, _⟩ => ⟨S512, .i1⟩
  | .hbm, ⟨55, _⟩ => ⟨S512, .i1⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .i32⟩
  | .hbm, ⟨60, _⟩ => ⟨S512x1, .i32⟩
  | .hbm, ⟨61, _⟩ => ⟨S1x512, .i32⟩
  | .hbm, ⟨62, _⟩ => ⟨S512x512, .i32⟩
  | .hbm, ⟨63, _⟩ => ⟨S512x512, .i32⟩
  | .hbm, ⟨64, _⟩ => ⟨S512x512, .i1⟩
  | .hbm, ⟨65, _⟩ => ⟨S512x512, .bf16⟩
  | .hbm, ⟨66, _⟩ => ⟨S1x1024, .f32⟩
  | .hbm, ⟨67, _⟩ => ⟨S128x1024, .bf16⟩
  | .hbm, ⟨68, _⟩ => ⟨S1x64, .f32⟩
  | .hbm, ⟨69, _⟩ => ⟨S8x64, .f32⟩
  | .hbm, ⟨70, _⟩ => ⟨S512, .f32⟩
  | .hbm, ⟨71, _⟩ => ⟨S1x512, .f32⟩
  | .hbm, ⟨72, _⟩ => ⟨S1x64, .f32⟩
  | .hbm, ⟨73, _⟩ => ⟨S8x64, .f32⟩
  | .hbm, ⟨74, _⟩ => ⟨S512, .f32⟩
  | .hbm, ⟨75, _⟩ => ⟨S1x512, .f32⟩
  | .hbm, ⟨76, _⟩ => ⟨S16384x512, .bf16⟩
  | .hbm, ⟨77, _⟩ => ⟨S16384x512, .bf16⟩
  | .hbm, ⟨78, _⟩ => ⟨S16384x512, .bf16⟩
  | .hbm, ⟨79, _⟩ => ⟨S16384x1536, .f32⟩
  | .hbm, ⟨80, _⟩ => ⟨S16384x512, .f32⟩
  | .hbm, ⟨81, _⟩ => ⟨S16384x128, .f32⟩
  | .hbm, ⟨82, _⟩ => ⟨S128x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S128x1024, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S8x128, .f32⟩
  | .local _ .vmem, ⟨10, _⟩ => ⟨S128x2, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x1536, .f32⟩
  | .local _ .vmem, ⟨18, _⟩ => ⟨S512x1536, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | .local _ .vmem, ⟨22, _⟩ => ⟨S512x128, .f32⟩
  | .local _ .vmem, ⟨23, _⟩ => ⟨S128x512, .f32⟩
  | .local _ .vmem, ⟨24, _⟩ => ⟨S128x512, .f32⟩
  | .local _ .vmem, ⟨25, _⟩ => ⟨S1x128, .f32⟩
  | .local _ .vmem, ⟨26, _⟩ => ⟨S128x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43_0 : Ref sig .tc := ⟨.hbm, 76, rfl⟩
abbrev main_v43_1 : Ref sig .tc := ⟨.hbm, 77, rfl⟩
abbrev main_v43_2 : Ref sig .tc := ⟨.hbm, 78, rfl⟩
abbrev main_v43_3 : Ref sig .tc := ⟨.hbm, 79, rfl⟩
abbrev main_v43_4 : Ref sig .tc := ⟨.hbm, 80, rfl⟩
abbrev main_v43_5 : Ref sig .tc := ⟨.hbm, 81, rfl⟩
abbrev main_v43_6 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4.lean ====
abbrev S16384x1024 : Shape := ⟨2, ![16384, 1024]⟩
abbrev S1024 : Shape := ⟨1, ![1024]⟩
abbrev S1024x3600 : Shape := ⟨2, ![1024, 3600]⟩
abbrev S8 : Shape := ⟨1, ![8]⟩
abbrev S64 : Shape := ⟨1, ![64]⟩
abbrev S4 : Shape := ⟨1, ![4]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3600 : Shape := ⟨2, ![16384, 3600]⟩
abbrev S16384x512 : Shape := ⟨2, ![16384, 512]⟩
abbrev S16384x8 : Shape := ⟨2, ![16384, 8]⟩
abbrev S16384x1536 : Shape := ⟨2, ![16384, 1536]⟩
abbrev S16384x8x64 : Shape := ⟨3, ![16384, 8, 64]⟩
abbrev S16384x8x1 : Shape := ⟨3, ![16384, 8, 1]⟩
abbrev S1x1x64 : Shape := ⟨3, ![1, 1, 64]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3600, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S4, .f32⟩
  | .hbm, ⟨7, _⟩ => ⟨S4, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x3600, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x8, .f32⟩
  | .hbm, ⟨29, _⟩ => ⟨S16384x1536, .f32⟩
  | .hbm, ⟨30, _⟩ => ⟨S16384x8, .f32⟩
  | .hbm, ⟨31, _⟩ => ⟨S16384x512, .f32⟩
  | .hbm, ⟨32, _⟩ => ⟨S16384x8x64, .f32⟩
  | .hbm, ⟨33, _⟩ => ⟨S16384x8x64, .f32⟩
  | .hbm, ⟨34, _⟩ => ⟨S_, .f32⟩
  | .hbm, ⟨35, _⟩ => ⟨S16384x8, .f32⟩
  | .hbm, ⟨36, _⟩ => ⟨S16384x8x1, .f32⟩
  | .hbm, ⟨37, _⟩ => ⟨S_, .f32⟩
  | .hbm, ⟨38, _⟩ => ⟨S16384x8x1, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S16384x8x1, .f32⟩
  | .hbm, ⟨44, _⟩ => ⟨S16384x8x64, .f32⟩
  | .hbm, ⟨45, _⟩ => ⟨S16384x8x64, .f32⟩
  | .hbm, ⟨46, _⟩ => ⟨S1x1x64, .f32⟩
  | .hbm, ⟨47, _⟩ => ⟨S16384x8x64, .f32⟩
  | .hbm, ⟨48, _⟩ => ⟨S16384x8x64, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S16384x8x64, .f32⟩
  | .hbm, ⟨54, _⟩ => ⟨S16384x8x64, .f32⟩
  | .hbm, ⟨55, _⟩ => ⟨S_, .f32⟩
  | .hbm, ⟨56, _⟩ => ⟨S16384x8, .f32⟩
  | .hbm, ⟨57, _⟩ => ⟨S16384x8x1, .f32⟩
  | .hbm, ⟨58, _⟩ => ⟨S_, .f32⟩
  | .hbm, ⟨59, _⟩ => ⟨S16384x8x1, .f32⟩
  | .hbm, ⟨60, _⟩ => ⟨S16384x8x1, .f32⟩
  | .hbm, ⟨61, _⟩ => ⟨S_, .f32⟩
  | .hbm, ⟨62, _⟩ => ⟨S16384x8x1, .f32⟩
  | .hbm, ⟨63, _⟩ => ⟨S16384x8x1, .f32⟩
  | .hbm, ⟨64, _⟩ => ⟨S16384x8x1, .f32⟩
  | .hbm, ⟨65, _⟩ => ⟨S16384x8x64, .f32⟩
  | .hbm, ⟨66, _⟩ => ⟨S16384x8x64, .f32⟩
  | .hbm, ⟨67, _⟩ => ⟨S1x1x64, .f32⟩
  | .hbm, ⟨68, _⟩ => ⟨S16384x8x64, .f32⟩
  | .hbm, ⟨69, _⟩ => ⟨S16384x8x64, .f32⟩
  | .hbm, ⟨70, _⟩ => ⟨S16384x512, .f32⟩
  | .hbm, ⟨71, _⟩ => ⟨S16384x512, .bf16⟩
  | .hbm, ⟨72, _⟩ => ⟨S16384x512, .bf16⟩
  | .hbm, ⟨73, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proof.ProjectReference.lean ====
/-
  The projections' mathematics, and the reference's five results as that mathematics, element by element.
-/
module

public import proofs.«01_k».proof.Proof.Gen.Reference4Ideal.Run
public import Idealize.ShloMosaic.Lib.Pointwise
public import Idealize.ShloMosaic.Lib.StableHlo.ReadAt

@[expose] public section

set_option maxRecDepth 16384
set_option maxHeartbeats 3200000

noncomputable section

namespace Cert.Proof.Project

open Idealize.ShloMosaic Idealize.ShloMosaic.TcCoe Idealize.SL.Sem
open Cert.Reference4Ideal Cert.Reference4Ideal.Gen

/-- The normed rows. -/
def normed (x : S16384x1024.Idx → EReal) (g : S1024.Idx → EReal) (r : Fin 16384) (k : Fin 1024) : EReal :=
  x (ix2 r k) * Ideal.rsqrt (Ideal.div (∑ k : Fin 1024, x (ix2 r k) * x (ix2 r k)) (Ideal.ofBits FTy.f32 0x44800000#32) + Ideal.ofBits FTy.f32 0x358637BD#32) * g (ix1 k)

/-- The normed rows times the input weights. -/
def proj (x : S16384x1024.Idx → EReal) (g : S1024.Idx → EReal) (w : S1024x3600.Idx → EReal) (r : Fin 16384) (j : Fin 3600) : EReal :=
  ∑ k : Fin 1024, normed x g r k * w (ix2 k j)

/-- A row of 512 lanes normed by heads of 64 lanes. -/
def headNormed (p : Fin 512 → EReal) (g : S64.Idx → EReal) (l : Fin 512) : EReal :=
  p l * Ideal.rsqrt (Ideal.div (∑ d : Fin 64, p ⟨l.val / 64 * 64 + d.val, by omega⟩ * p ⟨l.val / 64 * 64 + d.val, by omega⟩) (Ideal.ofBits FTy.f32 0x42800000#32) + Ideal.ofBits FTy.f32 0x358637BD#32)
    * g (ix1 ⟨l.val % 64, Nat.mod_lt _ (by decide)⟩)

/-- The queries: normed by head, times the softmax's scale. -/
def queries (x : S16384x1024.Idx → EReal) (g : S1024.Idx → EReal) (w : S1024x3600.Idx → EReal) (q : S64.Idx → EReal) (r : Fin 16384) (l : Fin 512) : EReal :=
  headNormed (fun j => proj x g w r ⟨j.val, by omega⟩) q l * Ideal.ofBits FTy.f32 0x3E38AA3B#32
/-- The keys: normed by head. -/
def keys (x : S16384x1024.Idx → EReal) (g : S1024.Idx → EReal) (w : S1024x3600.Idx → EReal) (q : S64.Idx → EReal) (r : Fin 16384) (l : Fin 512) : EReal :=
  headNormed (fun j => proj x g w r ⟨512 + j.val, by omega⟩) q l
/-- The attention's values. -/
def values (x : S16384x1024.Idx → EReal) (g : S1024.Idx → EReal) (w : S1024x3600.Idx → EReal) (r : Fin 16384) (l : Fin 512) : EReal := proj x g w r ⟨1024 + l.val, by omega⟩
/-- The delta rule's inputs. -/
def deltas (x : S16384x1024.Idx → EReal) (g : S1024.Idx → EReal) (w : S1024x3600.Idx → EReal) (r : Fin 16384) (l : Fin 1536) : EReal := proj x g w r ⟨1544 + l.val, by omega⟩
/-- The delta rule's gate. -/
def gates (x : S16384x1024.Idx → EReal) (g : S1024.Idx → EReal) (w : S1024x3600.Idx → EReal) (r : Fin 16384) (l : Fin 512) : EReal := proj x g w r ⟨3088 + l.val, by omega⟩

/-! ## The reference's results -/

section
variable (m : (ℓ : Loc nD τ sig) → Buf (Elt Ideal) ℓ) (c : Dev nD)

theorem reference_v53 (r : Fin 16384) (l : Fin 512) :
    (StableHlo.after Value.ops (fun b => m (c, b)) (Proc.devRef .tc main_v53) : S16384x512.Idx → EReal) (ix2 r l)
      = queries (m ((c.tc : Thread nD τ).loc main_arg0)) (m ((c.tc : Thread nD τ).loc main_arg1)) (m ((c.tc : Thread nD τ).loc main_arg2)) (m ((c.tc : Thread nD τ).loc main_arg4)) r l := by
  unfold Value.ops queries headNormed proj normed
  after_reads_at
  simp only [Nat.div_add_mod']

theorem reference_v54 (r : Fin 16384) (l : Fin 512) :
    (StableHlo.after Value.ops (fun b => m (c, b)) (Proc.devRef .tc main_v54) : S16384x512.Idx → EReal) (ix2 r l)
      = keys (m ((c.tc : Thread nD τ).loc main_arg0)) (m ((c.tc : Thread nD τ).loc main_arg1)) (m ((c.tc : Thread nD τ).loc main_arg2)) (m ((c.tc : Thread nD τ).loc main_arg5)) r l := by
  unfold Value.ops keys headNormed proj normed
  after_reads_at
  simp only [Nat.div_add_mod']

theorem reference_v55 (r : Fin 16384) (l : Fin 512) :
    (StableHlo.after Value.ops (fun b => m (c, b)) (Proc.devRef .tc main_v55) : S16384x512.Idx → EReal) (ix2 r l)
      = values (m ((c.tc : Thread nD τ).loc main_arg0)) (m ((c.tc : Thread nD τ).loc main_arg1)) (m ((c.tc : Thread nD τ).loc main_arg2)) r l := by
  unfold Value.ops values proj normed
  after_reads_at

theorem reference_v18 (r : Fin 16384) (l : Fin 1536) :
    (StableHlo.after Value.ops (fun b => m (c, b)) (Proc.devRef .tc main_v18) : S16384x1536.Idx → EReal) (ix2 r l)
      = deltas (m ((c.tc : Thread nD τ).loc main_arg0)) (m ((c.tc : Thread nD τ).loc main_arg1)) (m ((c.tc : Thread nD τ).loc main_arg2)) r l := by
  unfold Value.ops deltas proj normed
  after_reads_at

theorem reference_v20 (r : Fin 16384) (l : Fin 512) :
    (StableHlo.after Value.ops (fun b => m (c, b)) (Proc.devRef .tc main_v20) : S16384x512.Idx → EReal) (ix2 r l)
      = gates (m ((c.tc : Thread nD τ).loc main_arg0)) (m ((c.tc : Thread nD τ).loc main_arg1)) (m ((c.tc : Thread nD τ).loc main_arg2)) r l := by
  unfold Value.ops gates proj normed
  after_reads_at

end

/-- The reference's run: the five results, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = (fun i : S16384x512.Idx => queries (m ((c.tc : Thread nD τ).loc main_arg0)) (m ((c.tc : Thread nD τ).loc main_arg1)) (m ((c.tc : Thread nD τ).loc main_arg2)) (m ((c.tc : Thread nD τ).loc main_arg4)) (i 0) (i 1))
      ∧ r.2.mem ((c.tc : Thread nD τ).loc main_v54) = (fun i : S16384x512.Idx => keys (m ((c.tc : Thread nD τ).loc main_arg0)) (m ((c.tc : Thread nD τ).loc main_arg1)) (m ((c.tc : Thread nD τ).loc main_arg2)) (m ((c.tc : Thread nD τ).loc main_arg5)) (i 0) (i 1))
      ∧ r.2.mem ((c.tc : Thread nD τ).loc main_v55) = (fun i : S16384x512.Idx => values (m ((c.tc : Thread nD τ).loc main_arg0)) (m ((c.tc : Thread nD τ).loc main_arg1)) (m ((c.tc : Thread nD τ).loc main_arg2)) (i 0) (i 1))
      ∧ r.2.mem ((c.tc : Thread nD τ).loc main_v18) = (fun i : S16384x1536.Idx => deltas (m ((c.tc : Thread nD τ).loc main_arg0)) (m ((c.tc : Thread nD τ).loc main_arg1)) (m ((c.tc : Thread nD τ).loc main_arg2)) (i 0) (i 1))
      ∧ r.2.mem ((c.tc : Thread nD τ).loc main_v20) = (fun i : S16384x512.Idx => gates (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hs : ∀ {W : ℕ} (f : (⟨2, ![16384, W]⟩ : Shape).Idx → EReal) (G : Fin 16384 → Fin W → EReal), (∀ r l, f (ix2 r l) = G r l) → f = fun i => G (i 0) (i 1) := fun f G h => by
    refine funext fun i => ?_
    obtain ⟨r, l, rfl⟩ : ∃ r l, i = ix2 r l := ⟨i 0, i 1, by funext a; fin_cases a <;> rfl⟩
    exact h r l
  refine (θ_run defs _ _).mono (fun r h c => ⟨(h c main_v53).trans (hs _ _ (reference_v53 m c)),
    (h c main_v54).trans (hs _ _ (reference_v54 m c)),
    (h c main_v55).trans (hs _ _ (reference_v55 m c)),
    (h c main_v18).trans (hs _ _ (reference_v18 m c)),
    (h c main_v20).trans (hs _ _ (reference_v20 m c)), ?_⟩)
    (StableHlo.run_seq Value.scopedRefs_eq Value.scopedSems_eq defs main (fun _ => Value.ops) Value.main_eq (fun _ => Value.ops_sub) m ρ)
  exact ⟨(h c main_arg0).trans (by after_results_simp <;> rfl), (h c main_arg1).trans (by after_results_simp <;> rfl), (h c main_arg2).trans (by after_results_simp <;> rfl), (h c main_arg3).trans (by after_results_simp <;> rfl), (h c main_arg4).trans (by after_results_simp <;> rfl), (h c main_arg5).trans (by after_results_simp <;> rfl), (h c main_arg6).trans (by after_results_simp <;> rfl), (h c main_arg7).trans (by after_results_simp <;> rfl)⟩

end Cert.Proof.Project

end
-- ==== Proof.ProjectHost.lean ====
/-
  The projections' kernel: the arrays the host prepares for it, element by element.
-/
module

public import proofs.«01_k».proof.Proof.Gen.Kernel4Ideal.Value
public import Idealize.ShloMosaic.Lib.Pipeline.ValueKit
public import Idealize.ShloMosaic.Lib.Pointwise
public import Idealize.ShloMosaic.Lib.StableHlo.ReadAt

@[expose] public section

set_option maxRecDepth 16384
set_option maxHeartbeats 3200000

noncomputable section

namespace Cert.Proof.Project

open Idealize.ShloMosaic Idealize.ShloMosaic.TcCoe
open Cert.Kernel4Ideal Cert.Kernel4Ideal.Gen

variable (m : (ℓ : Loc nD τ sig) → Buf (Elt Ideal) ℓ)

theorem gain_at (c : Dev nD) (k : Fin 1024) : (V m c main_v33 : S1x1024.Idx → EReal) (ix2 0 k) = (m ((c : Thread nD τ).loc main_arg1) : S1024.Idx → EReal) (ix1 k) := by
  unfold V hostOps0 hostOps0_1 hostOps0_2
  simp only [List.flatten_cons, List.flatten_nil, List.append_nil, List.cons_append, List.nil_append]
  after_reads_at
theorem q_at (c : Dev nD) (k : Fin 512) : (V m c main_v38 : S1x512.Idx → EReal) (ix2 0 k) = (m ((c : Thread nD τ).loc main_arg4) : S64.Idx → EReal) (ix1 ⟨k.val % 64, Nat.mod_lt _ (by decide)⟩) := by
  unfold V hostOps0 hostOps0_1 hostOps0_2
  simp only [List.flatten_cons, List.flatten_nil, List.append_nil, List.cons_append, List.nil_append]
  after_reads_at
theorem k_at (c : Dev nD) (k : Fin 512) : (V m c main_v42 : S1x512.Idx → EReal) (ix2 0 k) = (m ((c : Thread nD τ).loc main_arg5) : S64.Idx → EReal) (ix1 ⟨k.val % 64, Nat.mod_lt _ (by decide)⟩) := by
  unfold V hostOps0 hostOps0_1 hostOps0_2
  simp only [List.flatten_cons, List.flatten_nil, List.append_nil, List.cons_append, List.nil_append]
  after_reads_at
/-- The column of the input weights that stands at a column of the main weights. -/
def colOf (j : Fin 3584) : Fin 3600 :=
  ⟨if j.val < 1536 then j.val else if j.val < 3072 then j.val + 8 else j.val + 16, by have := j.isLt; split <;> [skip; split] <;> omega⟩

theorem w_at (c : Dev nD) (k : Fin 1024) (j : Fin 3584) : (V m c main_v4 : S1024x3584.Idx → EReal) (ix2 k j) = (m ((c : Thread nD τ).loc main_arg2) : S1024x3600.Idx → EReal) (ix2 k (colOf j)) := by
  unfold V hostOps0 hostOps0_1 hostOps0_2 colOf
  simp only [List.flatten_cons, List.flatten_nil, List.append_nil, List.cons_append, List.nil_append]
  after_reads_at
  have := j.isLt
  repeat' split
  all_goals
    simp only [StableHlo.upto, List.take_succ_cons, List.take_zero]
    after_reads_at
  all_goals first
    | (exfalso; omega)
    | exact congrArg (fun z => (m ((c : Thread nD τ).loc main_arg2) : S1024x3600.Idx → EReal) (ix2 k z)) (Fin.ext (by dsimp only; omega))

/-- The head a lane belongs to, as the host divides the lane by the width of a head. -/
def headWord (k : Fin 512) : BitVec 32 :=
  Scalar.select
          (IntOp.andi
            (IntOp.cmpi CmpIPredicate.ne
              (if BitVec.ofNat 32 k.val = 0 then 0 else if (BitVec.ofNat 32 k.val).msb = true then -1 else 1 : BitVec 32)
              (if (64#32 : BitVec 32) = 0 then 0
              else if BitVec.msb (64#32 : BitVec 32) = true then -1 else 1 : BitVec 32))
            (IntOp.cmpi CmpIPredicate.ne
              (IntOp.remsi ArithUnit.host (BitVec.ofNat 32 k.val) 64#32) 0#32))
          (IntOp.subi (IntOp.divsi ArithUnit.host (BitVec.ofNat 32 k.val) 64#32) 1#32)
          (IntOp.divsi ArithUnit.host (BitVec.ofNat 32 k.val) 64#32)

theorem headWord_eq : ∀ k : Fin 512, headWord k = BitVec.ofNat 32 (k.val / 64) := by decide +kernel

theorem bd_at (c : Dev nD) (k l : Fin 512) : (V m c main_v32 : S512x512.Idx → EReal) (ix2 k l) = (if k.val / 64 = l.val / 64 then 1 else 0 : EReal) := by
  have key : (V m c main_v32 : S512x512.Idx → EReal) (ix2 k l) = FloatOps.uitofp (F := Ideal) FTy.bf16 (IntOp.cmpi CmpIPredicate.eq (headWord k) (headWord l)) := by
    unfold V hostOps0 hostOps0_1 hostOps0_2
    simp only [List.flatten_cons, List.flatten_nil, List.append_nil, List.cons_append, List.nil_append]
    after_reads_at
    rfl
  refine key.trans ?_
  rw [headWord_eq, headWord_eq]
  have hk := k.isLt
  have hl := l.isLt
  by_cases h : k.val / 64 = l.val / 64
  · rw [if_pos h, h]
    have e : IntOp.cmpi CmpIPredicate.eq (BitVec.ofNat 32 (l.val / 64)) (BitVec.ofNat 32 (l.val / 64)) = 1#1 := by simp [IntOp.cmpi]
    rw [e]
    show (((1#1 : BitVec 1).toNat : ℝ) : EReal) = 1
    norm_num
  · rw [if_neg h]
    have hne : BitVec.ofNat 32 (k.val / 64) ≠ BitVec.ofNat 32 (l.val / 64) := by
      intro e
      have := congrArg BitVec.toNat e
      simp only [BitVec.toNat_ofNat] at this
      omega
    have e : IntOp.cmpi CmpIPredicate.eq (BitVec.ofNat 32 (k.val / 64)) (BitVec.ofNat 32 (l.val / 64)) = 0#1 := by
      simp only [IntOp.cmpi, beq_eq_false_iff_ne.mpr hne]; rfl
    rw [e]
    show (((0#1 : BitVec 1).toNat : ℝ) : EReal) = 0
    norm_num

/-- A mean over a head's 64 lanes, by the reciprocal. -/
theorem mul_inv64 (x : EReal) : x * Ideal.ofBits FTy.f32 1015021568#32 = Ideal.div x (Ideal.ofBits FTy.f32 0x42800000#32) := by
  have h64 : Ideal.ofBits FTy.f32 0x42800000#32 = ((64 : ℝ) : EReal) := by
    simp [Ideal.ofBits, Ideal.ieee, -EReal.coe_mul]; norm_num
  have hi : Ideal.ofBits FTy.f32 1015021568#32 = (((1 / 64 : ℝ)) : EReal) := by
    simp [Ideal.ofBits, Ideal.ieee, -EReal.coe_mul]; norm_num
  rw [h64, hi, Ideal.div_coe (by norm_num)]

end Cert.Proof.Project

end
-- ==== Proof.ProjectBlocks.lean ====
/-
  The projections' kernel: what a grid point reads, and the payloads it leaves in the five results' blocks.
-/
module

public import proofs.«01_k».proof.Proof.ProjectHost
public import Idealize.ShloMosaic.Lib.Pipeline.ValueKit
public import Idealize.ShloMosaic.Lib.Pointwise
public import Idealize.ShloMosaic.Lib.StableHlo.ReadAt

@[expose] public section

set_option maxRecDepth 16384
set_option maxHeartbeats 3200000

noncomputable section

namespace Cert.Proof.Project

open Idealize.ShloMosaic Idealize.ShloMosaic.TcCoe
open Cert.Kernel4Ideal Cert.Kernel4Ideal.Gen

variable (m : (ℓ : Loc nD τ sig) → Buf (Elt Ideal) ℓ)

/-! ## The point's blocks -/

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_10 : ∀ t : Fin cfg0.N, win0_10.index t = ![t.val, 0] := (by decide +kernel : ∀ t : Fin grid0.N, _)

theorem blk_1 (c : Dev nD) (t : Fin cfg0.N) : iblk m c 1 t = V m c main_v33 := by
  blk_ext! [iblk, idx_1 t]
theorem blk_2 (c : Dev nD) (t : Fin cfg0.N) : iblk m c 2 t = V m c main_v4 := by
  blk_ext! [iblk, idx_2 t]
theorem blk_5 (c : Dev nD) (t : Fin cfg0.N) : iblk m c 5 t = V m c main_v32 := by
  blk_ext! [iblk, idx_5 t]
theorem blk_6 (c : Dev nD) (t : Fin cfg0.N) : iblk m c 6 t = V m c main_v38 := by
  blk_ext! [iblk, idx_6 t]
theorem blk_7 (c : Dev nD) (t : Fin cfg0.N) : iblk m c 7 t = V m c main_v42 := by
  blk_ext! [iblk, idx_7 t]

/-- The row of the stream that the point's block has at row `r`. -/
def rowOf (t : Fin cfg0.N) (r : Fin 512) : Fin 16384 := ⟨t.val * 512 + r.val, by have : t.val < 32 := t.isLt; omega⟩

theorem blk_0 (c : Dev nD) (t : Fin cfg0.N) (r : Fin 512) (k : Fin 1024) :
    (iblk m c 0 t : S512x1024.Idx → EReal) (ix2 r k) = (m ((c : Thread nD τ).loc main_arg0) : S16384x1024.Idx → EReal) (ix2 (rowOf t r) k) := by
  rw [← V_main_arg0 m c]
  blk_simp [iblk]
  refine congrArg (V m c main_arg0) ?_
  blk_ext [idx_0 t, rowOf]

theorem outs_10 (c : Dev nD) (t : Fin cfg0.N) : (outsAt0 m c t.val t.isLt).1 = k0_pay7 (iblk m c 0 t) (iblk m c 1 t)
      (View.ld (iblk m c 2 t) (Rect.unit ![0, 0] ![1024, 512] inb_S1024x3584_S1024x512_0_0)) (iblk m c 6 t) (iblk m c 5 t) := by
  by_cases h : t.val % 16 = 0
  · rw [outsAt0_A m c t h]; dsimp only; frame_out; rfl
  · rw [outsAt0_B m c t h]; dsimp only; frame_out; rfl
theorem outs_11 (c : Dev nD) (t : Fin cfg0.N) : (outsAt0 m c t.val t.isLt).2.1 = k0_pay8 (k0_pay6 (iblk m c 0 t) (iblk m c 1 t))
      (View.ld (iblk m c 2 t) (Rect.unit ![0, 512] ![1024, 512] inb_S1024x3584_S1024x512_0_512)) (iblk m c 7 t) (iblk m c 5 t) := by
  by_cases h : t.val % 16 = 0
  · rw [outsAt0_A m c t h]; dsimp only; frame_out; rfl
  · rw [outsAt0_B m c t h]; dsimp only; frame_out; rfl
theorem outs_12 (c : Dev nD) (t : Fin cfg0.N) : (outsAt0 m c t.val t.isLt).2.2.1 = k0_pay9 (k0_pay6 (iblk m c 0 t) (iblk m c 1 t))
      (View.ld (iblk m c 2 t) (Rect.unit ![0, 1024] ![1024, 512] inb_S1024x3584_S1024x512_0_1024)) := by
  by_cases h : t.val % 16 = 0
  · rw [outsAt0_A m c t h]; dsimp only; frame_out; rfl
  · rw [outsAt0_B m c t h]; dsimp only; frame_out; rfl
theorem outs_13 (c : Dev nD) (t : Fin cfg0.N) : (outsAt0 m c t.val t.isLt).2.2.2.1 = k0_pay10 (k0_pay6 (iblk m c 0 t) (iblk m c 1 t))
      (View.ld (iblk m c 2 t) (Rect.unit ![0, 1536] ![1024, 1536] inb_S1024x3584_S1024x1536_0_1536)) := by
  by_cases h : t.val % 16 = 0
  · rw [outsAt0_A m c t h]; dsimp only; frame_out; rfl
  · rw [outsAt0_B m c t h]; dsimp only; frame_out; rfl
theorem outs_14 (c : Dev nD) (t : Fin cfg0.N) : (outsAt0 m c t.val t.isLt).2.2.2.2.1 = k0_pay11 (k0_pay6 (iblk m c 0 t) (iblk m c 1 t))
      (View.ld (iblk m c 2 t) (Rect.unit ![0, 3072] ![1024, 512] inb_S1024x3584_S1024x512_0_3072)) := by
  by_cases h : t.val % 16 = 0
  · rw [outsAt0_A m c t h]; dsimp only; frame_out; rfl
  · rw [outsAt0_B m c t h]; dsimp only; frame_out; rfl

end Cert.Proof.Project

end
-- ==== Proof.ProjectValues.lean ====
/-
  The projections' kernel: its five results as the mathematics of ProjectReference, element by element.
-/
module

public import proofs.«01_k».proof.Proof.ProjectBlocks
public import proofs.«01_k».proof.Proof.ProjectReference
public import Idealize.ShloMosaic.Lib.Pipeline.ValueKit
public import Idealize.ShloMosaic.Lib.Pointwise
public import Idealize.ShloMosaic.Lib.StableHlo.ReadAt

@[expose] public section

set_option maxRecDepth 16384
set_option maxHeartbeats 3200000

noncomputable section

namespace Cert.Proof.Project

open Idealize.ShloMosaic Idealize.ShloMosaic.TcCoe
open Cert.Kernel4Ideal Cert.Kernel4Ideal.Gen Idealize.SL.Sem

variable (m : (ℓ : Loc nD τ sig) → Buf (Elt Ideal) ℓ)

/-! ## The payloads at an index -/

theorem pay6_at (v0 : Vec Ideal S512x1024 .f32) (v1 : Vec Ideal S1x1024 .f32) (r : Fin 512) (k : Fin 1024) :
    k0_pay6 (F := Ideal) v0 v1 (ix2 r k) = v0 (ix2 r k) * Ideal.rsqrt (Ideal.div (∑ k : Fin 1024, v0 (ix2 r k) * v0 (ix2 r k)) (Ideal.ofBits FTy.f32 0x44800000#32) + Ideal.ofBits FTy.f32 0x358637BD#32) * v1 (ix2 0 k) := by
  unfold k0_pay6
  pointwise

theorem pay7_at (v0 : Vec Ideal S512x1024 .f32) (v1 : Vec Ideal S1x1024 .f32) (w : Vec Ideal S1024x512 .bf16) (g : Vec Ideal S1x512 .f32) (bd : Vec Ideal S512x512 .bf16) (r l : Fin 512)
    (p : Fin 512 → EReal) (hp : ∀ l, (∑ k : Fin 1024, k0_pay6 (F := Ideal) v0 v1 (ix2 r k) * w (ix2 k l)) = p l) :
    k0_pay7 (F := Ideal) v0 v1 w g bd (ix2 r l) = p l * Ideal.rsqrt ((∑ x : Fin 512, p x * p x * bd (ix2 x l)) * Ideal.ofBits FTy.f32 1015021568#32 + Ideal.ofBits FTy.f32 0x358637BD#32) * g (ix2 0 l)
      * Ideal.ofBits FTy.f32 0x3E38AA3B#32 := by
  simp only [← hp]
  unfold k0_pay7
  pointwise
theorem pay8_at (n : FVec Ideal S512x1024 .bf16) (w : Vec Ideal S1024x512 .bf16) (g : Vec Ideal S1x512 .f32) (bd : Vec Ideal S512x512 .bf16) (r l : Fin 512)
    (p : Fin 512 → EReal) (hp : ∀ l, (∑ k : Fin 1024, n (ix2 r k) * w (ix2 k l)) = p l) :
    k0_pay8 (F := Ideal) n w g bd (ix2 r l) = p l * Ideal.rsqrt ((∑ x : Fin 512, p x * p x * bd (ix2 x l)) * Ideal.ofBits FTy.f32 1015021568#32 + Ideal.ofBits FTy.f32 0x358637BD#32) * g (ix2 0 l) := by
  simp only [← hp]
  unfold k0_pay8
  pointwise
theorem pay9_at (n : FVec Ideal S512x1024 .bf16) (w : Vec Ideal S1024x512 .bf16) (r l : Fin 512) :
    k0_pay9 (F := Ideal) n w (ix2 r l) = ∑ k : Fin 1024, n (ix2 r k) * w (ix2 k l) := by
  unfold k0_pay9
  pointwise
theorem pay10_at (n : FVec Ideal S512x1024 .bf16) (w : Vec Ideal S1024x1536 .bf16) (r : Fin 512) (l : Fin 1536) :
    k0_pay10 (F := Ideal) n w (ix2 r l) = ∑ k : Fin 1024, n (ix2 r k) * w (ix2 k l) := by
  unfold k0_pay10
  pointwise
theorem pay11_at (n : FVec Ideal S512x1024 .bf16) (w : Vec Ideal S1024x512 .bf16) (r l : Fin 512) :
    k0_pay11 (F := Ideal) n w (ix2 r l) = ∑ k : Fin 1024, n (ix2 r k) * w (ix2 k l) := by
  unfold k0_pay11
  pointwise

/-- A sum against the block of ones is the sum over the lane's head. -/
theorem sum_head (f : Fin 512 → EReal) (l : Fin 512) :
    (∑ x : Fin 512, f x * (if x.val / 64 = l.val / 64 then 1 else 0 : EReal)) = ∑ d : Fin 64, f ⟨l.val / 64 * 64 + d.val, by omega⟩ := by
  refine (Fintype.sum_of_injective (fun d : Fin 64 => (⟨l.val / 64 * 64 + d.val, by omega⟩ : Fin 512)) ?_ _ _ ?_ ?_).symm
  · intro a b h
    have := congrArg Fin.val h
    dsimp only at this
    exact Fin.ext (by omega)
  · intro x hx
    have hn : ¬ x.val / 64 = l.val / 64 := fun e => hx ⟨⟨x.val % 64, Nat.mod_lt _ (by decide)⟩, Fin.ext (by show l.val / 64 * 64 + x.val % 64 = x.val; omega)⟩
    rw [if_neg hn, mul_zero]
  · intro d
    have hd : (l.val / 64 * 64 + d.val) / 64 = l.val / 64 := by have := d.isLt; omega
    dsimp only
    rw [if_pos hd, mul_one]

/-! ## The point's payloads -/

theorem normed_at (c : Dev nD) (t : Fin cfg0.N) (r : Fin 512) (k : Fin 1024) :
    k0_pay6 (F := Ideal) (iblk m c 0 t) (iblk m c 1 t) (ix2 r k) = normed (m ((c : Thread nD τ).loc main_arg0)) (m ((c : Thread nD τ).loc main_arg1)) (rowOf t r) k := by
  refine (pay6_at _ _ r k).trans ?_
  rw [blk_1]
  unfold normed
  simp only [blk_0]
  rw [gain_at]

/-- The weights the point loads from column 0. -/
theorem w0_at (c : Dev nD) (t : Fin cfg0.N) (k : Fin 1024) (l : Fin 512) (j : Fin 3600) (hj : j.val = 0 + l.val) :
    (View.ld (iblk m c 2 t) (Rect.unit ![0, 0] ![1024, 512] inb_S1024x3584_S1024x512_0_0) : S1024x512.Idx → EReal) (ix2 k l) = (m ((c : Thread nD τ).loc main_arg2) : S1024x3600.Idx → EReal) (ix2 k j) := by
  rw [blk_2]
  refine (congrArg (V m c main_v4 : S1024x3584.Idx → EReal) (?_ : _ = ix2 k ⟨0 + l.val, by omega⟩)).trans ((w_at m c k _).trans (congrArg _ (congrArg (ix2 k) (Fin.ext ?_))))
  · funext a
    fin_cases a
    · exact Fin.ext (by show 0 + 1 * k.val = k.val; omega)
    · exact Fin.ext (by show 0 + 1 * l.val = 0 + l.val; omega)
  · show (if 0 + l.val < 1536 then 0 + l.val else if 0 + l.val < 3072 then 0 + l.val + 8 else 0 + l.val + 16) = j.val
    have := l.isLt
    split <;> [skip; split] <;> omega

/-- The weights the point loads from column 512. -/
theorem w512_at (c : Dev nD) (t : Fin cfg0.N) (k : Fin 1024) (l : Fin 512) (j : Fin 3600) (hj : j.val = 512 + l.val) :
    (View.ld (iblk m c 2 t) (Rect.unit ![0, 512] ![1024, 512] inb_S1024x3584_S1024x512_0_512) : S1024x512.Idx → EReal) (ix2 k l) = (m ((c : Thread nD τ).loc main_arg2) : S1024x3600.Idx → EReal) (ix2 k j) := by
  rw [blk_2]
  refine (congrArg (V m c main_v4 : S1024x3584.Idx → EReal) (?_ : _ = ix2 k ⟨512 + l.val, by omega⟩)).trans ((w_at m c k _).trans (congrArg _ (congrArg (ix2 k) (Fin.ext ?_))))
  · funext a
    fin_cases a
    · exact Fin.ext (by show 0 + 1 * k.val = k.val; omega)
    · exact Fin.ext (by show 512 + 1 * l.val = 512 + l.val; omega)
  · show (if 512 + l.val < 1536 then 512 + l.val else if 512 + l.val < 3072 then 512 + l.val + 8 else 512 + l.val + 16) = j.val
    have := l.isLt
    split <;> [skip; split] <;> omega

/-- The weights the point loads from column 1024. -/
theorem w1024_at (c : Dev nD) (t : Fin cfg0.N) (k : Fin 1024) (l : Fin 512) (j : Fin 3600) (hj : j.val = 1024 + l.val) :
    (View.ld (iblk m c 2 t) (Rect.unit ![0, 1024] ![1024, 512] inb_S1024x3584_S1024x512_0_1024) : S1024x512.Idx → EReal) (ix2 k l) = (m ((c : Thread nD τ).loc main_arg2) : S1024x3600.Idx → EReal) (ix2 k j) := by
  rw [blk_2]
  refine (congrArg (V m c main_v4 : S1024x3584.Idx → EReal) (?_ : _ = ix2 k ⟨1024 + l.val, by omega⟩)).trans ((w_at m c k _).trans (congrArg _ (congrArg (ix2 k) (Fin.ext ?_))))
  · funext a
    fin_cases a
    · exact Fin.ext (by show 0 + 1 * k.val = k.val; omega)
    · exact Fin.ext (by show 1024 + 1 * l.val = 1024 + l.val; omega)
  · show (if 1024 + l.val < 1536 then 1024 + l.val else if 1024 + l.val < 3072 then 1024 + l.val + 8 else 1024 + l.val + 16) = j.val
    have := l.isLt
    split <;> [skip; split] <;> omega

/-- The weights the point loads from column 1536. -/
theorem w1544_at (c : Dev nD) (t : Fin cfg0.N) (k : Fin 1024) (l : Fin 1536) (j : Fin 3600) (hj : j.val = 1544 + l.val) :
    (View.ld (iblk m c 2 t) (Rect.unit ![0, 1536] ![1024, 1536] inb_S1024x3584_S1024x1536_0_1536) : S1024x1536.Idx → EReal) (ix2 k l) = (m ((c : Thread nD τ).loc main_arg2) : S1024x3600.Idx → EReal) (ix2 k j) := by
  rw [blk_2]
  refine (congrArg (V m c main_v4 : S1024x3584.Idx → EReal) (?_ : _ = ix2 k ⟨1536 + l.val, by omega⟩)).trans ((w_at m c k _).trans (congrArg _ (congrArg (ix2 k) (Fin.ext ?_))))
  · funext a
    fin_cases a
    · exact Fin.ext (by show 0 + 1 * k.val = k.val; omega)
    · exact Fin.ext (by show 1536 + 1 * l.val = 1536 + l.val; omega)
  · show (if 1536 + l.val < 1536 then 1536 + l.val else if 1536 + l.val < 3072 then 1536 + l.val + 8 else 1536 + l.val + 16) = j.val
    have := l.isLt
    split <;> [skip; split] <;> omega

/-- The weights the point loads from column 3072. -/
theorem w3088_at (c : Dev nD) (t : Fin cfg0.N) (k : Fin 1024) (l : Fin 512) (j : Fin 3600) (hj : j.val = 3088 + l.val) :
    (View.ld (iblk m c 2 t) (Rect.unit ![0, 3072] ![1024, 512] inb_S1024x3584_S1024x512_0_3072) : S1024x512.Idx → EReal) (ix2 k l) = (m ((c : Thread nD τ).loc main_arg2) : S1024x3600.Idx → EReal) (ix2 k j) := by
  rw [blk_2]
  refine (congrArg (V m c main_v4 : S1024x3584.Idx → EReal) (?_ : _ = ix2 k ⟨3072 + l.val, by omega⟩)).trans ((w_at m c k _).trans (congrArg _ (congrArg (ix2 k) (Fin.ext ?_))))
  · funext a
    fin_cases a
    · exact Fin.ext (by show 0 + 1 * k.val = k.val; omega)
    · exact Fin.ext (by show 3072 + 1 * l.val = 3072 + l.val; omega)
  · show (if 3072 + l.val < 1536 then 3072 + l.val else if 3072 + l.val < 3072 then 3072 + l.val + 8 else 3072 + l.val + 16) = j.val
    have := l.isLt
    split <;> [skip; split] <;> omega

theorem proj0_at (c : Dev nD) (t : Fin cfg0.N) (r : Fin 512) (l : Fin 512) (j : Fin 3600) (hj : j.val = 0 + l.val) :
    (∑ k : Fin 1024, k0_pay6 (F := Ideal) (iblk m c 0 t) (iblk m c 1 t) (ix2 r k) * (View.ld (iblk m c 2 t) (Rect.unit ![0, 0] ![1024, 512] inb_S1024x3584_S1024x512_0_0) : S1024x512.Idx → EReal) (ix2 k l))
      = proj (m ((c : Thread nD τ).loc main_arg0)) (m ((c : Thread nD τ).loc main_arg1)) (m ((c : Thread nD τ).loc main_arg2)) (rowOf t r) j :=
  Finset.sum_congr rfl fun k _ => by rw [normed_at, w0_at m c t k l j hj]

theorem proj512_at (c : Dev nD) (t : Fin cfg0.N) (r : Fin 512) (l : Fin 512) (j : Fin 3600) (hj : j.val = 512 + l.val) :
    (∑ k : Fin 1024, k0_pay6 (F := Ideal) (iblk m c 0 t) (iblk m c 1 t) (ix2 r k) * (View.ld (iblk m c 2 t) (Rect.unit ![0, 512] ![1024, 512] inb_S1024x3584_S1024x512_0_512) : S1024x512.Idx → EReal) (ix2 k l))
      = proj (m ((c : Thread nD τ).loc main_arg0)) (m ((c : Thread nD τ).loc main_arg1)) (m ((c : Thread nD τ).loc main_arg2)) (rowOf t r) j :=
  Finset.sum_congr rfl fun k _ => by rw [normed_at, w512_at m c t k l j hj]

theorem proj1024_at (c : Dev nD) (t : Fin cfg0.N) (r : Fin 512) (l : Fin 512) (j : Fin 3600) (hj : j.val = 1024 + l.val) :
    (∑ k : Fin 1024, k0_pay6 (F := Ideal) (iblk m c 0 t) (iblk m c 1 t) (ix2 r k) * (View.ld (iblk m c 2 t) (Rect.unit ![0, 1024] ![1024, 512] inb_S1024x3584_S1024x512_0_1024) : S1024x512.Idx → EReal) (ix2 k l))
      = proj (m ((c : Thread nD τ).loc main_arg0)) (m ((c : Thread nD τ).loc main_arg1)) (m ((c : Thread nD τ).loc main_arg2)) (rowOf t r) j :=
  Finset.sum_congr rfl fun k _ => by rw [normed_at, w1024_at m c t k l j hj]

theorem proj1544_at (c : Dev nD) (t : Fin cfg0.N) (r : Fin 512) (l : Fin 1536) (j : Fin 3600) (hj : j.val = 1544 + l.val) :
    (∑ k : Fin 1024, k0_pay6 (F := Ideal) (iblk m c 0 t) (iblk m c 1 t) (ix2 r k) * (View.ld (iblk m c 2 t) (Rect.unit ![0, 1536] ![1024, 1536] inb_S1024x3584_S1024x1536_0_1536) : S1024x1536.Idx → EReal) (ix2 k l))
      = proj (m ((c : Thread nD τ).loc main_arg0)) (m ((c : Thread nD τ).loc main_arg1)) (m ((c : Thread nD τ).loc main_arg2)) (rowOf t r) j :=
  Finset.sum_congr rfl fun k _ => by rw [normed_at, w1544_at m c t k l j hj]

theorem proj3088_at (c : Dev nD) (t : Fin cfg0.N) (r : Fin 512) (l : Fin 512) (j : Fin 3600) (hj : j.val = 3088 + l.val) :
    (∑ k : Fin 1024, k0_pay6 (F := Ideal) (iblk m c 0 t) (iblk m c 1 t) (ix2 r k) * (View.ld (iblk m c 2 t) (Rect.unit ![0, 3072] ![1024, 512] inb_S1024x3584_S1024x512_0_3072) : S1024x512.Idx → EReal) (ix2 k l))
      = proj (m ((c : Thread nD τ).loc main_arg0)) (m ((c : Thread nD τ).loc main_arg1)) (m ((c : Thread nD τ).loc main_arg2)) (rowOf t r) j :=
  Finset.sum_congr rfl fun k _ => by rw [normed_at, w3088_at m c t k l j hj]

theorem mean_head (c : Dev nD) (t : Fin cfg0.N) (p : Fin 512 → EReal) (l : Fin 512) :
    (∑ x : Fin 512, p x * p x * (iblk m c 5 t : S512x512.Idx → EReal) (ix2 x l)) * Ideal.ofBits FTy.f32 1015021568#32
      = Ideal.div (∑ d : Fin 64, p ⟨l.val / 64 * 64 + d.val, by omega⟩ * p ⟨l.val / 64 * 64 + d.val, by omega⟩) (Ideal.ofBits FTy.f32 0x42800000#32) := by
  rw [mul_inv64, blk_5]
  refine congrArg (fun z => Ideal.div z _) ?_
  exact (Finset.sum_congr rfl fun x _ => congrArg (fun z => p x * p x * z) (bd_at m c x l)).trans (sum_head (fun x => p x * p x) l)

/-! ## The five arrays -/

theorem idx_11 : ∀ t : Fin cfg0.N, win0_11.index t = ![t.val, 0] := (by decide +kernel : ∀ t : Fin grid0.N, _)
theorem idx_12 : ∀ t : Fin cfg0.N, win0_12.index t = ![t.val, 0] := (by decide +kernel : ∀ t : Fin grid0.N, _)
theorem idx_13 : ∀ t : Fin cfg0.N, win0_13.index t = ![t.val, 0] := (by decide +kernel : ∀ t : Fin grid0.N, _)
theorem idx_14 : ∀ t : Fin cfg0.N, win0_14.index t = ![t.val, 0] := (by decide +kernel : ∀ t : Fin grid0.N, _)

theorem final_10 (c : Dev nD) : (dats m 0 c).arrAt 10 cfg0.N = (fun i : S16384x512.Idx => queries (m ((c : Thread nD τ).loc main_arg0)) (m ((c : Thread nD τ).loc main_arg1)) (m ((c : Thread nD τ).loc main_arg2)) (m ((c : Thread nD τ).loc main_arg4)) (i 0) (i 1)) := by
  refine (dats m 0 c).arrAt_eq_of_covers 10 _ (by decide +kernel) fun t hf (y : S512x512.Idx) => ?_
  obtain ⟨r, l, rfl⟩ : ∃ (r : Fin 512) (l : Fin 512), y = ix2 r l := ⟨y 0, y 1, by funext a; fin_cases a <;> rfl⟩
  blk_simp
  rw [after0_10, outs_10]
  have he : (win0_10.blk t).view.emb (ix2 r l) = (ix2 (rowOf t r) l : S16384x512.Idx) := by
    blk_ext [idx_10 t, rowOf]
  rw [he]
  refine (pay7_at _ _ _ _ _ r l (fun j => proj (m ((c : Thread nD τ).loc main_arg0)) (m ((c : Thread nD τ).loc main_arg1)) (m ((c : Thread nD τ).loc main_arg2)) (rowOf t r) ⟨j.val, by omega⟩) (fun l => proj0_at m c t r l _ (by simp))).trans ?_
  rw [mean_head, blk_6, q_at]
  rfl

theorem final_11 (c : Dev nD) : (dats m 0 c).arrAt 11 cfg0.N = (fun i : S16384x512.Idx => keys (m ((c : Thread nD τ).loc main_arg0)) (m ((c : Thread nD τ).loc main_arg1)) (m ((c : Thread nD τ).loc main_arg2)) (m ((c : Thread nD τ).loc main_arg5)) (i 0) (i 1)) := by
  refine (dats m 0 c).arrAt_eq_of_covers 11 _ (by decide +kernel) fun t hf (y : S512x512.Idx) => ?_
  obtain ⟨r, l, rfl⟩ : ∃ (r : Fin 512) (l : Fin 512), y = ix2 r l := ⟨y 0, y 1, by funext a; fin_cases a <;> rfl⟩
  blk_simp
  rw [after0_11, outs_11]
  have he : (win0_11.blk t).view.emb (ix2 r l) = (ix2 (rowOf t r) l : S16384x512.Idx) := by
    blk_ext [idx_11 t, rowOf]
  rw [he]
  refine (pay8_at _ _ _ _ r l (fun j => proj (m ((c : Thread nD τ).loc main_arg0)) (m ((c : Thread nD τ).loc main_arg1)) (m ((c : Thread nD τ).loc main_arg2)) (rowOf t r) ⟨512 + j.val, by omega⟩) (fun l => proj512_at m c t r l _ rfl)).trans ?_
  rw [mean_head, blk_7, k_at]
  rfl

theorem final_12 (c : Dev nD) : (dats m 0 c).arrAt 12 cfg0.N = (fun i : S16384x512.Idx => values (m ((c : Thread nD τ).loc main_arg0)) (m ((c : Thread nD τ).loc main_arg1)) (m ((c : Thread nD τ).loc main_arg2)) (i 0) (i 1)) := by
  refine (dats m 0 c).arrAt_eq_of_covers 12 _ (by decide +kernel) fun t hf (y : S512x512.Idx) => ?_
  obtain ⟨r, l, rfl⟩ : ∃ (r : Fin 512) (l : Fin 512), y = ix2 r l := ⟨y 0, y 1, by funext a; fin_cases a <;> rfl⟩
  blk_simp
  rw [after0_12, outs_12]
  have he : (win0_12.blk t).view.emb (ix2 r l) = (ix2 (rowOf t r) l : S16384x512.Idx) := by
    blk_ext [idx_12 t, rowOf]
  rw [he]
  exact (pay9_at _ _ r l).trans (proj1024_at m c t r l _ rfl)

theorem final_13 (c : Dev nD) : (dats m 0 c).arrAt 13 cfg0.N = (fun i : S16384x1536.Idx => deltas (m ((c : Thread nD τ).loc main_arg0)) (m ((c : Thread nD τ).loc main_arg1)) (m ((c : Thread nD τ).loc main_arg2)) (i 0) (i 1)) := by
  refine (dats m 0 c).arrAt_eq_of_covers 13 _ (by decide +kernel) fun t hf (y : S512x1536.Idx) => ?_
  obtain ⟨r, l, rfl⟩ : ∃ (r : Fin 512) (l : Fin 1536), y = ix2 r l := ⟨y 0, y 1, by funext a; fin_cases a <;> rfl⟩
  blk_simp
  rw [after0_13, outs_13]
  have he : (win0_13.blk t).view.emb (ix2 r l) = (ix2 (rowOf t r) l : S16384x1536.Idx) := by
    blk_ext [idx_13 t, rowOf]
  rw [he]
  exact (pay10_at _ _ r l).trans (proj1544_at m c t r l _ rfl)

theorem final_14 (c : Dev nD) : (dats m 0 c).arrAt 14 cfg0.N = (fun i : S16384x512.Idx => gates (m ((c : Thread nD τ).loc main_arg0)) (m ((c : Thread nD τ).loc main_arg1)) (m ((c : Thread nD τ).loc main_arg2)) (i 0) (i 1)) := by
  refine (dats m 0 c).arrAt_eq_of_covers 14 _ (by decide +kernel) fun t hf (y : S512x512.Idx) => ?_
  obtain ⟨r, l, rfl⟩ : ∃ (r : Fin 512) (l : Fin 512), y = ix2 r l := ⟨y 0, y 1, by funext a; fin_cases a <;> rfl⟩
  blk_simp
  rw [after0_14, outs_14]
  have he : (win0_14.blk t).view.emb (ix2 r l) = (ix2 (rowOf t r) l : S16384x512.Idx) := by
    blk_ext [idx_14 t, rowOf]
  rw [he]
  exact (pay11_at _ _ r l).trans (proj3088_at m c t r l _ rfl)

/-- The kernel's run: the five results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v43_0) = (fun i : S16384x512.Idx => queries (m ((c : Thread nD τ).loc main_arg0)) (m ((c : Thread nD τ).loc main_arg1)) (m ((c : Thread nD τ).loc main_arg2)) (m ((c : Thread nD τ).loc main_arg4)) (i 0) (i 1))
      ∧ r.2.mem ((c : Thread nD τ).loc main_v43_1) = (fun i : S16384x512.Idx => keys (m ((c : Thread nD τ).loc main_arg0)) (m ((c : Thread nD τ).loc main_arg1)) (m ((c : Thread nD τ).loc main_arg2)) (m ((c : Thread nD τ).loc main_arg5)) (i 0) (i 1))
      ∧ r.2.mem ((c : Thread nD τ).loc main_v43_2) = (fun i : S16384x512.Idx => values (m ((c : Thread nD τ).loc main_arg0)) (m ((c : Thread nD τ).loc main_arg1)) (m ((c : Thread nD τ).loc main_arg2)) (i 0) (i 1))
      ∧ r.2.mem ((c : Thread nD τ).loc main_v43_3) = (fun i : S16384x1536.Idx => deltas (m ((c : Thread nD τ).loc main_arg0)) (m ((c : Thread nD τ).loc main_arg1)) (m ((c : Thread nD τ).loc main_arg2)) (i 0) (i 1))
      ∧ r.2.mem ((c : Thread nD τ).loc main_v43_4) = (fun i : S16384x512.Idx => gates (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Value.run_blocks (F := Ideal) m ρ)
  obtain ⟨h0, h1, h2, h3, h4, -, -, h⟩ := h c
  exact ⟨h0.trans (final_10 m c), h1.trans (final_11 m c), h2.trans (final_12 m c), h3.trans (final_13 m c), h4.trans (final_14 m c), h⟩

end Cert.Proof.Project

end
-- ==== Proof.ExpertsBody.lean ====
/-
  The experts' step on any staged blocks.
-/
module

public import proofs.«01_k».proof.Proof.Gen.Kernel2Ideal.Skeleton
public import Idealize.ShloMosaic.Lib.Pipeline.FrameBody
public import Idealize.ShloMosaic.Lib.VecWindow
public import Idealize.ShloMosaic.Lib.ValueIdx

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

abbrev teM : Memref sig .tc .smem S160 .i32 := Memref.whole main_arg0
abbrev hteM : teM.IsWhole := Memref.isWhole_whole _
abbrev nvM : Memref sig .tc .smem S160 .i32 := Memref.whole main_arg1
abbrev hnvM : nvM.IsWhole := Memref.isWhole_whole _
abbrev nuM : Memref sig .tc .smem S1 .i32 := Memref.whole main_arg2
abbrev hnuM : nuM.IsWhole := Memref.isWhole_whole _
abbrev wgM : Memref sig .tc .vmem S1024x2048 .bf16 := Memref.whole cc0_scratch0
abbrev hwgM : wgM.IsWhole := Memref.isWhole_whole _
abbrev wdM : Memref sig .tc .vmem S1024x1024 .bf16 := Memref.whole cc0_scratch1
abbrev hwdM : wdM.IsWhole := Memref.isWhole_whole _
abbrev acM : Memref sig .tc .vmem S512x1024 .f32 := Memref.whole cc0_scratch2
abbrev hacM : acM.IsWhole := Memref.isWhole_whole _

abbrev TbBuf (c : Dev nD) {S : Shape} {e : EltTy} (M : Memref sig .tc .smem S e) : Type := Buf (Elt F) (M.view.loc (c : Thread nD τ))
/-- A table held at half of the full share. -/
abbrev tbPt (c : Dev nD) {S : Shape} {e : EltTy} (M : Memref sig .tc .smem S e) (f : TbBuf (F := F) c M) : sProp 𝕄 :=
  M.view.loc (c : Thread nD τ) ↦{fullShare.right} f

/-- The three words that the step reads of the tables. -/
abbrev nvW (c : Dev nD) (i : grid0.Coords) (nv : TbBuf (F := F) c nvM) : Elt F .i32 :=
  View.readAt (Elt F) nvM.view (Rect.unit (s := S160) (k0_off1 i) S1.size (k0_off1_inb i)).toLoadRect nv (Shape.Idx.first (numel1_S1 ▸ Nat.one_pos))
abbrev teW (c : Dev nD) (i : grid0.Coords) (te : TbBuf (F := F) c teM) : Elt F .i32 :=
  View.readAt (Elt F) teM.view (Rect.unit (s := S160) (k0_off1 i) S1.size (k0_off1_inb i)).toLoadRect te (Shape.Idx.first (numel1_S1 ▸ Nat.one_pos))
abbrev tpW (c : Dev nD) (i : grid0.Coords) (te : TbBuf (F := F) c teM) : Elt F .i32 :=
  View.readAt (Elt F) teM.view (Rect.unit (s := S160) (k0_off2 i) S1.size (k0_off2_inb i)).toLoadRect te (Shape.Idx.first (numel1_S1 ▸ Nat.one_pos))

/-- Whether the step casts its expert's weights anew: at the first tile, and where the expert changes, if the tile holds a row. -/
def Fresh (i : ℕ) (te tp nv : BitVec 32) : Prop :=
  Scalar.cmpi .ne (Scalar.extui (Scalar.andi (Scalar.ori (Scalar.cmpi .eq (BitVec.ofNat 32 i) 0#32) (Scalar.cmpi .ne te tp)) (Scalar.cmpi .sgt nv 0#32)) : BitVec 32) 0#32 = 1#1

instance (i : ℕ) (te tp nv : BitVec 32) : Decidable (Fresh i te tp nv) := by unfold Fresh; infer_instance

/-- The tile's 512 results, of its staged rows, the cast weights and the biases. -/
def accOf (v1 : Elt F .i32) (x0 : Vec F S4096x128 .f32) (x2 : Vec F S1x1x2048 .f32) (x4 : Vec F S1x1x1024 .f32)
    (s0 : Vec F S1024x2048 .bf16) (s1 : Vec F S1024x1024 .bf16) : FVec F S512x1024 .f32 :=
  k0_pay8
    (k0_pay5 v1 (fun x => x0 ((⟨![0, 0], S512x128.size, ![8, 1], inb_S4096x128_S512x128_0_0_s_8_1⟩ : LoadRect S4096x128).idx x)) (fun x => x0 ((⟨![1, 0], S512x128.size, ![8, 1], inb_S4096x128_S512x128_1_0_s_8_1⟩ : LoadRect S4096x128).idx x)) (fun x => x0 ((⟨![2, 0], S512x128.size, ![8, 1], inb_S4096x128_S512x128_2_0_s_8_1⟩ : LoadRect S4096x128).idx x)) (fun x => x0 ((⟨![3, 0], S512x128.size, ![8, 1], inb_S4096x128_S512x128_3_0_s_8_1⟩ : LoadRect S4096x128).idx x)) (fun x => x0 ((⟨![4, 0], S512x128.size, ![8, 1], inb_S4096x128_S512x128_4_0_s_8_1⟩ : LoadRect S4096x128).idx x)) (fun x => x0 ((⟨![5, 0], S512x128.size, ![8, 1], inb_S4096x128_S512x128_5_0_s_8_1⟩ : LoadRect S4096x128).idx x)) (fun x => x0 ((⟨![6, 0], S512x128.size, ![8, 1], inb_S4096x128_S512x128_6_0_s_8_1⟩ : LoadRect S4096x128).idx x)) (fun x => x0 ((⟨![7, 0], S512x128.size, ![8, 1], inb_S4096x128_S512x128_7_0_s_8_1⟩ : LoadRect S4096x128).idx x))
      (fun x => s0 ((Rect.unit (s := S1024x2048) ![0, 0] S1024x1024.size inb_S1024x2048_S1024x1024_0_0).toLoadRect.idx x))
      (fun x => x2 ((Rect.unit (s := S1x1x2048) ![0, 0, 0] S1x1x1024.size inb_S1x1x2048_S1x1x1024_0_0_0).toLoadRect.idx x)))
    (k0_pay6 v1 (fun x => x0 ((⟨![0, 0], S512x128.size, ![8, 1], inb_S4096x128_S512x128_0_0_s_8_1⟩ : LoadRect S4096x128).idx x)) (fun x => x0 ((⟨![1, 0], S512x128.size, ![8, 1], inb_S4096x128_S512x128_1_0_s_8_1⟩ : LoadRect S4096x128).idx x)) (fun x => x0 ((⟨![2, 0], S512x128.size, ![8, 1], inb_S4096x128_S512x128_2_0_s_8_1⟩ : LoadRect S4096x128).idx x)) (fun x => x0 ((⟨![3, 0], S512x128.size, ![8, 1], inb_S4096x128_S512x128_3_0_s_8_1⟩ : LoadRect S4096x128).idx x)) (fun x => x0 ((⟨![4, 0], S512x128.size, ![8, 1], inb_S4096x128_S512x128_4_0_s_8_1⟩ : LoadRect S4096x128).idx x)) (fun x => x0 ((⟨![5, 0], S512x128.size, ![8, 1], inb_S4096x128_S512x128_5_0_s_8_1⟩ : LoadRect S4096x128).idx x)) (fun x => x0 ((⟨![6, 0], S512x128.size, ![8, 1], inb_S4096x128_S512x128_6_0_s_8_1⟩ : LoadRect S4096x128).idx x)) (fun x => x0 ((⟨![7, 0], S512x128.size, ![8, 1], inb_S4096x128_S512x128_7_0_s_8_1⟩ : LoadRect S4096x128).idx x))
      (fun x => s0 ((Rect.unit (s := S1024x2048) ![0, 1024] S1024x1024.size inb_S1024x2048_S1024x1024_0_1024).toLoadRect.idx x))
      (fun x => x2 ((Rect.unit (s := S1x1x2048) ![0, 0, 1024] S1x1x1024.size inb_S1x1x2048_S1x1x1024_0_0_1024).toLoadRect.idx x)))
    k0_pay7 s1 x4

/-- The tile's results as the step stores them: 8 consecutive rows of 128 hold one result. -/
def packed (a : FVec F S512x1024 .f32) : Vec F S4096x128 .f32 := fun j =>
  a (ix2 ⟨(j 0).val / 8, by have : (j 0).val < 4096 := (j 0).isLt; omega⟩
    ⟨(j 0).val % 8 * 128 + (j 1).val, by have : (j 1).val < 128 := (j 1).isLt; omega⟩)

theorem acc_read (v1 : Elt F .i32) (arg4 : Memref sig .tc .vmem S4096x128 .f32) (arg6 : Memref sig .tc .vmem S1x1x2048 .f32) (arg8 : Memref sig .tc .vmem S1x1x1024 .f32)
    {x0 : Vec F S4096x128 .f32} {x2 : Vec F S1x1x2048 .f32} {x4 : Vec F S1x1x1024 .f32} {s0 : Vec F S1024x2048 .bf16} {s1 : Vec F S1024x1024 .bf16}
    (f4 : arg4.view.ty.Contents (Elt F)) (f6 : arg6.view.ty.Contents (Elt F)) (f8 : arg8.view.ty.Contents (Elt F)) (g0 : wgM.view.ty.Contents (Elt F)) (g1 : wdM.view.ty.Contents (Elt F))
    (e4 : arg4.view.read (Elt F) f4 = x0) (e6 : arg6.view.read (Elt F) f6 = x2) (e8 : arg8.view.read (Elt F) f8 = x4)
    (d0 : wgM.view.read (Elt F) g0 = s0) (d1 : wdM.view.read (Elt F) g1 = s1) :
    k0_pay8
      (k0_pay5 v1 (View.readAt (Elt F) arg4.view (⟨![0, 0], S512x128.size, ![8, 1], inb_S4096x128_S512x128_0_0_s_8_1⟩ : LoadRect S4096x128) f4) (View.readAt (Elt F) arg4.view (⟨![1, 0], S512x128.size, ![8, 1], inb_S4096x128_S512x128_1_0_s_8_1⟩ : LoadRect S4096x128) f4) (View.readAt (Elt F) arg4.view (⟨![2, 0], S512x128.size, ![8, 1], inb_S4096x128_S512x128_2_0_s_8_1⟩ : LoadRect S4096x128) f4) (View.readAt (Elt F) arg4.view (⟨![3, 0], S512x128.size, ![8, 1], inb_S4096x128_S512x128_3_0_s_8_1⟩ : LoadRect S4096x128) f4) (View.readAt (Elt F) arg4.view (⟨![4, 0], S512x128.size, ![8, 1], inb_S4096x128_S512x128_4_0_s_8_1⟩ : LoadRect S4096x128) f4) (View.readAt (Elt F) arg4.view (⟨![5, 0], S512x128.size, ![8, 1], inb_S4096x128_S512x128_5_0_s_8_1⟩ : LoadRect S4096x128) f4) (View.readAt (Elt F) arg4.view (⟨![6, 0], S512x128.size, ![8, 1], inb_S4096x128_S512x128_6_0_s_8_1⟩ : LoadRect S4096x128) f4) (View.readAt (Elt F) arg4.view (⟨![7, 0], S512x128.size, ![8, 1], inb_S4096x128_S512x128_7_0_s_8_1⟩ : LoadRect S4096x128) f4)
        (View.readAt (Elt F) wgM.view (Rect.unit (s := S1024x2048) ![0, 0] S1024x1024.size inb_S1024x2048_S1024x1024_0_0).toLoadRect g0)
        (View.readAt (Elt F) arg6.view (Rect.unit (s := S1x1x2048) ![0, 0, 0] S1x1x1024.size inb_S1x1x2048_S1x1x1024_0_0_0).toLoadRect f6))
      (k0_pay6 v1 (View.readAt (Elt F) arg4.view (⟨![0, 0], S512x128.size, ![8, 1], inb_S4096x128_S512x128_0_0_s_8_1⟩ : LoadRect S4096x128) f4) (View.readAt (Elt F) arg4.view (⟨![1, 0], S512x128.size, ![8, 1], inb_S4096x128_S512x128_1_0_s_8_1⟩ : LoadRect S4096x128) f4) (View.readAt (Elt F) arg4.view (⟨![2, 0], S512x128.size, ![8, 1], inb_S4096x128_S512x128_2_0_s_8_1⟩ : LoadRect S4096x128) f4) (View.readAt (Elt F) arg4.view (⟨![3, 0], S512x128.size, ![8, 1], inb_S4096x128_S512x128_3_0_s_8_1⟩ : LoadRect S4096x128) f4) (View.readAt (Elt F) arg4.view (⟨![4, 0], S512x128.size, ![8, 1], inb_S4096x128_S512x128_4_0_s_8_1⟩ : LoadRect S4096x128) f4) (View.readAt (Elt F) arg4.view (⟨![5, 0], S512x128.size, ![8, 1], inb_S4096x128_S512x128_5_0_s_8_1⟩ : LoadRect S4096x128) f4) (View.readAt (Elt F) arg4.view (⟨![6, 0], S512x128.size, ![8, 1], inb_S4096x128_S512x128_6_0_s_8_1⟩ : LoadRect S4096x128) f4) (View.readAt (Elt F) arg4.view (⟨![7, 0], S512x128.size, ![8, 1], inb_S4096x128_S512x128_7_0_s_8_1⟩ : LoadRect S4096x128) f4)
        (View.readAt (Elt F) wgM.view (Rect.unit (s := S1024x2048) ![0, 1024] S1024x1024.size inb_S1024x2048_S1024x1024_0_1024).toLoadRect g0)
        (View.readAt (Elt F) arg6.view (Rect.unit (s := S1x1x2048) ![0, 0, 1024] S1x1x1024.size inb_S1x1x2048_S1x1x1024_0_0_1024).toLoadRect f6))
      k0_pay7
      (View.readAt (Elt F) wdM.view (Rect.unit (s := S1024x1024) ![0, 0] S1024x1024.size inb_S1024x1024_S1024x1024_0_0).toLoadRect g1)
      (View.readAt (Elt F) arg8.view (Rect.unit (s := S1x1x1024) ![0, 0, 0] S1x1x1024.size inb_S1x1x1024_S1x1x1024_0_0_0).toLoadRect f8)
      = accOf v1 x0 x2 x4 s0 s1 := by
  rw [← e4, ← e6, ← e8, ← d0, ← d1]
  rw [show View.readAt (Elt F) wdM.view (Rect.unit (s := S1024x1024) ![0, 0] S1024x1024.size inb_S1024x1024_S1024x1024_0_0).toLoadRect g1 = wdM.view.read (Elt F) g1 from View.readAt_full ..,
    show View.readAt (Elt F) arg8.view (Rect.unit (s := S1x1x1024) ![0, 0, 0] S1x1x1024.size inb_S1x1x1024_S1x1x1024_0_0_0).toLoadRect f8 = arg8.view.read (Elt F) f8 from View.readAt_full ..]
  rfl

/-- A column block of the results, as the step reads it back before it stores it. -/
theorem col_read (L : List (View.Piece (Elt F) S512x1024 .f32)) {a : FVec F S512x1024 .f32}
    (hL : L = [⟨Rect.unit (s := S512x1024) ![0, 0] S512x1024.size inb_S512x1024_S512x1024_0_0, a⟩])
    (o : ℕ) (inb : ∀ x, (![0, o] : Fin 2 → ℕ) x + S512x128.size x ≤ S512x1024.size x) (r : Fin 512) (l : Fin 128) (ho : o + l.val < 1024) :
    acM.view.readCov L (Rect.unit (s := S512x1024) ![0, o] S512x128.size inb).toLoadRect (ix2 r l) = a (ix2 r ⟨o + l.val, ho⟩) := by
  subst hL
  unfold View.readCov
  rw [View.readAt_apply, View.read_writes_full]
  refine congrArg a ?_
  funext x; apply Fin.ext; fin_cases x
  · show 0 + 1 * r.val = r.val; omega
  · show o + 1 * l.val = o + l.val; omega

theorem mem_cc {s : Shape} (r : Rect s) (x : r.shape.Idx) (y : s.Idx) (h : r.emb x = y) : y ∈ r.set := by
  subst h; exact r.mem_set.mpr fun a => ⟨(x a).val, (x a).isLt, rfl⟩

/-- The eight strided stores leave the results packed, whatever was there. -/
theorem packed_read {sp : Space} (v : View sig .tc sp S4096x128 .f32) (f : v.ty.Contents (Elt F)) (a : FVec F S512x1024 .f32)
    (w0 w1 w2 w3 w4 w5 w6 w7 : (⟨2, ![512, 128]⟩ : Shape).Idx → Elt F .f32)
    (hw0 : ∀ (r : Fin 512) (l : Fin 128), w0 (ix2 r l) = a (ix2 r ⟨0 + l.val, by omega⟩)) (hw1 : ∀ (r : Fin 512) (l : Fin 128), w1 (ix2 r l) = a (ix2 r ⟨128 + l.val, by omega⟩)) (hw2 : ∀ (r : Fin 512) (l : Fin 128), w2 (ix2 r l) = a (ix2 r ⟨256 + l.val, by omega⟩)) (hw3 : ∀ (r : Fin 512) (l : Fin 128), w3 (ix2 r l) = a (ix2 r ⟨384 + l.val, by omega⟩)) (hw4 : ∀ (r : Fin 512) (l : Fin 128), w4 (ix2 r l) = a (ix2 r ⟨512 + l.val, by omega⟩)) (hw5 : ∀ (r : Fin 512) (l : Fin 128), w5 (ix2 r l) = a (ix2 r ⟨640 + l.val, by omega⟩)) (hw6 : ∀ (r : Fin 512) (l : Fin 128), w6 (ix2 r l) = a (ix2 r ⟨768 + l.val, by omega⟩)) (hw7 : ∀ (r : Fin 512) (l : Fin 128), w7 (ix2 r l) = a (ix2 r ⟨896 + l.val, by omega⟩)) :
    v.read (Elt F) (v.writes (Elt F) f [
        ⟨⟨(⟨![7, 0], S512x128.size, ![8, 1], inb_S4096x128_S512x128_7_0_s_8_1⟩ : LoadRect S4096x128), spos_8_1⟩, w7⟩,
        ⟨⟨(⟨![6, 0], S512x128.size, ![8, 1], inb_S4096x128_S512x128_6_0_s_8_1⟩ : LoadRect S4096x128), spos_8_1⟩, w6⟩,
        ⟨⟨(⟨![5, 0], S512x128.size, ![8, 1], inb_S4096x128_S512x128_5_0_s_8_1⟩ : LoadRect S4096x128), spos_8_1⟩, w5⟩,
        ⟨⟨(⟨![4, 0], S512x128.size, ![8, 1], inb_S4096x128_S512x128_4_0_s_8_1⟩ : LoadRect S4096x128), spos_8_1⟩, w4⟩,
        ⟨⟨(⟨![3, 0], S512x128.size, ![8, 1], inb_S4096x128_S512x128_3_0_s_8_1⟩ : LoadRect S4096x128), spos_8_1⟩, w3⟩,
        ⟨⟨(⟨![2, 0], S512x128.size, ![8, 1], inb_S4096x128_S512x128_2_0_s_8_1⟩ : LoadRect S4096x128), spos_8_1⟩, w2⟩,
        ⟨⟨(⟨![1, 0], S512x128.size, ![8, 1], inb_S4096x128_S512x128_1_0_s_8_1⟩ : LoadRect S4096x128), spos_8_1⟩, w1⟩,
        ⟨⟨(⟨![0, 0], S512x128.size, ![8, 1], inb_S4096x128_S512x128_0_0_s_8_1⟩ : LoadRect S4096x128), spos_8_1⟩, w0⟩]) = packed a := by
  funext y
  refine View.read_writes_apply_of_pieces v f (packed a) _ ?_ y ?_
  · intro p hp x
    simp only [List.mem_cons, List.mem_nil_iff, or_false] at hp
    rcases hp with rfl | rfl | rfl | rfl | rfl | rfl | rfl | rfl
    · obtain ⟨r, l, rfl⟩ : ∃ (r : Fin 512) (l : Fin 128), x = ix2 r l := ⟨x 0, x 1, ValueIdx.eq_ix2 x⟩
      refine (hw7 r l).trans (congrArg a ?_)
      funext q; apply Fin.ext; fin_cases q
      · show r.val = (7 + 8 * r.val) / 8; omega
      · show 896 + l.val = (7 + 8 * r.val) % 8 * 128 + (0 + 1 * l.val); omega
    · obtain ⟨r, l, rfl⟩ : ∃ (r : Fin 512) (l : Fin 128), x = ix2 r l := ⟨x 0, x 1, ValueIdx.eq_ix2 x⟩
      refine (hw6 r l).trans (congrArg a ?_)
      funext q; apply Fin.ext; fin_cases q
      · show r.val = (6 + 8 * r.val) / 8; omega
      · show 768 + l.val = (6 + 8 * r.val) % 8 * 128 + (0 + 1 * l.val); omega
    · obtain ⟨r, l, rfl⟩ : ∃ (r : Fin 512) (l : Fin 128), x = ix2 r l := ⟨x 0, x 1, ValueIdx.eq_ix2 x⟩
      refine (hw5 r l).trans (congrArg a ?_)
      funext q; apply Fin.ext; fin_cases q
      · show r.val = (5 + 8 * r.val) / 8; omega
      · show 640 + l.val = (5 + 8 * r.val) % 8 * 128 + (0 + 1 * l.val); omega
    · obtain ⟨r, l, rfl⟩ : ∃ (r : Fin 512) (l : Fin 128), x = ix2 r l := ⟨x 0, x 1, ValueIdx.eq_ix2 x⟩
      refine (hw4 r l).trans (congrArg a ?_)
      funext q; apply Fin.ext; fin_cases q
      · show r.val = (4 + 8 * r.val) / 8; omega
      · show 512 + l.val = (4 + 8 * r.val) % 8 * 128 + (0 + 1 * l.val); omega
    · obtain ⟨r, l, rfl⟩ : ∃ (r : Fin 512) (l : Fin 128), x = ix2 r l := ⟨x 0, x 1, ValueIdx.eq_ix2 x⟩
      refine (hw3 r l).trans (congrArg a ?_)
      funext q; apply Fin.ext; fin_cases q
      · show r.val = (3 + 8 * r.val) / 8; omega
      · show 384 + l.val = (3 + 8 * r.val) % 8 * 128 + (0 + 1 * l.val); omega
    · obtain ⟨r, l, rfl⟩ : ∃ (r : Fin 512) (l : Fin 128), x = ix2 r l := ⟨x 0, x 1, ValueIdx.eq_ix2 x⟩
      refine (hw2 r l).trans (congrArg a ?_)
      funext q; apply Fin.ext; fin_cases q
      · show r.val = (2 + 8 * r.val) / 8; omega
      · show 256 + l.val = (2 + 8 * r.val) % 8 * 128 + (0 + 1 * l.val); omega
    · obtain ⟨r, l, rfl⟩ : ∃ (r : Fin 512) (l : Fin 128), x = ix2 r l := ⟨x 0, x 1, ValueIdx.eq_ix2 x⟩
      refine (hw1 r l).trans (congrArg a ?_)
      funext q; apply Fin.ext; fin_cases q
      · show r.val = (1 + 8 * r.val) / 8; omega
      · show 128 + l.val = (1 + 8 * r.val) % 8 * 128 + (0 + 1 * l.val); omega
    · obtain ⟨r, l, rfl⟩ : ∃ (r : Fin 512) (l : Fin 128), x = ix2 r l := ⟨x 0, x 1, ValueIdx.eq_ix2 x⟩
      refine (hw0 r l).trans (congrArg a ?_)
      funext q; apply Fin.ext; fin_cases q
      · show r.val = (0 + 8 * r.val) / 8; omega
      · show 0 + l.val = (0 + 8 * r.val) % 8 * 128 + (0 + 1 * l.val); omega
  · have h0 : (y 0).val < 4096 := (y 0).isLt
    have h1 : (y 1).val < 128 := (y 1).isLt
    have hlt : (y 0).val % 8 < 8 := Nat.mod_lt _ (by omega)
    have hmem : ∀ (cc : ℕ) (inb) (hcc : (y 0).val % 8 = cc), y ∈ (⟨(⟨![cc, 0], S512x128.size, ![8, 1], inb⟩ : LoadRect S4096x128), spos_8_1⟩ : Rect S4096x128).set := by
      intro cc inb hcc
      refine mem_cc _ (ix2 (⟨(y 0).val / 8, by omega⟩ : Fin 512) (⟨(y 1).val, h1⟩ : Fin 128)) y ?_
      funext q; apply Fin.ext; fin_cases q
      · show cc + 8 * ((y 0).val / 8) = (y 0).val; omega
      · show 0 + 1 * (y 1).val = (y 1).val; omega
    obtain h | h | h | h | h | h | h | h : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
    · exact ⟨_, List.mem_cons_self, hmem 7 _ h⟩
    · exact ⟨_, List.mem_cons_of_mem _ (List.mem_cons_self), hmem 6 _ h⟩
    · exact ⟨_, List.mem_cons_of_mem _ (List.mem_cons_of_mem _ (List.mem_cons_self)), hmem 5 _ h⟩
    · exact ⟨_, List.mem_cons_of_mem _ (List.mem_cons_of_mem _ (List.mem_cons_of_mem _ (List.mem_cons_self))), hmem 4 _ h⟩
    · exact ⟨_, List.mem_cons_of_mem _ (List.mem_cons_of_mem _ (List.mem_cons_of_mem _ (List.mem_cons_of_mem _ (List.mem_cons_self)))), hmem 3 _ h⟩
    · exact ⟨_, List.mem_cons_of_mem _ (List.mem_cons_of_mem _ (List.mem_cons_of_mem _ (List.mem_cons_of_mem _ (List.mem_cons_of_mem _ (List.mem_cons_self))))), hmem 2 _ h⟩
    · exact ⟨_, List.mem_cons_of_mem _ (List.mem_cons_of_mem _ (List.mem_cons_of_mem _ (List.mem_cons_of_mem _ (List.mem_cons_of_mem _ (List.mem_cons_of_mem _ (List.mem_cons_self)))))), hmem 1 _ h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hmem 0 _ h⟩

/-- The cast weights that the step leaves, of those it found. -/
theorem gate_read (c : Dev nD) (i : grid0.Coords) (te : TbBuf (F := F) c teM) (nv : TbBuf (F := F) c nvM) {arg5 : Memref sig .tc .vmem S1x1024x2048 .f32}
    (x1 : Vec F S1x1024x2048 .f32) (s0 : Vec F S1024x2048 .bf16) (g0 : wgM.view.ty.Contents (Elt F)) (h5 : arg5.IsWhole) (d0 : wgM.view.read (Elt F) g0 = s0) :
    wgM.view.read (Elt F) (if hc : Fresh (i 0).val (teW c i te) (tpW c i te) (nvW c i nv) then
        wgM.view.writes (Elt F) g0 [⟨Rect.unit (s := S1024x2048) ![0, 0] S1024x2048.size inb_S1024x2048_S1024x2048_0_0,
          k0_pay1 (View.readAt (Elt F) arg5.view (Rect.unit (s := S1x1024x2048) ![0, 0, 0] S1x1024x2048.size inb_S1x1024x2048_S1x1024x2048_0_0_0).toLoadRect (h5.unread x1))⟩]
      else g0) = if Fresh (i 0).val (teW c i te) (tpW c i te) (nvW c i nv) then k0_pay1 x1 else s0 := by
  by_cases hF : Fresh (i 0).val (teW c i te) (tpW c i te) (nvW c i nv)
  · rw [if_pos hF, dif_pos hF]
    exact (View.read_writes_full ..).trans (congrArg k0_pay1 ((View.readAt_full ..).trans (h5.read_unread _)))
  · rw [if_neg hF, dif_neg hF]
    exact d0

theorem down_read (c : Dev nD) (i : grid0.Coords) (te : TbBuf (F := F) c teM) (nv : TbBuf (F := F) c nvM) {arg7 : Memref sig .tc .vmem S1x1024x1024 .f32}
    (x3 : Vec F S1x1024x1024 .f32) (s1 : Vec F S1024x1024 .bf16) (g1 : wdM.view.ty.Contents (Elt F)) (h7 : arg7.IsWhole) (d1 : wdM.view.read (Elt F) g1 = s1) :
    wdM.view.read (Elt F) (if hc : Fresh (i 0).val (teW c i te) (tpW c i te) (nvW c i nv) then
        wdM.view.writes (Elt F) g1 [⟨Rect.unit (s := S1024x1024) ![0, 0] S1024x1024.size inb_S1024x1024_S1024x1024_0_0,
          k0_pay2 (View.readAt (Elt F) arg7.view (Rect.unit (s := S1x1024x1024) ![0, 0, 0] S1x1024x1024.size inb_S1x1024x1024_S1x1024x1024_0_0_0).toLoadRect (h7.unread x3))⟩]
      else g1) = if Fresh (i 0).val (teW c i te) (tpW c i te) (nvW c i nv) then k0_pay2 x3 else s1 := by
  by_cases hF : Fresh (i 0).val (teW c i te) (tpW c i te) (nvW c i nv)
  · rw [if_pos hF, dif_pos hF]
    exact (View.read_writes_full ..).trans (congrArg k0_pay2 ((View.readAt_full ..).trans (h7.read_unread _)))
  · rw [if_neg hF, dif_neg hF]
    exact d1

set_option pp.maxSteps 400 in
set_option maxHeartbeats 3200000 in
theorem step (c : Dev nD) (i : grid0.Coords)
    (arg4 : Memref sig .tc .vmem S4096x128 .f32) (h4 : arg4.IsWhole) (arg5 : Memref sig .tc .vmem S1x1024x2048 .f32) (h5 : arg5.IsWhole)
    (arg6 : Memref sig .tc .vmem S1x1x2048 .f32) (h6 : arg6.IsWhole) (arg7 : Memref sig .tc .vmem S1x1024x1024 .f32) (h7 : arg7.IsWhole)
    (arg8 : Memref sig .tc .vmem S1x1x1024 .f32) (h8 : arg8.IsWhole) (arg9 : Memref sig .tc .vmem S4096x128 .f32) (h9 : arg9.IsWhole)
    (te : TbBuf (F := F) c teM) (nv : TbBuf (F := F) c nvM) (nu : TbBuf (F := F) c nuM)
    (x0 : Vec F S4096x128 .f32) (x1 : Vec F S1x1024x2048 .f32) (x2 : Vec F S1x1x2048 .f32) (x3 : Vec F S1x1024x1024 .f32) (x4 : Vec F S1x1x1024 .f32)
    (y : Vec F S4096x128 .f32) (s0 : Vec F S1024x2048 .bf16) (s1 : Vec F S1024x1024 .bf16) (s2 : Vec F S512x1024 .f32) (E : Set ℕ) (K : PUnit → sProp 𝕄)
    (hex : k0_cond2 (nvW c i nv) = 1#1 → ¬ k0_cond3 (nvW c i nv) = 1#1) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare y
        ∗ owns (c : Thread nD τ) wgM fullShare s0 ∗ owns (c : Thread nD τ) wdM fullShare s1 ∗ owns (c : Thread nD τ) acM fullShare s2
        ∗ tbPt c teM te ∗ tbPt c nvM nv ∗ tbPt c nuM nu
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ X, ⌜k0_cond2 (nvW c i nv) = 1#1 → X = packed (accOf (nvW c i nv) x0 x2 x4
                (if Fresh (i 0).val (teW c i te) (tpW c i te) (nvW c i nv) then k0_pay1 x1 else s0)
                (if Fresh (i 0).val (teW c i te) (tpW c i te) (nvW c i nv) then k0_pay2 x3 else s1))⌝ ∗ owns (c : Thread nD τ) arg9 fullShare X)
            ∗ owns (c : Thread nD τ) wgM fullShare (if Fresh (i 0).val (teW c i te) (tpW c i te) (nvW c i nv) then k0_pay1 x1 else s0)
            ∗ owns (c : Thread nD τ) wdM fullShare (if Fresh (i 0).val (teW c i te) (tpW c i te) (nvW c i nv) then k0_pay2 x3 else s1)
            ∗ (∃ X, owns (c : Thread nD τ) acM fullShare X)
            ∗ tbPt c teM te ∗ tbPt c nvM nv ∗ tbPt c nuM nu) -∗ K ⟨⟩))
      ⊢ wp frame (wpE (defs₀ (F := F)) Variants.none c none) E
        (cc0_moe_experts i teM hteM nvM hnvM nuM hnuM arg4 h4 arg5 h5 arg6 h6 arg7 h7 arg8 h8 arg9 h9 wgM hwgM wdM hwdM acM hacM) K := by
  simp only [cc0_moe_experts_eq_skeleton]; unfold cc0_moe_experts_skel
  simp only [k0_part1_eq_skeleton, k0_part2_eq_skeleton]
  unfold owns
  iintro ⟨⟨%f4, %e4, H4⟩, ⟨%f5, %e5, H5⟩, ⟨%f6, %e6, H6⟩, ⟨%f7, %e7, H7⟩, ⟨%f8, %e8, H8⟩, ⟨%f9, %e9, H9⟩, ⟨%g0, %d0, G0⟩, ⟨%g1, %d1, G1⟩, ⟨%g2, %d2, G2⟩, T0, T1, T2, Hk⟩
  obtain rfl := h4.eq_unread e4
  obtain rfl := h5.eq_unread e5
  obtain rfl := h6.eq_unread e6
  obtain rfl := h7.eq_unread e7
  obtain rfl := h8.eq_unread e8
  sl_exec
  rw [wp_ret]
  imodintro
  iapply Hk
  isplitl [H4]
  · iexists _; isplitr
    · ipureintro; exact h4.read_unread _
    iexact H4
  isplitl [H5]
  · iexists _; isplitr
    · ipureintro; exact h5.read_unread _
    iexact H5
  isplitl [H6]
  · iexists _; isplitr
    · ipureintro; exact h6.read_unread _
    iexact H6
  isplitl [H7]
  · iexists _; isplitr
    · ipureintro; exact h7.read_unread _
    iexact H7
  isplitl [H8]
  · iexists _; isplitr
    · ipureintro; exact h8.read_unread _
    iexact H8
  isplitl [H9]
  · iexists _; isplitr; swap
    · iexists _; isplitr; swap
      · iexact H9
      · ipureintro; rfl
    · ipureintro
      intro hc
      rw [dif_neg (show ¬ k0_cond3 (step.sl.r c i nv) = 1#1 from hex hc), dif_pos (show k0_cond2 (step.sl.r c i nv) = 1#1 from hc)]
      have hG0 := gate_read c i te nv x1 s0 g0 h5 d0
      have hG1 := down_read c i te nv x3 s1 g1 h7 d1
      have key := acc_read (F := F) (nvW c i nv) arg4 arg6 arg8 (h4.unread x0) (h6.unread x2) (h8.unread x4) _ _ (h4.read_unread _) (h6.read_unread _) (h8.read_unread _) hG0 hG1
      have hL : step.sl.G2_1 c i arg4 h4 arg5 h5 arg6 h6 arg7 h7 arg8 h8 te nv x0 x1 x2 x3 x4 g0 g1 = [⟨Rect.unit (s := S512x1024) ![0, 0] S512x1024.size inb_S512x1024_S512x1024_0_0, _⟩] :=
        congrArg (fun a => [(⟨Rect.unit (s := S512x1024) ![0, 0] S512x1024.size inb_S512x1024_S512x1024_0_0, a⟩ : View.Piece (Elt F) S512x1024 .f32)]) key
      exact packed_read arg9.view f9 _ _ _ _ _ _ _ _ _
        (fun r l => col_read _ hL 0 _ r l _)
        (fun r l => col_read _ hL 128 _ r l _)
        (fun r l => col_read _ hL 256 _ r l _)
        (fun r l => col_read _ hL 384 _ r l _)
        (fun r l => col_read _ hL 512 _ r l _)
        (fun r l => col_read _ hL 640 _ r l _)
        (fun r l => col_read _ hL 768 _ r l _)
        (fun r l => col_read _ hL 896 _ r l _)
  isplitl [G0]
  · iexists _; isplitr; swap; · iexact G0
    ipureintro
    exact gate_read c i te nv x1 s0 g0 h5 d0
  isplitl [G1]
  · iexists _; isplitr; swap; · iexact G1
    ipureintro
    exact down_read c i te nv x3 s1 g1 h7 d1
  isplitl [G2]
  · iexists _; iexists _; isplitr; swap; · iexact G2
    ipureintro; rfl
  isplitl [T0]; · iexact T0
  isplitl [T1]; · iexact T1
  iexact T2

end Cert.Kernel2Ideal.Hand
-- ==== Proof.ExpertsTables.lean ====
/-
  The experts' tables: each tile's expert and number of rows, and the number of tiles used; the blocks that every tile
  stages by them.
-/
module

public import proofs.«01_k».proof.Proof.ExpertsBody
public import proofs.«01_k».proof.Proof.Gen.Kernel2Ideal.Launch
public import Idealize.ShloMosaic.Lib.Pipeline.FrameValue
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The words' comparisons -/

theorem cond2_pos {v : BitVec 32} (h : k0_cond2 v = 1#1) : 0 < v.toInt := by
  by_contra hn
  refine absurd h ?_
  unfold k0_cond2; dsimp only
  rw [show Scalar.cmpi .sgt v 0#32 = BitVec.ofBool (decide ((0#32).toInt < v.toInt)) from rfl,
    decide_eq_false (by rwa [show (0#32 : BitVec 32).toInt = 0 from rfl])]
  decide

theorem pos_cond2 {v : BitVec 32} (h : 0 < v.toInt) : k0_cond2 v = 1#1 := by
  unfold k0_cond2; dsimp only
  rw [show Scalar.cmpi .sgt v 0#32 = BitVec.ofBool (decide ((0#32).toInt < v.toInt)) from rfl,
    decide_eq_true (by rwa [show (0#32 : BitVec 32).toInt = 0 from rfl])]
  decide

theorem pos_cond3 {v : BitVec 32} (h : 0 < v.toInt) : ¬ k0_cond3 v = 1#1 := by
  unfold k0_cond3; dsimp only
  rw [show Scalar.cmpi .sle v 0#32 = BitVec.ofBool (decide (v.toInt ≤ (0#32).toInt)) from rfl,
    decide_eq_false (by rw [show (0#32 : BitVec 32).toInt = 0 from rfl]; omega)]
  decide

theorem not_fresh {i : ℕ} {te tp nv : BitVec 32} (hv : 0 < nv.toInt) (h : ¬ Fresh i te tp nv) : i ≠ 0 ∧ te = tp := by
  unfold Fresh at h
  rw [show Scalar.cmpi .sgt nv 0#32 = BitVec.ofBool (decide ((0#32).toInt < nv.toInt)) from rfl,
    decide_eq_true (by rwa [show (0#32 : BitVec 32).toInt = 0 from rfl]),
    show Scalar.cmpi .eq (BitVec.ofNat 32 i) 0#32 = BitVec.ofBool (BitVec.ofNat 32 i == 0#32) from rfl,
    show Scalar.cmpi .ne te tp = BitVec.ofBool (te != tp) from rfl] at h
  constructor
  · rintro rfl
    refine h ?_
    cases (te != tp) <;> decide
  · by_contra hne
    refine h ?_
    rw [show (te != tp) = true from by simpa using hne]
    cases (BitVec.ofNat 32 i == 0#32) <;> decide

/-! ## The tables -/

variable (m : (ℓ : Loc nD τ sig) → Buf (Elt F) ℓ)

/-- A core's buffers as launched. -/
abbrev V (c : Dev nD) (b : Ref sig .tc) : Buf (Elt F) ((c : Thread nD τ).loc b) := m ((c : Thread nD τ).loc b)

def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- A tile's expert, its number of rows, and the number of tiles used. -/
def teB (t : Fin 160) : BitVec 32 := tbl m 0 (ix1 t)
def nvB (t : Fin 160) : BitVec 32 := tbl m 1 (ix1 t)
def nuB : BitVec 32 := tbl m 2 (ix1 (0 : Fin 1))

/-- What the launch is promised of the tables: every tile's expert is one of the 32, the number of tiles used is not
    negative, and each used tile holds at least one row. -/
structure Tables : Prop where
  te_lt : ∀ t, (teB m t).toNat < 32
  nu_lt : (nuB m).toNat < 2 ^ 31
  nv_pos : ∀ t : Fin 160, t.val < (nuB m).toNat → 0 < (nvB m t).toInt

variable {m}

theorem off1_val (i : grid0.Coords) : k0_off1 i 0 = (i 0).val := by
  have hi : (i 0).val < 160 := (i 0).isLt
  show (BitVec.ofNat 32 (i 0).val).toNat = _
  exact WordCmp.toNat_ofNat_of_lt (by omega)

theorem off2_val (i : grid0.Coords) : k0_off2 i 0 = (i 0).val - 1 := by
  have hi : (i 0).val < 160 := (i 0).isLt
  generalize hk : (i 0).val = k at *
  show (IntOp.maxsi (IntOp.subi (BitVec.ofNat 32 (i 0).val) 1#32) 0#32).toNat = _
  rw [hk]
  clear hk
  revert k
  decide +kernel

theorem nvW_eq (c : Dev nD) (i : grid0.Coords) : nvW c i (tbl m 1) = nvB m (i 0) := by
  show tbl m 1 _ = tbl m 1 _
  congr 1
  funext a; apply Fin.ext; fin_cases a
  show k0_off1 i 0 + 1 * 0 = (i 0).val
  rw [off1_val]; omega

theorem teW_eq (c : Dev nD) (i : grid0.Coords) : teW c i (tbl m 0) = teB m (i 0) := by
  show tbl m 0 _ = tbl m 0 _
  congr 1
  funext a; apply Fin.ext; fin_cases a
  show k0_off1 i 0 + 1 * 0 = (i 0).val
  rw [off1_val]; omega

theorem tpW_eq (c : Dev nD) (i : grid0.Coords) : tpW c i (tbl m 0) = teB m ⟨(i 0).val - 1, by have : (i 0).val < 160 := (i 0).isLt; omega⟩ := by
  show tbl m 0 _ = tbl m 0 _
  congr 1
  funext a; apply Fin.ext; fin_cases a
  show k0_off2 i 0 + 1 * 0 = (i 0).val - 1
  rw [off2_val]; omega

theorem minsi_toNat {k : ℕ} (hk : k < 160) {v : BitVec 32} (hv : v.toNat < 2 ^ 31) : (IntOp.minsi (BitVec.ofNat 32 k) v).toNat = min k v.toNat := by
  have e1 : (BitVec.ofNat 32 k).toInt = (k : Int) := WordCmp.toInt_ofNat_of_lt (by omega)
  have e2 : v.toInt = (v.toNat : Int) := WordCmp.toInt_eq_toNat_of_lt_half (by simpa using hv)
  unfold IntOp.minsi
  by_cases h : (BitVec.ofNat 32 k).slt v = true
  · rw [if_pos h, WordCmp.toNat_ofNat_of_lt (by omega)]
    rw [BitVec.slt_iff_toInt_lt, e1, e2] at h
    omega
  · rw [if_neg h]
    rw [BitVec.slt_iff_toInt_lt, e1, e2] at h
    omega

theorem at_xs (h : Tables m) (i : grid0.Coords) : cc0_transform_0 inb_S1_S1_0 numel1_S1 (tbl m) i = ![min (i 0).val (nuB m).toNat, 0] := by
  have hi : (i 0).val < 160 := (i 0).isLt
  have e : (IntOp.minsi (BitVec.ofNat 32 (i 0).val) (nuB m)).toNat = _ := minsi_toNat hi h.nu_lt
  rw [← e]
  have : pre0.ref 2 = main_arg2 := rfl
  have e' : (tbl m).at 2 (Rect.unit (s := S1) ![0] S1.size inb_S1_S1_0) numel1_S1 = nuB m := by
    show tbl m 2 _ = tbl m 2 _
    congr 1
    funext a; apply Fin.ext; fin_cases a
    rfl
  unfold cc0_transform_0
  rw [e']; rfl

theorem at_out (h : Tables m) (i : grid0.Coords) : cc0_transform_5 inb_S1_S1_0 numel1_S1 (tbl m) i = ![min (i 0).val (nuB m).toNat, 0] :=
  at_xs h i

theorem at_te (i : grid0.Coords) : (tbl m).at 0 (Rect.unit (s := S160) (k0_off1 i) S1.size (k0_off1_inb i)) numel1_S1 = teB m (i 0) := by
  show tbl m 0 _ = tbl m 0 _
  congr 1
  funext a; apply Fin.ext; fin_cases a
  show k0_off1 i 0 + 1 * 0 = (i 0).val
  rw [off1_val]; omega

theorem at_w1 (i : grid0.Coords) : cc0_transform_1 k0_off1_inb numel1_S1 (tbl m) i = ![(teB m (i 0)).toNat, 0, 0] := by
  rw [← at_te i]; rfl
theorem at_w2 (i : grid0.Coords) : cc0_transform_2 k0_off1_inb numel1_S1 (tbl m) i = ![(teB m (i 0)).toNat, 0, 0] := by
  rw [← at_te i]; rfl
theorem at_w3 (i : grid0.Coords) : cc0_transform_3 k0_off1_inb numel1_S1 (tbl m) i = ![(teB m (i 0)).toNat, 0, 0] := by
  rw [← at_te i]; rfl
theorem at_w4 (i : grid0.Coords) : cc0_transform_4 k0_off1_inb numel1_S1 (tbl m) i = ![(teB m (i 0)).toNat, 0, 0] := by
  rw [← at_te i]; rfl

/-- Under the promise every staged block lies inside its array. -/
theorem Tables.ok (h : Tables m) : ok0 (F := F) (tbl m) := by
  have hi (i : grid0.Coords) : (i 0).val < 160 := (i 0).isLt
  have ht (i : grid0.Coords) := h.te_lt (i 0)
  unfold ok0
  refine ⟨fun i => ⟨fun a => ?_, Or.inl rfl⟩, fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩⟩
  · rw [at_xs h]; have := hi i
    fin_cases a
    · show (min (i 0).val (nuB m).toNat + 1) * 4096 ≤ 655360; omega
    · show (0 + 1) * 128 ≤ 128; omega
  · rw [at_w1]; have := ht i
    fin_cases a
    · show ((teB m (i 0)).toNat + 1) * 1 ≤ 32; omega
    · show (0 + 1) * 1024 ≤ 1024; omega
    · show (0 + 1) * 2048 ≤ 2048; omega
  · rw [at_w2]; have := ht i
    fin_cases a
    · show ((teB m (i 0)).toNat + 1) * 1 ≤ 32; omega
    · show (0 + 1) * 1 ≤ 1; omega
    · show (0 + 1) * 2048 ≤ 2048; omega
  · rw [at_w3]; have := ht i
    fin_cases a
    · show ((teB m (i 0)).toNat + 1) * 1 ≤ 32; omega
    · show (0 + 1) * 1024 ≤ 1024; omega
    · show (0 + 1) * 1024 ≤ 1024; omega
  · rw [at_w4]; have := ht i
    fin_cases a
    · show ((teB m (i 0)).toNat + 1) * 1 ≤ 32; omega
    · show (0 + 1) * 1 ≤ 1; omega
    · show (0 + 1) * 1024 ≤ 1024; omega
  · rw [at_out h]; have := hi i
    fin_cases a
    · show (min (i 0).val (nuB m).toNat + 1) * 4096 ≤ 655360; omega
    · show (0 + 1) * 128 ≤ 128; omega

end Cert.Kernel2Ideal.Hand

end
-- ==== Proof.ExpertsRun.lean ====
/-
  The experts' run: every used tile's block of the result ends at the tile's results, and no argument changes.
-/
module

public import proofs.«01_k».proof.Proof.ExpertsTables
public import Idealize.ShloMosaic.Lib.Pipeline.DatRel
public import Idealize.ShloMosaic.Lib.Pipeline.ArrRel
public import Idealize.ShloMosaic.Lib.Pipeline.TableIdle

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

variable {m : (ℓ : Loc nD τ sig) → Buf (Elt F) ℓ}

abbrev adm (h : Tables m) : (pcfg0 (F := F)).Adm := ⟨tbl m, h.ok⟩
abbrev cfgM (h : Tables m) : Pipeline.Cfg sig Λ₀ := cfg0 (adm h)

/-- The tile of a point. -/
abbrev tile (t : Fin grid0.N) : Fin 160 := grid0.coords t 0

theorem tile_val : ∀ t : Fin grid0.N, (grid0.coords t 0).val = t.val := by decide +kernel

/-! ## The staged blocks -/

variable (m) in
/-- The weights and biases of the expert `e`. -/
def wgOf (c : Dev nD) (e : ℕ) : Vec F S1x1024x2048 .f32 := fun j => V m c main_arg4 (ix3 ⟨e % 32, Nat.mod_lt _ (by norm_num)⟩ (j 1) (j 2))
variable (m) in
def bgOf (c : Dev nD) (e : ℕ) : Vec F S1x1x2048 .f32 := fun j => V m c main_arg5 (ix3 ⟨e % 32, Nat.mod_lt _ (by norm_num)⟩ 0 (j 2))
variable (m) in
def wdOf (c : Dev nD) (e : ℕ) : Vec F S1x1024x1024 .f32 := fun j => V m c main_arg6 (ix3 ⟨e % 32, Nat.mod_lt _ (by norm_num)⟩ (j 1) (j 2))
variable (m) in
def bdOf (c : Dev nD) (e : ℕ) : Vec F S1x1x1024 .f32 := fun j => V m c main_arg7 (ix3 ⟨e % 32, Nat.mod_lt _ (by norm_num)⟩ 0 (j 2))
variable (m) in
/-- The rows that the tile `t` takes. -/
def xsOf (c : Dev nD) (t : ℕ) : Vec F S4096x128 .f32 := fun j =>
  V m c main_arg3 (ix2 ⟨(t * 4096 + (j 0).val) % 655360, Nat.mod_lt _ (by norm_num)⟩ (j 1))

/-- Window `w`'s block at a point. -/
def iblk (h : Tables m) (c : Dev nD) (w : Fin (cfgM h).W) (t : Fin (cfgM h).N) : (((cfgM h).win w).xblock ((cfgM h).grid.coords t)).Idx → Elt F ((cfgM h).win w).elt :=
  (((cfgM h).win w).blk t).view.read (Elt F) (V m c (Pipeline.arrRef spec0 w))

theorem iblk_0 (h : Tables m) (c : Dev nD) (t : Fin (cfgM h).N) :
    (iblk h c 0 t : Vec F S4096x128 .f32) = xsOf m c (min (tile t).val (nuB m).toNat) := by
  refine funext fun (j : S4096x128.Idx) => ?_
  have hj : (j 0).val < 4096 := (j 0).isLt
  have ht : (tile t).val < 160 := (tile t).isLt
  show V m c main_arg3 ((((cfgM h).win 0).blk t).view.emb j) = V m c main_arg3 _
  congr 1
  have e := at_xs h (grid0.coords t)
  funext a; apply Fin.ext; fin_cases a
  · show cc0_transform_0 inb_S1_S1_0 numel1_S1 (tbl m) (grid0.coords t) 0 * 4096 + 1 * (j 0).val = (min (tile t).val (nuB m).toNat * 4096 + (j 0).val) % 655360
    rw [e]; show min (tile t).val (nuB m).toNat * 4096 + 1 * (j 0).val = _; omega
  · show cc0_transform_0 inb_S1_S1_0 numel1_S1 (tbl m) (grid0.coords t) 1 * 128 + 1 * (j 1).val = (j 1).val
    rw [e]; show 0 * 128 + 1 * (j 1).val = _; omega

theorem iblk_1 (h : Tables m) (c : Dev nD) (t : Fin (cfgM h).N) :
    (iblk h c 1 t : Vec F S1x1024x2048 .f32) = wgOf m c (teB m (tile t)).toNat := by
  refine funext fun (j : S1x1024x2048.Idx) => ?_
  have h0 : (j 0).val < 1 := (j 0).isLt
  have ht := h.te_lt (tile t)
  show V m c main_arg4 ((((cfgM h).win 1).blk t).view.emb j) = V m c main_arg4 _
  congr 1
  have e := at_w1 (m := m) (grid0.coords t)
  funext a; apply Fin.ext; fin_cases a
  · show cc0_transform_1 k0_off1_inb numel1_S1 (tbl m) (grid0.coords t) 0 * 1 + 1 * (j 0).val = (teB m (tile t)).toNat % 32
    rw [e]; show (teB m (tile t)).toNat * 1 + 1 * (j 0).val = _; omega
  · show cc0_transform_1 k0_off1_inb numel1_S1 (tbl m) (grid0.coords t) 1 * 1024 + 1 * (j 1).val = (j 1).val
    rw [e]; show 0 * 1024 + 1 * (j 1).val = _; omega
  · show cc0_transform_1 k0_off1_inb numel1_S1 (tbl m) (grid0.coords t) 2 * 2048 + 1 * (j 2).val = (j 2).val
    rw [e]; show 0 * 2048 + 1 * (j 2).val = _; omega

theorem iblk_2 (h : Tables m) (c : Dev nD) (t : Fin (cfgM h).N) :
    (iblk h c 2 t : Vec F S1x1x2048 .f32) = bgOf m c (teB m (tile t)).toNat := by
  refine funext fun (j : S1x1x2048.Idx) => ?_
  have h0 : (j 0).val < 1 := (j 0).isLt
  have h1 : (j 1).val < 1 := (j 1).isLt
  have ht := h.te_lt (tile t)
  show V m c main_arg5 ((((cfgM h).win 2).blk t).view.emb j) = V m c main_arg5 _
  congr 1
  have e := at_w2 (m := m) (grid0.coords t)
  funext a; apply Fin.ext; fin_cases a
  · show cc0_transform_2 k0_off1_inb numel1_S1 (tbl m) (grid0.coords t) 0 * 1 + 1 * (j 0).val = (teB m (tile t)).toNat % 32
    rw [e]; show (teB m (tile t)).toNat * 1 + 1 * (j 0).val = _; omega
  · show cc0_transform_2 k0_off1_inb numel1_S1 (tbl m) (grid0.coords t) 1 * 1 + 1 * (j 1).val = 0
    rw [e]; show 0 * 1 + 1 * (j 1).val = _; omega
  · show cc0_transform_2 k0_off1_inb numel1_S1 (tbl m) (grid0.coords t) 2 * 2048 + 1 * (j 2).val = (j 2).val
    rw [e]; show 0 * 2048 + 1 * (j 2).val = _; omega

theorem iblk_3 (h : Tables m) (c : Dev nD) (t : Fin (cfgM h).N) :
    (iblk h c 3 t : Vec F S1x1024x1024 .f32) = wdOf m c (teB m (tile t)).toNat := by
  refine funext fun (j : S1x1024x1024.Idx) => ?_
  have h0 : (j 0).val < 1 := (j 0).isLt
  have ht := h.te_lt (tile t)
  show V m c main_arg6 ((((cfgM h).win 3).blk t).view.emb j) = V m c main_arg6 _
  congr 1
  have e := at_w3 (m := m) (grid0.coords t)
  funext a; apply Fin.ext; fin_cases a
  · show cc0_transform_3 k0_off1_inb numel1_S1 (tbl m) (grid0.coords t) 0 * 1 + 1 * (j 0).val = (teB m (tile t)).toNat % 32
    rw [e]; show (teB m (tile t)).toNat * 1 + 1 * (j 0).val = _; omega
  · show cc0_transform_3 k0_off1_inb numel1_S1 (tbl m) (grid0.coords t) 1 * 1024 + 1 * (j 1).val = (j 1).val
    rw [e]; show 0 * 1024 + 1 * (j 1).val = _; omega
  · show cc0_transform_3 k0_off1_inb numel1_S1 (tbl m) (grid0.coords t) 2 * 1024 + 1 * (j 2).val = (j 2).val
    rw [e]; show 0 * 1024 + 1 * (j 2).val = _; omega

theorem iblk_4 (h : Tables m) (c : Dev nD) (t : Fin (cfgM h).N) :
    (iblk h c 4 t : Vec F S1x1x1024 .f32) = bdOf m c (teB m (tile t)).toNat := by
  refine funext fun (j : S1x1x1024.Idx) => ?_
  have h0 : (j 0).val < 1 := (j 0).isLt
  have h1 : (j 1).val < 1 := (j 1).isLt
  have ht := h.te_lt (tile t)
  show V m c main_arg7 ((((cfgM h).win 4).blk t).view.emb j) = V m c main_arg7 _
  congr 1
  have e := at_w4 (m := m) (grid0.coords t)
  funext a; apply Fin.ext; fin_cases a
  · show cc0_transform_4 k0_off1_inb numel1_S1 (tbl m) (grid0.coords t) 0 * 1 + 1 * (j 0).val = (teB m (tile t)).toNat % 32
    rw [e]; show (teB m (tile t)).toNat * 1 + 1 * (j 0).val = _; omega
  · show cc0_transform_4 k0_off1_inb numel1_S1 (tbl m) (grid0.coords t) 1 * 1 + 1 * (j 1).val = 0
    rw [e]; show 0 * 1 + 1 * (j 1).val = _; omega
  · show cc0_transform_4 k0_off1_inb numel1_S1 (tbl m) (grid0.coords t) 2 * 1024 + 1 * (j 2).val = (j 2).val
    rw [e]; show 0 * 1024 + 1 * (j 2).val = _; omega

/-! ## What the points leave -/

variable (m) in
/-- The tile `t`'s results, as its block of the result holds them. -/
def tileOut (c : Dev nD) (t : Fin 160) : Vec F S4096x128 .f32 :=
  packed (accOf (nvB m t) (xsOf m c (min t.val (nuB m).toNat)) (bgOf m c (teB m t).toNat) (bdOf m c (teB m t).toNat)
    (k0_pay1 (wgOf m c (teB m t).toNat)) (k0_pay2 (wdOf m c (teB m t).toNat)))

variable (m) in
/-- Before point `n` the two weight scratches hold the cast weights of the previous tile's expert, if that tile is used. -/
def Warm (c : Dev nD) (n : ℕ) (s0 : Vec F S1024x2048 .bf16) (s1 : Vec F S1024x1024 .bf16) : Prop :=
  ∀ t : Fin 160, t.val + 1 = n → t.val < (nuB m).toNat → s0 = k0_pay1 (wgOf m c (teB m t).toNat) ∧ s1 = k0_pay2 (wdOf m c (teB m t).toNat)

variable (m) in
/-- What the body holds besides the staged blocks before point `n`. -/
def held (c : Dev nD) (n : ℕ) : sProp 𝕄 :=
  iprop((∃ r, prngReg c r)
    ∗ (∃ s0 s1, ⌜Warm m c n s0 s1⌝ ∗ owns (c : Thread nD τ) wgM fullShare s0 ∗ owns (c : Thread nD τ) wdM fullShare s1)
    ∗ (∃ s2, owns (c : Thread nD τ) acM fullShare s2)
    ∗ tbPt c teM (tbl m 0) ∗ tbPt c nvM (tbl m 1) ∗ tbPt c nuM (tbl m 2))

def dats (h : Tables m) (c : Dev nD) : Dat τ (Elt F) Unit ℕ (UR sig nD τ) ℕ (cfgM h) c where
  A w := V m c (Pipeline.arrRef spec0 w)
  after w t := match w with
    | ⟨0, _⟩ => iblk h c 0 t
    | ⟨1, _⟩ => iblk h c 1 t
    | ⟨2, _⟩ => iblk h c 2 t
    | ⟨3, _⟩ => iblk h c 3 t
    | ⟨4, _⟩ => iblk h c 4 t
    | ⟨5, _⟩ => tileOut m c (tile t)
  Φ t := held m c t.val
  q _ := fullShare
  owed _ := 0

/-- The result's window, which the points constrain and do not name. -/
def fgt : Fin 6 → Bool
  | ⟨5, _⟩ => true
  | _ => false

def Rl (h : Tables m) (c : Dev nD) : (w : Fin (cfgM h).W) → Fin (cfgM h).N → (((cfgM h).win w).block.Idx → Elt F ((cfgM h).win w).elt) → Prop :=
  fun w t => match w with
    | ⟨5, _⟩ => fun X => (tile t).val < (nuB m).toNat → (X : Vec F S4096x128 .f32) = tileOut m c (tile t)
    | _ => fun _ => True

theorem A_eq (h : Tables m) (c : Dev nD) (w : Fin (cfgM h).W) : (dats h c).A w = V m c (Pipeline.arrRef spec0 w) := by dsimp only [dats]

theorem before_0 (h : Tables m) (c : Dev nD) (t : Fin (cfgM h).N) (d) : (dats h c).before 0 t d = iblk h c 0 t :=
  ((dats h c).before_in_eq_fetched 0 rfl (fun _ => rfl) (fun _ _ _ => rfl) (fun t => by dsimp only [dats]; unfold Dat.blockOf iblk; try rfl) t d).trans
    (by unfold Dat.fetched Dat.blockOf iblk; rw [A_eq]; try rfl)
theorem before_1 (h : Tables m) (c : Dev nD) (t : Fin (cfgM h).N) (d) : (dats h c).before 1 t d = iblk h c 1 t :=
  ((dats h c).before_in_eq_fetched 1 rfl (fun _ => rfl) (fun _ _ _ => rfl) (fun t => by dsimp only [dats]; unfold Dat.blockOf iblk; try rfl) t d).trans
    (by unfold Dat.fetched Dat.blockOf iblk; rw [A_eq]; try rfl)
theorem before_2 (h : Tables m) (c : Dev nD) (t : Fin (cfgM h).N) (d) : (dats h c).before 2 t d = iblk h c 2 t :=
  ((dats h c).before_in_eq_fetched 2 rfl (fun _ => rfl) (fun _ _ _ => rfl) (fun t => by dsimp only [dats]; unfold Dat.blockOf iblk; try rfl) t d).trans
    (by unfold Dat.fetched Dat.blockOf iblk; rw [A_eq]; try rfl)
theorem before_3 (h : Tables m) (c : Dev nD) (t : Fin (cfgM h).N) (d) : (dats h c).before 3 t d = iblk h c 3 t :=
  ((dats h c).before_in_eq_fetched 3 rfl (fun _ => rfl) (fun _ _ _ => rfl) (fun t => by dsimp only [dats]; unfold Dat.blockOf iblk; try rfl) t d).trans
    (by unfold Dat.fetched Dat.blockOf iblk; rw [A_eq]; try rfl)
theorem before_4 (h : Tables m) (c : Dev nD) (t : Fin (cfgM h).N) (d) : (dats h c).before 4 t d = iblk h c 4 t :=
  ((dats h c).before_in_eq_fetched 4 rfl (fun _ => rfl) (fun _ _ _ => rfl) (fun t => by dsimp only [dats]; unfold Dat.blockOf iblk; try rfl) t d).trans
    (by unfold Dat.fetched Dat.blockOf iblk; rw [A_eq]; try rfl)

/-! ## The body -/

abbrev st_0 (h : Tables m) (t : Fin (cfgM h).N) : Memref sig .tc .vmem S4096x128 .f32 := spec0_0.stage ((cfgM h).slots t 0)
abbrev st_1 (h : Tables m) (t : Fin (cfgM h).N) : Memref sig .tc .vmem S1x1024x2048 .f32 := spec0_1.stage ((cfgM h).slots t 1)
abbrev st_2 (h : Tables m) (t : Fin (cfgM h).N) : Memref sig .tc .vmem S1x1x2048 .f32 := spec0_2.stage ((cfgM h).slots t 2)
abbrev st_3 (h : Tables m) (t : Fin (cfgM h).N) : Memref sig .tc .vmem S1x1024x1024 .f32 := spec0_3.stage ((cfgM h).slots t 3)
abbrev st_4 (h : Tables m) (t : Fin (cfgM h).N) : Memref sig .tc .vmem S1x1x1024 .f32 := spec0_4.stage ((cfgM h).slots t 4)
abbrev st_5 (h : Tables m) (t : Fin (cfgM h).N) : Memref sig .tc .vmem S4096x128 .f32 := spec0_5.stage ((cfgM h).slots t 5)

abbrev bodyAt (h : Tables m) (t : Fin (cfgM h).N) : Prog (TpuEff nD τ sig (Elt F) Λ₀ .tc) PUnit :=
  cc0_moe_experts (grid0.coords t) teM hteM nvM hnvM nuM hnuM
    (st_0 h t) (hstage0_0 (((cfgM h).slots t 0).cast nbuf0_0)) (st_1 h t) (hstage0_1 (((cfgM h).slots t 1).cast nbuf0_1))
    (st_2 h t) (hstage0_2 (((cfgM h).slots t 2).cast nbuf0_2)) (st_3 h t) (hstage0_3 (((cfgM h).slots t 3).cast nbuf0_3))
    (st_4 h t) (hstage0_4 (((cfgM h).slots t 4).cast nbuf0_4)) (st_5 h t) (hstage0_5 (((cfgM h).slots t 5).cast nbuf0_5))
    wgM hwgM wdM hwdM acM hacM

theorem body_row (h : Tables m) (t : Fin (cfgM h).N) :
    defs₀ (F := F) .tc (cfgM h).body ((cfgM h).bodyArgs t ((cfgM h).slots t)) = bodyAt h t := by
  unfold defs₀; rw [Defs.onTc_tc]

def bodyPre (h : Tables m) (c : Dev nD) (t : Fin (cfgM h).N) : sProp 𝕄 :=
  iprop((dats h c).Φ t.castSucc ∗ (dats h c).owesAt () t.castSucc
    ∗ (∃ d, owns (c : Thread nD τ) (st_0 h t) fullShare ((dats h c).before 0 t d))
    ∗ (∃ d, owns (c : Thread nD τ) (st_1 h t) fullShare ((dats h c).before 1 t d))
    ∗ (∃ d, owns (c : Thread nD τ) (st_2 h t) fullShare ((dats h c).before 2 t d))
    ∗ (∃ d, owns (c : Thread nD τ) (st_3 h t) fullShare ((dats h c).before 3 t d))
    ∗ (∃ d, owns (c : Thread nD τ) (st_4 h t) fullShare ((dats h c).before 4 t d))
    ∗ (∃ Y, ⌜((dats h c).toRRel fgt (Rl h c)).Finds 5 t Y⌝ ∗ owns (c : Thread nD τ) (st_5 h t) fullShare Y))
def bodyPost (h : Tables m) (c : Dev nD) (t : Fin (cfgM h).N) : sProp 𝕄 :=
  iprop((dats h c).Φ t.succ ∗ (dats h c).owesAt () t.succ
    ∗ owns (c : Thread nD τ) (st_0 h t) fullShare ((dats h c).after 0 t)
    ∗ owns (c : Thread nD τ) (st_1 h t) fullShare ((dats h c).after 1 t)
    ∗ owns (c : Thread nD τ) (st_2 h t) fullShare ((dats h c).after 2 t)
    ∗ owns (c : Thread nD τ) (st_3 h t) fullShare ((dats h c).after 3 t)
    ∗ owns (c : Thread nD τ) (st_4 h t) fullShare ((dats h c).after 4 t)
    ∗ (∃ X, ⌜Rl h c 5 t X⌝ ∗ owns (c : Thread nD τ) (st_5 h t) fullShare X))

/-- The weights that a used tile computes with are its own expert's, cast at this tile or kept from the tile before. -/
theorem warm_step (h : Tables m) (c : Dev nD) (t : Fin grid0.N) (ht : (tile t).val < (nuB m).toNat) {s0 : Vec F S1024x2048 .bf16} {s1 : Vec F S1024x1024 .bf16}
    (hW : Warm m c t.val s0 s1) :
    (if Fresh (grid0.coords t 0).val (teW c (grid0.coords t) (tbl m 0)) (tpW c (grid0.coords t) (tbl m 0)) (nvW c (grid0.coords t) (tbl m 1)) then k0_pay1 (wgOf m c (teB m (tile t)).toNat) else s0)
        = k0_pay1 (wgOf m c (teB m (tile t)).toNat)
      ∧ (if Fresh (grid0.coords t 0).val (teW c (grid0.coords t) (tbl m 0)) (tpW c (grid0.coords t) (tbl m 0)) (nvW c (grid0.coords t) (tbl m 1)) then k0_pay2 (wdOf m c (teB m (tile t)).toNat) else s1)
        = k0_pay2 (wdOf m c (teB m (tile t)).toNat) := by
  rw [teW_eq, tpW_eq, nvW_eq]
  by_cases hf : Fresh (grid0.coords t 0).val (teB m (grid0.coords t 0)) (teB m ⟨(grid0.coords t 0).val - 1, by have : (grid0.coords t 0).val < 160 := (grid0.coords t 0).isLt; omega⟩) (nvB m (grid0.coords t 0))
  · rw [if_pos hf, if_pos hf]; exact ⟨rfl, rfl⟩
  · rw [if_neg hf, if_neg hf]
    obtain ⟨h0, he⟩ := not_fresh (h.nv_pos _ ht) hf
    have hv := tile_val t
    have := hW ⟨(grid0.coords t 0).val - 1, by have : (grid0.coords t 0).val < 160 := (grid0.coords t 0).isLt; omega⟩
      (by show (grid0.coords t 0).val - 1 + 1 = t.val; omega) (by show (grid0.coords t 0).val - 1 < _; have : (grid0.coords t 0).val < _ := ht; omega)
    rw [← he] at this
    exact this

theorem sound_body (h : Tables m) (c : Dev nD) (t : Fin (cfgM h).N) :
    bodyPre h c t ⊢ wp frame (wpE (defs₀ (F := F)) Variants.none c none) Set.univ (bodyAt h t) (fun _ => bodyPost h c t) := by
  unfold bodyPre bodyPost bodyAt
  simp only [before_0, before_1, before_2, before_3, before_4]
  rw [show (dats h c).Φ t.castSucc = held m c t.val from rfl, show (dats h c).Φ t.succ = held m c (t.val + 1) from rfl,
    show (dats h c).owesAt () t.succ = (dats h c).owesAt () t.castSucc from rfl,
    show (dats h c).after 0 t = iblk h c 0 t from rfl, show (dats h c).after 1 t = iblk h c 1 t from rfl,
    show (dats h c).after 2 t = iblk h c 2 t from rfl, show (dats h c).after 3 t = iblk h c 3 t from rfl,
    show (dats h c).after 4 t = iblk h c 4 t from rfl]
  rw [show iblk h c 0 t = _ from iblk_0 h c t, show iblk h c 1 t = _ from iblk_1 h c t, show iblk h c 2 t = _ from iblk_2 h c t,
    show iblk h c 3 t = _ from iblk_3 h c t, show iblk h c 4 t = _ from iblk_4 h c t]
  unfold held
  iintro ⟨⟨Hg, ⟨%s0, %s1, %hW, S0, S1⟩, ⟨%s2, S2⟩, T0, T1, T2⟩, Ho, ⟨%d0, H0⟩, ⟨%d1, H1⟩, ⟨%d2, H2⟩, ⟨%d3, H3⟩, ⟨%d4, H4⟩, ⟨%Y, -, H5⟩⟩
  iapply (step c (grid0.coords t) (st_0 h t) (hstage0_0 (((cfgM h).slots t 0).cast nbuf0_0)) (st_1 h t) (hstage0_1 (((cfgM h).slots t 1).cast nbuf0_1))
    (st_2 h t) (hstage0_2 (((cfgM h).slots t 2).cast nbuf0_2)) (st_3 h t) (hstage0_3 (((cfgM h).slots t 3).cast nbuf0_3))
    (st_4 h t) (hstage0_4 (((cfgM h).slots t 4).cast nbuf0_4)) (st_5 h t) (hstage0_5 (((cfgM h).slots t 5).cast nbuf0_5))
    (tbl m 0) (tbl m 1) (tbl m 2) _ _ _ _ _ Y s0 s1 s2 Set.univ _ (fun hc => pos_cond3 (cond2_pos hc)))
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [T0]; · iexact T0
  isplitl [T1]; · iexact T1
  isplitl [T2]; · iexact T2
  iintro ⟨H0, H1, H2, H3, H4, ⟨%X, %hX, H5⟩, S0, S1, S2, T0, T1, T2⟩
  isplitl [Hg S0 S1 S2 T0 T1 T2]
  · isplitl [Hg]; · iexact Hg
    isplitl [S0 S1]
    · iexists _, _
      isplitr
      swap
      · isplitl [S0]; · iexact S0
        iexact S1
      ipureintro
      intro u hu hlt
      have hv := tile_val t
      obtain rfl : u = tile t := Fin.ext (by show u.val = (grid0.coords t 0).val; omega)
      exact warm_step h c t hlt hW
    isplitl [S2]; · iexact S2
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  iexists X
  isplitr
  swap
  · iexact H5
  ipureintro
  intro hlt
  have e := warm_step h c t hlt hW
  rw [hX (by rw [nvW_eq]; exact pos_cond2 (h.nv_pos _ hlt)), e.1, e.2, nvW_eq]
  rfl

theorem body_obligation (h : Tables m) (c : Dev nD) : BodyObligationRel (dats (F := F) h c) (defs₀ (F := F)) Variants.none () Set.univ fgt (Rl h c) := fun t => by
  rw [bigSep_W0, bigSep_W0, body_row h]
  exact triple_restated (sound_body h c t) rfl .rfl fun _ => .rfl

/-! ## The launch -/

theorem PhiT_eq (h : Tables m) (c : Dev nD) : (Pipeline.ΦT pre0 (adm h).1 c : sProp 𝕄)
    = iprop(tbPt c teM (tbl m 0) ∗ tbPt c nvM (tbl m 1) ∗ tbPt c nuM (tbl m 2)) := by
  unfold Pipeline.ΦT Pipeline.prefHeld
  rw [bigSep_univ_eq_bigSepL [0, 1, 2] (by decide) (by decide) _]
  rfl

theorem enter (h : Tables m) (c : Dev nD) : (iprop(Pipeline.ΦA spec0 c ∗ Pipeline.ΦT pre0 (adm h).1 c) : sProp 𝕄) ⊢ held m c 0 := by
  rw [PhiT_eq]
  unfold Pipeline.ΦA held
  rw [scopedRest0_eq]
  iintro ⟨⟨⟨⟨%f0, S0⟩, ⟨%f1, S1⟩, ⟨%f2, S2⟩⟩, Hg⟩, T0, T1, T2⟩
  isplitl [Hg]; · iexact Hg
  isplitl [S0 S1]
  · iexists f0, f1
    isplitr
    · ipureintro
      intro t ht; omega
    isplitl [S0]
    · rw [owns_whole (c : Thread nD τ) cc0_scratch0 fullShare f0]; iexact S0
    · rw [owns_whole (c : Thread nD τ) cc0_scratch1 fullShare f1]; iexact S1
  isplitl [S2]
  · iexists f2
    rw [owns_whole (c : Thread nD τ) cc0_scratch2 fullShare f2]; iexact S2
  isplitl [T0]; · iexact T0
  isplitl [T1]; · iexact T1
  iexact T2

theorem leave (c : Dev nD) (n : ℕ) : held m c n ⊢ (Pipeline.ΦA spec0 c : sProp 𝕄) := by
  unfold Pipeline.ΦA held
  rw [scopedRest0_eq]
  iintro ⟨Hg, ⟨%s0, %s1, -, S0, S1⟩, ⟨%s2, S2⟩, -, -, -⟩
  isplitr [Hg]
  · isplitl [S0]
    · iexists s0
      rw [← owns_whole (c : Thread nD τ) cc0_scratch0 fullShare s0]; iexact S0
    isplitl [S1]
    · iexists s1
      rw [← owns_whole (c : Thread nD τ) cc0_scratch1 fullShare s1]; iexact S1
    · iexists s2
      rw [← owns_whole (c : Thread nD τ) cc0_scratch2 fullShare s2]; iexact S2
  · iexact Hg

variable (ρ : Dev nD → PrngReg)

set_option backward.isDefEq.respectTransparency.types false in
theorem run_main (h : Tables m) : θ_run defs (onTc (τ := τ) (main (F := F))) (s₀ m ρ)
    (fun r => RDat.FramePost (cfgM h) (fun c => (dats h c).toRRel fgt (Rl h c)) (V m) r ∧ r.2.sem = fun _ => 0) :=
  Pipeline.RDat.θ_run_frameP_track (Q' := _) pcfgs (fun _ => adm h) (0 : Fin 1) launch0 defs₀ Variants.none (fun c => (dats h c).toRRel fgt (Rl h c)) m ρ main
    (hbody := fun c => (body_obligation h c).toRRel) (hshare := fun c => (dats h c).share_full fun _ => rfl) (howed := fun _ _ => rfl) (V := V m)
    (hmain := Pipeline.hmainP_region pcfgs 0 defs₀ Variants.none m main fun c => (main_chain c).trans rfl)
    (hA := fun c w => A_eq h c w) (hpf := V_pre m)
    (hin := fun c => enter h c) (hout := fun c => leave c _)

/-! ## The result, read -/

theorem index_out (h : Tables m) (t : Fin (cfgM h).N) : ((cfgM h).win 5).index t = ![min (tile t).val (nuB m).toNat, 0] := at_out h (grid0.coords t)

/-- A used tile's point writes its block back. -/
theorem flush_used (h : Tables m) (t : Fin (cfgM h).N) (ht : (tile t).val < (nuB m).toNat) : ((cfgM h).win 5).flush t = true := by
  rw [Window.flush_eq_flushF]
  unfold Window.flushF
  have hN : (cfgM h).grid.N = 160 := N_0
  by_cases hl : t.val + 1 = (cfgM h).grid.N
  · simp only [hl, decide_true, Bool.true_or, Bool.and_true]; rfl
  · have hlt : t.val + 1 < (cfgM h).grid.N := by have := t.isLt; have : t.val < (cfgM h).grid.N := this; omega
    have e : decide (∃ h1 : t.val + 1 < (cfgM h).grid.N, ∃ a, ((cfgM h).win 5).index ⟨t.val + 1, h1⟩ a ≠ ((cfgM h).win 5).index t a) = true := by
      rw [decide_eq_true_iff]
      refine ⟨hlt, (0 : Fin 2), ?_⟩
      rw [index_out h ⟨t.val + 1, hlt⟩, index_out h t]
      show min (grid0.coords ⟨t.val + 1, hlt⟩ 0).val (nuB m).toNat ≠ min (grid0.coords t 0).val (nuB m).toNat
      have e1 := tile_val ⟨t.val + 1, hlt⟩
      have e2 := tile_val t
      have e1' : (grid0.coords ⟨t.val + 1, hlt⟩ 0).val = t.val + 1 := e1
      have : (grid0.coords t 0).val < (nuB m).toNat := ht
      omega
    rw [e, Bool.or_true, Bool.and_true]; rfl

theorem emb_out (h : Tables m) (t : Fin (cfgM h).N) (j : S4096x128.Idx) :
    ((((cfgM h).win 5).blk t).view.emb j : S655360x128.Idx)
      = ix2 ⟨(min (tile t).val (nuB m).toNat * 4096 + (j 0).val) % 655360, Nat.mod_lt _ (by norm_num)⟩ (j 1) := by
  have hj : (j 0).val < 4096 := (j 0).isLt
  have ht : (tile t).val < 160 := (tile t).isLt
  have e := at_out h (grid0.coords t)
  funext a; apply Fin.ext; fin_cases a
  · show cc0_transform_5 inb_S1_S1_0 numel1_S1 (tbl m) (grid0.coords t) 0 * 4096 + 1 * (j 0).val = (min (tile t).val (nuB m).toNat * 4096 + (j 0).val) % 655360
    rw [e]; show min (tile t).val (nuB m).toNat * 4096 + 1 * (j 0).val = _; omega
  · show cc0_transform_5 inb_S1_S1_0 numel1_S1 (tbl m) (grid0.coords t) 1 * 128 + 1 * (j 1).val = (j 1).val
    rw [e]; show 0 * 128 + 1 * (j 1).val = _; omega

variable (m) in
/-- What the result holds at a used tile's rows. -/
def OutAt (c : Dev nD) (i : S655360x128.Idx) (v : Elt F .f32) : Prop :=
  ∀ (t : Fin 160) (j : S4096x128.Idx), t.val < (nuB m).toNat → i = ix2 ⟨(t.val * 4096 + (j 0).val) % 655360, Nat.mod_lt _ (by norm_num)⟩ (j 1) → v = tileOut m c t j

theorem out_read (h : Tables m) (r : PUnit × MemSt nD τ sig (Elt F))
    (hr : RDat.FramePost (cfgM h) (fun c => (dats h c).toRRel fgt (Rl h c)) (V m) r) (c : Dev nD) (t : Fin 160) (j : S4096x128.Idx) (ht : t.val < (nuB m).toNat) :
    (r.2.mem ((c : Thread nD τ).loc main_v0) : S655360x128.Idx → Elt F .f32) (ix2 ⟨(t.val * 4096 + (j 0).val) % 655360, Nat.mod_lt _ (by norm_num)⟩ (j 1)) = tileOut m c t j := by
  obtain ⟨after, hL, hA⟩ := hr.exists_exact c
  have hN : grid0.N = 160 := N_0
  obtain ⟨t', ht'⟩ : ∃ t' : Fin (cfgM h).N, t = tile t' := ⟨⟨t.val, by show t.val < grid0.N; rw [hN]; exact t.isLt⟩, Fin.ext (tile_val _).symm⟩
  subst ht'
  have key := Dat.arrAt_forall_of_flushed (((dats h c).toRRel fgt (Rl h c)).withAfter after) 5 (fun i v => OutAt m c i v) ?_ (cfgM h).N t'
    ((((cfgM h).win 5).blk t').view.emb j) t'.isLt (flush_used h t' ht) (View.emb_mem_set _ _)
  · have e := congrFun (hA 5) ((((cfgM h).win 5).blk t').view.emb j)
    have e2 := emb_out h t' j
    rw [Nat.min_eq_left ht.le] at e2
    have k2 := key (tile t') j ht e2
    exact (congrArg (r.2.mem ((c : Thread nD τ).loc main_v0) : S655360x128.Idx → Elt F .f32) e2.symm).trans (e.trans k2)
  · intro u hu y s j' hs hi
    have e2 := emb_out h u y
    rw [e2] at hi
    have hy : (y (0 : Fin 2)).val < 4096 := (y (0 : Fin 2)).isLt
    have hj' : (j' 0).val < 4096 := (j' 0).isLt
    have hut : (tile u).val < 160 := (tile u).isLt
    have hst : s.val < 160 := s.isLt
    have h0 : (min (tile u).val (nuB m).toNat * 4096 + (y (0 : Fin 2)).val) % 655360 = (s.val * 4096 + (j' 0).val) % 655360 := congrArg (fun i : S655360x128.Idx => (i 0).val) hi
    have h1 : (y (1 : Fin 2) : Fin 128) = j' 1 := congrArg (fun i : S655360x128.Idx => i 1) hi
    have hs' : s.val < (nuB m).toNat := hs
    have hu' : (tile u).val = s.val := by omega
    have hys : (y (0 : Fin 2)).val = (j' 0).val := by omega
    obtain rfl : tile u = s := Fin.ext hu'
    have hy2 : (y : S4096x128.Idx) = j' := by
      funext a; fin_cases a
      · exact Fin.ext hys
      · exact h1
    have hR : Rl h c 5 u (after 5 u) := Dat.toRRel_leaves (dats h c) rfl (hL 5 u hu)
    have hX : (after 5 u : Vec F S4096x128 .f32) = tileOut m c (tile u) := hR hs'
    show (after 5 u : Vec F S4096x128 .f32) y = _
    rw [hX]
    exact congrArg (tileOut m c (tile u)) hy2

theorem run_read (h : Tables m) : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ ∀ (t : Fin 160) (j : S4096x128.Idx), t.val < (nuB m).toNat →
          (r.2.mem ((c : Thread nD τ).loc main_v0) : S655360x128.Idx → Elt F .f32) (ix2 ⟨(t.val * 4096 + (j 0).val) % 655360, Nat.mod_lt _ (by norm_num)⟩ (j 1)) = tileOut m c t j)
      ∧ r.2.sem = fun _ => 0) :=
  (θ_run defs _ _).mono (fun r hr => ⟨fun c => ⟨⟨
      (hr.1 c).2 main_arg0 (by decide : main_arg0 ∈ Pipeline.restRefs sig spec0),
      (hr.1 c).2 main_arg1 (by decide : main_arg1 ∈ Pipeline.restRefs sig spec0),
      (hr.1 c).2 main_arg2 (by decide : main_arg2 ∈ Pipeline.restRefs sig spec0),
      (hr.1.arr_in c 0 rfl).trans (A_eq h c 0), (hr.1.arr_in c 1 rfl).trans (A_eq h c 1), (hr.1.arr_in c 2 rfl).trans (A_eq h c 2),
      (hr.1.arr_in c 3 rfl).trans (A_eq h c 3), (hr.1.arr_in c 4 rfl).trans (A_eq h c 4)⟩,
      fun t j ht => out_read h r hr.1 c t j ht⟩, hr.2⟩) (run_main ρ h)

end Cert.Kernel2Ideal.Hand

end
-- ==== Proof.ExpertsValues.lean ====
/-
  The experts' values: what the precondition gives, the tile's results element by element, the reference's, and that they agree.
-/
module

public import proofs.«01_k».proof.Proof.ExpertsRun
public import proofs.«01_k».proof.Proof.Gen.Reference2Ideal.Run
public import proofs.«01_k».proof.Proof.Gen.On_valid_rows
public import proofs.«01_k».proof.Proof.Gen.Pre_tiles_of_experts
public import Idealize.ShloMosaic.Lib.ReduceAll
public import Idealize.ShloMosaic.Lib.StackMember
public import Idealize.ShloMosaic.Lib.StableHlo.Predicate
public import Idealize.ShloMosaic.Lib.Pointwise

@[expose] public section

set_option maxRecDepth 16384
set_option maxHeartbeats 1600000

noncomputable section

namespace Cert.Proof.Experts

open Idealize.ShloMosaic
open Cert.Kernel2Ideal (S1x1024x2048 S1x1x2048 S1x1024x1024 S1x1x1024 S4096x128 S1024x2048 S1024x1024 S512x1024 S512x128 S512x1)
open Cert.Kernel2Ideal.Gen Cert.Kernel2Ideal.Hand

/-! ## The tile's results -/

/-- The eight row loads side by side are the rows of 1024, cut off where no row is. -/
theorem pay4_at (v1 : BitVec 32) (v22 v23 v24 v25 v26 v27 v28 v29 : Vec Ideal S512x128 .f32) (G : Fin 512 → ℕ → EReal)
    (h0 : ∀ (r : Fin 512) (l : Fin 128), v22 (ix2 r l) = G r (0 + l.val)) (h1 : ∀ (r : Fin 512) (l : Fin 128), v23 (ix2 r l) = G r (128 + l.val)) (h2 : ∀ (r : Fin 512) (l : Fin 128), v24 (ix2 r l) = G r (256 + l.val)) (h3 : ∀ (r : Fin 512) (l : Fin 128), v25 (ix2 r l) = G r (384 + l.val)) (h4 : ∀ (r : Fin 512) (l : Fin 128), v26 (ix2 r l) = G r (512 + l.val)) (h5 : ∀ (r : Fin 512) (l : Fin 128), v27 (ix2 r l) = G r (640 + l.val)) (h6 : ∀ (r : Fin 512) (l : Fin 128), v28 (ix2 r l) = G r (768 + l.val)) (h7 : ∀ (r : Fin 512) (l : Fin 128), v29 (ix2 r l) = G r (896 + l.val))
    (r : Fin 512) (l : Fin 1024) (hr : IntOp.cmpi .slt (BitVec.ofNat 32 r.val) v1 = 1#1) :
    k0_pay4 (F := Ideal) v1 v22 v23 v24 v25 v26 v27 v28 v29 (ix2 r l) = G r l.val := by
  have hl := l.isLt
  unfold k0_pay4
  dsimp only
  pointwise
  rw [hr, ValueIdx.select_one]
  repeat' split
  · rw [h0]; congr 1; simp only []; omega
  · rw [h1]; congr 1; simp only []; omega
  · rw [h2]; congr 1; simp only []; omega
  · rw [h3]; congr 1; simp only []; omega
  · rw [h4]; congr 1; simp only []; omega
  · rw [h5]; congr 1; simp only []; omega
  · rw [h6]; congr 1; simp only []; omega
  · rw [h7]; congr 1; simp only []; omega

theorem pay5_at (v1 : BitVec 32) (v22 v23 v24 v25 v26 v27 v28 v29 : Vec Ideal S512x128 .f32) (v38 v40) (r : Fin 512) (l : Fin 1024) :
    k0_pay5 (F := Ideal) v1 v22 v23 v24 v25 v26 v27 v28 v29 v38 v40 (ix2 r l) = (∑ k : Fin 1024, k0_pay4 (F := Ideal) v1 v22 v23 v24 v25 v26 v27 v28 v29 (ix2 r k) * v38 (ix2 k l)) + v40 (ix3 0 0 l) := by
  unfold k0_pay5
  pointwise
theorem pay6_at (v1 : BitVec 32) (v22 v23 v24 v25 v26 v27 v28 v29 : Vec Ideal S512x128 .f32) (v38 v40) (r : Fin 512) (l : Fin 1024) :
    k0_pay6 (F := Ideal) v1 v22 v23 v24 v25 v26 v27 v28 v29 v38 v40 (ix2 r l) = (∑ k : Fin 1024, k0_pay4 (F := Ideal) v1 v22 v23 v24 v25 v26 v27 v28 v29 (ix2 r k) * v38 (ix2 k l)) + v40 (ix3 0 0 l) := by
  unfold k0_pay6
  pointwise
theorem pay7_at (r : Fin 512) (l : Fin 1024) : k0_pay7 (F := Ideal) (ix2 r l) = Ideal.ofBits FTy.f32 1088421888#32 := by
  unfold k0_pay7
  pointwise

/-- The activation of a gate and an up value. -/
def act (g u : EReal) : EReal :=
  (min (Ideal.ofBits FTy.f32 1088421888#32) (max (Ideal.ofBits FTy.f32 3235905536#32) u) + 1)
    * (min g (Ideal.ofBits FTy.f32 1088421888#32) * Ideal.div 1 (1 + Ideal.exp (-(Ideal.ofBits FTy.f32 1071242019#32 * min g (Ideal.ofBits FTy.f32 1088421888#32)))))

theorem pay8_at (v43 v49 v70 v72) (r : Fin 512) (l : Fin 1024) :
    k0_pay8 (F := Ideal) v43 v49 k0_pay7 v70 v72 (ix2 r l) = (∑ k : Fin 1024, act (v43 (ix2 r k)) (v49 (ix2 r k)) * v70 (ix2 k l)) + v72 (ix3 0 0 l) := by
  unfold k0_pay8 act
  pointwise
  simp only [pay7_at, zero_sub]
theorem pay1_at (v43) (r : Fin 1024) (l : Fin 2048) :
    k0_pay1 (F := Ideal) v43 (ix2 r l) = v43 (ix3 0 r l) := by
  unfold k0_pay1
  pointwise
theorem pay2_at (v43) (r : Fin 1024) (l : Fin 1024) :
    k0_pay2 (F := Ideal) v43 (ix2 r l) = v43 (ix3 0 r l) := by
  unfold k0_pay2
  pointwise
/-- Row `r` of a tile, 1024 long, from the block's rows of 128. -/
def rowOf (x0 : Vec Ideal S4096x128 .f32) (r : Fin 512) (l : ℕ) : EReal :=
  x0 (ix2 ⟨(r.val * 8 + l / 128) % 4096, Nat.mod_lt _ (by norm_num)⟩ ⟨l % 128, Nat.mod_lt _ (by norm_num)⟩)

theorem rowIdx (r : Fin 512) (l : Fin 128) (q : ℕ) (hq : q < 8) (h) :
    (⟨![q, 0], S512x128.size, ![8, 1], h⟩ : LoadRect S4096x128).idx (ix2 r l)
      = ix2 ⟨(r.val * 8 + (q * 128 + l.val) / 128) % 4096, Nat.mod_lt _ (by norm_num)⟩ ⟨(q * 128 + l.val) % 128, Nat.mod_lt _ (by norm_num)⟩ := by
  have hr := r.isLt
  have hl := l.isLt
  funext a; apply Fin.ext; fin_cases a
  · show q + 8 * r.val = (r.val * 8 + (q * 128 + l.val) / 128) % 4096; omega
  · show 0 + 1 * l.val = (q * 128 + l.val) % 128; omega

theorem accOf_at (v1 : BitVec 32) (x0 : Vec Ideal S4096x128 .f32) (x2 : Vec Ideal S1x1x2048 .f32) (x4 : Vec Ideal S1x1x1024 .f32)
    (s0 : Vec Ideal S1024x2048 .bf16) (s1 : Vec Ideal S1024x1024 .bf16) (r : Fin 512) (d : Fin 1024) (hr : IntOp.cmpi .slt (BitVec.ofNat 32 r.val) v1 = 1#1) :
    accOf v1 x0 x2 x4 s0 s1 (ix2 r d)
      = (∑ k : Fin 1024, act ((∑ l : Fin 1024, rowOf x0 r l.val * s0 (ix2 l ⟨k.val, by omega⟩)) + x2 (ix3 0 0 ⟨k.val, by omega⟩))
          ((∑ l : Fin 1024, rowOf x0 r l.val * s0 (ix2 l ⟨1024 + k.val, by omega⟩)) + x2 (ix3 0 0 ⟨1024 + k.val, by omega⟩)) * s1 (ix2 k d)) + x4 (ix3 0 0 d) := by
  have h4 := fun l : Fin 1024 => pay4_at v1
    (fun x => x0 ((⟨![0, 0], S512x128.size, ![8, 1], inb_S4096x128_S512x128_0_0_s_8_1⟩ : LoadRect S4096x128).idx x))
    (fun x => x0 ((⟨![1, 0], S512x128.size, ![8, 1], inb_S4096x128_S512x128_1_0_s_8_1⟩ : LoadRect S4096x128).idx x))
    (fun x => x0 ((⟨![2, 0], S512x128.size, ![8, 1], inb_S4096x128_S512x128_2_0_s_8_1⟩ : LoadRect S4096x128).idx x))
    (fun x => x0 ((⟨![3, 0], S512x128.size, ![8, 1], inb_S4096x128_S512x128_3_0_s_8_1⟩ : LoadRect S4096x128).idx x))
    (fun x => x0 ((⟨![4, 0], S512x128.size, ![8, 1], inb_S4096x128_S512x128_4_0_s_8_1⟩ : LoadRect S4096x128).idx x))
    (fun x => x0 ((⟨![5, 0], S512x128.size, ![8, 1], inb_S4096x128_S512x128_5_0_s_8_1⟩ : LoadRect S4096x128).idx x))
    (fun x => x0 ((⟨![6, 0], S512x128.size, ![8, 1], inb_S4096x128_S512x128_6_0_s_8_1⟩ : LoadRect S4096x128).idx x))
    (fun x => x0 ((⟨![7, 0], S512x128.size, ![8, 1], inb_S4096x128_S512x128_7_0_s_8_1⟩ : LoadRect S4096x128).idx x))
    (rowOf x0)
    (fun r l => congrArg x0 (rowIdx r l 0 (by norm_num) _))
    (fun r l => congrArg x0 (rowIdx r l 1 (by norm_num) _))
    (fun r l => congrArg x0 (rowIdx r l 2 (by norm_num) _))
    (fun r l => congrArg x0 (rowIdx r l 3 (by norm_num) _))
    (fun r l => congrArg x0 (rowIdx r l 4 (by norm_num) _))
    (fun r l => congrArg x0 (rowIdx r l 5 (by norm_num) _))
    (fun r l => congrArg x0 (rowIdx r l 6 (by norm_num) _))
    (fun r l => congrArg x0 (rowIdx r l 7 (by norm_num) _))
    r l hr
  have a2 : ∀ (l k : Fin 1024), s0 ((Rect.unit (s := S1024x2048) ![0, 0] S1024x1024.size inb_S1024x2048_S1024x1024_0_0).toLoadRect.idx (ix2 l k)) = s0 (ix2 l ⟨k.val, by omega⟩) := fun l k => by
    congr 1; funext a; apply Fin.ext; fin_cases a
    · show 0 + 1 * l.val = l.val; omega
    · show 0 + 1 * k.val = k.val; omega
  have a3 : ∀ (l k : Fin 1024), s0 ((Rect.unit (s := S1024x2048) ![0, 1024] S1024x1024.size inb_S1024x2048_S1024x1024_0_1024).toLoadRect.idx (ix2 l k)) = s0 (ix2 l ⟨1024 + k.val, by omega⟩) := fun l k => by
    congr 1; funext a; apply Fin.ext; fin_cases a
    · show 0 + 1 * l.val = l.val; omega
    · show 1024 + 1 * k.val = 1024 + k.val; omega
  have b2 : ∀ (k : Fin 1024), x2 ((Rect.unit (s := S1x1x2048) ![0, 0, 0] S1x1x1024.size inb_S1x1x2048_S1x1x1024_0_0_0).toLoadRect.idx (ix3 0 0 k)) = x2 (ix3 0 0 ⟨k.val, by omega⟩) := fun k => by
    congr 1; funext a; apply Fin.ext; fin_cases a
    · rfl
    · rfl
    · show 0 + 1 * k.val = k.val; omega
  have b3 : ∀ (k : Fin 1024), x2 ((Rect.unit (s := S1x1x2048) ![0, 0, 1024] S1x1x1024.size inb_S1x1x2048_S1x1x1024_0_0_1024).toLoadRect.idx (ix3 0 0 k)) = x2 (ix3 0 0 ⟨1024 + k.val, by omega⟩) := fun k => by
    congr 1; funext a; apply Fin.ext; fin_cases a
    · rfl
    · rfl
    · show 1024 + 1 * k.val = 1024 + k.val; omega
  unfold accOf
  rw [pay8_at]
  simp only [pay5_at, pay6_at, h4, a2, a3, b2, b3]

/-! ## The results, named -/

abbrev SX : Shape := ⟨2, ![655360, 128]⟩
abbrev SWG : Shape := ⟨3, ![32, 1024, 2048]⟩
abbrev SBG : Shape := ⟨3, ![32, 1, 2048]⟩
abbrev SWD : Shape := ⟨3, ![32, 1024, 1024]⟩
abbrev SBD : Shape := ⟨3, ![32, 1, 1024]⟩

/-- Row `r` of tile `t`, 1024 long. -/
def hid (xs : FVec Ideal SX .f32) (t : Fin 160) (r : Fin 512) (l : Fin 1024) : EReal :=
  xs (ix2 ⟨t.val * 4096 + r.val * 8 + l.val / 128, by omega⟩ ⟨l.val % 128, by omega⟩)

/-- What the expert `e` makes of row `r` of tile `t`. -/
def expert (xs : FVec Ideal SX .f32) (wg : FVec Ideal SWG .f32) (bg : FVec Ideal SBG .f32) (wd : FVec Ideal SWD .f32) (bd : FVec Ideal SBD .f32)
    (e : Fin 32) (t : Fin 160) (r : Fin 512) (d : Fin 1024) : EReal :=
  (∑ k : Fin 1024, act ((∑ l : Fin 1024, hid xs t r l * wg (ix3 e l ⟨k.val, by omega⟩)) + bg (ix3 e 0 ⟨k.val, by omega⟩))
    ((∑ l : Fin 1024, hid xs t r l * wg (ix3 e l ⟨1024 + k.val, by omega⟩)) + bg (ix3 e 0 ⟨1024 + k.val, by omega⟩)) * wd (ix3 e k d)) + bd (ix3 e 0 d)

section
open Cert.Kernel2Ideal

theorem tileOut_at (m : (ℓ : Loc nD τ sig) → Buf (Elt Ideal) ℓ) (h : Tables m) (c : Dev nD) (t : Fin 160) (ht : t.val < (nuB m).toNat) (r : Fin 512) (q : Fin 8) (l : Fin 128)
    (hr : IntOp.cmpi .slt (BitVec.ofNat 32 r.val) (nvB m t) = 1#1) :
    tileOut m c t (ix2 ⟨r.val * 8 + q.val, by omega⟩ l)
      = expert (V m c main_arg3) (V m c main_arg4) (V m c main_arg5) (V m c main_arg6) (V m c main_arg7) ⟨(teB m t).toNat, h.te_lt t⟩ t r ⟨q.val * 128 + l.val, by omega⟩ := by
  have hrl := r.isLt
  have hq := q.isLt
  have hl := l.isLt
  have he := h.te_lt t
  unfold tileOut packed
  have e0 : (ValueIdx.ix2 ⟨((ix2 (⟨r.val * 8 + q.val, by omega⟩ : Fin 4096) l : S4096x128.Idx) 0).val / 8, by show (r.val * 8 + q.val) / 8 < 512; omega⟩
      ⟨((ix2 (⟨r.val * 8 + q.val, by omega⟩ : Fin 4096) l : S4096x128.Idx) 0).val % 8 * 128 + ((ix2 (⟨r.val * 8 + q.val, by omega⟩ : Fin 4096) l : S4096x128.Idx) 1).val, by show (r.val * 8 + q.val) % 8 * 128 + l.val < 1024; omega⟩ : S512x1024.Idx)
      = ix2 r ⟨q.val * 128 + l.val, by omega⟩ := by
    funext a; apply Fin.ext; fin_cases a
    · show (r.val * 8 + q.val) / 8 = r.val; omega
    · show (r.val * 8 + q.val) % 8 * 128 + l.val = q.val * 128 + l.val; omega
  refine (congrArg _ e0).trans ?_
  rw [accOf_at _ _ _ _ _ _ r _ hr]
  unfold expert
  have hmod : (⟨(teB m t).toNat % 32, Nat.mod_lt _ (by norm_num)⟩ : Fin 32) = ⟨(teB m t).toNat, he⟩ := Fin.ext (Nat.mod_eq_of_lt he)
  have w1 : ∀ (a : Fin 1024) (b : Fin 2048), k0_pay1 (wgOf m c (teB m t).toNat) (ix2 a b) = V m c main_arg4 (ix3 ⟨(teB m t).toNat, he⟩ a b) := fun a b => by
    rw [pay1_at]
    unfold wgOf
    rw [hmod, ix3_eq_valueIdx]; rfl
  have w2 : ∀ (a : Fin 1024) (b : Fin 1024), k0_pay2 (wdOf m c (teB m t).toNat) (ix2 a b) = V m c main_arg6 (ix3 ⟨(teB m t).toNat, he⟩ a b) := fun a b => by
    rw [pay2_at]
    unfold wdOf
    rw [hmod, ix3_eq_valueIdx]; rfl
  have w3 : ∀ (b : Fin 2048), bgOf m c (teB m t).toNat (ix3 0 0 b) = V m c main_arg5 (ix3 ⟨(teB m t).toNat, he⟩ 0 b) := fun b => by
    unfold bgOf
    rw [hmod, ix3_eq_valueIdx]; rfl
  have w4 : ∀ (b : Fin 1024), bdOf m c (teB m t).toNat (ix3 0 0 b) = V m c main_arg7 (ix3 ⟨(teB m t).toNat, he⟩ 0 b) := fun b => by
    unfold bdOf
    rw [hmod, ix3_eq_valueIdx]; rfl
  have w5 : ∀ (k : Fin 1024), rowOf (xsOf m c (min t.val (nuB m).toNat)) r k.val = hid (V m c main_arg3) t r k := fun k => by
    have htl := t.isLt
    have hk := k.isLt
    unfold rowOf xsOf hid
    rw [Nat.min_eq_left ht.le]
    congr 1
    funext a; apply Fin.ext; fin_cases a
    · show (t.val * 4096 + (r.val * 8 + k.val / 128) % 4096) % 655360 = t.val * 4096 + r.val * 8 + k.val / 128; omega
    · rfl
  simp only [w1, w2, w3, w4, w5]

end

/-! ## The reference -/

/-- `table[idx]` over the pages of a table: page `t` of the result is the page that `idx` names. -/
theorem gather_page {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (a : Fin A) (b : Fin B) (e : Fin N)
    (he : (idx (ix2 t (0 : Fin 1))).toInt = (e.val : Int)) :
    Host.gather (⟨[1, 2], [0], [], [], [0], 1, ![1, A, B], wf⟩ : GatherDims _ _ _) x idx (ix3 t a b) = x (ix3 e a b) := by
  have hel := e.isLt
  unfold Host.gather
  refine congrArg x (funext fun ax => Fin.ext ?_)
  match ax with
  | ⟨0, _⟩ =>
    show GatherDims.start _ (ix3 t a b) idx 0 + GatherDims.batchCoord _ (ix3 t a b) 0 + GatherDims.offCoord _ (ix3 t a b) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (⟨[1, 2], [0], [], [], [0], 1, ![1, A, B], wf⟩ : GatherDims ⟨3, ![N, A, B]⟩ ⟨2, ![n, 1]⟩ ⟨3, ![n, A, B]⟩).siIdx (ix3 t a b) ⟨List.idxOf (0 : Fin 3) [0],
        List.idxOf_lt_length_iff.2 (List.mem_singleton.mpr rfl)⟩ = ix2 t (0 : Fin 1) := by
      funext b'; refine Fin.ext ?_
      match b' with
      | ⟨0, _⟩ => rfl
      | ⟨1, _⟩ => rfl
    rw [show (_ : (⟨2, ![n, 1]⟩ : Shape).Idx) = _ from hsi, he]
    show min ((e.val : Int)).toNat (N - 1) = e.val
    omega
  | ⟨1, _⟩ =>
    show GatherDims.start _ (ix3 t a b) idx 1 + GatherDims.batchCoord _ (ix3 t a b) 1 + GatherDims.offCoord _ (ix3 t a b) 1 = a.val
    rw [GatherDims.batchCoord_eq_zero _ _ _ List.not_mem_nil]
    unfold GatherDims.start
    rw [dif_neg (show (1 : Fin 3) ∉ ([0] : List (Fin 3)) by decide)]
    simp only [Nat.zero_add, Nat.add_zero]
    rfl
  | ⟨2, _⟩ =>
    show GatherDims.start _ (ix3 t a b) idx 2 + GatherDims.batchCoord _ (ix3 t a b) 2 + GatherDims.offCoord _ (ix3 t a b) 2 = b.val
    rw [GatherDims.batchCoord_eq_zero _ _ _ List.not_mem_nil]
    unfold GatherDims.start
    rw [dif_neg (show (2 : Fin 3) ∉ ([0] : List (Fin 3)) by decide)]
    simp only [Nat.zero_add, Nat.add_zero]
    rfl

end Cert.Proof.Experts

end
-- ==== Proof.ExpertsPre.lean ====
/-
  The experts' values: what the precondition and the mask say of the tables, and the reference's result at a row.
-/
module

public import proofs.«01_k».proof.Proof.ExpertsValues

@[expose] public section

set_option maxRecDepth 16384
set_option maxHeartbeats 1600000

noncomputable section

namespace Cert.Proof.Experts

open Idealize.ShloMosaic
open Cert.Reference2Ideal Cert.Reference2Ideal.Facts₀

/-- The reference's index of a table's page: the tile's expert, as its tables hold it. -/
theorem page_at (te : IVec S160 32) (h : ∀ t : Fin 160, (te (ix1 t)).toNat < 32) (t : Fin 160) :
    (broadcastInDim S160x1 ![0] bcast_S160_S160x1_0 (select (cmpi .slt te (broadcastInDim S160 ![] bcast_S_S160 (constantI S_ 32 0#32)))
      (addi te (broadcastInDim S160 ![] bcast_S_S160 (constantI S_ 32 32#32))) te) (ix2 t (0 : Fin 1))).toInt = ((te (ix1 t)).toNat : Int) := by
  have ht := h t
  have e : (te (ix1 t)).toInt = ((te (ix1 t)).toNat : Int) := by
    rw [BitVec.toInt_eq_toNat_of_lt (by omega)]
  pointwise
  have h0 : IntOp.cmpi .slt (te (ix1 t)) 0#32 = 0#1 := by
    rw [WordCmp.cmpi_slt_zero, decide_eq_false (by omega)]; rfl
  rw [h0, ValueIdx.select_zero, e]

theorem rows_in (x : FVec Ideal SX .f32) (h : SX.ShapeCasts S160x512x1024) (t : Fin 160) (r : Fin 512) (k : Fin 1024) :
    shapeCast S160x512x1024 x h (ix3 t r k) = hid x t r k := by
  have hk := k.isLt
  unfold hid
  apply shapeCast_apply
  rw [Shape.rowMajor_val_three, Shape.rowMajor_val_two]
  show (t.val * 4096 + r.val * 8 + k.val / 128) * 128 + k.val % 128 = (t.val * 512 + r.val) * 1024 + k.val
  omega

theorem rows_out (x : FVec Ideal S160x512x1024 .f32) (h : S160x512x1024.ShapeCasts SX) (t : Fin 160) (r : Fin 512) (q : Fin 8) (l : Fin 128) :
    shapeCast SX x h (ix2 ⟨t.val * 4096 + r.val * 8 + q.val, by omega⟩ l) = x (ix3 t r ⟨q.val * 128 + l.val, by omega⟩) := by
  apply shapeCast_apply
  rw [Shape.rowMajor_val_three, Shape.rowMajor_val_two]
  show (t.val * 512 + r.val) * 1024 + (q.val * 128 + l.val) = (t.val * 4096 + r.val * 8 + q.val) * 128 + l.val
  omega

/-- The reference's result, row by row. -/
theorem ref_at (m : (ℓ : Loc nD τ sig) → Buf (Elt Ideal) ℓ) (c : Dev nD)
    (h : ∀ t : Fin 160, ((m ((c.tc : Thread nD τ).loc main_arg0) : IVec S160 32) (ix1 t)).toNat < 32)
    (t : Fin 160) (r : Fin 512) (q : Fin 8) (l : Fin 128) :
    (Value.res_main_v52 m c : FVec Ideal SX .f32) (ix2 ⟨t.val * 4096 + r.val * 8 + q.val, by omega⟩ l)
      = expert (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))
        ⟨((m ((c.tc : Thread nD τ).loc main_arg0) : IVec S160 32) (ix1 t)).toNat, h t⟩ t r ⟨q.val * 128 + l.val, by omega⟩ := by
  have htl := t.isLt
  have hrl := r.isLt
  have hq := q.isLt
  have hl := l.isLt
  have hpage := page_at (m ((c.tc : Thread nD τ).loc main_arg0)) h t
  have hx := fun k : Fin 1024 => rows_in (m ((c.tc : Thread nD τ).loc main_arg3)) shapeCasts_S655360x128_S160x512x1024 t r k
  unfold Value.res_main_v52
  refine (rows_out _ _ t r q l).trans ?_
  generalize shapeCast S160x512x1024 (m ((c.tc : Thread nD τ).loc main_arg3) : FVec Ideal SX .f32) shapeCasts_S655360x128_S160x512x1024 = X at hx ⊢
  generalize broadcastInDim S160x1 ![0] bcast_S160_S160x1_0 (select (cmpi .slt (m ((c.tc : Thread nD τ).loc main_arg0)) (broadcastInDim S160 ![] bcast_S_S160 (constantI S_ 32 0#32)))
      (addi (m ((c.tc : Thread nD τ).loc main_arg0)) (broadcastInDim S160 ![] bcast_S_S160 (constantI S_ 32 32#32))) (m ((c.tc : Thread nD τ).loc main_arg0))) = I at hpage ⊢
  have g4 : ∀ (a : Fin 1024) (b : Fin 2048), Host.gather gather_S32x1024x2048_S160x1_S160x1024x2048_12_0_n_n_0_1_110242048 (m ((c.tc : Thread nD τ).loc main_arg4)) I (ix3 t a b) = _ :=
    fun a b => gather_page gather_S32x1024x2048_S160x1_S160x1024x2048_12_0_n_n_0_1_110242048_wf _ I t a b ⟨_, h t⟩ hpage
  have g5 : ∀ (b : Fin 2048), Host.gather gather_S32x1x2048_S160x1_S160x1x2048_12_0_n_n_0_1_112048 (m ((c.tc : Thread nD τ).loc main_arg5)) I (ix3 t 0 b) = _ :=
    fun b => gather_page gather_S32x1x2048_S160x1_S160x1x2048_12_0_n_n_0_1_112048_wf _ I t 0 b ⟨_, h t⟩ hpage
  have g6 : ∀ (a : Fin 1024) (b : Fin 1024), Host.gather gather_S32x1024x1024_S160x1_S160x1024x1024_12_0_n_n_0_1_110241024 (m ((c.tc : Thread nD τ).loc main_arg6)) I (ix3 t a b) = _ :=
    fun a b => gather_page gather_S32x1024x1024_S160x1_S160x1024x1024_12_0_n_n_0_1_110241024_wf _ I t a b ⟨_, h t⟩ hpage
  have g7 : ∀ (b : Fin 1024), Host.gather gather_S32x1x1024_S160x1_S160x1x1024_12_0_n_n_0_1_111024 (m ((c.tc : Thread nD τ).loc main_arg7)) I (ix3 t 0 b) = _ :=
    fun b => gather_page gather_S32x1x1024_S160x1_S160x1x1024_12_0_n_n_0_1_111024_wf _ I t 0 b ⟨_, h t⟩ hpage
  generalize Host.gather gather_S32x1024x2048_S160x1_S160x1024x2048_12_0_n_n_0_1_110242048 (m ((c.tc : Thread nD τ).loc main_arg4)) I = G4 at g4 ⊢
  generalize Host.gather gather_S32x1x2048_S160x1_S160x1x2048_12_0_n_n_0_1_112048 (m ((c.tc : Thread nD τ).loc main_arg5)) I = G5 at g5 ⊢
  generalize Host.gather gather_S32x1024x1024_S160x1_S160x1024x1024_12_0_n_n_0_1_110241024 (m ((c.tc : Thread nD τ).loc main_arg6)) I = G6 at g6 ⊢
  generalize Host.gather gather_S32x1x1024_S160x1_S160x1x1024_12_0_n_n_0_1_111024 (m ((c.tc : Thread nD τ).loc main_arg7)) I = G7 at g7 ⊢
  unfold expert act
  pointwise
  simp only [hx, g4, g5, g6, g7]
  rfl

/-! ## The mask and the precondition -/

theorem small_toInt {n : ℕ} (h : n < 2 ^ 31) : (BitVec.ofNat 32 n).toInt = (n : Int) := by
  have e : (BitVec.ofNat 32 n).toNat = n := by rw [BitVec.toNat_ofNat]; omega
  rw [BitVec.toInt_eq_toNat_of_lt (by omega), e]

theorem and_one : ∀ {x y : BitVec 1}, IntOp.andi x y = 1#1 → x = 1#1 ∧ y = 1#1 := by
  decide
theorem or_one : ∀ {x y : BitVec 1}, IntOp.ori x y = 1#1 → x = 1#1 ∨ y = 1#1 := by
  decide

theorem valid_at {F : FTy → Type} [FloatOps F] (te nv : IVec S160 32) (nu : IVec S1 32) (xs : FVec F SX .f32) (wg : FVec F SWG .f32) (bg : FVec F SBG .f32)
    (wd : FVec F SWD .f32) (bd : FVec F SBD .f32) (t : Fin 160) (r : Fin 512) (q : Fin 8) (l : Fin 128)
    (h : Cert.On_valid_rows.fn (F := F) te nv nu xs wg bg wd bd (ix2 ⟨t.val * 4096 + r.val * 8 + q.val, by omega⟩ l) = 1#1) :
    IntOp.cmpi .slt (BitVec.ofNat 32 t.val) (nu (ix1 0)) = 1#1 ∧ IntOp.cmpi .slt (BitVec.ofNat 32 r.val) (nv (ix1 t)) = 1#1 := by
  unfold Cert.On_valid_rows.fn at h
  dsimp only at h
  rw [shapeCast_apply _ _ _ (ix4 t r q l) (by
    rw [Shape.rowMajor_val_four, Shape.rowMajor_val_two]
    show ((t.val * 512 + r.val) * 8 + q.val) * 128 + l.val = (t.val * 4096 + r.val * 8 + q.val) * 128 + l.val
    omega)] at h
  obtain ⟨h1, h2⟩ := and_one h
  refine ⟨Eq.trans ?_ h1, Eq.trans ?_ h2⟩
  · symm
    pointwise
  · symm
    pointwise

theorem tables_of_pre {F : FTy → Type} [FloatOps F] (te nv : IVec S160 32) (nu : IVec S1 32) (xs : FVec F SX .f32) (wg : FVec F SWG .f32) (bg : FVec F SBG .f32)
    (wd : FVec F SWD .f32) (bd : FVec F SBD .f32) (h : Cert.Pre_tiles_of_experts.fn (F := F) te nv nu xs wg bg wd bd = fun _ => 1#1) :
    (∀ t : Fin 160, (te (ix1 t)).toNat < 32) ∧ (nu (ix1 0)).toNat < 2 ^ 31 ∧ ∀ t : Fin 160, t.val < (nu (ix1 0)).toNat → 0 < (nv (ix1 t)).toInt := by
  have h0 := congrFun h ix0
  unfold Cert.Pre_tiles_of_experts.fn Cert.Pre_tiles_of_experts.fn_part1 at h0
  obtain ⟨h1, hO⟩ := and_one h0
  obtain ⟨h2, hU⟩ := and_one h1
  obtain ⟨hG, hL⟩ := and_one h2
  have hG' : ∀ t : Fin 160, (0 : Int) ≤ (te (ix1 t)).toInt := fun p => IntOp.cmpi_sge.1 (Host.reduce_andi_all _ _ _ _ _ hG (ix1 p))
  have hL' : ∀ t : Fin 160, (te (ix1 t)).toInt < (32 : Int) := fun p => IntOp.cmpi_slt.1 (Host.reduce_andi_all _ _ _ _ _ hL (ix1 p))
  have hU' : (0 : Int) ≤ (nu (ix1 0)).toInt := IntOp.cmpi_sge.1 (Host.reduce_andi_all _ _ _ _ _ hU (ix1 0))
  have hnu : (nu (ix1 0)).toNat < 2 ^ 31 := by
    rw [BitVec.toInt_eq_toNat_cond] at hU'
    split at hU' <;> omega
  refine ⟨fun t => ?_, hnu, fun t ht => ?_⟩
  · have a := hG' t
    have b := hL' t
    rw [BitVec.toInt_eq_toNat_cond] at a b
    split at a <;> omega
  · rcases or_one (Host.reduce_andi_all _ _ _ _ _ hO (ix1 t)) with h3 | h3
    · exfalso
      have h4 : (nu (ix1 0)).toInt ≤ (BitVec.ofNat 32 t.val).toInt := by
        refine IntOp.cmpi_sge.1 (Eq.trans ?_ h3)
        symm
        pointwise
      have htl := t.isLt
      rw [small_toInt (by omega), BitVec.toInt_eq_toNat_of_lt (by omega)] at h4
      omega
    · exact IntOp.cmpi_sgt.1 h3

section
open Cert.Kernel2Ideal Cert.Kernel2Ideal.Hand

/-- The precondition gives what the launch is promised of its tables. -/
theorem tables {F : FTy → Type} [FloatOps F] (m : (ℓ : Loc Cert.Kernel2Ideal.nD Cert.Kernel2Ideal.τ Cert.Kernel2Ideal.sig) → Buf (Elt F) ℓ)
    (h : ∀ c : Dev Cert.Kernel2Ideal.nD, Cert.Pre_tiles_of_experts.fn (F := F) (V m c main_arg0) (V m c main_arg1) (V m c main_arg2)
      (V m c main_arg3) (V m c main_arg4) (V m c main_arg5) (V m c main_arg6) (V m c main_arg7) = fun _ => 1#1) : Tables m :=
  let k := tables_of_pre _ _ _ _ _ _ _ _ (h 0)
  ⟨k.1, k.2.1, k.2.2⟩

/-- Where the mask selects an entry, the launch leaves there what the reference computes. -/
theorem same (m : (ℓ : Loc Cert.Kernel2Ideal.nD Cert.Kernel2Ideal.τ Cert.Kernel2Ideal.sig) → Buf (Elt Ideal) ℓ) (h : Tables m)
    (m' : (ℓ : Loc Cert.Reference2Ideal.nD Cert.Reference2Ideal.τ Cert.Reference2Ideal.sig) → Buf (Elt Ideal) ℓ) (c : Dev Cert.Kernel2Ideal.nD)
    (a0 : m' ((c.tc : Thread Cert.Reference2Ideal.nD Cert.Reference2Ideal.τ).loc Cert.Reference2Ideal.main_arg0) = V m c main_arg0)
    (a3 : m' ((c.tc : Thread Cert.Reference2Ideal.nD Cert.Reference2Ideal.τ).loc Cert.Reference2Ideal.main_arg3) = V m c main_arg3)
    (a4 : m' ((c.tc : Thread Cert.Reference2Ideal.nD Cert.Reference2Ideal.τ).loc Cert.Reference2Ideal.main_arg4) = V m c main_arg4)
    (a5 : m' ((c.tc : Thread Cert.Reference2Ideal.nD Cert.Reference2Ideal.τ).loc Cert.Reference2Ideal.main_arg5) = V m c main_arg5)
    (a6 : m' ((c.tc : Thread Cert.Reference2Ideal.nD Cert.Reference2Ideal.τ).loc Cert.Reference2Ideal.main_arg6) = V m c main_arg6)
    (a7 : m' ((c.tc : Thread Cert.Reference2Ideal.nD Cert.Reference2Ideal.τ).loc Cert.Reference2Ideal.main_arg7) = V m c main_arg7)
    (out : Vec Ideal SX .f32)
    (ho : ∀ (t : Fin 160) (j : S4096x128.Idx), t.val < (nuB m).toNat →
      out (ValueIdx.ix2 ⟨(t.val * 4096 + (j 0).val) % 655360, Nat.mod_lt _ (by norm_num)⟩ (j 1)) = tileOut m c t j)
    (i : SX.Idx)
    (hi : Cert.On_valid_rows.fn (F := Ideal) (V m c main_arg0) (V m c main_arg1) (V m c main_arg2)
      (V m c main_arg3) (V m c main_arg4) (V m c main_arg5) (V m c main_arg6) (V m c main_arg7) i = 1#1) :
    out i = Cert.Reference2Ideal.Value.res_main_v52 m' c i := by
  obtain rfl : c = 0 := Subsingleton.elim _ _
  obtain ⟨a, l, rfl⟩ : ∃ (a : Fin 655360) (l : Fin 128), i = ix2 a l := ⟨i 0, i 1, ValueIdx.eq_ix2 i⟩
  have ha := a.isLt
  obtain ⟨t, r, q, hv⟩ : ∃ (t : Fin 160) (r : Fin 512) (q : Fin 8), a.val = t.val * 4096 + r.val * 8 + q.val :=
    ⟨⟨a.val / 4096, by omega⟩, ⟨a.val / 8 % 512, by omega⟩, ⟨a.val % 8, by omega⟩, by show a.val = a.val / 4096 * 4096 + a.val / 8 % 512 * 8 + a.val % 8; omega⟩
  have hb : t.val * 4096 + r.val * 8 + q.val < 655360 := by
    clear ha hv hi
    omega
  obtain rfl : a = ⟨t.val * 4096 + r.val * 8 + q.val, hb⟩ := Fin.ext hv
  obtain ⟨h1, h2⟩ := valid_at _ _ _ _ _ _ _ _ t r q l hi
  have htl := t.isLt
  have hrl := r.isLt
  have hql := q.isLt
  have ht : t.val < (nuB m).toNat := by
    have h3 := IntOp.cmpi_slt.1 h1
    have hn : ((V m 0 main_arg2 : IVec Cert.Kernel2Ideal.S1 32) (ix1 0)).toNat = (nuB m).toNat := rfl
    have := h.nu_lt
    rw [small_toInt (by omega), BitVec.toInt_eq_toNat_of_lt (by omega)] at h3
    omega
  have hte : ∀ t : Fin 160, ((m' (((0 : Dev Cert.Reference2Ideal.nD).tc : Thread Cert.Reference2Ideal.nD Cert.Reference2Ideal.τ).loc Cert.Reference2Ideal.main_arg0) : IVec Cert.Reference2Ideal.S160 32) (ix1 t)).toNat < 32 := fun t => by
    rw [a0]; exact h.te_lt t
  rw [ref_at m' 0 hte t r q l]
  refine Eq.trans ?_ ((ho t (ix2 ⟨r.val * 8 + q.val, by omega⟩ l) ht).trans ((tileOut_at m h 0 t ht r q l h2).trans ?_))
  · refine congrArg out (funext fun b => Fin.ext ?_)
    fin_cases b
    · show t.val * 4096 + r.val * 8 + q.val = (t.val * 4096 + (r.val * 8 + q.val)) % 655360
      omega
    · rfl
  · have e : (⟨(teB m t).toNat, h.te_lt t⟩ : Fin 32) = ⟨_, hte t⟩ := Fin.ext
      (congrArg (fun v : IVec Cert.Reference2Ideal.S160 32 => (v (ix1 t)).toNat) a0).symm
    rw [← e, a3, a4, a5, a6, a7]

end

end Cert.Proof.Experts

end
-- ==== Proof.Landed.lean ====
/-
  What the scatter leaves: pure facts. A pair `p` (of 65536: tile, choice, token) has a row word `w p`, and its copy lays
  the eight rows of its token down at the rows `[w p, w p + 8)` of the result. `landed` is the result once the first `n`
  pairs have landed. The windows of distinct pairs are disjoint (`Good`), so it does not matter in which order.
-/
module

public import Idealize.ShloMosaic.PureOps
public import Idealize.ShloMosaic.Lib.ValueIdxCore

@[expose] public section

noncomputable section

namespace Cert.Proof.Dispatch

open Idealize.ShloMosaic Idealize.ShloMosaic.ValueIdx

/-- The shapes of the tokens' slabs and of the result. -/
abbrev HS : Shape := ⟨2, ![131072, 128]⟩
abbrev XS : Shape := ⟨2, ![655360, 128]⟩
/-- The shape of the row words. -/
abbrev PS : Shape := ⟨3, ![32, 1, 2048]⟩

/-- What the words must satisfy: each names a slab of eight rows inside the result, no two the same. -/
structure Good (w : ℕ → ℕ) : Prop where
  le : ∀ p, p < 65536 → w p ≤ 655352
  dvd : ∀ p, p < 65536 → 8 ∣ w p
  inj : ∀ p, p < 65536 → ∀ q, q < 65536 → w p = w q → p = q

/-- The word of pair `p`, as a natural. -/
def wordAt (pos : PS.Idx → BitVec 32) (p : ℕ) : ℕ :=
  (pos (ix3 ⟨p / 2048 % 32, Nat.mod_lt _ (by omega)⟩ 0 ⟨p % 2048, Nat.mod_lt _ (by omega)⟩)).toNat

/-- The first row of pair `p`'s token. -/
def tokRow (p : ℕ) : ℕ := (p / 2048 * 512 + p % 512) * 8

/-- Row `r` of pair `p`'s token, lane `l`. -/
def srcIdx (p r : ℕ) (l : Fin 128) : HS.Idx := ix2 ⟨(tokRow p + r) % 131072, Nat.mod_lt _ (by omega)⟩ l

variable {α : Type}

/-- Row `y` is in pair `p`'s window. -/
def InWin (w : ℕ → ℕ) (p : ℕ) (y : XS.Idx) : Prop := w p ≤ (y 0).val ∧ (y 0).val < w p + 8
instance (w : ℕ → ℕ) (p : ℕ) (y : XS.Idx) : Decidable (InWin w p y) := inferInstanceAs (Decidable (_ ∧ _))

open Classical in
/-- The result after the first `n` pairs. -/
def landed (w : ℕ → ℕ) (h3 : HS.Idx → α) (v : XS.Idx → α) (n : ℕ) : XS.Idx → α := fun y =>
  if h : ∃ p, p < n ∧ InWin w p y then h3 (srcIdx h.choose ((y 0).val - w h.choose) (y 1)) else v y

theorem InWin.unique {w : ℕ → ℕ} (hw : Good w) {p q : ℕ} (hp : p < 65536) (hq : q < 65536) {y : XS.Idx}
    (h : InWin w p y) (h' : InWin w q y) : p = q := by
  obtain ⟨a, ha⟩ := hw.dvd p hp
  obtain ⟨b, hb⟩ := hw.dvd q hq
  refine hw.inj p hp q hq ?_
  unfold InWin at h h'; omega

theorem landed_hit {w : ℕ → ℕ} (hw : Good w) (h3 : HS.Idx → α) (v : XS.Idx → α) {n p : ℕ} (hn : n ≤ 65536) (hp : p < n)
    {y : XS.Idx} (h : InWin w p y) : landed w h3 v n y = h3 (srcIdx p ((y 0).val - w p) (y 1)) := by
  have hex : ∃ p, p < n ∧ InWin w p y := ⟨p, hp, h⟩
  have e : hex.choose = p := InWin.unique hw (by have := hex.choose_spec.1; omega) (by omega) hex.choose_spec.2 h
  unfold landed
  rw [dif_pos hex, e]

theorem landed_miss {w : ℕ → ℕ} (h3 : HS.Idx → α) (v : XS.Idx → α) {n : ℕ} {y : XS.Idx}
    (h : ∀ p, p < n → ¬ InWin w p y) : landed w h3 v n y = v y := by
  unfold landed
  rw [dif_neg]
  rintro ⟨p, hp, h'⟩; exact h p hp h'

theorem landed_zero (w : ℕ → ℕ) (h3 : HS.Idx → α) (v : XS.Idx → α) : landed w h3 v 0 = v :=
  funext fun _ => landed_miss h3 v fun _ hp => absurd hp (Nat.not_lt_zero _)

/-- Off the windows of the pairs of a tile, the tile changes nothing. -/
theorem landed_off {w : ℕ → ℕ} (hw : Good w) (h3 : HS.Idx → α) (v : XS.Idx → α) {n n' : ℕ} (hn : n ≤ n') (hn' : n' ≤ 65536) {y : XS.Idx}
    (h : ∀ p, n ≤ p → p < n' → ¬ InWin w p y) : landed w h3 v n' y = landed w h3 v n y := by
  by_cases hex : ∃ p, p < n ∧ InWin w p y
  · obtain ⟨p, hp, hi⟩ := hex
    rw [landed_hit hw h3 v hn' (by omega) hi, landed_hit hw h3 v (by omega) hp hi]
  · rw [landed_miss h3 v, landed_miss h3 v]
    · exact fun p hp hi => hex ⟨p, hp, hi⟩
    · intro p hp hi
      by_cases hlt : p < n
      · exact hex ⟨p, hlt, hi⟩
      · exact h p (by omega) hp hi

/-- The pair that a tile's `j`-th copy serves: token `j / 4` of the tile, choice `j % 4`. -/
def pairOf (t j : ℕ) : ℕ := t * 2048 + (j % 4 * 512 + j / 4)

theorem pairOf_lt {t j : ℕ} (ht : t < 32) (hj : j < 2048) : pairOf t j < (t + 1) * 2048 := by unfold pairOf; omega
theorem pairOf_inj {t j j' : ℕ} (hj : j < 2048) (hj' : j' < 2048) (h : pairOf t j = pairOf t j') : j = j' := by
  unfold pairOf at h; omega
theorem exists_pairOf {t p : ℕ} (h : t * 2048 ≤ p) (h' : p < (t + 1) * 2048) : ∃ j, j < 2048 ∧ pairOf t j = p := by
  obtain ⟨d, rfl⟩ := Nat.exists_eq_add_of_le h
  have hd : d < 2048 := by omega
  refine ⟨d % 512 * 4 + d / 512, by omega, ?_⟩
  unfold pairOf
  rw [show (d % 512 * 4 + d / 512) % 4 = d / 512 by omega, show (d % 512 * 4 + d / 512) / 4 = d % 512 by omega]
  omega
theorem tokRow_pairOf {t j : ℕ} (hj : j < 2048) : tokRow (pairOf t j) = t * 4096 + j / 4 * 8 := by
  unfold tokRow pairOf
  have ha : j % 4 < 4 := by omega
  have hb : j / 4 < 512 := by omega
  generalize j % 4 = a at ha ⊢
  generalize j / 4 = b at hb ⊢
  rw [show (t * 2048 + (a * 512 + b)) / 2048 = t by omega, show (t * 2048 + (a * 512 + b)) % 512 = b by omega]
  omega
theorem wordAt_pairOf (pos : PS.Idx → BitVec 32) {t j : ℕ} (ht : t < 32) (hj : j < 2048) :
    wordAt pos (pairOf t j) = (pos (ix3 ⟨t, ht⟩ 0 ⟨j % 4 * 512 + j / 4, by omega⟩)).toNat := by
  have h1 : pairOf t j / 2048 % 32 = t := by
    unfold pairOf
    have ha : j % 4 < 4 := by omega
    have hb : j / 4 < 512 := by omega
    generalize j % 4 = a at ha ⊢
    generalize j / 4 = b at hb ⊢
    omega
  have h2 : pairOf t j % 2048 = j % 4 * 512 + j / 4 := by
    unfold pairOf
    have ha : j % 4 < 4 := by omega
    have hb : j / 4 < 512 := by omega
    generalize j % 4 = a at ha ⊢
    generalize j / 4 = b at hb ⊢
    omega
  unfold wordAt
  congr 3
  · exact Fin.ext h1
  · exact Fin.ext h2

/-- The elements of pair `p`'s window. -/
def winSet (w : ℕ → ℕ) (p : ℕ) : Finset XS.Idx := Finset.univ.filter (InWin w p)
theorem mem_winSet {w : ℕ → ℕ} {p : ℕ} {y : XS.Idx} : y ∈ winSet w p ↔ InWin w p y := by simp [winSet]

theorem winSet_disjoint {w : ℕ → ℕ} (hw : Good w) {p q : ℕ} (hp : p < 65536) (hq : q < 65536) (h : p ≠ q) :
    Disjoint (winSet w p) (winSet w q) := by
  rw [Finset.disjoint_left]; intro y hy hy'
  exact h (InWin.unique hw hp hq (mem_winSet.mp hy) (mem_winSet.mp hy'))

end Cert.Proof.Dispatch

end
-- ==== Proof.CombineIssue.lean ====
/-
  One copy of the combination's gather. A tile's 2048 copies are in four batches of 512, one counter each; copy `j` brings
  token `j / 4`'s row of its choice `j % 4` to the scratch. `deliv` is what a landed copy hands back: its window of the
  scratch at its final contents, and the read share of the experts' rows that it borrowed. `issue` starts one copy.
-/
module

public import proofs.«01_k».proof.Proof.Landed
public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Batch
public import Idealize.ShloMosaic.Lib.ViewIndex
public import Idealize.ShloMosaic.Lib.ValueLayout
public import Idealize.ShloMosaic.Lib.Ring
public import Idealize.ShloMosaic.Lib.Tactic
public import Idealize.ShloMosaic.Lib.WordCmp

@[expose] public section

set_option maxRecDepth 16384

noncomputable section

namespace Cert.Kernel3Ideal.Hand

open Cert.Kernel3Ideal Cert.Kernel3Ideal.Gen
open Cert.Proof.Dispatch (XS PS wordAt InWin winSet mem_winSet pairOf pairOf_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The user algebra: the pipeline's beside the transfers' counters. -/
local notation "𝕄" => MT nD τ sig Unit (Elt F) ℕ (Pipeline.UD sig nD τ) ℕ

/-- What the words must satisfy: each names a slab of eight rows inside the experts' rows. -/
structure Inside (w : ℕ → ℕ) : Prop where
  le : ∀ p, p < 65536 → w p ≤ 655352
  dvd : ∀ p, p < 65536 → 8 ∣ w p

/-- The experts' rows and the scratch, as memrefs. -/
abbrev rowsM : Memref sig .tc .hbm S655360x128 .f32 := Memref.whole main_arg1
abbrev bufM : Memref sig .tc .vmem S4x4096x128 .f32 := Memref.whole cc0_scratch0

/-- The scratch's window of copy `j`. -/
def InBuf (j : ℕ) (y : S4x4096x128.Idx) : Prop := (y 0).val = j % 4 ∧ j / 4 * 8 ≤ (y 1).val ∧ (y 1).val < j / 4 * 8 + 8
instance (j : ℕ) (y : S4x4096x128.Idx) : Decidable (InBuf j y) := inferInstanceAs (Decidable (_ ∧ _))
def winBuf (j : ℕ) : Finset S4x4096x128.Idx := Finset.univ.filter (InBuf j)
theorem mem_winBuf {j : ℕ} {y : S4x4096x128.Idx} : y ∈ winBuf j ↔ InBuf j y := by simp [winBuf]

theorem winBuf_disjoint {j j' : ℕ} (h : j ≠ j') : Disjoint (winBuf j) (winBuf j') := by
  rw [Finset.disjoint_left]; intro y hy hy'
  obtain ⟨a, b, d⟩ := mem_winBuf.mp hy
  obtain ⟨a', b', d'⟩ := mem_winBuf.mp hy'
  omega

/-- What the scratch holds once tile `t`'s copies have landed: at choice `k`, rows `8 r …`, the eight rows of the pair
    `(t, k, r)`. -/
def gathered {α : Type} (w : ℕ → ℕ) (t : ℕ) (v : XS.Idx → α) : S4x4096x128.Idx → α := fun y =>
  v (ix2 ⟨(w (t * 2048 + ((y 0).val * 512 + (y 1).val / 8)) + (y 1).val % 8) % 655360, Nat.mod_lt _ (by omega)⟩ (y 2))

theorem gathered_at {α : Type} {w : ℕ → ℕ} {t : ℕ} (v : XS.Idx → α) (k : Fin 4) (r : Fin 4096) (l : Fin 128) :
    gathered w t v (ix3 k r l)
      = v (ix2 ⟨(w (t * 2048 + (k.val * 512 + r.val / 8)) + r.val % 8) % 655360, Nat.mod_lt _ (by omega)⟩ l) := rfl

/-- The units that one copy pays: those of an 8 × 128 slab. -/
abbrev NN : ℕ := 128
theorem credit_one : cc0_scratch0.dmaCredit S8x128 .f32 = NN := by decide +kernel
/-- The units that one wait takes: those of 1024 × 128, 128 copies'. -/
theorem credit_wait : cc0_scratch0.dmaCredit S1024x128 .f32 = 128 * NN := by decide +kernel

/-- The window a copy writes, as the kernel spells it. -/
abbrev dstM (off : Fin 3 → ℕ) (inb : ∀ a, off a + S1x8x128.size a ≤ S4x4096x128.size a) : Memref sig .tc .vmem S8x128 .f32 :=
  (bufM.slice (Rect.unit (s := S4x4096x128) off S1x8x128.size inb) (fun _ => rfl)).squeeze S8x128 squeezes_S1x8x128_S8x128
/-- The window a copy reads. -/
abbrev srcM (off : Fin 2 → ℕ) (inb : ∀ a, off a + S8x128.size a ≤ S655360x128.size a) : Memref sig .tc .hbm S8x128 .f32 :=
  rowsM.slice (Rect.unit (s := S655360x128) off S8x128.size inb) (fun _ => rfl)

theorem dstM_emb {off : Fin 3 → ℕ} (inb : ∀ a, off a + S1x8x128.size a ≤ S4x4096x128.size a) (a : Fin 8) (b : Fin 128) :
    (dstM off inb).view.emb (ix2 a b) = (Rect.unit (s := S4x4096x128) off S1x8x128.size inb).emb (ix3 0 a b) := by
  show (Rect.unit (s := S4x4096x128) off S1x8x128.size inb).emb (Shape.reshapeEquiv _ (ix2 a b)) = _
  exact congrArg _ (reshapeEquiv_ix2_1ab _ a b)

theorem dstM_set {j : ℕ} {off : Fin 3 → ℕ} (hoff : off = ![j % 4, j / 4 * 8, 0])
    (inb : ∀ a, off a + S1x8x128.size a ≤ S4x4096x128.size a) : (dstM off inb).view.set = winBuf j := by
  subst hoff
  rw [show (dstM ![j % 4, j / 4 * 8, 0] inb).view.set = (Rect.unit (s := S4x4096x128) ![j % 4, j / 4 * 8, 0] S1x8x128.size inb).set from
    (View.set_reshape _ _).trans (View.set_slice_whole _ _)]
  ext y
  rw [Rect.mem_set_unit, mem_winBuf]
  have h1 : (y 2).val < 128 := (y 2).isLt
  constructor
  · intro H
    have H0 : j % 4 ≤ (y 0).val ∧ (y 0).val < j % 4 + 1 := H 0
    have H1 : j / 4 * 8 ≤ (y 1).val ∧ (y 1).val < j / 4 * 8 + 8 := H 1
    exact ⟨by omega, H1⟩
  · rintro ⟨H0, H1⟩ a; fin_cases a
    · show j % 4 ≤ (y 0).val ∧ (y 0).val < j % 4 + 1; omega
    · exact H1
    · show 0 ≤ (y 2).val ∧ (y 2).val < 0 + 128; omega

theorem srcM_set {w : ℕ → ℕ} {p : ℕ} {off : Fin 2 → ℕ} (hoff : off = ![w p, 0]) (inb : ∀ a, off a + S8x128.size a ≤ S655360x128.size a) :
    (srcM off inb).view.set = winSet w p := by
  subst hoff
  rw [show (srcM ![w p, 0] inb).view.set = (Rect.unit (s := S655360x128) ![w p, 0] S8x128.size inb).set from View.set_slice_whole _ _]
  ext y
  rw [Rect.mem_set_unit, mem_winSet]
  have h1 : (y 1).val < 128 := (y 1).isLt
  constructor
  · intro H; exact H 0
  · intro H a; fin_cases a
    · exact H
    · show 0 ≤ (y 1).val ∧ (y 1).val < 0 + 128; omega

/-- Copy `i` of batch `b`, among the tile's. -/
abbrev copyOf (b i : ℕ) : ℕ := b * 512 + i
/-- The read share that copy `i` of batch `b` borrows. -/
abbrev shareOf (b i : ℕ) : PosShare TreeShare := Transfers.shareTokN (Transfers.shareTokN fullShare b) i

section Batch

variable (c : Dev nD) (w : ℕ → ℕ) (v : XS.Idx → Elt F .f32) (t b : ℕ)

/-- What a landed copy hands back. -/
def deliv (i : Fin 512) : sProp 𝕄 :=
  iprop(((c : Thread nD τ).loc cc0_scratch0 ↦[winBuf (copyOf b i.val)]{fullShare} gathered w t v)
    ∗ ((c : Thread nD τ).loc main_arg1 ↦[winSet w (pairOf t (copyOf b i.val))]{shareOf b i.val} v))

instance deliv_storable (i : Fin 512) : BI.Storable (upEmb : UEmb _ 𝕄) (deliv c w v t b i) := by
  unfold deliv
  have h1 : BI.Storable (upEmb : UEmb _ 𝕄) ((c : Thread nD τ).loc cc0_scratch0 ↦[winBuf (copyOf b i.val)]{fullShare} gathered w t v : sProp 𝕄) := inferInstance
  have h2 : BI.Storable (upEmb : UEmb _ 𝕄) ((c : Thread nD τ).loc main_arg1 ↦[winSet w (pairOf t (copyOf b i.val))]{shareOf b i.val} v : sProp 𝕄) := inferInstance
  infer_instance

/-- The batch on the counter `sm`: `n` copies started, `u` units consumed. -/
abbrev batch (sm : SemLoc sig) (n u : ℕ) : sProp 𝕄 :=
  Transfers.Batch (countersEmb (U := Pipeline.UD sig nD τ)) (c : Thread nD τ) sm () NN (deliv c w v t b) n u

end Batch

/-- What the copy writes is what the scratch is to hold on its window. -/
theorem lands {w : ℕ → ℕ} (hw : Inside w) {v : XS.Idx → Elt F .f32} {t j : ℕ} (ht : t < 32) (hj : j < 2048)
    (fd : S4x4096x128.Idx → Elt F .f32) {off : Fin 3 → ℕ} {off' : Fin 2 → ℕ} (hoff : off = ![j % 4, j / 4 * 8, 0]) (hoff' : off' = ![w (pairOf t j), 0])
    (inb : ∀ a, off a + S1x8x128.size a ≤ S4x4096x128.size a) (inb' : ∀ a, off' a + S8x128.size a ≤ S655360x128.size a)
    (y : S4x4096x128.Idx) (hy : y ∈ winBuf j) :
    (dstM off inb).view.write (Elt F) fd (ReadAs.same.apply ((srcM off' inb').view.read (Elt F) v)) Finset.univ y = gathered w t v y := by
  obtain ⟨hy0, hy1, hy2⟩ := mem_winBuf.mp hy
  have hl : (y 2).val < 128 := (y 2).isLt
  have hp : pairOf t j < 65536 := lt_of_lt_of_le (pairOf_lt ht hj) (by omega)
  have hle := hw.le _ hp
  subst hoff hoff'
  obtain ⟨a, ha⟩ : ∃ a : Fin 8, (y 1).val = j / 4 * 8 + a.val := ⟨⟨(y 1).val - j / 4 * 8, by omega⟩, by show _ = _ + ((y 1).val - j / 4 * 8); omega⟩
  have hx : (dstM ![j % 4, j / 4 * 8, 0] inb).view.emb (ix2 a (⟨(y 2).val, hl⟩ : Fin 128)) = y := by
    rw [dstM_emb]
    funext q; apply Fin.ext; fin_cases q
    · show j % 4 + 1 * 0 = (y 0).val; omega
    · show j / 4 * 8 + 1 * a.val = (y 1).val; omega
    · show 0 + 1 * (y 2).val = (y 2).val; omega
  have e := View.write_emb_of_mem (v := (dstM ![j % 4, j / 4 * 8, 0] inb).view) (Val := Elt F) fd
    (ReadAs.same.apply ((srcM ![w (pairOf t j), 0] inb').view.read (Elt F) v)) (Finset.mem_univ (ix2 a (⟨(y 2).val, hl⟩ : Fin 128)))
  rw [hx] at e
  refine e.trans ?_
  show v ((Rect.unit (s := S655360x128) ![w (pairOf t j), 0] S8x128.size inb').emb (ix2 a (⟨(y 2).val, hl⟩ : Fin 128))) = _
  unfold gathered
  refine congrArg v ?_
  have ha' := a.isLt
  have hpair : t * 2048 + ((y 0).val * 512 + (y 1).val / 8) = pairOf t j := by
    unfold pairOf
    rw [hy0, show (y 1).val / 8 = j / 4 by omega]
  funext q; apply Fin.ext; fin_cases q
  · show w (pairOf t j) + 1 * a.val = (w (t * 2048 + ((y 0).val * 512 + (y 1).val / 8)) + (y 1).val % 8) % 655360
    rw [hpair]; omega
  · show 0 + 1 * (y 2).val = (y 2).val; omega

/-- ONE COPY STARTED: the window of the scratch and the read share go into the batch. -/
theorem issue (c : Dev nD) {α : Type} {w : ℕ → ℕ} (hw : Inside w) {v : XS.Idx → Elt F .f32} {t b i : ℕ} (ht : t < 32) (hb : b < 4)
    (hi : i < 512) (fd : S4x4096x128.Idx → Elt F .f32) {sm : DmaSem sig} {off : Fin 3 → ℕ} {off' : Fin 2 → ℕ}
    (hoff : off = ![copyOf b i % 4, copyOf b i / 4 * 8, 0]) (hoff' : off' = ![w (pairOf t (copyOf b i)), 0])
    {inb : ∀ a, off a + S1x8x128.size a ≤ S4x4096x128.size a} {inb' : ∀ a, off' a + S8x128.size a ≤ S655360x128.size a}
    {h1 h2 h4} {k : PUnit → Prog (TpuEff nD τ sig (Elt F) Λ₀ .tc) α} {Q : α → sProp 𝕄} :
    iprop(((c : Thread nD τ).loc cc0_scratch0 ↦[winBuf (copyOf b i)]{fullShare} fd)
        ∗ ((c : Thread nD τ).loc main_arg1 ↦[winSet w (pairOf t (copyOf b i))]{shareOf b i} v)
        ∗ batch c w v t b (.dma sm) i 0)
      ⊢ iprop((batch c w v t b (.dma sm) (i + 1) 0 -∗ wp frame (wpE (defs₀ (F := F)) Variants.none (c : Thread nD τ) none) Set.univ (k ⟨⟩) Q)
        -∗ wp frame (wpE (defs₀ (F := F)) Variants.none (c : Thread nD τ) none) Set.univ
          (.op (.enqueueDma (srcM off' inb') (.here (dstM off inb)) (.dma sm) h1 h2 h4) k) Q) := by
  have hset := dstM_set hoff inb
  have hsrc := srcM_set (w := w) hoff' inb'
  iintro ⟨Hd, Hs, HB⟩ Hk
  iapply (Transfers.wp_dmaBatch (Lvl := ℕ) (countersEmb (U := Pipeline.UD sig nD τ)) Variants.none (c : Thread nD τ) none
    (src := srcM off' inb') (dst := dstM off inb) (via := ReadAs.same) (hsrc := h1) (hdst := h2) (hsem := h4)
    () NN credit_one
    (Sd := winBuf (copyOf b i)) (by rw [hset]) hi (Nat.zero_le _) (D := deliv c w v t b) (fs := v) (fd := fd)
    (q := shareOf b i) ?_) $$ [Hd Hs HB]
  · unfold deliv
    rw [hsrc]
    refine BI.sep_mono ?_ (fun _ h => h)
    exact Entails.of_eq (pointsTo_congr fun y hy => lands hw ht (by unfold copyOf; omega) fd hoff hoff' inb inb' y hy)
  · rw [hsrc]
    isplitl [Hs]; · iexact Hs
    isplitl [Hd]; · iexact Hd
    iexact HB
  · iexact Hk

end Cert.Kernel3Ideal.Hand

end
-- ==== Proof.CombineTrip.lean ====
/-
  One trip of a gather loop: token `k` of the loop's quarter of the tile, its four copies. Before trip `k` the first `4 k`
  copies of the quarter's batch are under way; the windows and the read shares of the others are still in hand. The four
  loops differ in their quarter and in the counter of their batch.
-/
module

public import proofs.«01_k».proof.Proof.CombineIssue

@[expose] public section

set_option maxRecDepth 16384

noncomputable section

namespace Cert.Kernel3Ideal.Hand

open Cert.Kernel3Ideal Cert.Kernel3Ideal.Gen
open Cert.Proof.Dispatch (XS PS wordAt InWin winSet mem_winSet pairOf pairOf_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The batches' counters. -/
abbrev sem0 : DmaSem sig := ((cc0_scratch1.slice (Rect.unit (s := S4) ![0] S1.size inb_S4_S1_0)).squeeze S_ squeezes_S1_S_).sem
abbrev sem1 : DmaSem sig := ((cc0_scratch1.slice (Rect.unit (s := S4) ![1] S1.size inb_S4_S1_1)).squeeze S_ squeezes_S1_S_).sem
abbrev sem2 : DmaSem sig := ((cc0_scratch1.slice (Rect.unit (s := S4) ![2] S1.size inb_S4_S1_2)).squeeze S_ squeezes_S1_S_).sem
abbrev sem3 : DmaSem sig := ((cc0_scratch1.slice (Rect.unit (s := S4) ![3] S1.size inb_S4_S1_3)).squeeze S_ squeezes_S1_S_).sem

/-- A word of the position tile, read through a one-word window. -/
theorem word_eq {c : Dev nD} {w : ℕ → ℕ} {t : ℕ} {arg1 : Memref sig .tc .smem S1x1x2048 .i32} {f1 : Buf (Elt F) (arg1.view.loc (c : Thread nD τ))}
    (hf1 : ∀ q : Fin 2048, BitVec.toNat (w := 32) (arg1.view.read (Elt F) f1 (ix3 0 0 q)) = w (t * 2048 + q.val))
    {off : Fin 3 → ℕ} {q : ℕ} (hoff : off = ![0, 0, q]) (inb : ∀ a, off a + S1x1x1.size a ≤ S1x1x2048.size a) (x : S1x1x1.Idx) (hq : q < 2048)
    {n : ℕ} (hn : t * 2048 + q = n) :
    BitVec.toNat (w := 32) ((arg1.access (Rect.unit (s := S1x1x2048) off S1x1x1.size inb)).read (Elt F) f1 x) = w n := by
  subst hoff
  show BitVec.toNat (w := 32) (arg1.view.read (Elt F) f1 ((Rect.unit (s := S1x1x2048) ![0, 0, q] S1x1x1.size inb).emb x)) = _
  have x0 : (x 0).val < 1 := (x 0).isLt
  have x1 : (x 1).val < 1 := (x 1).isLt
  have x2 : (x 2).val < 1 := (x 2).isLt
  rw [show (Rect.unit (s := S1x1x2048) ![0, 0, q] S1x1x1.size inb).emb x = ix3 0 0 (⟨q, hq⟩ : Fin 2048) from ?_, hf1]
  · exact congrArg w hn
  · funext a; apply Fin.ext; fin_cases a
    · show 0 + 1 * (x 0).val = 0; omega
    · show 0 + 1 * (x 1).val = 0; omega
    · show q + 1 * (x 2).val = q; omega

/-- A copy's word is fit to be a row. -/
theorem word_ok {w : ℕ → ℕ} (hw : Inside w) {t b i : ℕ} (ht : t < 32) (hb : b < 4) (hi : i < 512) {x : BitVec 32} (hx : x.toNat = w (pairOf t (copyOf b i))) :
    8 ∣ x.toNat ∧ ∀ a : Fin 2, (![x.toNat, 0] : Fin 2 → ℕ) a + S8x128.size a ≤ S655360x128.size a := by
  have hp : pairOf t (copyOf b i) < 65536 := lt_of_lt_of_le (pairOf_lt ht (by unfold copyOf; omega)) (by omega)
  refine ⟨hx ▸ hw.dvd _ hp, fun a => ?_⟩
  have := hw.le _ hp
  fin_cases a
  · show x.toNat + 8 ≤ 655360; omega
  · show 0 + 128 ≤ 128; omega

theorem dst_off {b k q i : ℕ} (hk : k < 128) (hq : q < 4) (hi : i = 4 * k + q) :
    (![q, (b * 128 + k) * 8, 0] : Fin 3 → ℕ) = ![copyOf b i % 4, copyOf b i / 4 * 8, 0] := by
  subst hi
  unfold copyOf
  rw [show (b * 512 + (4 * k + q)) % 4 = q by omega, show (b * 512 + (4 * k + q)) / 4 = b * 128 + k by omega]

theorem pair_at {t b k q i : ℕ} (hk : k < 128) (hq : q < 4) (hi : i = 4 * k + q) : t * 2048 + (q * 512 + b * 128 + k) = pairOf t (copyOf b i) := by
  subst hi
  unfold pairOf copyOf
  rw [show (b * 512 + (4 * k + q)) % 4 = q by omega, show (b * 512 + (4 * k + q)) / 4 = b * 128 + k by omega]
  omega

section Trip

variable (c : Dev nD) (w : ℕ → ℕ) (v : XS.Idx → Elt F .f32) (t b : ℕ) (g : S4x4096x128.Idx → Elt F .f32)
  (arg1 : Memref sig .tc .smem S1x1x2048 .i32) (f1 : Buf (Elt F) (arg1.view.loc (c : Thread nD τ)))

/-- Copy `i`'s window of the scratch and its read share, before it starts. -/
abbrev item (i : Fin 512) : sProp 𝕄 :=
  iprop(((c : Thread nD τ).loc cc0_scratch0 ↦[winBuf (copyOf b i.val)]{fullShare} g)
    ∗ ((c : Thread nD τ).loc main_arg1 ↦[winSet w (pairOf t (copyOf b i.val))]{shareOf b i.val} v))

/-- Before trip `k`. -/
def issueInv (sm : DmaSem sig) (k : ℕ) (_ : Unit) : sProp 𝕄 :=
  iprop(batch c w v t b (.dma sm) (4 * k) 0 ∗ bigSep (Ring.rangeSet 512 (4 * k) 512) (item c w v t b g)
    ∗ (arg1.view.loc (c : Thread nD τ) ↦{fullShare} f1))

variable {w v t b g arg1 f1}

theorem trips1 : k0_t1_loop.trips = 128 := by decide +kernel
theorem off1_eq : ∀ k : Fin k0_t1_loop.trips, k0_off1 k = ![0, 0, 0 * 512 + 0 * 128 + k.val] := by decide +kernel
theorem off2_eq : ∀ k : Fin k0_t1_loop.trips, k0_off2 k = ![0, (0 * 128 + k.val) * 8, 0] := by decide +kernel
theorem off4_eq : ∀ k : Fin k0_t1_loop.trips, k0_off4 k = ![0, 0, 1 * 512 + 0 * 128 + k.val] := by decide +kernel
theorem off5_eq : ∀ k : Fin k0_t1_loop.trips, k0_off5 k = ![1, (0 * 128 + k.val) * 8, 0] := by decide +kernel
theorem off7_eq : ∀ k : Fin k0_t1_loop.trips, k0_off7 k = ![0, 0, 2 * 512 + 0 * 128 + k.val] := by decide +kernel
theorem off8_eq : ∀ k : Fin k0_t1_loop.trips, k0_off8 k = ![2, (0 * 128 + k.val) * 8, 0] := by decide +kernel
theorem off10_eq : ∀ k : Fin k0_t1_loop.trips, k0_off10 k = ![0, 0, 3 * 512 + 0 * 128 + k.val] := by decide +kernel
theorem off11_eq : ∀ k : Fin k0_t1_loop.trips, k0_off11 k = ![3, (0 * 128 + k.val) * 8, 0] := by decide +kernel

theorem trip1 (hw : Inside w) (ht : t < 32) (i : grid0.Coords) (harg1 : arg1.IsWhole)
    (arg3 : Memref sig .tc .vmem S512x1024 .f32) (harg3 : arg3.IsWhole) (arg4 : Memref sig .tc .vmem S512x128 .f32) (harg4 : arg4.IsWhole)
    (arg5 : Memref sig .tc .vmem S512x1024 .f32) (harg5 : arg5.IsWhole)
    (hf1 : ∀ q : Fin 2048, BitVec.toNat (w := 32) (arg1.view.read (Elt F) f1 (ix3 0 0 q)) = w (t * 2048 + q.val))
    (k : Fin k0_t1_loop.trips) (acc : Unit) :
    issueInv c w v t 0 g arg1 f1 sem0 k acc ⊢ wp frame (wpE (defs₀ (F := F)) Variants.none (c : Thread nD τ) none) Set.univ
      (k0_t1_body (F := F) i arg1 harg1 rowsM (Memref.isWhole_whole _) arg3 harg3 arg4 harg4 arg5 harg5 bufM (Memref.isWhole_whole _) cc0_scratch1 k acc)
      (issueInv c w v t 0 g arg1 f1 sem0 (k.val + 1)) := by
  have hk : k.val < 128 := lt_of_lt_of_eq k.isLt trips1
  unfold issueInv
  rw [Ring.bigSep_rangeSet_head (Φ := item c w v t 0 g) (lo := 4 * k.val) (by omega) (by omega),
    Ring.bigSep_rangeSet_head (Φ := item c w v t 0 g) (lo := 4 * k.val + 1) (by omega) (by omega),
    Ring.bigSep_rangeSet_head (Φ := item c w v t 0 g) (lo := 4 * k.val + 1 + 1) (by omega) (by omega),
    Ring.bigSep_rangeSet_head (Φ := item c w v t 0 g) (lo := 4 * k.val + 1 + 1 + 1) (by omega) (by omega),
    show 4 * (k.val + 1) = 4 * k.val + 1 + 1 + 1 + 1 by omega]
  iintro ⟨HB, ⟨⟨Hd0, Hs0⟩, ⟨Hd1, Hs1⟩, ⟨Hd2, Hs2⟩, ⟨Hd3, Hs3⟩, Hrest⟩, H1⟩
  sl_unfold [k0_t1_body]
  rw [k0_part1_eq_skeleton]
  sl_unfold [k0_part1_skel]
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x1x2048) (k0_off1 k) S1x1x1.size (k0_off1_inb k)) (f := f1) (S := Finset.univ) (Finset.subset_univ _)) $$ H1
  iintro H1
  generalize hx0 : ((arg1.access (Rect.unit (s := S1x1x2048) (k0_off1 k) S1x1x1.size (k0_off1_inb k))).read (Elt F) f1 _) = x0
  have hv0 : x0.toNat = w (pairOf t (copyOf 0 (4 * k.val))) := by
    rw [← hx0]; exact word_eq hf1 (off1_eq k) _ _ (by omega) (pair_at (q := 0) hk (by omega) (by omega))
  iapply (wp_assume Variants.none (c : Thread nD τ) none Set.univ (show k0_chk1 x0 from word_ok (b := 0) hw ht (by omega) (by omega) hv0))
  iapply (issue c hw ht (b := 0) (i := 4 * k.val) (by omega) (by omega) _ (off := k0_off2 k) (off' := k0_off3 x0)
    ((off2_eq k).trans (dst_off hk (by omega) (by omega))) (congrArg (fun n : ℕ => (![n, 0] : Fin 2 → ℕ)) hv0)) $$ [Hd0 Hs0 HB]
  · isplitl [Hd0]; · iexact Hd0
    isplitl [Hs0]; · iexact Hs0
    iexact HB
  iintro HB
  iapply (wp_load_rect Variants.none (c : Thread nD τ) none Set.univ (m := arg1) (r := Rect.unit (s := S1x1x2048) (k0_off4 k) S1x1x1.size (k0_off4_inb k)) (f := f1) (S := Finset.univ) (Finset.subset_univ _)) $$ H1
  iintro H1
  generalize hx1 : ((arg1.access (Rect.unit (s := S1x1x2048) (k0_off4 k) S1x1x1.size (k0_off4_inb k))).read (Elt F) f1 _) = x1
  have hv1 : x1.toNat = w (pairOf t (copyOf 0 (4 * k.val + 1))) := by
    rw [← hx1]; exact word_eq hf1 (off4_eq k) _ _ (by omega) (pair_at (q := 1) hk (by omega) (by omega))
  iapply (wp_assume Variants.none (c : Thread nD τ) none Set.univ (show k0_chk2 x1 from word_ok (b := 0) hw ht (by omega) (by omega) hv1))
  iapply (issue c hw ht (b := 0) (i := 4 * k.val + 1) (by omega) (by omega) _ (off := k0_off5 k) (off' := k0_off6 x1)
    ((off5_eq k).trans (dst_off hk (by omega) (by omega))) (congrArg (fun n : ℕ => (![n, 0] : Fin 2 → ℕ)) hv1)) $$ [Hd1 Hs1 HB]
  · isplitl [Hd1]; · iexact Hd1
    isplitl [Hs1]; · iexact Hs1
    iexact HB
  iintro HB
  iapply (wp_load_rect Variants.none (c : Thread nD τ) none Set.univ (m := arg1) (r := Rect.unit (s := S1x1x2048) (k0_off7 k) S1x1x1.size (k0_off7_inb k)) (f := f1) (S := Finset.univ) (Finset.subset_univ _)) $$ H1
  iintro H1
  generalize hx2 : ((arg1.access (Rect.unit (s := S1x1x2048) (k0_off7 k) S1x1x1.size (k0_off7_inb k))).read (Elt F) f1 _) = x2
  have hv2 : x2.toNat = w (pairOf t (copyOf 0 (4 * k.val + 1 + 1))) := by
    rw [← hx2]; exact word_eq hf1 (off7_eq k) _ _ (by omega) (pair_at (q := 2) hk (by omega) (by omega))
  iapply (wp_assume Variants.none (c : Thread nD τ) none Set.univ (show k0_chk3 x2 from word_ok (b := 0) hw ht (by omega) (by omega) hv2))
  iapply (issue c hw ht (b := 0) (i := 4 * k.val + 1 + 1) (by omega) (by omega) _ (off := k0_off8 k) (off' := k0_off9 x2)
    ((off8_eq k).trans (dst_off hk (by omega) (by omega))) (congrArg (fun n : ℕ => (![n, 0] : Fin 2 → ℕ)) hv2)) $$ [Hd2 Hs2 HB]
  · isplitl [Hd2]; · iexact Hd2
    isplitl [Hs2]; · iexact Hs2
    iexact HB
  iintro HB
  iapply (wp_load_rect Variants.none (c : Thread nD τ) none Set.univ (m := arg1) (r := Rect.unit (s := S1x1x2048) (k0_off10 k) S1x1x1.size (k0_off10_inb k)) (f := f1) (S := Finset.univ) (Finset.subset_univ _)) $$ H1
  iintro H1
  generalize hx3 : ((arg1.access (Rect.unit (s := S1x1x2048) (k0_off10 k) S1x1x1.size (k0_off10_inb k))).read (Elt F) f1 _) = x3
  have hv3 : x3.toNat = w (pairOf t (copyOf 0 (4 * k.val + 1 + 1 + 1))) := by
    rw [← hx3]; exact word_eq hf1 (off10_eq k) _ _ (by omega) (pair_at (q := 3) hk (by omega) (by omega))
  iapply (wp_assume Variants.none (c : Thread nD τ) none Set.univ (show k0_chk4 x3 from word_ok (b := 0) hw ht (by omega) (by omega) hv3))
  iapply (issue c hw ht (b := 0) (i := 4 * k.val + 1 + 1 + 1) (by omega) (by omega) _ (off := k0_off11 k) (off' := k0_off12 x3)
    ((off11_eq k).trans (dst_off hk (by omega) (by omega))) (congrArg (fun n : ℕ => (![n, 0] : Fin 2 → ℕ)) hv3)) $$ [Hd3 Hs3 HB]
  · isplitl [Hd3]; · iexact Hd3
    isplitl [Hs3]; · iexact Hs3
    iexact HB
  iintro HB
  sl_step
  isplitl [HB]; · iexact HB
  isplitl [Hrest]; · iexact Hrest
  iexact H1

theorem trips2 : k0_t2_loop.trips = 128 := by decide +kernel
theorem off13_eq : ∀ k : Fin k0_t2_loop.trips, k0_off13 k = ![0, 0, 0 * 512 + 1 * 128 + k.val] := by decide +kernel
theorem off14_eq : ∀ k : Fin k0_t2_loop.trips, k0_off14 k = ![0, (1 * 128 + k.val) * 8, 0] := by decide +kernel
theorem off16_eq : ∀ k : Fin k0_t2_loop.trips, k0_off16 k = ![0, 0, 1 * 512 + 1 * 128 + k.val] := by decide +kernel
theorem off17_eq : ∀ k : Fin k0_t2_loop.trips, k0_off17 k = ![1, (1 * 128 + k.val) * 8, 0] := by decide +kernel
theorem off19_eq : ∀ k : Fin k0_t2_loop.trips, k0_off19 k = ![0, 0, 2 * 512 + 1 * 128 + k.val] := by decide +kernel
theorem off20_eq : ∀ k : Fin k0_t2_loop.trips, k0_off20 k = ![2, (1 * 128 + k.val) * 8, 0] := by decide +kernel
theorem off22_eq : ∀ k : Fin k0_t2_loop.trips, k0_off22 k = ![0, 0, 3 * 512 + 1 * 128 + k.val] := by decide +kernel
theorem off23_eq : ∀ k : Fin k0_t2_loop.trips, k0_off23 k = ![3, (1 * 128 + k.val) * 8, 0] := by decide +kernel

theorem trip2 (hw : Inside w) (ht : t < 32) (i : grid0.Coords) (harg1 : arg1.IsWhole)
    (arg3 : Memref sig .tc .vmem S512x1024 .f32) (harg3 : arg3.IsWhole) (arg4 : Memref sig .tc .vmem S512x128 .f32) (harg4 : arg4.IsWhole)
    (arg5 : Memref sig .tc .vmem S512x1024 .f32) (harg5 : arg5.IsWhole)
    (hf1 : ∀ q : Fin 2048, BitVec.toNat (w := 32) (arg1.view.read (Elt F) f1 (ix3 0 0 q)) = w (t * 2048 + q.val))
    (k : Fin k0_t2_loop.trips) (acc : Unit) :
    issueInv c w v t 1 g arg1 f1 sem1 k acc ⊢ wp frame (wpE (defs₀ (F := F)) Variants.none (c : Thread nD τ) none) Set.univ
      (k0_t2_body (F := F) i arg1 harg1 rowsM (Memref.isWhole_whole _) arg3 harg3 arg4 harg4 arg5 harg5 bufM (Memref.isWhole_whole _) cc0_scratch1 k acc)
      (issueInv c w v t 1 g arg1 f1 sem1 (k.val + 1)) := by
  have hk : k.val < 128 := lt_of_lt_of_eq k.isLt trips2
  unfold issueInv
  rw [Ring.bigSep_rangeSet_head (Φ := item c w v t 1 g) (lo := 4 * k.val) (by omega) (by omega),
    Ring.bigSep_rangeSet_head (Φ := item c w v t 1 g) (lo := 4 * k.val + 1) (by omega) (by omega),
    Ring.bigSep_rangeSet_head (Φ := item c w v t 1 g) (lo := 4 * k.val + 1 + 1) (by omega) (by omega),
    Ring.bigSep_rangeSet_head (Φ := item c w v t 1 g) (lo := 4 * k.val + 1 + 1 + 1) (by omega) (by omega),
    show 4 * (k.val + 1) = 4 * k.val + 1 + 1 + 1 + 1 by omega]
  iintro ⟨HB, ⟨⟨Hd0, Hs0⟩, ⟨Hd1, Hs1⟩, ⟨Hd2, Hs2⟩, ⟨Hd3, Hs3⟩, Hrest⟩, H1⟩
  sl_unfold [k0_t2_body]
  rw [k0_part2_eq_skeleton]
  sl_unfold [k0_part2_skel]
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x1x2048) (k0_off13 k) S1x1x1.size (k0_off13_inb k)) (f := f1) (S := Finset.univ) (Finset.subset_univ _)) $$ H1
  iintro H1
  generalize hx0 : ((arg1.access (Rect.unit (s := S1x1x2048) (k0_off13 k) S1x1x1.size (k0_off13_inb k))).read (Elt F) f1 _) = x0
  have hv0 : x0.toNat = w (pairOf t (copyOf 1 (4 * k.val))) := by
    rw [← hx0]; exact word_eq hf1 (off13_eq k) _ _ (by omega) (pair_at (q := 0) hk (by omega) (by omega))
  iapply (wp_assume Variants.none (c : Thread nD τ) none Set.univ (show k0_chk5 x0 from word_ok (b := 1) hw ht (by omega) (by omega) hv0))
  iapply (issue c hw ht (b := 1) (i := 4 * k.val) (by omega) (by omega) _ (off := k0_off14 k) (off' := k0_off15 x0)
    ((off14_eq k).trans (dst_off hk (by omega) (by omega))) (congrArg (fun n : ℕ => (![n, 0] : Fin 2 → ℕ)) hv0)) $$ [Hd0 Hs0 HB]
  · isplitl [Hd0]; · iexact Hd0
    isplitl [Hs0]; · iexact Hs0
    iexact HB
  iintro HB
  iapply (wp_load_rect Variants.none (c : Thread nD τ) none Set.univ (m := arg1) (r := Rect.unit (s := S1x1x2048) (k0_off16 k) S1x1x1.size (k0_off16_inb k)) (f := f1) (S := Finset.univ) (Finset.subset_univ _)) $$ H1
  iintro H1
  generalize hx1 : ((arg1.access (Rect.unit (s := S1x1x2048) (k0_off16 k) S1x1x1.size (k0_off16_inb k))).read (Elt F) f1 _) = x1
  have hv1 : x1.toNat = w (pairOf t (copyOf 1 (4 * k.val + 1))) := by
    rw [← hx1]; exact word_eq hf1 (off16_eq k) _ _ (by omega) (pair_at (q := 1) hk (by omega) (by omega))
  iapply (wp_assume Variants.none (c : Thread nD τ) none Set.univ (show k0_chk6 x1 from word_ok (b := 1) hw ht (by omega) (by omega) hv1))
  iapply (issue c hw ht (b := 1) (i := 4 * k.val + 1) (by omega) (by omega) _ (off := k0_off17 k) (off' := k0_off18 x1)
    ((off17_eq k).trans (dst_off hk (by omega) (by omega))) (congrArg (fun n : ℕ => (![n, 0] : Fin 2 → ℕ)) hv1)) $$ [Hd1 Hs1 HB]
  · isplitl [Hd1]; · iexact Hd1
    isplitl [Hs1]; · iexact Hs1
    iexact HB
  iintro HB
  iapply (wp_load_rect Variants.none (c : Thread nD τ) none Set.univ (m := arg1) (r := Rect.unit (s := S1x1x2048) (k0_off19 k) S1x1x1.size (k0_off19_inb k)) (f := f1) (S := Finset.univ) (Finset.subset_univ _)) $$ H1
  iintro H1
  generalize hx2 : ((arg1.access (Rect.unit (s := S1x1x2048) (k0_off19 k) S1x1x1.size (k0_off19_inb k))).read (Elt F) f1 _) = x2
  have hv2 : x2.toNat = w (pairOf t (copyOf 1 (4 * k.val + 1 + 1))) := by
    rw [← hx2]; exact word_eq hf1 (off19_eq k) _ _ (by omega) (pair_at (q := 2) hk (by omega) (by omega))
  iapply (wp_assume Variants.none (c : Thread nD τ) none Set.univ (show k0_chk7 x2 from word_ok (b := 1) hw ht (by omega) (by omega) hv2))
  iapply (issue c hw ht (b := 1) (i := 4 * k.val + 1 + 1) (by omega) (by omega) _ (off := k0_off20 k) (off' := k0_off21 x2)
    ((off20_eq k).trans (dst_off hk (by omega) (by omega))) (congrArg (fun n : ℕ => (![n, 0] : Fin 2 → ℕ)) hv2)) $$ [Hd2 Hs2 HB]
  · isplitl [Hd2]; · iexact Hd2
    isplitl [Hs2]; · iexact Hs2
    iexact HB
  iintro HB
  iapply (wp_load_rect Variants.none (c : Thread nD τ) none Set.univ (m := arg1) (r := Rect.unit (s := S1x1x2048) (k0_off22 k) S1x1x1.size (k0_off22_inb k)) (f := f1) (S := Finset.univ) (Finset.subset_univ _)) $$ H1
  iintro H1
  generalize hx3 : ((arg1.access (Rect.unit (s := S1x1x2048) (k0_off22 k) S1x1x1.size (k0_off22_inb k))).read (Elt F) f1 _) = x3
  have hv3 : x3.toNat = w (pairOf t (copyOf 1 (4 * k.val + 1 + 1 + 1))) := by
    rw [← hx3]; exact word_eq hf1 (off22_eq k) _ _ (by omega) (pair_at (q := 3) hk (by omega) (by omega))
  iapply (wp_assume Variants.none (c : Thread nD τ) none Set.univ (show k0_chk8 x3 from word_ok (b := 1) hw ht (by omega) (by omega) hv3))
  iapply (issue c hw ht (b := 1) (i := 4 * k.val + 1 + 1 + 1) (by omega) (by omega) _ (off := k0_off23 k) (off' := k0_off24 x3)
    ((off23_eq k).trans (dst_off hk (by omega) (by omega))) (congrArg (fun n : ℕ => (![n, 0] : Fin 2 → ℕ)) hv3)) $$ [Hd3 Hs3 HB]
  · isplitl [Hd3]; · iexact Hd3
    isplitl [Hs3]; · iexact Hs3
    iexact HB
  iintro HB
  sl_step
  isplitl [HB]; · iexact HB
  isplitl [Hrest]; · iexact Hrest
  iexact H1

theorem trips3 : k0_t3_loop.trips = 128 := by decide +kernel
theorem off25_eq : ∀ k : Fin k0_t3_loop.trips, k0_off25 k = ![0, 0, 0 * 512 + 2 * 128 + k.val] := by decide +kernel
theorem off26_eq : ∀ k : Fin k0_t3_loop.trips, k0_off26 k = ![0, (2 * 128 + k.val) * 8, 0] := by decide +kernel
theorem off28_eq : ∀ k : Fin k0_t3_loop.trips, k0_off28 k = ![0, 0, 1 * 512 + 2 * 128 + k.val] := by decide +kernel
theorem off29_eq : ∀ k : Fin k0_t3_loop.trips, k0_off29 k = ![1, (2 * 128 + k.val) * 8, 0] := by decide +kernel
theorem off31_eq : ∀ k : Fin k0_t3_loop.trips, k0_off31 k = ![0, 0, 2 * 512 + 2 * 128 + k.val] := by decide +kernel
theorem off32_eq : ∀ k : Fin k0_t3_loop.trips, k0_off32 k = ![2, (2 * 128 + k.val) * 8, 0] := by decide +kernel
theorem off34_eq : ∀ k : Fin k0_t3_loop.trips, k0_off34 k = ![0, 0, 3 * 512 + 2 * 128 + k.val] := by decide +kernel
theorem off35_eq : ∀ k : Fin k0_t3_loop.trips, k0_off35 k = ![3, (2 * 128 + k.val) * 8, 0] := by decide +kernel

theorem trip3 (hw : Inside w) (ht : t < 32) (i : grid0.Coords) (harg1 : arg1.IsWhole)
    (arg3 : Memref sig .tc .vmem S512x1024 .f32) (harg3 : arg3.IsWhole) (arg4 : Memref sig .tc .vmem S512x128 .f32) (harg4 : arg4.IsWhole)
    (arg5 : Memref sig .tc .vmem S512x1024 .f32) (harg5 : arg5.IsWhole)
    (hf1 : ∀ q : Fin 2048, BitVec.toNat (w := 32) (arg1.view.read (Elt F) f1 (ix3 0 0 q)) = w (t * 2048 + q.val))
    (k : Fin k0_t3_loop.trips) (acc : Unit) :
    issueInv c w v t 2 g arg1 f1 sem2 k acc ⊢ wp frame (wpE (defs₀ (F := F)) Variants.none (c : Thread nD τ) none) Set.univ
      (k0_t3_body (F := F) i arg1 harg1 rowsM (Memref.isWhole_whole _) arg3 harg3 arg4 harg4 arg5 harg5 bufM (Memref.isWhole_whole _) cc0_scratch1 k acc)
      (issueInv c w v t 2 g arg1 f1 sem2 (k.val + 1)) := by
  have hk : k.val < 128 := lt_of_lt_of_eq k.isLt trips3
  unfold issueInv
  rw [Ring.bigSep_rangeSet_head (Φ := item c w v t 2 g) (lo := 4 * k.val) (by omega) (by omega),
    Ring.bigSep_rangeSet_head (Φ := item c w v t 2 g) (lo := 4 * k.val + 1) (by omega) (by omega),
    Ring.bigSep_rangeSet_head (Φ := item c w v t 2 g) (lo := 4 * k.val + 1 + 1) (by omega) (by omega),
    Ring.bigSep_rangeSet_head (Φ := item c w v t 2 g) (lo := 4 * k.val + 1 + 1 + 1) (by omega) (by omega),
    show 4 * (k.val + 1) = 4 * k.val + 1 + 1 + 1 + 1 by omega]
  iintro ⟨HB, ⟨⟨Hd0, Hs0⟩, ⟨Hd1, Hs1⟩, ⟨Hd2, Hs2⟩, ⟨Hd3, Hs3⟩, Hrest⟩, H1⟩
  sl_unfold [k0_t3_body]
  rw [k0_part3_eq_skeleton]
  sl_unfold [k0_part3_skel]
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x1x2048) (k0_off25 k) S1x1x1.size (k0_off25_inb k)) (f := f1) (S := Finset.univ) (Finset.subset_univ _)) $$ H1
  iintro H1
  generalize hx0 : ((arg1.access (Rect.unit (s := S1x1x2048) (k0_off25 k) S1x1x1.size (k0_off25_inb k))).read (Elt F) f1 _) = x0
  have hv0 : x0.toNat = w (pairOf t (copyOf 2 (4 * k.val))) := by
    rw [← hx0]; exact word_eq hf1 (off25_eq k) _ _ (by omega) (pair_at (q := 0) hk (by omega) (by omega))
  iapply (wp_assume Variants.none (c : Thread nD τ) none Set.univ (show k0_chk9 x0 from word_ok (b := 2) hw ht (by omega) (by omega) hv0))
  iapply (issue c hw ht (b := 2) (i := 4 * k.val) (by omega) (by omega) _ (off := k0_off26 k) (off' := k0_off27 x0)
    ((off26_eq k).trans (dst_off hk (by omega) (by omega))) (congrArg (fun n : ℕ => (![n, 0] : Fin 2 → ℕ)) hv0)) $$ [Hd0 Hs0 HB]
  · isplitl [Hd0]; · iexact Hd0
    isplitl [Hs0]; · iexact Hs0
    iexact HB
  iintro HB
  iapply (wp_load_rect Variants.none (c : Thread nD τ) none Set.univ (m := arg1) (r := Rect.unit (s := S1x1x2048) (k0_off28 k) S1x1x1.size (k0_off28_inb k)) (f := f1) (S := Finset.univ) (Finset.subset_univ _)) $$ H1
  iintro H1
  generalize hx1 : ((arg1.access (Rect.unit (s := S1x1x2048) (k0_off28 k) S1x1x1.size (k0_off28_inb k))).read (Elt F) f1 _) = x1
  have hv1 : x1.toNat = w (pairOf t (copyOf 2 (4 * k.val + 1))) := by
    rw [← hx1]; exact word_eq hf1 (off28_eq k) _ _ (by omega) (pair_at (q := 1) hk (by omega) (by omega))
  iapply (wp_assume Variants.none (c : Thread nD τ) none Set.univ (show k0_chk10 x1 from word_ok (b := 2) hw ht (by omega) (by omega) hv1))
  iapply (issue c hw ht (b := 2) (i := 4 * k.val + 1) (by omega) (by omega) _ (off := k0_off29 k) (off' := k0_off30 x1)
    ((off29_eq k).trans (dst_off hk (by omega) (by omega))) (congrArg (fun n : ℕ => (![n, 0] : Fin 2 → ℕ)) hv1)) $$ [Hd1 Hs1 HB]
  · isplitl [Hd1]; · iexact Hd1
    isplitl [Hs1]; · iexact Hs1
    iexact HB
  iintro HB
  iapply (wp_load_rect Variants.none (c : Thread nD τ) none Set.univ (m := arg1) (r := Rect.unit (s := S1x1x2048) (k0_off31 k) S1x1x1.size (k0_off31_inb k)) (f := f1) (S := Finset.univ) (Finset.subset_univ _)) $$ H1
  iintro H1
  generalize hx2 : ((arg1.access (Rect.unit (s := S1x1x2048) (k0_off31 k) S1x1x1.size (k0_off31_inb k))).read (Elt F) f1 _) = x2
  have hv2 : x2.toNat = w (pairOf t (copyOf 2 (4 * k.val + 1 + 1))) := by
    rw [← hx2]; exact word_eq hf1 (off31_eq k) _ _ (by omega) (pair_at (q := 2) hk (by omega) (by omega))
  iapply (wp_assume Variants.none (c : Thread nD τ) none Set.univ (show k0_chk11 x2 from word_ok (b := 2) hw ht (by omega) (by omega) hv2))
  iapply (issue c hw ht (b := 2) (i := 4 * k.val + 1 + 1) (by omega) (by omega) _ (off := k0_off32 k) (off' := k0_off33 x2)
    ((off32_eq k).trans (dst_off hk (by omega) (by omega))) (congrArg (fun n : ℕ => (![n, 0] : Fin 2 → ℕ)) hv2)) $$ [Hd2 Hs2 HB]
  · isplitl [Hd2]; · iexact Hd2
    isplitl [Hs2]; · iexact Hs2
    iexact HB
  iintro HB
  iapply (wp_load_rect Variants.none (c : Thread nD τ) none Set.univ (m := arg1) (r := Rect.unit (s := S1x1x2048) (k0_off34 k) S1x1x1.size (k0_off34_inb k)) (f := f1) (S := Finset.univ) (Finset.subset_univ _)) $$ H1
  iintro H1
  generalize hx3 : ((arg1.access (Rect.unit (s := S1x1x2048) (k0_off34 k) S1x1x1.size (k0_off34_inb k))).read (Elt F) f1 _) = x3
  have hv3 : x3.toNat = w (pairOf t (copyOf 2 (4 * k.val + 1 + 1 + 1))) := by
    rw [← hx3]; exact word_eq hf1 (off34_eq k) _ _ (by omega) (pair_at (q := 3) hk (by omega) (by omega))
  iapply (wp_assume Variants.none (c : Thread nD τ) none Set.univ (show k0_chk12 x3 from word_ok (b := 2) hw ht (by omega) (by omega) hv3))
  iapply (issue c hw ht (b := 2) (i := 4 * k.val + 1 + 1 + 1) (by omega) (by omega) _ (off := k0_off35 k) (off' := k0_off36 x3)
    ((off35_eq k).trans (dst_off hk (by omega) (by omega))) (congrArg (fun n : ℕ => (![n, 0] : Fin 2 → ℕ)) hv3)) $$ [Hd3 Hs3 HB]
  · isplitl [Hd3]; · iexact Hd3
    isplitl [Hs3]; · iexact Hs3
    iexact HB
  iintro HB
  sl_step
  isplitl [HB]; · iexact HB
  isplitl [Hrest]; · iexact Hrest
  iexact H1

theorem trips4 : k0_t4_loop.trips = 128 := by decide +kernel
theorem off37_eq : ∀ k : Fin k0_t4_loop.trips, k0_off37 k = ![0, 0, 0 * 512 + 3 * 128 + k.val] := by decide +kernel
theorem off38_eq : ∀ k : Fin k0_t4_loop.trips, k0_off38 k = ![0, (3 * 128 + k.val) * 8, 0] := by decide +kernel
theorem off40_eq : ∀ k : Fin k0_t4_loop.trips, k0_off40 k = ![0, 0, 1 * 512 + 3 * 128 + k.val] := by decide +kernel
theorem off41_eq : ∀ k : Fin k0_t4_loop.trips, k0_off41 k = ![1, (3 * 128 + k.val) * 8, 0] := by decide +kernel
theorem off43_eq : ∀ k : Fin k0_t4_loop.trips, k0_off43 k = ![0, 0, 2 * 512 + 3 * 128 + k.val] := by decide +kernel
theorem off44_eq : ∀ k : Fin k0_t4_loop.trips, k0_off44 k = ![2, (3 * 128 + k.val) * 8, 0] := by decide +kernel
theorem off46_eq : ∀ k : Fin k0_t4_loop.trips, k0_off46 k = ![0, 0, 3 * 512 + 3 * 128 + k.val] := by decide +kernel
theorem off47_eq : ∀ k : Fin k0_t4_loop.trips, k0_off47 k = ![3, (3 * 128 + k.val) * 8, 0] := by decide +kernel

theorem trip4 (hw : Inside w) (ht : t < 32) (i : grid0.Coords) (harg1 : arg1.IsWhole)
    (arg3 : Memref sig .tc .vmem S512x1024 .f32) (harg3 : arg3.IsWhole) (arg4 : Memref sig .tc .vmem S512x128 .f32) (harg4 : arg4.IsWhole)
    (arg5 : Memref sig .tc .vmem S512x1024 .f32) (harg5 : arg5.IsWhole)
    (hf1 : ∀ q : Fin 2048, BitVec.toNat (w := 32) (arg1.view.read (Elt F) f1 (ix3 0 0 q)) = w (t * 2048 + q.val))
    (k : Fin k0_t4_loop.trips) (acc : Unit) :
    issueInv c w v t 3 g arg1 f1 sem3 k acc ⊢ wp frame (wpE (defs₀ (F := F)) Variants.none (c : Thread nD τ) none) Set.univ
      (k0_t4_body (F := F) i arg1 harg1 rowsM (Memref.isWhole_whole _) arg3 harg3 arg4 harg4 arg5 harg5 bufM (Memref.isWhole_whole _) cc0_scratch1 k acc)
      (issueInv c w v t 3 g arg1 f1 sem3 (k.val + 1)) := by
  have hk : k.val < 128 := lt_of_lt_of_eq k.isLt trips4
  unfold issueInv
  rw [Ring.bigSep_rangeSet_head (Φ := item c w v t 3 g) (lo := 4 * k.val) (by omega) (by omega),
    Ring.bigSep_rangeSet_head (Φ := item c w v t 3 g) (lo := 4 * k.val + 1) (by omega) (by omega),
    Ring.bigSep_rangeSet_head (Φ := item c w v t 3 g) (lo := 4 * k.val + 1 + 1) (by omega) (by omega),
    Ring.bigSep_rangeSet_head (Φ := item c w v t 3 g) (lo := 4 * k.val + 1 + 1 + 1) (by omega) (by omega),
    show 4 * (k.val + 1) = 4 * k.val + 1 + 1 + 1 + 1 by omega]
  iintro ⟨HB, ⟨⟨Hd0, Hs0⟩, ⟨Hd1, Hs1⟩, ⟨Hd2, Hs2⟩, ⟨Hd3, Hs3⟩, Hrest⟩, H1⟩
  sl_unfold [k0_t4_body]
  rw [k0_part4_eq_skeleton]
  sl_unfold [k0_part4_skel]
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x1x2048) (k0_off37 k) S1x1x1.size (k0_off37_inb k)) (f := f1) (S := Finset.univ) (Finset.subset_univ _)) $$ H1
  iintro H1
  generalize hx0 : ((arg1.access (Rect.unit (s := S1x1x2048) (k0_off37 k) S1x1x1.size (k0_off37_inb k))).read (Elt F) f1 _) = x0
  have hv0 : x0.toNat = w (pairOf t (copyOf 3 (4 * k.val))) := by
    rw [← hx0]; exact word_eq hf1 (off37_eq k) _ _ (by omega) (pair_at (q := 0) hk (by omega) (by omega))
  iapply (wp_assume Variants.none (c : Thread nD τ) none Set.univ (show k0_chk13 x0 from word_ok (b := 3) hw ht (by omega) (by omega) hv0))
  iapply (issue c hw ht (b := 3) (i := 4 * k.val) (by omega) (by omega) _ (off := k0_off38 k) (off' := k0_off39 x0)
    ((off38_eq k).trans (dst_off hk (by omega) (by omega))) (congrArg (fun n : ℕ => (![n, 0] : Fin 2 → ℕ)) hv0)) $$ [Hd0 Hs0 HB]
  · isplitl [Hd0]; · iexact Hd0
    isplitl [Hs0]; · iexact Hs0
    iexact HB
  iintro HB
  iapply (wp_load_rect Variants.none (c : Thread nD τ) none Set.univ (m := arg1) (r := Rect.unit (s := S1x1x2048) (k0_off40 k) S1x1x1.size (k0_off40_inb k)) (f := f1) (S := Finset.univ) (Finset.subset_univ _)) $$ H1
  iintro H1
  generalize hx1 : ((arg1.access (Rect.unit (s := S1x1x2048) (k0_off40 k) S1x1x1.size (k0_off40_inb k))).read (Elt F) f1 _) = x1
  have hv1 : x1.toNat = w (pairOf t (copyOf 3 (4 * k.val + 1))) := by
    rw [← hx1]; exact word_eq hf1 (off40_eq k) _ _ (by omega) (pair_at (q := 1) hk (by omega) (by omega))
  iapply (wp_assume Variants.none (c : Thread nD τ) none Set.univ (show k0_chk14 x1 from word_ok (b := 3) hw ht (by omega) (by omega) hv1))
  iapply (issue c hw ht (b := 3) (i := 4 * k.val + 1) (by omega) (by omega) _ (off := k0_off41 k) (off' := k0_off42 x1)
    ((off41_eq k).trans (dst_off hk (by omega) (by omega))) (congrArg (fun n : ℕ => (![n, 0] : Fin 2 → ℕ)) hv1)) $$ [Hd1 Hs1 HB]
  · isplitl [Hd1]; · iexact Hd1
    isplitl [Hs1]; · iexact Hs1
    iexact HB
  iintro HB
  iapply (wp_load_rect Variants.none (c : Thread nD τ) none Set.univ (m := arg1) (r := Rect.unit (s := S1x1x2048) (k0_off43 k) S1x1x1.size (k0_off43_inb k)) (f := f1) (S := Finset.univ) (Finset.subset_univ _)) $$ H1
  iintro H1
  generalize hx2 : ((arg1.access (Rect.unit (s := S1x1x2048) (k0_off43 k) S1x1x1.size (k0_off43_inb k))).read (Elt F) f1 _) = x2
  have hv2 : x2.toNat = w (pairOf t (copyOf 3 (4 * k.val + 1 + 1))) := by
    rw [← hx2]; exact word_eq hf1 (off43_eq k) _ _ (by omega) (pair_at (q := 2) hk (by omega) (by omega))
  iapply (wp_assume Variants.none (c : Thread nD τ) none Set.univ (show k0_chk15 x2 from word_ok (b := 3) hw ht (by omega) (by omega) hv2))
  iapply (issue c hw ht (b := 3) (i := 4 * k.val + 1 + 1) (by omega) (by omega) _ (off := k0_off44 k) (off' := k0_off45 x2)
    ((off44_eq k).trans (dst_off hk (by omega) (by omega))) (congrArg (fun n : ℕ => (![n, 0] : Fin 2 → ℕ)) hv2)) $$ [Hd2 Hs2 HB]
  · isplitl [Hd2]; · iexact Hd2
    isplitl [Hs2]; · iexact Hs2
    iexact HB
  iintro HB
  iapply (wp_load_rect Variants.none (c : Thread nD τ) none Set.univ (m := arg1) (r := Rect.unit (s := S1x1x2048) (k0_off46 k) S1x1x1.size (k0_off46_inb k)) (f := f1) (S := Finset.univ) (Finset.subset_univ _)) $$ H1
  iintro H1
  generalize hx3 : ((arg1.access (Rect.unit (s := S1x1x2048) (k0_off46 k) S1x1x1.size (k0_off46_inb k))).read (Elt F) f1 _) = x3
  have hv3 : x3.toNat = w (pairOf t (copyOf 3 (4 * k.val + 1 + 1 + 1))) := by
    rw [← hx3]; exact word_eq hf1 (off46_eq k) _ _ (by omega) (pair_at (q := 3) hk (by omega) (by omega))
  iapply (wp_assume Variants.none (c : Thread nD τ) none Set.univ (show k0_chk16 x3 from word_ok (b := 3) hw ht (by omega) (by omega) hv3))
  iapply (issue c hw ht (b := 3) (i := 4 * k.val + 1 + 1 + 1) (by omega) (by omega) _ (off := k0_off47 k) (off' := k0_off48 x3)
    ((off47_eq k).trans (dst_off hk (by omega) (by omega))) (congrArg (fun n : ℕ => (![n, 0] : Fin 2 → ℕ)) hv3)) $$ [Hd3 Hs3 HB]
  · isplitl [Hd3]; · iexact Hd3
    isplitl [Hs3]; · iexact Hs3
    iexact HB
  iintro HB
  sl_step
  isplitl [HB]; · iexact HB
  isplitl [Hrest]; · iexact Hrest
  iexact H1

end Trip

end Cert.Kernel3Ideal.Hand

end
-- ==== Proof.CombineChunk.lean ====
/-
  One column block of the combination: 128 tokens of quarter `q`, the 128 features of slab row `n`. The kernel reads the
  residual's block, the four gathered slabs with a stride of eight rows, adds the four weighted slabs to the residual in
  order and stores the block. `outTile` is the tile that the thirty-two blocks leave.
-/
module

public import proofs.«01_k».proof.Proof.CombineIssue

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The residual and four weighted terms, added in order. -/
def sum4 (x m0 y0 m1 y1 m2 y2 m3 y3 : F .f32) : F .f32 :=
  FloatOps.addf (FloatOps.addf (FloatOps.addf (FloatOps.addf x (FloatOps.mulf m0 y0)) (FloatOps.mulf m1 y1)) (FloatOps.mulf m2 y2))
    (FloatOps.mulf m3 y3)

/-- The tile's result: at token `r`, feature `l`, the residual and its four choices' rows by their weights. -/
def outTile (x : S512x1024.Idx → F .f32) (m : S512x128.Idx → F .f32) (G : S4x4096x128.Idx → F .f32) : S512x1024.Idx → F .f32 := fun j =>
  have hr : (j 0).val < 512 := (j 0).isLt
  have hl : (j 1).val < 1024 := (j 1).isLt
  sum4 (x j)
    (m (ix2 (j 0) 0)) (G (ix3 0 ⟨(j 0).val * 8 + (j 1).val / 128, by omega⟩ ⟨(j 1).val % 128, by omega⟩))
    (m (ix2 (j 0) 1)) (G (ix3 1 ⟨(j 0).val * 8 + (j 1).val / 128, by omega⟩ ⟨(j 1).val % 128, by omega⟩))
    (m (ix2 (j 0) 2)) (G (ix3 2 ⟨(j 0).val * 8 + (j 1).val / 128, by omega⟩ ⟨(j 1).val % 128, by omega⟩))
    (m (ix2 (j 0) 3)) (G (ix3 3 ⟨(j 0).val * 8 + (j 1).val / 128, by omega⟩ ⟨(j 1).val % 128, by omega⟩))

/-- The block's sum, as the kernel spells it. -/
@[reducible] def colAcc (mw x y0 y1 y2 y3 : FVec F S128x128 .f32) : FVec F S128x128 .f32 :=
  addf (addf (addf (addf x
    (mulf (broadcastTo S128x128 (extractStridedSlice S128x1 ![0, 0] mw slices_S128x128_o0_0_S128x1) broadcasts_S128x1_S128x128) y0))
    (mulf (broadcastTo S128x128 (extractStridedSlice S128x1 ![0, 1] mw slices_S128x128_o0_1_S128x1) broadcasts_S128x1_S128x128) y1))
    (mulf (broadcastTo S128x128 (extractStridedSlice S128x1 ![0, 2] mw slices_S128x128_o0_2_S128x1) broadcasts_S128x1_S128x128) y2))
    (mulf (broadcastTo S128x128 (extractStridedSlice S128x1 ![0, 3] mw slices_S128x128_o0_3_S128x1) broadcasts_S128x1_S128x128) y3)

theorem spread0 (mw : FVec F S128x128 .f32) (a b : Fin 128) :
    broadcastTo S128x128 (extractStridedSlice S128x1 ![0, 0] mw slices_S128x128_o0_0_S128x1) broadcasts_S128x1_S128x128 (ix2 a b) = mw (ix2 a 0) := by
  refine congrArg mw (funext fun d => ?_)
  fin_cases d <;> exact Fin.ext (by first | rfl | exact Nat.zero_add _)
theorem spread1 (mw : FVec F S128x128 .f32) (a b : Fin 128) :
    broadcastTo S128x128 (extractStridedSlice S128x1 ![0, 1] mw slices_S128x128_o0_1_S128x1) broadcasts_S128x1_S128x128 (ix2 a b) = mw (ix2 a 1) := by
  refine congrArg mw (funext fun d => ?_)
  fin_cases d <;> exact Fin.ext (by first | rfl | exact Nat.zero_add _)
theorem spread2 (mw : FVec F S128x128 .f32) (a b : Fin 128) :
    broadcastTo S128x128 (extractStridedSlice S128x1 ![0, 2] mw slices_S128x128_o0_2_S128x1) broadcasts_S128x1_S128x128 (ix2 a b) = mw (ix2 a 2) := by
  refine congrArg mw (funext fun d => ?_)
  fin_cases d <;> exact Fin.ext (by first | rfl | exact Nat.zero_add _)
theorem spread3 (mw : FVec F S128x128 .f32) (a b : Fin 128) :
    broadcastTo S128x128 (extractStridedSlice S128x1 ![0, 3] mw slices_S128x128_o0_3_S128x1) broadcasts_S128x1_S128x128 (ix2 a b) = mw (ix2 a 3) := by
  refine congrArg mw (funext fun d => ?_)
  fin_cases d <;> exact Fin.ext (by first | rfl | exact Nat.zero_add _)

theorem colAcc_at (mw x y0 y1 y2 y3 : FVec F S128x128 .f32) (a b : Fin 128) :
    colAcc mw x y0 y1 y2 y3 (ix2 a b)
      = sum4 (x (ix2 a b)) (mw (ix2 a 0)) (y0 (ix2 a b)) (mw (ix2 a 1)) (y1 (ix2 a b)) (mw (ix2 a 2)) (y2 (ix2 a b)) (mw (ix2 a 3)) (y3 (ix2 a b)) := by
  rw [← spread0 mw a b, ← spread1 mw a b, ← spread2 mw a b, ← spread3 mw a b]; rfl

/-- The scratch's part that quarter `q`'s copies fill. -/
def partSet (q : ℕ) : Finset S4x4096x128.Idx := Finset.univ.filter fun y => (y 1).val / 1024 = q
theorem mem_partSet {q : ℕ} {y : S4x4096x128.Idx} : y ∈ partSet q ↔ (y 1).val / 1024 = q := by simp [partSet]

/-- The slab rows of choice `k`, as the kernel spells it. -/
abbrev slabM (off : Fin 3 → ℕ) (inb : ∀ a, off a + S1x4096x128.size a ≤ S4x4096x128.size a) : Memref sig .tc .vmem S4096x128 .f32 :=
  (bufM.slice (Rect.unit (s := S4x4096x128) off S1x4096x128.size inb) (fun _ => rfl)).squeeze S4096x128 squeezes_S1x4096x128_S4096x128

theorem slabM_emb {k : Fin 4} {off : Fin 3 → ℕ} (hoff : off = ![k.val, 0, 0]) (inb : ∀ a, off a + S1x4096x128.size a ≤ S4x4096x128.size a)
    (a : Fin 4096) (b : Fin 128) : (slabM off inb).view.emb (ix2 a b) = ix3 k a b := by
  subst hoff
  have h : (slabM ![k.val, 0, 0] inb).view.emb (ix2 a b) = (Rect.unit (s := S4x4096x128) ![k.val, 0, 0] S1x4096x128.size inb).emb (ix3 0 a b) := by
    show (Rect.unit (s := S4x4096x128) ![k.val, 0, 0] S1x4096x128.size inb).emb (Shape.reshapeEquiv _ (ix2 a b)) = _
    exact congrArg _ (reshapeEquiv_ix2_1ab _ a b)
  rw [h]
  funext d; fin_cases d
  · exact Fin.ext (by show k.val + 1 * 0 = k.val; omega)
  · exact Fin.ext (by show 0 + 1 * a.val = a.val; omega)
  · exact Fin.ext (by show 0 + 1 * b.val = b.val; omega)

/-- What the strided load reads. -/
theorem slab_read {k : Fin 4} {off : Fin 3 → ℕ} (hoff : off = ![k.val, 0, 0]) (inb : ∀ a, off a + S1x4096x128.size a ≤ S4x4096x128.size a)
    {q n : ℕ} (hq : q < 4) (hn : n < 8) {so : Fin 2 → ℕ} (hso : so = ![q * 1024 + n, 0])
    (sinb : ∀ a, S128x128.size a = 0 ∨ so a + ![8, 1] a * (S128x128.size a - 1) < S4096x128.size a)
    (G : S4x4096x128.Idx → Elt F .f32) (a b : Fin 128) :
    (slabM off inb).view.readAt (Elt F) (⟨so, S128x128.size, ![8, 1], sinb⟩ : LoadRect S4096x128) G (ix2 a b)
      = G (ix3 k ⟨q * 1024 + n + 8 * a.val, by omega⟩ b) := by
  subst hso
  rw [← slabM_emb hoff inb]
  refine congrArg G (congrArg (slabM off inb).view.emb (funext fun d => ?_))
  fin_cases d
  · rfl
  · exact Fin.ext (by show 0 + 1 * b.val = b.val; omega)

theorem slab_sub {k : Fin 4} {off : Fin 3 → ℕ} (hoff : off = ![k.val, 0, 0]) (inb : ∀ a, off a + S1x4096x128.size a ≤ S4x4096x128.size a)
    {q n : ℕ} (hq : q < 4) (hn : n < 8) {so : Fin 2 → ℕ} (hso : so = ![q * 1024 + n, 0])
    (sinb : ∀ a, S128x128.size a = 0 ∨ so a + ![8, 1] a * (S128x128.size a - 1) < S4096x128.size a) :
    (slabM off inb).view.setOn (⟨so, S128x128.size, ![8, 1], sinb⟩ : LoadRect S4096x128).set ⊆ partSet q := by
  subst hso hoff
  intro y hy
  obtain ⟨x, hx, rfl⟩ := Finset.mem_map.mp hy
  rw [LoadRect.mem_set] at hx
  obtain ⟨j, hj, e⟩ := hx 0
  have hj' : j < 128 := hj
  have e' : (x 0).val = q * 1024 + n + 8 * j := e
  have hm : (slabM ![k.val, 0, 0] inb).view.emb x = ix3 k (x 0) (x 1) :=
    (congrArg (slabM ![k.val, 0, 0] inb).view.emb (eq_ix2 (n0 := 4096) (n1 := 128) x)).trans (slabM_emb rfl inb (x 0) (x 1))
  rw [hm]
  exact mem_partSet.mpr (by show (x 0).val / 1024 = q; omega)

/-- The blocks stored so far: the first `n`, quarter by quarter. -/
def Done (x : S512x1024.Idx → F .f32) (m : S512x128.Idx → F .f32) (G : S4x4096x128.Idx → F .f32) (n : ℕ) (g : S512x1024.Idx → F .f32) : Prop :=
  ∀ (r : Fin 512) (l : Fin 1024), r.val / 128 * 8 + l.val / 128 < n → g (ix2 r l) = outTile x m G (ix2 r l)

theorem unit_emb {q n : ℕ} (inb : ∀ a, ![q * 128, n * 128] a + S128x128.size a ≤ S512x1024.size a) (hq : q < 4) (hn : n < 8) (a b : Fin 128) :
    (Rect.unit (s := S512x1024) ![q * 128, n * 128] S128x128.size inb).emb (ix2 a b)
      = ix2 (⟨q * 128 + a.val, by omega⟩ : Fin 512) (⟨n * 128 + b.val, by omega⟩ : Fin 1024) := by
  funext d; fin_cases d
  · exact Fin.ext (by show q * 128 + 1 * a.val = _; rw [Nat.one_mul])
  · exact Fin.ext (by show n * 128 + 1 * b.val = _; rw [Nat.one_mul])

theorem done_step (arg5 : Memref sig .tc .vmem S512x1024 .f32) {x : S512x1024.Idx → F .f32} {m : S512x128.Idx → F .f32}
    {G : S4x4096x128.Idx → F .f32} {q n : ℕ} (hq : q < 4) (hn : n < 8)
    (inb : ∀ a, ![q * 128, n * 128] a + S128x128.size a ≤ S512x1024.size a) {f5 : arg5.view.ty.Contents (Elt F)}
    (hd : Done x m G (q * 8 + n) (arg5.view.read (Elt F) f5)) {W : FVec F S128x128 .f32}
    (hW : ∀ (a b : Fin 128), W (ix2 a b) = outTile x m G (ix2 ⟨q * 128 + a.val, by omega⟩ ⟨n * 128 + b.val, by omega⟩)) :
    Done x m G (q * 8 + n + 1)
      (arg5.view.read (Elt F) (arg5.view.writes (Elt F) f5 [⟨Rect.unit (s := S512x1024) ![q * 128, n * 128] S128x128.size inb, W⟩])) := by
  intro r l hrl
  have hl : l.val < 1024 := l.isLt
  have hr : r.val < 512 := r.isLt
  by_cases hin : r.val / 128 = q ∧ l.val / 128 = n
  · obtain ⟨rfl, rfl⟩ := hin
    have h1 := hW (⟨r.val % 128, by omega⟩ : Fin 128) (⟨l.val % 128, by omega⟩ : Fin 128)
    have hidx := unit_emb inb hq hn (⟨r.val % 128, by omega⟩ : Fin 128) (⟨l.val % 128, by omega⟩ : Fin 128)
    have er : (⟨r.val / 128 * 128 + r.val % 128, by omega⟩ : Fin 512) = r := Fin.ext (by show r.val / 128 * 128 + r.val % 128 = r.val; omega)
    have el : (⟨l.val / 128 * 128 + l.val % 128, by omega⟩ : Fin 1024) = l := Fin.ext (by show l.val / 128 * 128 + l.val % 128 = l.val; omega)
    rw [er, el] at h1 hidx
    rw [← h1, ← hidx, View.read_writes_cons_emb]
  · rw [View.writes_singleton, View.read_slice_write_of_not_mem]
    · exact hd r l (by omega)
    · intro hm
      obtain ⟨z, -, hz⟩ := Finset.mem_map.mp hm
      have z0 : (z 0).val < 128 := (z 0).isLt
      have z1 : (z 1).val < 128 := (z 1).isLt
      have h0 : q * 128 + 1 * (z 0).val = r.val := congrArg (fun i : S512x1024.Idx => (i 0).val) hz
      have h1 : n * 128 + 1 * (z 1).val = l.val := congrArg (fun i : S512x1024.Idx => (i 1).val) hz
      omega

section Chunk

variable (c : Dev nD) (arg3 : Memref sig .tc .vmem S512x1024 .f32) (arg5 : Memref sig .tc .vmem S512x1024 .f32)

/-- The state between two blocks of quarter `q`, `n` blocks stored. -/
def Mid (f3 : Buf (Elt F) (arg3.view.loc (c : Thread nD τ))) (m : S512x128.Idx → F .f32) (G : S4x4096x128.Idx → F .f32) (q n : ℕ) : sProp 𝕄 :=
  iprop((arg3.view.loc (c : Thread nD τ) ↦{fullShare} f3) ∗ ((c : Thread nD τ).loc cc0_scratch0 ↦[partSet q]{fullShare} G)
    ∗ (∃ f5, ⌜Done (arg3.view.read (Elt F) f3) m G n (arg5.view.read (Elt F) f5)⌝ ∗ (arg5.view.loc (c : Thread nD τ) ↦{fullShare} f5)))

theorem chunk {f3 : Buf (Elt F) (arg3.view.loc (c : Thread nD τ))} {m : S512x128.Idx → F .f32} {G : S4x4096x128.Idx → F .f32}
    {q n : ℕ} (hq : q < 4) (hn : n < 8)
    {mw : FVec F S128x128 .f32} (hmw : ∀ (a b : Fin 128), mw (ix2 a b) = m (ix2 ⟨q * 128 + a.val, by omega⟩ b))
    {off : Fin 2 → ℕ} (hoff : off = ![q * 128, n * 128]) {so : Fin 2 → ℕ} (hso : so = ![q * 1024 + n, 0])
    {inb inb' inb''} {sinb0 sinb1 sinb2 sinb3 : ∀ a, S128x128.size a = 0 ∨ so a + ![8, 1] a * (S128x128.size a - 1) < S4096x128.size a}
    {ho0 ho1 ho2 ho3 h3 h0 h1 h2 h4 h5 hs hm}
    {α : Type} {k : PUnit → Prog (TpuEff nD τ sig (Elt F) Λ₀ .tc) α} {Q : α → sProp 𝕄} :
    Mid c arg3 arg5 f3 m G q (q * 8 + n)
      ⊢ iprop((Mid c arg3 arg5 f3 m G q (q * 8 + n + 1) -∗ wp frame (wpE (defs₀ (F := F)) Variants.none (c : Thread nD τ) none) Set.univ (k ⟨⟩) Q)
        -∗ wp frame (wpE (defs₀ (F := F)) Variants.none (c : Thread nD τ) none) Set.univ
        (.op (.load (e := .f32) arg3 (Rect.unit (s := S512x1024) off S128x128.size inb).toLoadRect h3) fun (x : FVec F S128x128 .f32) =>
         .op (.load (e := .f32) (slabM ![0, 0, 0] ho0) (⟨so, S128x128.size, ![8, 1], sinb0⟩ : LoadRect S4096x128) h0) fun (y0 : FVec F S128x128 .f32) =>
         .op (.load (e := .f32) (slabM ![1, 0, 0] ho1) (⟨so, S128x128.size, ![8, 1], sinb1⟩ : LoadRect S4096x128) h1) fun (y1 : FVec F S128x128 .f32) =>
         .op (.load (e := .f32) (slabM ![2, 0, 0] ho2) (⟨so, S128x128.size, ![8, 1], sinb2⟩ : LoadRect S4096x128) h2) fun (y2 : FVec F S128x128 .f32) =>
         .op (.load (e := .f32) (slabM ![3, 0, 0] ho3) (⟨so, S128x128.size, ![8, 1], sinb3⟩ : LoadRect S4096x128) h4) fun (y3 : FVec F S128x128 .f32) =>
         .op (.load (e := .f32) arg5 (Rect.unit (s := S512x1024) off S128x128.size inb').toLoadRect h5) fun _ =>
         .op (.store arg5 (Rect.unit (s := S512x1024) off S128x128.size inb'') (colAcc mw x y0 y1 y2 y3) Finset.univ hs hm) k) Q) := by
  subst hoff
  obtain ⟨W, hWdef⟩ : ∃ W, W = colAcc mw (arg3.view.readAt (Elt F) (Rect.unit (s := S512x1024) ![q * 128, n * 128] S128x128.size inb).toLoadRect f3)
    ((slabM ![0, 0, 0] ho0).view.readAt (Elt F) (⟨so, S128x128.size, ![8, 1], sinb0⟩ : LoadRect S4096x128) G)
    ((slabM ![1, 0, 0] ho1).view.readAt (Elt F) (⟨so, S128x128.size, ![8, 1], sinb1⟩ : LoadRect S4096x128) G)
    ((slabM ![2, 0, 0] ho2).view.readAt (Elt F) (⟨so, S128x128.size, ![8, 1], sinb2⟩ : LoadRect S4096x128) G)
    ((slabM ![3, 0, 0] ho3).view.readAt (Elt F) (⟨so, S128x128.size, ![8, 1], sinb3⟩ : LoadRect S4096x128) G) := ⟨_, rfl⟩
  have hW : ∀ (a b : Fin 128), W (ix2 a b)
      = outTile (arg3.view.read (Elt F) f3) m G (ix2 ⟨q * 128 + a.val, by omega⟩ ⟨n * 128 + b.val, by omega⟩) := by
    intro a b
    have r0 : (slabM ![0, 0, 0] ho0).view.readAt (Elt F) (⟨so, S128x128.size, ![8, 1], sinb0⟩ : LoadRect S4096x128) G (ix2 a b)
        = G (ix3 0 ⟨q * 1024 + n + 8 * a.val, by omega⟩ b) := slab_read (k := 0) rfl ho0 hq hn hso sinb0 G a b
    have r1 : (slabM ![1, 0, 0] ho1).view.readAt (Elt F) (⟨so, S128x128.size, ![8, 1], sinb1⟩ : LoadRect S4096x128) G (ix2 a b)
        = G (ix3 1 ⟨q * 1024 + n + 8 * a.val, by omega⟩ b) := slab_read (k := 1) rfl ho1 hq hn hso sinb1 G a b
    have r2 : (slabM ![2, 0, 0] ho2).view.readAt (Elt F) (⟨so, S128x128.size, ![8, 1], sinb2⟩ : LoadRect S4096x128) G (ix2 a b)
        = G (ix3 2 ⟨q * 1024 + n + 8 * a.val, by omega⟩ b) := slab_read (k := 2) rfl ho2 hq hn hso sinb2 G a b
    have r3 : (slabM ![3, 0, 0] ho3).view.readAt (Elt F) (⟨so, S128x128.size, ![8, 1], sinb3⟩ : LoadRect S4096x128) G (ix2 a b)
        = G (ix3 3 ⟨q * 1024 + n + 8 * a.val, by omega⟩ b) := slab_read (k := 3) rfl ho3 hq hn hso sinb3 G a b
    rw [hWdef, colAcc_at, r0, r1, r2, r3, hmw, hmw, hmw, hmw,
      show arg3.view.readAt (Elt F) (Rect.unit (s := S512x1024) ![q * 128, n * 128] S128x128.size inb).toLoadRect f3 (ix2 a b)
        = arg3.view.read (Elt F) f3 (ix2 ⟨q * 128 + a.val, by omega⟩ ⟨n * 128 + b.val, by omega⟩) from
        congrArg (arg3.view.read (Elt F) f3) (unit_emb inb hq hn a b)]
    have e1 : (⟨q * 1024 + n + 8 * a.val, by omega⟩ : Fin 4096) = ⟨(q * 128 + a.val) * 8 + (n * 128 + b.val) / 128, by omega⟩ :=
      Fin.ext (by show q * 1024 + n + 8 * a.val = (q * 128 + a.val) * 8 + (n * 128 + b.val) / 128; omega)
    have e2 : b = (⟨(n * 128 + b.val) % 128, by omega⟩ : Fin 128) := Fin.ext (by show _ = (n * 128 + b.val) % 128; omega)
    rw [e1]
    show sum4 _ _ (G (ix3 0 _ b)) _ (G (ix3 1 _ b)) _ (G (ix3 2 _ b)) _ (G (ix3 3 _ b)) = sum4 _ _ (G (ix3 0 _ ⟨(n * 128 + b.val) % 128, _⟩)) _ (G (ix3 1 _ ⟨(n * 128 + b.val) % 128, _⟩)) _ (G (ix3 2 _ ⟨(n * 128 + b.val) % 128, _⟩)) _ (G (ix3 3 _ ⟨(n * 128 + b.val) % 128, _⟩))
    rw [← e2]
  unfold Mid
  iintro ⟨H3, HG, H5⟩ HK
  icases H5 with ⟨%f5, %hd, H5⟩
  iapply (wp_load Variants.none (c : Thread nD τ) none Set.univ (Finset.subset_univ _)) $$ H3
  iintro H3
  iapply (wp_load Variants.none (c : Thread nD τ) none Set.univ (m := slabM ![0, 0, 0] ho0) (S := partSet q) (slab_sub (k := 0) rfl ho0 hq hn hso sinb0)) $$ HG
  iintro HG
  iapply (wp_load Variants.none (c : Thread nD τ) none Set.univ (m := slabM ![1, 0, 0] ho1) (S := partSet q) (slab_sub (k := 1) rfl ho1 hq hn hso sinb1)) $$ HG
  iintro HG
  iapply (wp_load Variants.none (c : Thread nD τ) none Set.univ (m := slabM ![2, 0, 0] ho2) (S := partSet q) (slab_sub (k := 2) rfl ho2 hq hn hso sinb2)) $$ HG
  iintro HG
  iapply (wp_load Variants.none (c : Thread nD τ) none Set.univ (m := slabM ![3, 0, 0] ho3) (S := partSet q) (slab_sub (k := 3) rfl ho3 hq hn hso sinb3)) $$ HG
  iintro HG
  iapply (wp_load Variants.none (c : Thread nD τ) none Set.univ (Finset.subset_univ _)) $$ H5
  iintro H5
  iapply (wp_store_writes₀ Variants.none (c : Thread nD τ) none Set.univ (Finset.subset_univ _)) $$ H5
  iintro H5
  rw [← hWdef]
  iapply HK
  isplitl [H3]; · iexact H3
  isplitl [HG]; · iexact HG
  iexists (arg5.view.writes (Elt F) f5 [⟨Rect.unit (s := S512x1024) ![q * 128, n * 128] S128x128.size inb'', W⟩])
  isplitr [H5]
  · ipureintro
    exact done_step arg5 hq hn inb'' hd hW
  · iexact H5

end Chunk

end Cert.Kernel3Ideal.Hand
-- ==== Proof.CombineDeal.lean ====
/-
  The scratch and the experts' rows, dealt to a tile's four batches of 512 copies: each copy gets its window of the scratch
  and a read share of its own of the rows it reads.
-/
module

public import proofs.«01_k».proof.Proof.CombineTrip
public import proofs.«01_k».proof.Proof.CombineChunk

@[expose] public section

set_option maxRecDepth 16384

noncomputable section

namespace Cert.Kernel3Ideal.Hand

open Cert.Kernel3Ideal Cert.Kernel3Ideal.Gen
open Cert.Proof.Dispatch (XS PS wordAt InWin winSet mem_winSet pairOf pairOf_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

theorem eq_of_bi {P Q : sProp 𝕄} (h : P ⊣⊢ Q) : P = Q := Idealize.SL.BI.Entails.antisymm h.1 h.2

theorem sep_deal {n : ℕ} (Φ Ψ : Fin n → sProp 𝕄) :
    (bigSep Finset.univ fun j => iprop(Φ j ∗ Ψ j)) = iprop(bigSep Finset.univ Φ ∗ bigSep Finset.univ Ψ) := BI.bigSep_sep _ Φ Ψ

theorem four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

section Deal

variable (c : Dev nD) (w : ℕ → ℕ) (v : XS.Idx → Elt F .f32) (t : ℕ)

/-- What of batch `b`'s read share no copy takes. -/
def spare (b : ℕ) : sProp 𝕄 :=
  iprop(((c : Thread nD τ).loc main_arg1 ↦{Transfers.shareDrop (Transfers.shareTokN fullShare b) 512} v)
    ∗ bigSep Finset.univ fun i : Fin 512 => (c : Thread nD τ).loc main_arg1 ↦[Finset.univ \ winSet w (pairOf t (copyOf b i.val))]{shareOf b i.val} v)

/-- Batch `b`'s read share, dealt: one for each copy, and the spare part. -/
theorem rows_deal (b : ℕ) : ((c : Thread nD τ).loc main_arg1 ↦{Transfers.shareTokN fullShare b} v : sProp 𝕄)
    = iprop(spare c w v t b ∗ bigSep Finset.univ fun i : Fin 512 => (c : Thread nD τ).loc main_arg1 ↦[winSet w (pairOf t (copyOf b i.val))]{shareOf b i.val} v) := by
  unfold spare
  rw [eq_of_bi (Transfers.pointsTo_toks_range (ℓ := (c : Thread nD τ).loc main_arg1) (S := Finset.univ) (f := v) (Transfers.shareTokN fullShare b) 512),
    ← Ring.bigSep_fin_eq_range 512 (fun i : Fin 512 => ((c : Thread nD τ).loc main_arg1 ↦{shareOf b i.val} v : sProp 𝕄)) _ (fun k h => rfl),
    bigSep_congr (Ψ := fun i : Fin 512 => iprop(((c : Thread nD τ).loc main_arg1 ↦[winSet w (pairOf t (copyOf b i.val))]{shareOf b i.val} v)
      ∗ ((c : Thread nD τ).loc main_arg1 ↦[Finset.univ \ winSet w (pairOf t (copyOf b i.val))]{shareOf b i.val} v)))
      (fun i _ => eq_of_bi (pointsTo_split_subset (Finset.subset_univ _))), sep_deal]
  refine eq_of_bi ⟨?_, ?_⟩
  · iintro ⟨HA, HB, HC⟩
    isplitr [HB]
    · isplitl [HA]; · iexact HA
      iexact HC
    · iexact HB
  · iintro ⟨⟨HA, HC⟩, HB⟩
    isplitl [HA]; · iexact HA
    isplitl [HB]; · iexact HB
    iexact HC

/-- The experts' rows, whole: a read share for each batch, and what is left. -/
theorem rows_split : ((c : Thread nD τ).loc main_arg1 ↦{fullShare} v : sProp 𝕄)
    = iprop(((c : Thread nD τ).loc main_arg1 ↦{Transfers.shareDrop fullShare 4} v)
      ∗ ((c : Thread nD τ).loc main_arg1 ↦{Transfers.shareTokN fullShare 0} v) ∗ ((c : Thread nD τ).loc main_arg1 ↦{Transfers.shareTokN fullShare 1} v)
      ∗ ((c : Thread nD τ).loc main_arg1 ↦{Transfers.shareTokN fullShare 2} v) ∗ ((c : Thread nD τ).loc main_arg1 ↦{Transfers.shareTokN fullShare 3} v)) := by
  rw [eq_of_bi (Transfers.pointsTo_toks_range (ℓ := (c : Thread nD τ).loc main_arg1) (S := Finset.univ) (f := v) fullShare 4),
    ← Ring.bigSep_fin_eq_range 4 (fun i : Fin 4 => ((c : Thread nD τ).loc main_arg1 ↦{Transfers.shareTokN fullShare i.val} v : sProp 𝕄)) _ (fun k h => rfl), four]
  rfl

theorem part_eq {b : ℕ} (hb : b < 4) : partSet b = Finset.univ.biUnion fun i : Fin 512 => winBuf (copyOf b i.val) := by
  ext y
  rw [mem_partSet, Finset.mem_biUnion]
  have h0 : (y 0).val < 4 := (y 0).isLt
  have h1 : (y 1).val < 4096 := (y 1).isLt
  constructor
  · intro h
    refine ⟨⟨((y 1).val / 8 - b * 128) * 4 + (y 0).val, by omega⟩, Finset.mem_univ _, mem_winBuf.mpr ⟨?_, ?_, ?_⟩⟩
    · show (y 0).val = (b * 512 + (((y 1).val / 8 - b * 128) * 4 + (y 0).val)) % 4; omega
    · show (b * 512 + (((y 1).val / 8 - b * 128) * 4 + (y 0).val)) / 4 * 8 ≤ (y 1).val; omega
    · show (y 1).val < (b * 512 + (((y 1).val / 8 - b * 128) * 4 + (y 0).val)) / 4 * 8 + 8; omega
  · rintro ⟨i, -, hi⟩
    have hi' := i.isLt
    obtain ⟨a, d, e⟩ := mem_winBuf.mp hi
    have d' : (b * 512 + i.val) / 4 * 8 ≤ (y 1).val := d
    have e' : (y 1).val < (b * 512 + i.val) / 4 * 8 + 8 := e
    omega

/-- A quarter of the scratch, dealt to its copies. -/
theorem part_deal {b : ℕ} (hb : b < 4) (g : S4x4096x128.Idx → Elt F .f32) : ((c : Thread nD τ).loc cc0_scratch0 ↦[partSet b]{fullShare} g : sProp 𝕄)
    = bigSep Finset.univ fun i : Fin 512 => (c : Thread nD τ).loc cc0_scratch0 ↦[winBuf (copyOf b i.val)]{fullShare} g := by
  rw [part_eq hb, pointsTo_biUnion]
  intro i _ i' _ hne
  exact winBuf_disjoint fun h => hne (Fin.ext (by have h' : b * 512 + i.val = b * 512 + i'.val := h; omega))

/-- The scratch, whole: its four quarters. -/
theorem buf_split (g : S4x4096x128.Idx → Elt F .f32) : ((c : Thread nD τ).loc cc0_scratch0 ↦{fullShare} g : sProp 𝕄)
    = iprop(((c : Thread nD τ).loc cc0_scratch0 ↦[partSet 0]{fullShare} g) ∗ ((c : Thread nD τ).loc cc0_scratch0 ↦[partSet 1]{fullShare} g)
      ∗ ((c : Thread nD τ).loc cc0_scratch0 ↦[partSet 2]{fullShare} g) ∗ ((c : Thread nD τ).loc cc0_scratch0 ↦[partSet 3]{fullShare} g)) := by
  have hu : (Finset.univ : Finset S4x4096x128.Idx) = Finset.univ.biUnion fun b : Fin 4 => partSet b.val := by
    ext y
    have h1 : (y 1).val < 4096 := (y 1).isLt
    simp only [Finset.mem_univ, true_iff, Finset.mem_biUnion, true_and]
    exact ⟨⟨(y 1).val / 1024, by omega⟩, mem_partSet.mpr rfl⟩
  rw [show ((c : Thread nD τ).loc cc0_scratch0 ↦{fullShare} g : sProp 𝕄)
      = ((c : Thread nD τ).loc cc0_scratch0 ↦[Finset.univ.biUnion fun b : Fin 4 => partSet b.val]{fullShare} g) from
      congrArg (fun S : Finset S4x4096x128.Idx => ((c : Thread nD τ).loc cc0_scratch0 ↦[S]{fullShare} g : sProp 𝕄)) hu,
    pointsTo_biUnion, four]
  · rfl
  · intro i _ i' _ hne
    rw [Finset.disjoint_left]; intro y hy hy'
    exact hne (Fin.ext ((mem_partSet.mp hy).symm.trans (mem_partSet.mp hy')))

/-- A batch, dealt: what its copies hold before they start, and the spare part. -/
theorem batch_deal {b : ℕ} (hb : b < 4) (g : S4x4096x128.Idx → Elt F .f32) :
    iprop(((c : Thread nD τ).loc cc0_scratch0 ↦[partSet b]{fullShare} g) ∗ ((c : Thread nD τ).loc main_arg1 ↦{Transfers.shareTokN fullShare b} v))
      = (iprop(spare c w v t b ∗ bigSep Finset.univ (item c w v t b g)) : sProp 𝕄) := by
  rw [part_deal c hb g, rows_deal c w v t b, show (bigSep Finset.univ (item c w v t b g) : sProp 𝕄) = _ from sep_deal _ _]
  refine eq_of_bi ⟨?_, ?_⟩
  · iintro ⟨HA, HB, HC⟩
    isplitl [HB]; · iexact HB
    isplitl [HA]; · iexact HA
    iexact HC
  · iintro ⟨HB, HA, HC⟩
    isplitl [HA]; · iexact HA
    isplitl [HB]; · iexact HB
    iexact HC

end Deal

end Cert.Kernel3Ideal.Hand

end
-- ==== Proof.CombineBody.lean ====
/-
  The combination's body at one tile: the scratch and the experts' rows are dealt to the tile's four batches, four loops
  start the copies, and each quarter, once its batch has landed, is added up block by block.
-/
module

public import proofs.«01_k».proof.Proof.CombineDeal

@[expose] public section

set_option maxRecDepth 65536

noncomputable section

namespace Cert.Kernel3Ideal.Hand

open Cert.Kernel3Ideal Cert.Kernel3Ideal.Gen
open Cert.Proof.Dispatch (XS PS wordAt InWin winSet mem_winSet pairOf pairOf_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- What the load of a quarter's weights reads. -/
theorem weights_read (arg4 : Memref sig .tc .vmem S512x128 .f32) (f4 : arg4.view.ty.Contents (Elt F)) {q : ℕ} (hq : q < 4)
    {off : Fin 2 → ℕ} (hoff : off = ![q * 128, 0]) (inb : ∀ a, off a + S128x128.size a ≤ S512x128.size a) (a b : Fin 128) :
    arg4.view.readAt (Elt F) (Rect.unit (s := S512x128) off S128x128.size inb).toLoadRect f4 (ix2 a b)
      = arg4.view.read (Elt F) f4 (ix2 ⟨q * 128 + a.val, by omega⟩ b) := by
  subst hoff
  refine congrArg (arg4.view.read (Elt F) f4) (funext fun d => ?_)
  fin_cases d
  · exact Fin.ext (by show q * 128 + 1 * a.val = _; rw [Nat.one_mul])
  · exact Fin.ext (by show 0 + 1 * b.val = b.val; omega)

/-- A landed batch, gathered back. -/
theorem batch_back (c : Dev nD) (w : ℕ → ℕ) (v : XS.Idx → Elt F .f32) (t : ℕ) {b : ℕ} (hb : b < 4) :
    (iprop(spare c w v t b ∗ bigSep Finset.univ (deliv c w v t b)) : sProp 𝕄)
      ⊢ iprop(((c : Thread nD τ).loc cc0_scratch0 ↦[partSet b]{fullShare} gathered w t v) ∗ ((c : Thread nD τ).loc main_arg1 ↦{Transfers.shareTokN fullShare b} v)) :=
  Entails.of_eq (batch_deal c w v t hb (gathered w t v)).symm

theorem done_all {x : S512x1024.Idx → F .f32} {m : S512x128.Idx → F .f32} {G : S4x4096x128.Idx → F .f32} {f : S512x1024.Idx → F .f32}
    (h : Done x m G 32 f) : f = outTile x m G := by
  funext j
  have h0 : (j 0).val < 512 := (j 0).isLt
  have h1 : (j 1).val < 1024 := (j 1).isLt
  have e : j = ix2 (n0 := 512) (n1 := 1024) (j 0) (j 1) := eq_ix2 (n0 := 512) (n1 := 1024) j
  rw [e]
  exact h (j 0) (j 1) (by omega)

section Turns

variable (c : Dev nD) (arg3 : Memref sig .tc .vmem S512x1024 .f32) (arg5 : Memref sig .tc .vmem S512x1024 .f32)

/-- Before the first block. -/
theorem start {f3 : Buf (Elt F) (arg3.view.loc (c : Thread nD τ))} {f5 : Buf (Elt F) (arg5.view.loc (c : Thread nD τ))}
    {m : S512x128.Idx → F .f32} {G : S4x4096x128.Idx → F .f32} :
    (iprop((arg3.view.loc (c : Thread nD τ) ↦{fullShare} f3) ∗ ((c : Thread nD τ).loc cc0_scratch0 ↦[partSet 0]{fullShare} G)
      ∗ (arg5.view.loc (c : Thread nD τ) ↦{fullShare} f5)) : sProp 𝕄) ⊢ Mid c arg3 arg5 f3 m G 0 (0 * 8 + 0) := by
  unfold Mid
  iintro ⟨H3, HG, H5⟩
  isplitl [H3]; · iexact H3
  isplitl [HG]; · iexact HG
  iexists f5
  isplitr [H5]
  · ipureintro; intro r l h; omega
  · iexact H5

/-- From a quarter to the next. -/
theorem turn {f3 : Buf (Elt F) (arg3.view.loc (c : Thread nD τ))} {m : S512x128.Idx → F .f32} {G : S4x4096x128.Idx → F .f32} {q q' n : ℕ} :
    (iprop(Mid c arg3 arg5 f3 m G q n ∗ ((c : Thread nD τ).loc cc0_scratch0 ↦[partSet q']{fullShare} G)) : sProp 𝕄)
      ⊢ iprop(Mid c arg3 arg5 f3 m G q' n ∗ ((c : Thread nD τ).loc cc0_scratch0 ↦[partSet q]{fullShare} G)) := by
  unfold Mid
  iintro ⟨⟨H3, HG, H5⟩, HG'⟩
  isplitr [HG]
  · isplitl [H3]; · iexact H3
    isplitl [HG']; · iexact HG'
    iexact H5
  · iexact HG

/-- After the last block. -/
theorem finish {f3 : Buf (Elt F) (arg3.view.loc (c : Thread nD τ))} {m : S512x128.Idx → F .f32} {G : S4x4096x128.Idx → F .f32} :
    Mid c arg3 arg5 f3 m G 3 (3 * 8 + 7 + 1)
      ⊢ (iprop((arg3.view.loc (c : Thread nD τ) ↦{fullShare} f3) ∗ ((c : Thread nD τ).loc cc0_scratch0 ↦[partSet 3]{fullShare} G)
        ∗ (∃ f5, ⌜arg5.view.read (Elt F) f5 = outTile (arg3.view.read (Elt F) f3) m G⌝ ∗ (arg5.view.loc (c : Thread nD τ) ↦{fullShare} f5))) : sProp 𝕄) := by
  unfold Mid
  iintro ⟨H3, HG, ⟨%f5, %hd, H5⟩⟩
  isplitl [H3]; · iexact H3
  isplitl [HG]; · iexact HG
  iexists f5
  isplitr [H5]
  · ipureintro; exact done_all hd
  · iexact H5

end Turns

set_option maxHeartbeats 4000000 in
theorem body {c : Dev nD} {w : ℕ → ℕ} (hw : Inside w) {v : XS.Idx → Elt F .f32} {t : ℕ} (ht : t < 32)
    {arg1 : Memref sig .tc .smem S1x1x2048 .i32} {f1 : Buf (Elt F) (arg1.view.loc (c : Thread nD τ))}
    {arg3 : Memref sig .tc .vmem S512x1024 .f32} {f3 : Buf (Elt F) (arg3.view.loc (c : Thread nD τ))}
    {arg4 : Memref sig .tc .vmem S512x128 .f32} {f4 : Buf (Elt F) (arg4.view.loc (c : Thread nD τ))}
    {arg5 : Memref sig .tc .vmem S512x1024 .f32} {f5 : Buf (Elt F) (arg5.view.loc (c : Thread nD τ))}
    {g : S4x4096x128.Idx → Elt F .f32}
    (i : grid0.Coords) (harg1 : arg1.IsWhole) (harg3 : arg3.IsWhole) (harg4 : arg4.IsWhole) (harg5 : arg5.IsWhole)
    (hf1 : ∀ q : Fin 2048, BitVec.toNat (w := 32) (arg1.view.read (Elt F) f1 (ix3 0 0 q)) = w (t * 2048 + q.val))
    (W : Waits sig Unit) :
    (iprop(((c : Thread nD τ).loc main_arg1 ↦{fullShare} v) ∗ ((c : Thread nD τ).loc cc0_scratch0 ↦{fullShare} g)
        ∗ (arg1.view.loc (c : Thread nD τ) ↦{fullShare} f1) ∗ (arg3.view.loc (c : Thread nD τ) ↦{fullShare} f3)
        ∗ (arg4.view.loc (c : Thread nD τ) ↦{fullShare} f4) ∗ (arg5.view.loc (c : Thread nD τ) ↦{fullShare} f5)
        ∗ semVal ((c : Thread nD τ), .dma sem0) 0 ∗ semVal ((c : Thread nD τ), .dma sem1) 0
        ∗ semVal ((c : Thread nD τ), .dma sem2) 0 ∗ semVal ((c : Thread nD τ), .dma sem3) 0 ∗ owes (c : Thread nD τ) 0 W) : sProp 𝕄)
      ⊢ wp frame (wpE (defs₀ (F := F)) Variants.none (c : Thread nD τ) none) Set.univ
        (cc0_moe_combine (F := F) i arg1 harg1 rowsM (Memref.isWhole_whole _) arg3 harg3 arg4 harg4 arg5 harg5 bufM (Memref.isWhole_whole _) cc0_scratch1)
        (fun _ => iprop(((c : Thread nD τ).loc main_arg1 ↦{fullShare} v) ∗ ((c : Thread nD τ).loc cc0_scratch0 ↦{fullShare} gathered w t v)
          ∗ (arg1.view.loc (c : Thread nD τ) ↦{fullShare} f1) ∗ (arg3.view.loc (c : Thread nD τ) ↦{fullShare} f3)
          ∗ (arg4.view.loc (c : Thread nD τ) ↦{fullShare} f4)
          ∗ (∃ f5', ⌜arg5.view.read (Elt F) f5' = outTile (arg3.view.read (Elt F) f3) (arg4.view.read (Elt F) f4) (gathered w t v)⌝
            ∗ (arg5.view.loc (c : Thread nD τ) ↦{fullShare} f5'))
          ∗ semVal ((c : Thread nD τ), .dma sem0) 0 ∗ semVal ((c : Thread nD τ), .dma sem1) 0
          ∗ semVal ((c : Thread nD τ), .dma sem2) 0 ∗ semVal ((c : Thread nD τ), .dma sem3) 0 ∗ ∃ W' : Waits sig Unit, owes (c : Thread nD τ) 0 W')) := by
  rw [cc0_moe_combine_eq_skeleton]
  unfold cc0_moe_combine_skel
  simp only [k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
    Prog.lift, Prog.bind_op, Prog.bind_ret, Prog.pure_eq_ret, Prog.bind_assoc]
  rw [buf_split c g, rows_split c v]
  iintro ⟨⟨Hy, Hy0, Hy1, Hy2, Hy3⟩, ⟨Hb0, Hb1, Hb2, Hb3⟩, H1, H3, H4, H5, Hs0, Hs1, Hs2, Hs3, HO⟩
  imod (Transfers.batch_alloc' (Lvl := ℕ) (countersEmb (U := Pipeline.UD sig nD τ)) (c : Thread nD τ) (sm := .dma sem0) () NN
    (deliv c w v t 0) (E := Set.univ)) $$ Hs0 with HB0
  ihave HD0 := (Entails.of_eq (batch_deal c w v t (b := 0) (by omega) g)) $$ [Hb0 Hy0]
  · isplitl [Hb0]; · iexact Hb0
    iexact Hy0
  icases HD0 with ⟨Hsp0, HI0⟩
  imod (Transfers.batch_alloc' (Lvl := ℕ) (countersEmb (U := Pipeline.UD sig nD τ)) (c : Thread nD τ) (sm := .dma sem1) () NN
    (deliv c w v t 1) (E := Set.univ)) $$ Hs1 with HB1
  ihave HD1 := (Entails.of_eq (batch_deal c w v t (b := 1) (by omega) g)) $$ [Hb1 Hy1]
  · isplitl [Hb1]; · iexact Hb1
    iexact Hy1
  icases HD1 with ⟨Hsp1, HI1⟩
  imod (Transfers.batch_alloc' (Lvl := ℕ) (countersEmb (U := Pipeline.UD sig nD τ)) (c : Thread nD τ) (sm := .dma sem2) () NN
    (deliv c w v t 2) (E := Set.univ)) $$ Hs2 with HB2
  ihave HD2 := (Entails.of_eq (batch_deal c w v t (b := 2) (by omega) g)) $$ [Hb2 Hy2]
  · isplitl [Hb2]; · iexact Hb2
    iexact Hy2
  icases HD2 with ⟨Hsp2, HI2⟩
  imod (Transfers.batch_alloc' (Lvl := ℕ) (countersEmb (U := Pipeline.UD sig nD τ)) (c : Thread nD τ) (sm := .dma sem3) () NN
    (deliv c w v t 3) (E := Set.univ)) $$ Hs3 with HB3
  ihave HD3 := (Entails.of_eq (batch_deal c w v t (b := 3) (by omega) g)) $$ [Hb3 Hy3]
  · isplitl [Hb3]; · iexact Hb3
    iexact Hy3
  icases HD3 with ⟨Hsp3, HI3⟩
  sl_for (issueInv c w v t 0 g arg1 f1 sem0) $$ [HB0 HI0 H1]
  · exact trip1 c hw ht i harg1 arg3 harg3 arg4 harg4 arg5 harg5 hf1
  · unfold issueInv
    rw [show 4 * 0 = 0 from rfl, Ring.rangeSet_univ]
    isplitl [HB0]; · iexact HB0
    isplitl [HI0]; · iexact HI0
    iexact H1
  iintro %acc0 HI
  unfold issueInv
  rw [show 4 * Scf.trips k0_t1_loop.lb k0_t1_loop.ub k0_t1_loop.st = 512 from by rw [show Scf.trips k0_t1_loop.lb k0_t1_loop.ub k0_t1_loop.st = 128 from trips1]]
  icases HI with ⟨HB0, -, H1⟩
  sl_for (issueInv c w v t 1 g arg1 f1 sem1) $$ [HB1 HI1 H1]
  · exact trip2 c hw ht i harg1 arg3 harg3 arg4 harg4 arg5 harg5 hf1
  · unfold issueInv
    rw [show 4 * 0 = 0 from rfl, Ring.rangeSet_univ]
    isplitl [HB1]; · iexact HB1
    isplitl [HI1]; · iexact HI1
    iexact H1
  iintro %acc1 HI
  unfold issueInv
  rw [show 4 * Scf.trips k0_t2_loop.lb k0_t2_loop.ub k0_t2_loop.st = 512 from by rw [show Scf.trips k0_t2_loop.lb k0_t2_loop.ub k0_t2_loop.st = 128 from trips2]]
  icases HI with ⟨HB1, -, H1⟩
  sl_for (issueInv c w v t 2 g arg1 f1 sem2) $$ [HB2 HI2 H1]
  · exact trip3 c hw ht i harg1 arg3 harg3 arg4 harg4 arg5 harg5 hf1
  · unfold issueInv
    rw [show 4 * 0 = 0 from rfl, Ring.rangeSet_univ]
    isplitl [HB2]; · iexact HB2
    isplitl [HI2]; · iexact HI2
    iexact H1
  iintro %acc2 HI
  unfold issueInv
  rw [show 4 * Scf.trips k0_t3_loop.lb k0_t3_loop.ub k0_t3_loop.st = 512 from by rw [show Scf.trips k0_t3_loop.lb k0_t3_loop.ub k0_t3_loop.st = 128 from trips3]]
  icases HI with ⟨HB2, -, H1⟩
  sl_for (issueInv c w v t 3 g arg1 f1 sem3) $$ [HB3 HI3 H1]
  · exact trip4 c hw ht i harg1 arg3 harg3 arg4 harg4 arg5 harg5 hf1
  · unfold issueInv
    rw [show 4 * 0 = 0 from rfl, Ring.rangeSet_univ]
    isplitl [HB3]; · iexact HB3
    isplitl [HI3]; · iexact HI3
    iexact H1
  iintro %acc3 HI
  unfold issueInv
  rw [show 4 * Scf.trips k0_t4_loop.lb k0_t4_loop.ub k0_t4_loop.st = 512 from by rw [show Scf.trips k0_t4_loop.lb k0_t4_loop.ub k0_t4_loop.st = 128 from trips4]]
  icases HI with ⟨HB3, -, H1⟩
  sl_unfold [body.sl.prog.cont_4]
  iapply (Transfers.wp_waitBatchMul (countersEmb (U := Pipeline.UD sig nD τ)) Variants.none (c : Thread nD τ) none () 128 (N := NN) credit_wait (j := 512) (u := 0) (by decide)) $$ [HB0 HO]
  · isplitl [HB0]; · iexact HB0
    iexact HO
  iintro ⟨HB0, HO⟩
  iapply (Transfers.wp_waitBatchMul (countersEmb (U := Pipeline.UD sig nD τ)) Variants.none (c : Thread nD τ) none () 128 (N := NN) credit_wait (j := 512) (u := 0 + 128 * NN) (by decide)) $$ [HB0 HO]
  · isplitl [HB0]; · iexact HB0
    iexact HO
  iintro ⟨HB0, HO⟩
  iapply (Transfers.wp_waitBatchMul (countersEmb (U := Pipeline.UD sig nD τ)) Variants.none (c : Thread nD τ) none () 128 (N := NN) credit_wait (j := 512) (u := 0 + 128 * NN + 128 * NN) (by decide)) $$ [HB0 HO]
  · isplitl [HB0]; · iexact HB0
    iexact HO
  iintro ⟨HB0, HO⟩
  iapply (Transfers.wp_waitBatchAll (countersEmb (U := Pipeline.UD sig nD τ)) Variants.none (c : Thread nD τ) none () (N := NN) credit_wait (by decide) (n := 512) (u := 0 + 128 * NN + 128 * NN + 128 * NN) (by decide)) $$ [HB0 HO]
  · isplitl [HB0]; · iexact HB0
    iexact HO
  iintro ⟨HD, Hs0, HO⟩
  ihave HD := (batch_back c w v t (b := 0) (by omega)) $$ [Hsp0 HD]
  · isplitl [Hsp0]; · iexact Hsp0
    iexact HD
  icases HD with ⟨Hb0, Hy0⟩
  iapply (wp_load Variants.none (c : Thread nD τ) none Set.univ (m := arg4) (f := f4) (Finset.subset_univ _)) $$ H4
  iintro H4
  ihave HM := (show (iprop((arg3.view.loc (c : Thread nD τ) ↦{fullShare} f3) ∗ ((c : Thread nD τ).loc cc0_scratch0 ↦[partSet 0]{fullShare} gathered w t v)
      ∗ (arg5.view.loc (c : Thread nD τ) ↦{fullShare} f5)) : sProp 𝕄)
      ⊢ Mid c arg3 arg5 f3 (arg4.view.read (Elt F) f4) (gathered w t v) 0 (0 * 8 + 0) from start c arg3 arg5) $$ [H3 Hb0 H5]
  · isplitl [H3]; · iexact H3
    isplitl [Hb0]; · iexact Hb0
    iexact H5
  iapply (chunk c arg3 arg5 (m := arg4.view.read (Elt F) f4) (q := 0) (n := 0) (by omega) (by omega) (weights_read arg4 f4 (q := 0) (by omega) rfl _) rfl rfl) $$ HM
  iintro HM
  iapply (chunk c arg3 arg5 (m := arg4.view.read (Elt F) f4) (q := 0) (n := 1) (by omega) (by omega) (weights_read arg4 f4 (q := 0) (by omega) rfl _) rfl rfl) $$ HM
  iintro HM
  iapply (chunk c arg3 arg5 (m := arg4.view.read (Elt F) f4) (q := 0) (n := 2) (by omega) (by omega) (weights_read arg4 f4 (q := 0) (by omega) rfl _) rfl rfl) $$ HM
  iintro HM
  iapply (chunk c arg3 arg5 (m := arg4.view.read (Elt F) f4) (q := 0) (n := 3) (by omega) (by omega) (weights_read arg4 f4 (q := 0) (by omega) rfl _) rfl rfl) $$ HM
  iintro HM
  iapply (chunk c arg3 arg5 (m := arg4.view.read (Elt F) f4) (q := 0) (n := 4) (by omega) (by omega) (weights_read arg4 f4 (q := 0) (by omega) rfl _) rfl rfl) $$ HM
  iintro HM
  iapply (chunk c arg3 arg5 (m := arg4.view.read (Elt F) f4) (q := 0) (n := 5) (by omega) (by omega) (weights_read arg4 f4 (q := 0) (by omega) rfl _) rfl rfl) $$ HM
  iintro HM
  iapply (chunk c arg3 arg5 (m := arg4.view.read (Elt F) f4) (q := 0) (n := 6) (by omega) (by omega) (weights_read arg4 f4 (q := 0) (by omega) rfl _) rfl rfl) $$ HM
  iintro HM
  iapply (chunk c arg3 arg5 (m := arg4.view.read (Elt F) f4) (q := 0) (n := 7) (by omega) (by omega) (weights_read arg4 f4 (q := 0) (by omega) rfl _) rfl rfl) $$ HM
  iintro HM
  iapply (Transfers.wp_waitBatchMul (countersEmb (U := Pipeline.UD sig nD τ)) Variants.none (c : Thread nD τ) none () 128 (N := NN) credit_wait (j := 512) (u := 0) (by decide)) $$ [HB1 HO]
  · isplitl [HB1]; · iexact HB1
    iexact HO
  iintro ⟨HB1, HO⟩
  iapply (Transfers.wp_waitBatchMul (countersEmb (U := Pipeline.UD sig nD τ)) Variants.none (c : Thread nD τ) none () 128 (N := NN) credit_wait (j := 512) (u := 0 + 128 * NN) (by decide)) $$ [HB1 HO]
  · isplitl [HB1]; · iexact HB1
    iexact HO
  iintro ⟨HB1, HO⟩
  iapply (Transfers.wp_waitBatchMul (countersEmb (U := Pipeline.UD sig nD τ)) Variants.none (c : Thread nD τ) none () 128 (N := NN) credit_wait (j := 512) (u := 0 + 128 * NN + 128 * NN) (by decide)) $$ [HB1 HO]
  · isplitl [HB1]; · iexact HB1
    iexact HO
  iintro ⟨HB1, HO⟩
  iapply (Transfers.wp_waitBatchAll (countersEmb (U := Pipeline.UD sig nD τ)) Variants.none (c : Thread nD τ) none () (N := NN) credit_wait (by decide) (n := 512) (u := 0 + 128 * NN + 128 * NN + 128 * NN) (by decide)) $$ [HB1 HO]
  · isplitl [HB1]; · iexact HB1
    iexact HO
  iintro ⟨HD, Hs1, HO⟩
  ihave HD := (batch_back c w v t (b := 1) (by omega)) $$ [Hsp1 HD]
  · isplitl [Hsp1]; · iexact Hsp1
    iexact HD
  icases HD with ⟨Hb1, Hy1⟩
  iapply (wp_load Variants.none (c : Thread nD τ) none Set.univ (m := arg4) (f := f4) (Finset.subset_univ _)) $$ H4
  iintro H4
  ihave HM := (turn c arg3 arg5 (q := 0) (q' := 1) (n := 8)) $$ [HM Hb1]
  · isplitl [HM]; · iexact HM
    iexact Hb1
  icases HM with ⟨HM, Hb0⟩
  iapply (chunk c arg3 arg5 (m := arg4.view.read (Elt F) f4) (q := 1) (n := 0) (by omega) (by omega) (weights_read arg4 f4 (q := 1) (by omega) rfl _) rfl rfl) $$ HM
  iintro HM
  iapply (chunk c arg3 arg5 (m := arg4.view.read (Elt F) f4) (q := 1) (n := 1) (by omega) (by omega) (weights_read arg4 f4 (q := 1) (by omega) rfl _) rfl rfl) $$ HM
  iintro HM
  iapply (chunk c arg3 arg5 (m := arg4.view.read (Elt F) f4) (q := 1) (n := 2) (by omega) (by omega) (weights_read arg4 f4 (q := 1) (by omega) rfl _) rfl rfl) $$ HM
  iintro HM
  iapply (chunk c arg3 arg5 (m := arg4.view.read (Elt F) f4) (q := 1) (n := 3) (by omega) (by omega) (weights_read arg4 f4 (q := 1) (by omega) rfl _) rfl rfl) $$ HM
  iintro HM
  iapply (chunk c arg3 arg5 (m := arg4.view.read (Elt F) f4) (q := 1) (n := 4) (by omega) (by omega) (weights_read arg4 f4 (q := 1) (by omega) rfl _) rfl rfl) $$ HM
  iintro HM
  iapply (chunk c arg3 arg5 (m := arg4.view.read (Elt F) f4) (q := 1) (n := 5) (by omega) (by omega) (weights_read arg4 f4 (q := 1) (by omega) rfl _) rfl rfl) $$ HM
  iintro HM
  iapply (chunk c arg3 arg5 (m := arg4.view.read (Elt F) f4) (q := 1) (n := 6) (by omega) (by omega) (weights_read arg4 f4 (q := 1) (by omega) rfl _) rfl rfl) $$ HM
  iintro HM
  iapply (chunk c arg3 arg5 (m := arg4.view.read (Elt F) f4) (q := 1) (n := 7) (by omega) (by omega) (weights_read arg4 f4 (q := 1) (by omega) rfl _) rfl rfl) $$ HM
  iintro HM
  iapply (Transfers.wp_waitBatchMul (countersEmb (U := Pipeline.UD sig nD τ)) Variants.none (c : Thread nD τ) none () 128 (N := NN) credit_wait (j := 512) (u := 0) (by decide)) $$ [HB2 HO]
  · isplitl [HB2]; · iexact HB2
    iexact HO
  iintro ⟨HB2, HO⟩
  iapply (Transfers.wp_waitBatchMul (countersEmb (U := Pipeline.UD sig nD τ)) Variants.none (c : Thread nD τ) none () 128 (N := NN) credit_wait (j := 512) (u := 0 + 128 * NN) (by decide)) $$ [HB2 HO]
  · isplitl [HB2]; · iexact HB2
    iexact HO
  iintro ⟨HB2, HO⟩
  iapply (Transfers.wp_waitBatchMul (countersEmb (U := Pipeline.UD sig nD τ)) Variants.none (c : Thread nD τ) none () 128 (N := NN) credit_wait (j := 512) (u := 0 + 128 * NN + 128 * NN) (by decide)) $$ [HB2 HO]
  · isplitl [HB2]; · iexact HB2
    iexact HO
  iintro ⟨HB2, HO⟩
  iapply (Transfers.wp_waitBatchAll (countersEmb (U := Pipeline.UD sig nD τ)) Variants.none (c : Thread nD τ) none () (N := NN) credit_wait (by decide) (n := 512) (u := 0 + 128 * NN + 128 * NN + 128 * NN) (by decide)) $$ [HB2 HO]
  · isplitl [HB2]; · iexact HB2
    iexact HO
  iintro ⟨HD, Hs2, HO⟩
  ihave HD := (batch_back c w v t (b := 2) (by omega)) $$ [Hsp2 HD]
  · isplitl [Hsp2]; · iexact Hsp2
    iexact HD
  icases HD with ⟨Hb2, Hy2⟩
  iapply (wp_load Variants.none (c : Thread nD τ) none Set.univ (m := arg4) (f := f4) (Finset.subset_univ _)) $$ H4
  iintro H4
  ihave HM := (turn c arg3 arg5 (q := 1) (q' := 2) (n := 16)) $$ [HM Hb2]
  · isplitl [HM]; · iexact HM
    iexact Hb2
  icases HM with ⟨HM, Hb1⟩
  iapply (chunk c arg3 arg5 (m := arg4.view.read (Elt F) f4) (q := 2) (n := 0) (by omega) (by omega) (weights_read arg4 f4 (q := 2) (by omega) rfl _) rfl rfl) $$ HM
  iintro HM
  iapply (chunk c arg3 arg5 (m := arg4.view.read (Elt F) f4) (q := 2) (n := 1) (by omega) (by omega) (weights_read arg4 f4 (q := 2) (by omega) rfl _) rfl rfl) $$ HM
  iintro HM
  iapply (chunk c arg3 arg5 (m := arg4.view.read (Elt F) f4) (q := 2) (n := 2) (by omega) (by omega) (weights_read arg4 f4 (q := 2) (by omega) rfl _) rfl rfl) $$ HM
  iintro HM
  iapply (chunk c arg3 arg5 (m := arg4.view.read (Elt F) f4) (q := 2) (n := 3) (by omega) (by omega) (weights_read arg4 f4 (q := 2) (by omega) rfl _) rfl rfl) $$ HM
  iintro HM
  iapply (chunk c arg3 arg5 (m := arg4.view.read (Elt F) f4) (q := 2) (n := 4) (by omega) (by omega) (weights_read arg4 f4 (q := 2) (by omega) rfl _) rfl rfl) $$ HM
  iintro HM
  iapply (chunk c arg3 arg5 (m := arg4.view.read (Elt F) f4) (q := 2) (n := 5) (by omega) (by omega) (weights_read arg4 f4 (q := 2) (by omega) rfl _) rfl rfl) $$ HM
  iintro HM
  iapply (chunk c arg3 arg5 (m := arg4.view.read (Elt F) f4) (q := 2) (n := 6) (by omega) (by omega) (weights_read arg4 f4 (q := 2) (by omega) rfl _) rfl rfl) $$ HM
  iintro HM
  iapply (chunk c arg3 arg5 (m := arg4.view.read (Elt F) f4) (q := 2) (n := 7) (by omega) (by omega) (weights_read arg4 f4 (q := 2) (by omega) rfl _) rfl rfl) $$ HM
  iintro HM
  iapply (Transfers.wp_waitBatchMul (countersEmb (U := Pipeline.UD sig nD τ)) Variants.none (c : Thread nD τ) none () 128 (N := NN) credit_wait (j := 512) (u := 0) (by decide)) $$ [HB3 HO]
  · isplitl [HB3]; · iexact HB3
    iexact HO
  iintro ⟨HB3, HO⟩
  iapply (Transfers.wp_waitBatchMul (countersEmb (U := Pipeline.UD sig nD τ)) Variants.none (c : Thread nD τ) none () 128 (N := NN) credit_wait (j := 512) (u := 0 + 128 * NN) (by decide)) $$ [HB3 HO]
  · isplitl [HB3]; · iexact HB3
    iexact HO
  iintro ⟨HB3, HO⟩
  iapply (Transfers.wp_waitBatchMul (countersEmb (U := Pipeline.UD sig nD τ)) Variants.none (c : Thread nD τ) none () 128 (N := NN) credit_wait (j := 512) (u := 0 + 128 * NN + 128 * NN) (by decide)) $$ [HB3 HO]
  · isplitl [HB3]; · iexact HB3
    iexact HO
  iintro ⟨HB3, HO⟩
  iapply (Transfers.wp_waitBatchAll (countersEmb (U := Pipeline.UD sig nD τ)) Variants.none (c : Thread nD τ) none () (N := NN) credit_wait (by decide) (n := 512) (u := 0 + 128 * NN + 128 * NN + 128 * NN) (by decide)) $$ [HB3 HO]
  · isplitl [HB3]; · iexact HB3
    iexact HO
  iintro ⟨HD, Hs3, HO⟩
  ihave HD := (batch_back c w v t (b := 3) (by omega)) $$ [Hsp3 HD]
  · isplitl [Hsp3]; · iexact Hsp3
    iexact HD
  icases HD with ⟨Hb3, Hy3⟩
  iapply (wp_load Variants.none (c : Thread nD τ) none Set.univ (m := arg4) (f := f4) (Finset.subset_univ _)) $$ H4
  iintro H4
  ihave HM := (turn c arg3 arg5 (q := 2) (q' := 3) (n := 24)) $$ [HM Hb3]
  · isplitl [HM]; · iexact HM
    iexact Hb3
  icases HM with ⟨HM, Hb2⟩
  iapply (chunk c arg3 arg5 (m := arg4.view.read (Elt F) f4) (q := 3) (n := 0) (by omega) (by omega) (weights_read arg4 f4 (q := 3) (by omega) rfl _) rfl rfl) $$ HM
  iintro HM
  iapply (chunk c arg3 arg5 (m := arg4.view.read (Elt F) f4) (q := 3) (n := 1) (by omega) (by omega) (weights_read arg4 f4 (q := 3) (by omega) rfl _) rfl rfl) $$ HM
  iintro HM
  iapply (chunk c arg3 arg5 (m := arg4.view.read (Elt F) f4) (q := 3) (n := 2) (by omega) (by omega) (weights_read arg4 f4 (q := 3) (by omega) rfl _) rfl rfl) $$ HM
  iintro HM
  iapply (chunk c arg3 arg5 (m := arg4.view.read (Elt F) f4) (q := 3) (n := 3) (by omega) (by omega) (weights_read arg4 f4 (q := 3) (by omega) rfl _) rfl rfl) $$ HM
  iintro HM
  iapply (chunk c arg3 arg5 (m := arg4.view.read (Elt F) f4) (q := 3) (n := 4) (by omega) (by omega) (weights_read arg4 f4 (q := 3) (by omega) rfl _) rfl rfl) $$ HM
  iintro HM
  iapply (chunk c arg3 arg5 (m := arg4.view.read (Elt F) f4) (q := 3) (n := 5) (by omega) (by omega) (weights_read arg4 f4 (q := 3) (by omega) rfl _) rfl rfl) $$ HM
  iintro HM
  iapply (chunk c arg3 arg5 (m := arg4.view.read (Elt F) f4) (q := 3) (n := 6) (by omega) (by omega) (weights_read arg4 f4 (q := 3) (by omega) rfl _) rfl rfl) $$ HM
  iintro HM
  iapply (chunk c arg3 arg5 (m := arg4.view.read (Elt F) f4) (q := 3) (n := 7) (by omega) (by omega) (weights_read arg4 f4 (q := 3) (by omega) rfl _) rfl rfl) $$ HM
  iintro HM
  ihave HM := (finish c arg3 arg5) $$ HM
  icases HM with ⟨H3, Hb3, ⟨%f5', %hd, H5⟩⟩
  rw [wp_ret]; imodintro
  isplitl [Hy Hy0 Hy1 Hy2 Hy3]
  · isplitl [Hy]; · iexact Hy
    isplitl [Hy0]; · iexact Hy0
    isplitl [Hy1]; · iexact Hy1
    isplitl [Hy2]; · iexact Hy2
    iexact Hy3
  isplitl [Hb0 Hb1 Hb2 Hb3]
  · rw [buf_split c (gathered w t v)]
    isplitl [Hb0]; · iexact Hb0
    isplitl [Hb1]; · iexact Hb1
    isplitl [Hb2]; · iexact Hb2
    iexact Hb3
  isplitl [H1]; · iexact H1
  isplitl [H3]; · iexact H3
  isplitl [H4]; · iexact H4
  isplitl [H5]
  · iexists f5'
    isplitr [H5]
    · ipureintro; exact hd
    · iexact H5
  isplitl [Hs0]; · iexact Hs0
  isplitl [Hs1]; · iexact Hs1
  isplitl [Hs2]; · iexact Hs2
  isplitl [Hs3]; · iexact Hs3
  iexists _
  iexact HO

end Cert.Kernel3Ideal.Hand

end
-- ==== Proof.CombineRun.lean ====
/-
  The combination's run: over the 32 tiles of 512 tokens every block of the result ends at the tile's sums, and no argument
  changes.
-/
module

public import proofs.«01_k».proof.Proof.CombineBody
public import Idealize.ShloMosaic.Lib.Pipeline.FrameBody
public import Idealize.ShloMosaic.Lib.Pipeline.FrameValue
public import Idealize.ShloMosaic.Lib.Pipeline.ArrRel

@[expose] public section

set_option maxRecDepth 16384

noncomputable section

namespace Cert.Kernel3Ideal.Hand

open Cert.Kernel3Ideal Cert.Kernel3Ideal.Gen
open Cert.Proof.Dispatch (XS PS wordAt InWin winSet mem_winSet pairOf pairOf_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The layer's result: at token `i`, feature `l`, the residual and the token's four rows by their weights, in order. -/
def combined (w : ℕ → ℕ) (v : XS.Idx → F .f32) (x : S16384x1024.Idx → F .f32) (mw : S16384x128.Idx → F .f32) : S16384x1024.Idx → F .f32 := fun i =>
  have hr : (i 0).val < 16384 := (i 0).isLt
  have hl : (i 1).val < 1024 := (i 1).isLt
  sum4 (x i)
    (mw (ix2 (i 0) 0)) (gathered w ((i 0).val / 512) v (ix3 0 ⟨(i 0).val % 512 * 8 + (i 1).val / 128, by omega⟩ ⟨(i 1).val % 128, by omega⟩))
    (mw (ix2 (i 0) 1)) (gathered w ((i 0).val / 512) v (ix3 1 ⟨(i 0).val % 512 * 8 + (i 1).val / 128, by omega⟩ ⟨(i 1).val % 128, by omega⟩))
    (mw (ix2 (i 0) 2)) (gathered w ((i 0).val / 512) v (ix3 2 ⟨(i 0).val % 512 * 8 + (i 1).val / 128, by omega⟩ ⟨(i 1).val % 128, by omega⟩))
    (mw (ix2 (i 0) 3)) (gathered w ((i 0).val / 512) v (ix3 3 ⟨(i 0).val % 512 * 8 + (i 1).val / 128, by omega⟩ ⟨(i 1).val % 128, by omega⟩))

variable (m : (ℓ : Loc nD τ sig) → Buf (Elt F) ℓ) (ρ : Dev nD → PrngReg)

/-- The one buffer the body reads itself. -/
def R0 : Finset (Ref sig .tc) := {main_arg1}
theorem R0_sub : R0 ⊆ Pipeline.restRefs sig spec0 \ ∅ := by decide

abbrev osem0 : Fin 4 → SemLoc sig := fun
  | 0 => .dma sem0
  | 1 => .dma sem1
  | 2 => .dma sem2
  | 3 => .dma sem3
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma sem0) 0 ∗ semVal ((c : Thread nD τ), .dma sem1) 0
        ∗ semVal ((c : Thread nD τ), .dma sem2) 0 ∗ semVal ((c : Thread nD τ), .dma sem3) 0) := by
  rw [Pipeline.ownSems0_eq_of_list c osem0 [0, 1, 2, 3] (by decide) (by decide)]; rfl

/-- A core's buffers as launched. -/
abbrev V0 (c : Dev nD) (b : Ref sig .tc) : Buf (Elt F) ((c : Thread nD τ).loc b) := m ((c : Thread nD τ).loc b)

/-- The pairs' rows, the experts' rows, the residual and the weights of the launch. -/
abbrev wOf (c : Dev nD) : ℕ → ℕ := wordAt (V0 m c main_arg0)
abbrev vOf (c : Dev nD) : XS.Idx → Elt F .f32 := V0 m c main_arg1
abbrev xOf (c : Dev nD) : S16384x1024.Idx → F .f32 := V0 m c main_arg2
abbrev mOf (c : Dev nD) : S16384x128.Idx → F .f32 := V0 m c main_arg3

theorem main_at (𝒱₀ : Variants) : Pipeline.HMain (Ix := Unit) (Name := ℕ) (U := Pipeline.UD sig nD τ) (Lvl := ℕ) cfgs 0 defs₀ 𝒱₀ m (main (F := F)) (V0 m) :=
  Pipeline.hmain_region cfgs 0 defs₀ 𝒱₀ m main fun c => (main_chain c).trans rfl

/-- Window `w`'s block at a point. -/
def blockAt (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- What the body holds besides the staged blocks. -/
def held (c : Dev nD) : sProp 𝕄 := Pipeline.ΦDRG osem0 spec0 ∅ R0 (V0 m) (V0 m) c

def dats (_ : Fin 1) (c : Dev nD) : Dat τ (Elt F) Unit ℕ (Pipeline.UD sig nD τ) ℕ cfg0 c where
  A w := V0 m c (Pipeline.arrRef spec0 w)
  after w t := match w with
    | ⟨0, _⟩ => blockAt m c 0 t
    | ⟨1, _⟩ => blockAt m c 1 t
    | ⟨2, _⟩ => blockAt m c 2 t
    | ⟨3, _⟩ => outTile (blockAt m c 1 t) (blockAt m c 2 t) (gathered (wOf m c) t.val (vOf m c))
  Φ t := held m c
  q _ := fullShare
  owed _ := 0

theorem A_eq (c : Dev nD) (w : Fin cfg0.W) : (dats m 0 c).A w = V0 m c (Pipeline.arrRef spec0 w) := by dsimp only [dats]

theorem before_0 (c : Dev nD) (t : Fin cfg0.N) (d) : (dats m 0 c).before 0 t d = blockAt m c 0 t :=
  ((dats m 0 c).before_in_eq_fetched 0 rfl (fun _ => rfl) (fun _ _ _ => rfl) (fun t => by dsimp only [dats]; unfold Dat.blockOf blockAt; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl) (fun t => by dsimp only [dats]; unfold Dat.blockOf blockAt; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl) (fun t => by dsimp only [dats]; unfold Dat.blockOf blockAt; try rfl) t d).trans
    (by unfold Dat.fetched Dat.blockOf blockAt; rw [A_eq]; try rfl)

theorem held_eq (c : Dev nD) : held m c = iprop((∃ g : Buf (Elt F) ((c : Thread nD τ).loc cc0_scratch0), (c : Thread nD τ).loc cc0_scratch0 ↦{fullShare} g)
    ∗ (∃ r, prngReg c r)
    ∗ (semVal ((c : Thread nD τ), .dma sem0) 0 ∗ semVal ((c : Thread nD τ), .dma sem1) 0
        ∗ semVal ((c : Thread nD τ), .dma sem2) 0 ∗ semVal ((c : Thread nD τ), .dma sem3) 0) ∗ emp
    ∗ ((c : Thread nD τ).loc main_arg1 ↦{fullShare} vOf m c)) := by
  unfold held
  rw [Pipeline.ΦDRG_eq, scopedRest0_eq, ownSems00_eq, bigSep_empty]
  unfold Pipeline.routed R0
  rw [bigSep_singleton]
  rfl

theorem at_0 : ∀ t : Fin grid0.N, cc0_transform_0 (grid0.coords t) = ![t.val, 0, 0] := by decide +kernel
theorem at_2 : ∀ t : Fin grid0.N, cc0_transform_2 (grid0.coords t) = ![t.val, 0] := by decide +kernel
theorem at_3 : ∀ t : Fin grid0.N, cc0_transform_3 (grid0.coords t) = ![t.val, 0] := by decide +kernel
theorem at_4 : ∀ t : Fin grid0.N, cc0_transform_4 (grid0.coords t) = ![t.val, 0] := by decide +kernel

theorem blockAt_0 (c : Dev nD) (t : Fin cfg0.N) (q : Fin 2048) :
    BitVec.toNat (w := 32) (blockAt m c 0 t (ix3 0 0 q)) = wOf m c (t.val * 2048 + q.val) := by
  have ht : t.val < 32 := lt_of_lt_of_eq t.isLt N_0
  unfold wOf wordAt
  show BitVec.toNat (w := 32) (V0 m c main_arg0 (((cfg0.win 0).blk t).view.emb (ix3 0 0 q))) = _
  congr 2
  have e := at_0 t
  funext a; apply Fin.ext; fin_cases a
  · show cc0_transform_0 (grid0.coords t) 0 * 1 + 1 * 0 = _
    rw [e]; show t.val * 1 + 1 * 0 = (t.val * 2048 + q.val) / 2048 % 32; omega
  · show cc0_transform_0 (grid0.coords t) 1 * 1 + 1 * 0 = _
    rw [e]; rfl
  · show cc0_transform_0 (grid0.coords t) 2 * 2048 + 1 * q.val = _
    rw [e]; show 0 * 2048 + 1 * q.val = (t.val * 2048 + q.val) % 2048; omega

theorem blockAt_1 (c : Dev nD) (t : Fin cfg0.N) (ht : t.val < 32) (r : Fin 512) (l : Fin 1024) :
    blockAt m c 1 t (ix2 r l) = xOf m c (ix2 ⟨t.val * 512 + r.val, by omega⟩ l) := by
  show V0 m c main_arg2 (((cfg0.win 1).blk t).view.emb (ix2 r l)) = _
  congr 1
  have e := at_2 t
  funext a; apply Fin.ext; fin_cases a
  · show cc0_transform_2 (grid0.coords t) 0 * 512 + 1 * r.val = _
    rw [e]; show t.val * 512 + 1 * r.val = t.val * 512 + r.val; omega
  · show cc0_transform_2 (grid0.coords t) 1 * 1024 + 1 * l.val = _
    rw [e]; show 0 * 1024 + 1 * l.val = l.val; omega

theorem blockAt_2 (c : Dev nD) (t : Fin cfg0.N) (ht : t.val < 32) (r : Fin 512) (l : Fin 128) :
    blockAt m c 2 t (ix2 r l) = mOf m c (ix2 ⟨t.val * 512 + r.val, by omega⟩ l) := by
  show V0 m c main_arg3 (((cfg0.win 2).blk t).view.emb (ix2 r l)) = _
  congr 1
  have e := at_3 t
  funext a; apply Fin.ext; fin_cases a
  · show cc0_transform_3 (grid0.coords t) 0 * 512 + 1 * r.val = _
    rw [e]; show t.val * 512 + 1 * r.val = t.val * 512 + r.val; omega
  · show cc0_transform_3 (grid0.coords t) 1 * 128 + 1 * l.val = _
    rw [e]; show 0 * 128 + 1 * l.val = l.val; omega

theorem emb_out (t : Fin cfg0.N) (ht : t.val < 32) (r : Fin 512) (l : Fin 1024) :
    (((cfg0.win 3).blk t).view.emb (ix2 r l) : S16384x1024.Idx) = ix2 ⟨t.val * 512 + r.val, by omega⟩ l := by
  have e := at_4 t
  funext a; apply Fin.ext; fin_cases a
  · show cc0_transform_4 (grid0.coords t) 0 * 512 + 1 * r.val = _
    rw [e]; show t.val * 512 + 1 * r.val = t.val * 512 + r.val; omega
  · show cc0_transform_4 (grid0.coords t) 1 * 1024 + 1 * l.val = _
    rw [e]; show 0 * 1024 + 1 * l.val = l.val; omega

/-- A tile's sums are the result's at the tile's tokens. -/
theorem tile_at (c : Dev nD) (t : Fin cfg0.N) (ht : t.val < 32) (r : Fin 512) (l : Fin 1024) :
    outTile (blockAt m c 1 t) (blockAt m c 2 t) (gathered (wOf m c) t.val (vOf m c)) (ix2 r l)
      = combined (wOf m c) (vOf m c) (xOf m c) (mOf m c) (ix2 ⟨t.val * 512 + r.val, by omega⟩ l) := by
  have hr := r.isLt
  have hl := l.isLt
  have e1 : (t.val * 512 + r.val) / 512 = t.val := by omega
  have e2 : (⟨(t.val * 512 + r.val) % 512 * 8 + l.val / 128, by omega⟩ : Fin 4096) = ⟨r.val * 8 + l.val / 128, by omega⟩ :=
    Fin.ext (by show (t.val * 512 + r.val) % 512 * 8 + l.val / 128 = r.val * 8 + l.val / 128; omega)
  show sum4 (blockAt m c 1 t (ix2 r l)) (blockAt m c 2 t (ix2 r 0)) _ (blockAt m c 2 t (ix2 r 1)) _ (blockAt m c 2 t (ix2 r 2)) _ (blockAt m c 2 t (ix2 r 3)) _
    = sum4 _ _ (gathered (wOf m c) ((t.val * 512 + r.val) / 512) (vOf m c) (ix3 0 ⟨(t.val * 512 + r.val) % 512 * 8 + l.val / 128, _⟩ _))
        _ (gathered (wOf m c) ((t.val * 512 + r.val) / 512) (vOf m c) (ix3 1 ⟨(t.val * 512 + r.val) % 512 * 8 + l.val / 128, _⟩ _))
        _ (gathered (wOf m c) ((t.val * 512 + r.val) / 512) (vOf m c) (ix3 2 ⟨(t.val * 512 + r.val) % 512 * 8 + l.val / 128, _⟩ _))
        _ (gathered (wOf m c) ((t.val * 512 + r.val) / 512) (vOf m c) (ix3 3 ⟨(t.val * 512 + r.val) % 512 * 8 + l.val / 128, _⟩ _))
  rw [e1, e2, blockAt_1 m c t ht, blockAt_2 m c t ht, blockAt_2 m c t ht, blockAt_2 m c t ht, blockAt_2 m c t ht]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t))

variable {m}

theorem sound_body {c : Dev nD} (hw : Inside (wOf m c)) (t : Fin cfg0.N) :
    bodyPre m c t ⊢ wp frame (wpE (defs₀ (F := F)) Variants.none c none) Set.univ (bodyAt0 t) (fun _ => bodyPost m c t) := by
  have ht : t.val < 32 := lt_of_lt_of_eq t.isLt N_0
  unfold bodyPre bodyPost bodyAt0
  rw [show (dats m 0 c).Φ t.castSucc = held m c from rfl, show (dats m 0 c).Φ t.succ = held m c from rfl, held_eq]
  unfold Dat.owesAt Pipeline.owesWithin
  rw [show (dats m 0 c).owed t.castSucc = 0 from rfl, show (dats m 0 c).owed t.succ = 0 from rfl]
  rw [show (dats m 0 c).after 0 t = blockAt m c 0 t from rfl, show (dats m 0 c).after 1 t = blockAt m c 1 t from rfl,
    show (dats m 0 c).after 2 t = blockAt m c 2 t from rfl,
    show (dats m 0 c).after 3 t = outTile (blockAt m c 1 t) (blockAt m c 2 t) (gathered (wOf m c) t.val (vOf m c)) from rfl]
  unfold owns
  rw [show (st0_0 t).view.set = Finset.univ from (hstage0_0 ((cfg0.slots t 0).cast nbuf0_0)).set_eq_univ,
    show (st0_1 t).view.set = Finset.univ from (hstage0_1 ((cfg0.slots t 1).cast nbuf0_1)).set_eq_univ,
    show (st0_2 t).view.set = Finset.univ from (hstage0_2 ((cfg0.slots t 2).cast nbuf0_2)).set_eq_univ,
    show (st0_3 t).view.set = Finset.univ from (hstage0_3 ((cfg0.slots t 3).cast nbuf0_3)).set_eq_univ]
  iintro ⟨⟨⟨%g, Hg⟩, Hp, ⟨Hs0, Hs1, Hs2, Hs3⟩, He, Hy⟩, ⟨%W, -, HW⟩, ⟨%d0, %f0, %h0, H0⟩, ⟨%d1, %f1, %h1, H1⟩, ⟨%d2, %f2, %h2, H2⟩, ⟨%d3, %f3, %h3, H3⟩⟩
  have h0' := h0.trans (before_0 m c t d0)
  have h1' := h1.trans (before_1 m c t d1)
  have h2' := h2.trans (before_2 m c t d2)
  iapply (wp_wand _ _ _) $$ [Hy Hg H0 H1 H2 H3 Hs0 Hs1 Hs2 Hs3 HW]
  · iapply (body hw (v := vOf m c) ht (arg1 := st0_0 t) (f1 := f0) (arg3 := st0_1 t) (f3 := f1) (arg4 := st0_2 t) (f4 := f2) (arg5 := st0_3 t) (f5 := f3) (g := g) (grid0.coords t)
      (hstage0_0 ((cfg0.slots t 0).cast nbuf0_0)) (hstage0_1 ((cfg0.slots t 1).cast nbuf0_1))
      (hstage0_2 ((cfg0.slots t 2).cast nbuf0_2)) (hstage0_3 ((cfg0.slots t 3).cast nbuf0_3))
      (fun q => (congrArg BitVec.toNat (congrFun h0' (ix3 0 0 q))).trans (blockAt_0 m c t q)) W)
    isplitl [Hy]; · iexact Hy
    isplitl [Hg]; · iexact Hg
    isplitl [H0]; · iexact H0
    isplitl [H1]; · iexact H1
    isplitl [H2]; · iexact H2
    isplitl [H3]; · iexact H3
    isplitl [Hs0]; · iexact Hs0
    isplitl [Hs1]; · iexact Hs1
    isplitl [Hs2]; · iexact Hs2
    isplitl [Hs3]; · iexact Hs3
    iexact HW
  iintro %u ⟨Hy, Hg, H0, H1, H2, ⟨%f3', %h3', H3⟩, Hs0, Hs1, Hs2, Hs3, ⟨%W', HW'⟩⟩
  isplitl [Hp Hg Hs0 Hs1 Hs2 Hs3 He Hy]
  · isplitl [Hg]; · iexists _; iexact Hg
    isplitl [Hp]; · iexact Hp
    isplitl [Hs0 Hs1 Hs2 Hs3]
    · isplitl [Hs0]; · iexact Hs0
      isplitl [Hs1]; · iexact Hs1
      isplitl [Hs2]; · iexact Hs2
      iexact Hs3
    isplitl [He]; · iexact He
    iexact Hy
  isplitl [HW']
  · iexists W'; isplitr; · ipureintro; exact fun _ _ => Or.inl trivial
    iexact HW'
  isplitl [H0]
  · iexists f0; isplitr; · ipureintro; exact h0'
    iexact H0
  isplitl [H1]
  · iexists f1; isplitr; · ipureintro; exact h1'
    iexact H1
  isplitl [H2]
  · iexists f2; isplitr; · ipureintro; exact h2'
    iexact H2
  · iexists f3'; isplitr
    · ipureintro
      rw [h1', h2'] at h3'
      exact h3'
    iexact H3

theorem body_row (t : Fin cfg0.N) : defs₀ (F := F) .tc cfg0.body (cfg0.bodyArgs t (cfg0.slots t)) = bodyAt0 t := by
  unfold defs₀; rw [Defs.onTc_tc]

theorem body_obligation {c : Dev nD} (hw : Inside (wOf m c)) : BodyObligation (dats (F := F) m 0 c) (defs₀ (F := F)) Variants.none () Set.univ := fun t => by
  rw [bigSep_W0, bigSep_W0, body_row]
  exact triple_restated (sound_body hw t) rfl .rfl fun _ => .rfl

set_option backward.isDefEq.respectTransparency.types false in
theorem run_main (hw : ∀ c, Inside (wOf m c)) : θ_run defs (onTc (τ := τ) (main (F := F))) (s₀ m ρ)
    (fun r => Pipeline.FramePostRG cfgs (dats m) 0 R0 (V0 m) (V0 m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation (hw c)).loose) (hshare := fun c => (dats m 0 c).share_full fun _ => rfl)
    (howed := fun _ _ => rfl) (V := V0 m) (hmain := main_at m Variants.none) (hA := A_eq m) (G := V0 m)
    (hin := fun c => .rfl)
    (hout := fun c => .rfl)

/-- The result's array, read. -/
theorem out_read (c : Dev nD) : ((dats m 0 c).arrAt 3 cfg0.N : S16384x1024.Idx → F .f32) = combined (wOf m c) (vOf m c) (xOf m c) (mOf m c) := by
  refine funext fun (i : S16384x1024.Idx) => ?_
  have hi : (i 0).val < 16384 := (i 0).isLt
  have hN : cfg0.N = 32 := N_0
  obtain ⟨t, ht⟩ : ∃ t : Fin cfg0.N, t.val = (i 0).val / 512 := ⟨⟨(i 0).val / 512, by rw [hN]; omega⟩, rfl⟩
  have ht' : t.val < 32 := by omega
  have hidx : (((cfg0.win 3).blk t).view.emb (ix2 (⟨(i 0).val % 512, by omega⟩ : Fin 512) (i 1)) : S16384x1024.Idx) = i := by
    refine (emb_out t ht' _ _).trans ?_
    funext a; fin_cases a
    · exact Fin.ext (by show t.val * 512 + (i 0).val % 512 = (i 0).val; omega)
    · rfl
  have key := Dat.arrAt_forall_of_flushed (dats m 0 c) 3 (fun i x => (x : F .f32) = combined (wOf m c) (vOf m c) (xOf m c) (mOf m c) i) ?_ cfg0.N t
    (((cfg0.win 3).blk t).view.emb (ix2 (⟨(i 0).val % 512, by omega⟩ : Fin 512) (i 1))) t.isLt (flush0_3 t) (View.emb_mem_set _ _)
  · rw [hidx] at key; exact key
  · intro u hu y
    have hu' : u.val < 32 := lt_of_lt_of_eq u.isLt N_0
    have ey : (y : S512x1024.Idx) = ix2 (n0 := 512) (n1 := 1024) (y (0 : Fin 2)) (y (1 : Fin 2)) := eq_ix2 (n0 := 512) (n1 := 1024) y
    have e1 := tile_at m c u hu' (y (0 : Fin 2)) (y (1 : Fin 2))
    have e2 := emb_out u hu' (y (0 : Fin 2)) (y (1 : Fin 2))
    rw [← e2] at e1
    rw [show y = _ from ey]
    exact e1

/-- The run's post, read: the result, the arguments kept, every counter at zero. -/
theorem run_read (hw : ∀ c, Inside (wOf m c)) : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.mem ((c.tc : Thread nD τ).loc main_v0) = combined (wOf m c) (vOf m c) (xOf m c) (mOf m c))
      ∧ r.2.sem = fun _ => 0) :=
  (θ_run defs _ _).mono (fun r h => ⟨fun c => ⟨⟨((h.1.1 c).1 0).trans (((dats m 0 c).arrAt_in 0 rfl _).trans (A_eq m c 0)),
      h.1.2 c main_arg1 (Finset.mem_singleton_self _),
      ((h.1.1 c).1 1).trans (((dats m 0 c).arrAt_in 1 rfl _).trans (A_eq m c 1)),
      ((h.1.1 c).1 2).trans (((dats m 0 c).arrAt_in 2 rfl _).trans (A_eq m c 2))⟩,
      ((h.1.1 c).1 3).trans (out_read c)⟩, h.2⟩) (run_main ρ hw)

end Cert.Kernel3Ideal.Hand

end
-- ==== Proof.Values.lean ====
/-
  The values: what the precondition gives (`Good`), where the reference's scatter lands, and that both programs hold the
  token's row at every row that the mask selects.
-/
module

public import proofs.«01_k».proof.Proof.Landed
public import proofs.«01_k».proof.Proof.Gen.ReferenceIdeal
public import proofs.«01_k».proof.Proof.Gen.On_assigned
public import proofs.«01_k».proof.Proof.Gen.Pre_distinct_positions
public import Idealize.ShloMosaic.Lib.ReduceAll
public import Idealize.ShloMosaic.Lib.SortFacts
public import Idealize.ShloMosaic.Lib.Routing.OpsSet
public import Idealize.ShloMosaic.Lib.Routing.OpsPair
public import Idealize.ShloMosaic.Lib.Routing.Words
public import Idealize.ShloMosaic.Lib.Pipeline.Value
public import Idealize.ShloMosaic.Lib.Pointwise

@[expose] public section

noncomputable section

namespace Cert.Proof.Dispatch

open Idealize.ShloMosaic hiding ix0 ix1 ix2 ix3 ix5
open Idealize.ShloMosaic.ValueIdx

abbrev LS : Shape := ⟨1, ![65536]⟩

/-! ## The precondition -/

/-- The words laid out in one line: entry `p` is pair `p`'s word. -/
theorem flat_at (pos : PS.Idx → BitVec 32) (h : PS.ShapeCasts LS) (p : Fin 65536) : (shapeCast LS pos h (ix1 p)).toNat = wordAt pos p.val := by
  have hp := p.isLt
  unfold wordAt
  congr 1
  apply shapeCast_apply
  rw [Shape.rowMajor_val_three, Shape.rowMajor_val_one]
  show (p.val / 2048 % 32 * 1 + 0) * 2048 + p.val % 2048 = p.val
  omega

theorem flat_word (pos : PS.Idx → BitVec 32) (h : PS.ShapeCasts LS) (p : Fin 65536) : shapeCast LS pos h (ix1 p) = BitVec.ofNat 32 (wordAt pos p.val) := by
  rw [← flat_at pos h, BitVec.ofNat_toNat, BitVec.setWidth_eq]

theorem andi_one : ∀ {x y : BitVec 1}, IntOp.andi x y = 1#1 → x = 1#1 ∧ y = 1#1 := by
  decide

theorem sort_cast (x y : LS.Idx → BitVec 32) (h : x = y) (cmp) : Host.sort LS 0 cmp x = Host.sort LS 0 cmp y := by rw [h]

/-- A chain of strict steps is strictly monotone. -/
theorem chain {N : ℕ} (f : ℕ → Int) (h : ∀ k, k + 1 < N → f k < f (k + 1)) : ∀ a b, a < b → b < N → f a < f b := by
  intro a b hab hb
  induction b with
  | zero => omega
  | succ b ih =>
    rcases Nat.lt_or_ge a b with h1 | h1
    · exact lt_trans (ih h1 (by omega)) (h b hb)
    · obtain rfl : a = b := by omega
      exact h _ hb

theorem good_of_pre {F : FTy → Type} [FloatOps F] (pos : PS.Idx → BitVec 32) (x : FVec F HS .f32)
    (h : Cert.Pre_distinct_positions.fn (F := F) pos x = fun _ => 1#1) : Good (wordAt pos) := by
  have h0 := congrFun h ix0
  unfold Cert.Pre_distinct_positions.fn Cert.Pre_distinct_positions.fn_part1 at h0
  simp only [andi_apply] at h0
  obtain ⟨h1, hS⟩ := andi_one h0
  obtain ⟨h2, hD⟩ := andi_one h1
  obtain ⟨hG, hL⟩ := andi_one h2
  have hG' : ∀ p : Fin 65536, (0 : Int) ≤ (shapeCast LS pos _ (ix1 p)).toInt := fun p => IntOp.cmpi_sge.1 (Host.reduce_andi_all _ _ _ _ _ hG (ix1 p))
  have hL' : ∀ p : Fin 65536, (shapeCast LS pos _ (ix1 p)).toInt ≤ (655352 : Int) := fun p => IntOp.cmpi_sle.1 (Host.reduce_andi_all _ _ _ _ _ hL (ix1 p))
  have hD' : ∀ p : Fin 65536, shapeCast LS pos _ (ix1 p) &&& 7#32 = 0#32 := fun p => IntOp.cmpi_eq.1 (Host.reduce_andi_all _ _ _ _ _ hD (ix1 p))
  have hS' := fun i => IntOp.cmpi_slt.1 (Host.reduce_andi_all _ _ _ _ _ hS i)
  clear hG hL hD hS h0 h1 h2 h
  generalize hx : shapeCast LS pos _ = v at hG' hL' hD' hS'
  have hw : ∀ p : Fin 65536, (v (ix1 p)).toNat = wordAt pos p.val := fun p => by rw [← hx]; exact flat_at pos _ p
  have hn : ∀ p : Fin 65536, (v (ix1 p)).toInt = (wordAt pos p.val : Int) := fun p => by
    have := hG' p
    rw [← hw p, BitVec.toInt_eq_toNat_of_lt]
    rw [BitVec.toInt_eq_toNat_cond] at this
    split at this <;> omega
  refine ⟨fun p hp => ?_, fun p hp => ?_, fun p hp q hq e => ?_⟩
  · have := (hn ⟨p, hp⟩).symm.trans_le (hL' ⟨p, hp⟩)
    exact_mod_cast this
  · have h8 := congrArg BitVec.toNat (hD' ⟨p, hp⟩)
    rw [BitVec.toNat_and, hw] at h8
    have e7 : wordAt pos p &&& 7 = wordAt pos p % 8 := Nat.and_two_pow_sub_one_eq_mod _ 3
    exact Nat.dvd_of_mod_eq_zero (e7.symm.trans h8)
  · have key := injective_toNat_of_sort_strict Cert.Pre_distinct_positions.comparator_i32_d0 v ?_
    · have := key (a₁ := ix1 ⟨p, hp⟩) (a₂ := ix1 ⟨q, hq⟩) (by show (v _).toNat = (v _).toNat; rw [hw, hw]; exact e)
      exact congrArg (fun i : LS.Idx => (i 0).val) this
    · generalize hs : Host.sort LS 0 Cert.Pre_distinct_positions.comparator_i32_d0 v = s at hS'
      have hany : ∀ j : LS.Idx, (v j).toInt = ((v j).toNat : Int) := fun j => by
        obtain ⟨q, rfl⟩ : ∃ q : Fin 65536, j = ix1 q := ⟨j 0, ValueIdx.eq_ix1 j⟩
        rw [hn, hw]
      have hpos : ∀ k : Fin 65536, (s (Shape.Idx.ofFin k)).toInt = ((s (Shape.Idx.ofFin k)).toNat : Int) := fun k => by
        rw [← hs, Host.sort_rank1]
        exact hany _
      have hstep : ∀ k, k + 1 < 65536 → (s (Shape.Idx.ofFin ⟨k % 65536, Nat.mod_lt _ (by omega)⟩)).toInt
          < (s (Shape.Idx.ofFin ⟨(k + 1) % 65536, Nat.mod_lt _ (by omega)⟩)).toInt := fun k hk => by
        have h := hS' (ix1 ⟨k, by omega⟩)
        refine lt_of_eq_of_lt ?_ (h.trans_eq ?_)
        · refine congrArg (fun i => (s i).toInt) (funext fun a => Fin.ext ?_)
          fin_cases a
          show k % 65536 = 0 + k; omega
        · refine congrArg (fun i => (s i).toInt) (funext fun a => Fin.ext ?_)
          fin_cases a
          show 1 + k = (k + 1) % 65536; omega
      intro k k' hk
      have := chain (N := 65536) (fun k => (s (Shape.Idx.ofFin ⟨k % 65536, Nat.mod_lt _ (by omega)⟩)).toInt) hstep k.val k'.val hk k'.isLt
      have e1 : ∀ k : Fin 65536, (⟨k.val % 65536, Nat.mod_lt _ (by omega)⟩ : Fin 65536) = k := fun k => Fin.ext (Nat.mod_eq_of_lt k.isLt)
      simp only [e1, hpos] at this
      exact_mod_cast this

/-! ## The rows of the reference -/

/-- The row (a slab of eight) that each pair's word names, as the reference computes it. -/
theorem rows_at (pos : PS.Idx → BitVec 32) (h : PS.ShapeCasts LS) (hb : (⟨0, ![]⟩ : Shape).BroadcastsInDim LS (![] : Fin 0 → Fin LS.rank))
    (hc : LS.BroadcastsInDim ⟨2, ![65536, 1]⟩ (![0] : Fin 1 → Fin 2)) (p : Fin 65536) (hle : wordAt pos p.val ≤ 655352) :
    (broadcastInDim (⟨2, ![65536, 1]⟩ : Shape) ![0] hc (select (cmpi .slt (Host.divsi (shapeCast LS pos h) (broadcastInDim LS ![] hb (constantI ⟨0, ![]⟩ 32 8#32)))
        (broadcastInDim LS ![] hb (constantI ⟨0, ![]⟩ 32 0#32)))
      (addi (Host.divsi (shapeCast LS pos h) (broadcastInDim LS ![] hb (constantI ⟨0, ![]⟩ 32 8#32))) (broadcastInDim LS ![] hb (constantI ⟨0, ![]⟩ 32 81920#32)))
      (Host.divsi (shapeCast LS pos h) (broadcastInDim LS ![] hb (constantI ⟨0, ![]⟩ 32 8#32)))) (ix2 p (0 : Fin 1))).toInt
      = ((wordAt pos p.val / 8 : ℕ) : Int) := by
  rw [broadcastInDim_apply _ _ _ _ (ix1 p) (fun a => by fin_cases a; rfl)]
  have e : Host.divsi (shapeCast LS pos h) (broadcastInDim LS ![] hb (constantI ⟨0, ![]⟩ 32 8#32)) (ix1 p) = BitVec.ofNat 32 (wordAt pos p.val / 8) := by
    rw [Host.divsi_apply, flat_word]
    exact Routing.divsi_word _ (by omega) (by omega) (by omega)
  have e3 : select (cmpi .slt (Host.divsi (shapeCast LS pos h) (broadcastInDim LS ![] hb (constantI ⟨0, ![]⟩ 32 8#32)))
        (broadcastInDim LS ![] hb (constantI ⟨0, ![]⟩ 32 0#32)))
      (addi (Host.divsi (shapeCast LS pos h) (broadcastInDim LS ![] hb (constantI ⟨0, ![]⟩ 32 8#32))) (broadcastInDim LS ![] hb (constantI ⟨0, ![]⟩ 32 81920#32)))
      (Host.divsi (shapeCast LS pos h) (broadcastInDim LS ![] hb (constantI ⟨0, ![]⟩ 32 8#32))) (ix1 p) = BitVec.ofNat 32 (wordAt pos p.val / 8) := by
    rw [select_apply, cmpi_apply, e]
    have hz : IntOp.cmpi .slt (BitVec.ofNat 32 (wordAt pos p.val / 8)) (broadcastInDim LS ![] hb (constantI ⟨0, ![]⟩ 32 0#32) (ix1 p)) = 0#1 := by
      show IntOp.cmpi .slt _ 0#32 = 0#1
      have := WordCmp.cmpi_slt_ofNat (w := 32) (a := wordAt pos p.val / 8) (b := 0) (by omega) (by omega)
      rw [show (0#32 : BitVec 32) = BitVec.ofNat 32 0 from rfl, this]
      simp
    rw [hz]; rfl
  rw [e3]
  exact StableHlo.Predicate.toInt_ofNat_small _ (by omega)

/-- Where the reference's scatter lays pair `p`'s element `(r, l)`. -/
theorem lands3 (idx : IVec (⟨2, ![65536, 1]⟩ : Shape) 32) (p : Fin 65536) (r : Fin 8) (l : Fin 128) (q : Fin 81920) (r' : Fin 8) (l' : Fin 128) :
    Cert.ReferenceIdeal.scatter_S81920x8x128_S65536x1_S65536x8x128_12_0_0_1.resultIdx? (ix3 p r l) idx = some (ix3 q r' l')
      ↔ (idx (ix2 p (0 : Fin 1))).toInt = (q.val : Int) ∧ r = r' ∧ l = l' := by
  rw [Routing.resultIdx?_eq_some]
  have s0 : Cert.ReferenceIdeal.scatter_S81920x8x128_S65536x1_S65536x8x128_12_0_0_1.start (ix3 p r l) idx 0 = (idx (ix2 p (0 : Fin 1))).toInt := by
    show (idx _).toInt = _
    refine congrArg (fun i => (idx i).toInt) (funext fun a => Fin.ext ?_)
    fin_cases a <;> rfl
  constructor
  · intro h
    have h0 := h 0; have h1 := h 1; have h2 := h 2
    rw [s0] at h0
    refine ⟨(Int.add_zero _).symm.trans h0, Fin.ext ?_, Fin.ext ?_⟩
    · have : (0 : Int) + (r.val : Int) = (r'.val : Int) := h1
      omega
    · have : (0 : Int) + (l.val : Int) = (l'.val : Int) := h2
      omega
  · rintro ⟨h0, rfl, rfl⟩ a
    fin_cases a
    · show Cert.ReferenceIdeal.scatter_S81920x8x128_S65536x1_S65536x8x128_12_0_0_1.start (ix3 p r l) idx 0 + (0 : Int) = (q.val : Int)
      rw [s0, h0]; rfl
    · exact Int.zero_add _
    · exact Int.zero_add _

/-- Where the mask's scatter lays pair `p`'s one. -/
theorem lands1 (idx : IVec (⟨2, ![65536, 1]⟩ : Shape) 32) (p : Fin 65536) (q : Fin 81920) :
    Cert.On_assigned.scatter_S81920_S65536x1_S65536_n_0_0_1.resultIdx? (ix1 p) idx = some (ix1 q) ↔ (idx (ix2 p (0 : Fin 1))).toInt = (q.val : Int) := by
  rw [Routing.resultIdx?_ix1]
  have s0 : Cert.On_assigned.scatter_S81920_S65536x1_S65536_n_0_0_1.start (ix1 p) idx 0 = (idx (ix2 p (0 : Fin 1))).toInt := by
    show (idx _).toInt = _
    refine congrArg (fun i => (idx i).toInt) (funext fun a => Fin.ext ?_)
    fin_cases a <;> rfl
  rw [s0]
  show (idx (ix2 p (0 : Fin 1))).toInt + (0 : Int) = _ ↔ _
  rw [Int.add_zero]

/-- Where the mask is set, some pair's word names the row's slab. -/
theorem hit_of_on {F : FTy → Type} [FloatOps F] (pos : PS.Idx → BitVec 32) (hw : Good (wordAt pos)) (x : FVec F HS .f32) (a : Fin 655360) (l : Fin 128)
    (h : Cert.On_assigned.fn (F := F) pos x (ix2 a l) = 1#1) : ∃ p : Fin 65536, wordAt pos p.val / 8 = a.val / 8 := by
  by_contra hno
  have hno' : ∀ p : Fin 65536, wordAt pos p.val / 8 ≠ a.val / 8 := fun p e => hno ⟨p, e⟩
  unfold Cert.On_assigned.fn at h
  dsimp only at h
  have ha := a.isLt
  rw [shapeCast_apply _ _ _ (ix3 (⟨a.val / 8, by omega⟩ : Fin 81920) (⟨a.val % 8, by omega⟩ : Fin 8) l) (by
      rw [Shape.rowMajor_val_three, Shape.rowMajor_val_two]
      show (a.val / 8 * 8 + a.val % 8) * 128 + l.val = a.val * 128 + l.val
      omega)] at h
  rw [broadcastInDim_apply _ _ _ _ (ix3 (⟨a.val / 8, by omega⟩ : Fin 81920) (0 : Fin 1) (0 : Fin 1)) (fun k => by fin_cases k <;> rfl),
    broadcastInDim_apply _ _ _ _ (ix1 (⟨a.val / 8, by omega⟩ : Fin 81920)) (fun k => by fin_cases k; rfl), cmpi_apply,
    Routing.scatter_set_miss _ _ _ _ _ (fun k => ?_)] at h
  · revert h
    show IntOp.cmpi .sgt 0#32 0#32 = 1#1 → False
    decide
  · rw [ValueIdx.eq_ix1 k]
    intro hk
    have := (rows_at pos _ _ _ (k 0) (hw.le _ (k 0).isLt)).symm.trans ((lands1 _ (k 0) _).1 hk)
    exact hno' (k 0) (by exact_mod_cast this)

/-! ## The reference's result -/

section
open Cert.ReferenceIdeal Cert.ReferenceIdeal.Gen
/-- The reference's result as its operations compose it. -/
def refOut {F : FTy → Type} [FloatOps F] (pos : PS.Idx → BitVec 32) (x : FVec F HS .f32) : FVec F XS .f32 :=
  shapeCast _ (Host.scatter scatter_S81920x8x128_S65536x1_S65536x8x128_12_0_0_1 (fun _ b => b) (broadcastInDim S81920x8x128 ![] bcast_S_S81920x8x128 (constant S_ .f32 0x00000000#32)) (broadcastInDim S65536x1 ![0] bcast_S65536_S65536x1_0 (select (cmpi .slt (Host.divsi (shapeCast _ pos shapeCasts_S32x1x2048_S65536) (broadcastInDim S65536 ![] bcast_S_S65536 (constantI S_ 32 8#32))) (broadcastInDim S65536 ![] bcast_S_S65536 (constantI S_ 32 0#32))) (addi (Host.divsi (shapeCast _ pos shapeCasts_S32x1x2048_S65536) (broadcastInDim S65536 ![] bcast_S_S65536 (constantI S_ 32 8#32))) (broadcastInDim S65536 ![] bcast_S_S65536 (constantI S_ 32 81920#32))) (Host.divsi (shapeCast _ pos shapeCasts_S32x1x2048_S65536) (broadcastInDim S65536 ![] bcast_S_S65536 (constantI S_ 32 8#32))))) (shapeCast _ (broadcastInDim S32x4x512x8x128 ![0, 1, 2, 3, 4] bcast_S32x1x512x8x128_S32x4x512x8x128_0_1_2_3_4 (shapeCast _ x shapeCasts_S131072x128_S32x1x512x8x128)) shapeCasts_S32x4x512x8x128_S65536x8x128)) shapeCasts_S81920x8x128_S655360x128
end

/-- The reference's result at a row whose slab pair `p` names: the row of the pair's token. -/
theorem refOut_at {F : FTy → Type} [FloatOps F] (pos : PS.Idx → BitVec 32) (hw : Good (wordAt pos)) (x : FVec F HS .f32) (a : Fin 655360) (l : Fin 128)
    (p : Fin 65536) (hp : wordAt pos p.val / 8 = a.val / 8) : refOut pos x (ix2 a l) = x (srcIdx p.val (a.val - wordAt pos p.val) l) := by
  have ha := a.isLt
  have hpl := p.isLt
  have hd := hw.dvd p.val p.isLt
  unfold refOut
  rw [shapeCast_apply _ _ _ (ix3 (⟨a.val / 8, by omega⟩ : Fin 81920) (⟨a.val % 8, by omega⟩ : Fin 8) l) (by
      rw [Shape.rowMajor_val_three, Shape.rowMajor_val_two]
      show (a.val / 8 * 8 + a.val % 8) * 128 + l.val = a.val * 128 + l.val
      omega)]
  have upd : ∀ (h1 : HS.ShapeCasts ⟨5, ![32, 1, 512, 8, 128]⟩) (h2 : (⟨5, ![32, 1, 512, 8, 128]⟩ : Shape).BroadcastsInDim ⟨5, ![32, 4, 512, 8, 128]⟩ (![0, 1, 2, 3, 4] : Fin 5 → Fin 5))
      (h3 : (⟨5, ![32, 4, 512, 8, 128]⟩ : Shape).ShapeCasts ⟨3, ![65536, 8, 128]⟩),
      shapeCast ⟨3, ![65536, 8, 128]⟩ (broadcastInDim ⟨5, ![32, 4, 512, 8, 128]⟩ ![0, 1, 2, 3, 4] h2 (shapeCast ⟨5, ![32, 1, 512, 8, 128]⟩ x h1)) h3
        (ix3 p (⟨a.val % 8, by omega⟩ : Fin 8) l) = x (srcIdx p.val (a.val - wordAt pos p.val) l) := fun h1 h2 h3 => by
    rw [shapeCast_apply _ _ _ (ix5 (⟨p.val / 2048, by omega⟩ : Fin 32) (⟨p.val / 512 % 4, by omega⟩ : Fin 4) (⟨p.val % 512, by omega⟩ : Fin 512) (⟨a.val % 8, by omega⟩ : Fin 8) l) (by
        rw [Shape.rowMajor_val_five, Shape.rowMajor_val_three]
        show (((p.val / 2048 * 4 + p.val / 512 % 4) * 512 + p.val % 512) * 8 + a.val % 8) * 128 + l.val = (p.val * 8 + a.val % 8) * 128 + l.val
        omega),
      broadcastInDim_apply _ _ _ _ (ix5 (⟨p.val / 2048, by omega⟩ : Fin 32) (0 : Fin 1) (⟨p.val % 512, by omega⟩ : Fin 512) (⟨a.val % 8, by omega⟩ : Fin 8) l)
        (fun k => by fin_cases k <;> rfl)]
    refine shapeCast_apply _ _ _ _ ?_
    rw [Shape.rowMajor_val_two, Shape.rowMajor_val_five]
    show (tokRow p.val + (a.val - wordAt pos p.val)) % 131072 * 128 + l.val = (((p.val / 2048 * 1 + 0) * 512 + p.val % 512) * 8 + a.val % 8) * 128 + l.val
    unfold tokRow
    omega
  refine Routing.scatter_set_hit _ _ _ _ _ _ (fun k hk => ?_) (ix3 p (⟨a.val % 8, by omega⟩ : Fin 8) l) ?_
  · rw [ValueIdx.eq_ix3 k] at hk ⊢
    obtain ⟨hk0, hk1, hk2⟩ := (lands3 _ (k 0) (k 1) (k 2) _ _ _).1 hk
    replace hk0 := (rows_at pos _ _ _ (k 0) (hw.le _ (k 0).isLt)).symm.trans hk0
    have hkp : k 0 = p := Fin.ext (hw.inj _ (k 0).isLt _ p.isLt (by
      have := hw.dvd _ (k 0).isLt
      have e : wordAt pos (k 0).val / 8 = a.val / 8 := by exact_mod_cast hk0
      omega))
    rw [hk1, hk2, hkp]
    exact upd _ _ _
  · refine (lands3 _ p _ _ _ _ _).2 ⟨?_, rfl, rfl⟩
    exact (rows_at pos _ _ _ p (hw.le _ p.isLt)).trans (by rw [hp])

/-- Where the mask is set, what has landed is the reference's result. -/
theorem landed_eq_refOut {F : FTy → Type} [FloatOps F] (pos : PS.Idx → BitVec 32) (hw : Good (wordAt pos)) (x : FVec F HS .f32)
    (v : FVec F XS .f32) (i : XS.Idx) (h : Cert.On_assigned.fn (F := F) pos x i = 1#1) : landed (wordAt pos) x v 65536 i = refOut pos x i := by
  obtain ⟨a, l, rfl⟩ : ∃ (a : Fin 655360) (l : Fin 128), i = ix2 a l := ⟨i 0, i 1, ValueIdx.eq_ix2 i⟩
  obtain ⟨p, hp⟩ := hit_of_on pos hw x a l h
  have hd := hw.dvd p.val p.isLt
  rw [refOut_at pos hw x a l p hp, landed_hit hw x v le_rfl p.isLt ⟨?_, ?_⟩]
  · show wordAt pos p.val ≤ a.val; omega
  · show a.val < wordAt pos p.val + 8; omega

end Cert.Proof.Dispatch

end
-- ==== Proof.CombineValues.lean ====
/-
  The combination's values: what the precondition gives (`Inside`), the reference read at a token and a lane, and that both
  programs hold the same sums.
-/
module

public import proofs.«01_k».proof.Proof.CombineRun
public import proofs.«01_k».proof.Proof.Values
public import proofs.«01_k».proof.Proof.Gen.Reference3Ideal
public import proofs.«01_k».proof.Proof.Gen.Reference3Ideal.Run
public import proofs.«01_k».proof.Proof.Gen.Pre_rows_inside
public import Idealize.ShloMosaic.Lib.ReduceAll
public import Idealize.ShloMosaic.Lib.Pipeline.Value
public import Idealize.ShloMosaic.Lib.Pointwise

@[expose] public section

set_option maxRecDepth 16384
set_option maxHeartbeats 1600000

noncomputable section

namespace Cert.Proof.Combine

open Idealize.ShloMosaic
open Cert.Proof.Dispatch (PS XS LS wordAt rows_at andi_one)
open Cert.Kernel3Ideal.Hand (Inside gathered sum4 combined)
open Cert.Reference3Ideal (S16384x1024 S16384x128 S32x512x1024 S32x512x128 S32x512x1 S32x1x512x1024 S32x4x512x1024 S65536x1024 S81920x1024 S65536x1)

/-! ## The precondition -/

theorem inside_of_pre {F : FTy → Type} [FloatOps F] (pos : PS.Idx → BitVec 32) (y : FVec F XS .f32) (x : FVec F S16384x1024 .f32) (mw : FVec F S16384x128 .f32)
    (h : Cert.Pre_rows_inside.fn (F := F) pos y x mw = fun _ => 1#1) : Inside (wordAt pos) := by
  have h0 := congrFun h ValueIdx.ix0
  unfold Cert.Pre_rows_inside.fn at h0
  simp only [andi_apply] at h0
  obtain ⟨h1, hD⟩ := andi_one h0
  obtain ⟨hG, hL⟩ := andi_one h1
  have hG' : ∀ i : PS.Idx, (0 : Int) ≤ (pos i).toInt := fun i => IntOp.cmpi_sge.1 (Host.reduce_andi_all _ _ _ _ _ hG i)
  have hL' : ∀ i : PS.Idx, (pos i).toInt ≤ (655352 : Int) := fun i => IntOp.cmpi_sle.1 (Host.reduce_andi_all _ _ _ _ _ hL i)
  have hD' : ∀ i : PS.Idx, pos i &&& 7#32 = 0#32 := fun i => IntOp.cmpi_eq.1 (Host.reduce_andi_all _ _ _ _ _ hD i)
  have hn : ∀ i : PS.Idx, (pos i).toInt = ((pos i).toNat : Int) := fun i => by
    have := hG' i
    rw [BitVec.toInt_eq_toNat_of_lt]
    rw [BitVec.toInt_eq_toNat_cond] at this
    split at this <;> omega
  refine ⟨fun p _ => ?_, fun p _ => ?_⟩
  · exact_mod_cast (hn _).symm.trans_le (hL' _)
  · have h8 := congrArg BitVec.toNat (hD' (ix3 ⟨p / 2048 % 32, Nat.mod_lt _ (by omega)⟩ 0 ⟨p % 2048, Nat.mod_lt _ (by omega)⟩))
    rw [BitVec.toNat_and] at h8
    have e7 : wordAt pos p &&& 7 = wordAt pos p % 8 := Nat.and_two_pow_sub_one_eq_mod _ 3
    exact Nat.dvd_of_mod_eq_zero (e7.symm.trans h8)

/-! ## The reference -/

/-- `table[idx]` over the rows of a table: row `t` of the result is the row that `idx` names. -/
theorem gather_row {α : Type} {N A n : ℕ} (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ 32) (t : Fin n) (a : Fin A) (e : Fin N)
    (he : (idx (ValueIdx.ix2 t (0 : Fin 1))).toInt = (e.val : Int)) :
    Host.gather (⟨[1], [0], [], [], [0], 1, ![1, A], wf⟩ : GatherDims _ _ _) x idx (ix2 t a) = x (ix2 e a) := by
  have hel := e.isLt
  unfold Host.gather
  refine congrArg x (funext fun ax => Fin.ext ?_)
  match ax with
  | ⟨0, _⟩ =>
    show GatherDims.start _ (ix2 t a) idx 0 + GatherDims.batchCoord _ (ix2 t a) 0 + GatherDims.offCoord _ (ix2 t a) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (⟨[1], [0], [], [], [0], 1, ![1, A], wf⟩ : GatherDims ⟨2, ![N, A]⟩ ⟨2, ![n, 1]⟩ ⟨2, ![n, A]⟩).siIdx (ix2 t a) ⟨List.idxOf (0 : Fin 2) [0],
        List.idxOf_lt_length_iff.2 (List.mem_singleton.mpr rfl)⟩ = ValueIdx.ix2 t (0 : Fin 1) := by
      funext b'; refine Fin.ext ?_
      match b' with
      | ⟨0, _⟩ => rfl
      | ⟨1, _⟩ => rfl
    rw [show (_ : (⟨2, ![n, 1]⟩ : Shape).Idx) = _ from hsi, he]
    show min ((e.val : Int)).toNat (N - 1) = e.val
    omega
  | ⟨1, _⟩ =>
    show GatherDims.start _ (ix2 t a) idx 1 + GatherDims.batchCoord _ (ix2 t a) 1 + GatherDims.offCoord _ (ix2 t a) 1 = a.val
    rw [GatherDims.batchCoord_eq_zero _ _ _ List.not_mem_nil]
    unfold GatherDims.start
    rw [dif_neg (show (1 : Fin 2) ∉ ([0] : List (Fin 2)) by decide)]
    simp only [Nat.zero_add, Nat.add_zero]
    rfl

/-- Tile `t`'s `k`-th rows, cut out of the rows of all pairs. -/
theorem rows_cut {α : Type} (k : ℕ) (hk : k < 4) (G : S65536x1024.Idx → α) (h1 : S65536x1024.ShapeCasts S32x4x512x1024)
    (h2 : S32x4x512x1024.Slices ![0, k, 0, 0] S32x1x512x1024) (h3 : S32x1x512x1024.ShapeCasts S32x512x1024) (t : Fin 32) (r : Fin 512) (l : Fin 1024) :
    shapeCast S32x512x1024 (extractStridedSlice S32x1x512x1024 ![0, k, 0, 0] (shapeCast S32x4x512x1024 G h1) h2) h3 (ix3 t r l)
      = G (ix2 ⟨t.val * 2048 + (k * 512 + r.val), by omega⟩ l) := by
  rw [shapeCast_apply _ _ _ (ix4 t (0 : Fin 1) r l), extractStridedSlice_apply _ _ _ _ (ix4 t (⟨k, hk⟩ : Fin 4) r l), shapeCast_apply _ _ _ (ix2 ⟨t.val * 2048 + (k * 512 + r.val), by omega⟩ l)]
  · rw [Shape.rowMajor_val_two, Shape.rowMajor_val_four]
    show (t.val * 2048 + (k * 512 + r.val)) * 1024 + l.val = ((t.val * 4 + k) * 512 + r.val) * 1024 + l.val
    omega
  · intro a
    fin_cases a
    · show t.val = 0 + t.val; omega
    · show k = k + 0; omega
    · show r.val = 0 + r.val; omega
    · show l.val = 0 + l.val; omega
  · rw [Shape.rowMajor_val_three, Shape.rowMajor_val_four]
    show ((t.val * 1 + 0) * 512 + r.val) * 1024 + l.val = (t.val * 512 + r.val) * 1024 + l.val
    omega

/-- The `k`-th weight of a token, the same at every lane. -/
theorem weight_cut {α : Type} (k : ℕ) (hk : k < 128) (M : S16384x128.Idx → α) (h1 : S16384x128.ShapeCasts S32x512x128)
    (h2 : S32x512x128.Slices ![0, 0, k] S32x512x1) (h3 : S32x512x1.BroadcastsInDim S32x512x1024 (![0, 1, 2] : Fin 3 → Fin 3)) (t : Fin 32) (r : Fin 512) (l : Fin 1024) :
    broadcastInDim S32x512x1024 ![0, 1, 2] h3 (extractStridedSlice S32x512x1 ![0, 0, k] (shapeCast S32x512x128 M h1) h2) (ix3 t r l)
      = M (ix2 ⟨t.val * 512 + r.val, by omega⟩ ⟨k, hk⟩) := by
  rw [broadcastInDim_apply _ _ _ _ (ix3 t r (0 : Fin 1)), extractStridedSlice_apply _ _ _ _ (ix3 t r (⟨k, hk⟩ : Fin 128)), shapeCast_apply _ _ _ (ix2 ⟨t.val * 512 + r.val, by omega⟩ ⟨k, hk⟩)]
  · rw [Shape.rowMajor_val_two, Shape.rowMajor_val_three]
    rfl
  · intro a
    fin_cases a
    · show t.val = 0 + t.val; omega
    · show r.val = 0 + r.val; omega
    · show k = k + 0; omega
  · intro a
    fin_cases a
    · rfl
    · rfl
    · rfl

/-- A token's residual. -/
theorem residual_at {α : Type} (x : S16384x1024.Idx → α) (h : S16384x1024.ShapeCasts S32x512x1024) (t : Fin 32) (r : Fin 512) (l : Fin 1024) :
    shapeCast S32x512x1024 x h (ix3 t r l) = x (ix2 ⟨t.val * 512 + r.val, by omega⟩ l) := by
  apply shapeCast_apply
  rw [Shape.rowMajor_val_two, Shape.rowMajor_val_three]
  rfl

/-- The tiles' sums laid out by token. -/
theorem result_at {α : Type} (s : S32x512x1024.Idx → α) (h : S32x512x1024.ShapeCasts S16384x1024) (i : Fin 16384) (l : Fin 1024) :
    shapeCast S16384x1024 s h (ix2 i l) = s (ix3 ⟨i.val / 512, by omega⟩ ⟨i.val % 512, Nat.mod_lt _ (by omega)⟩ l) := by
  apply shapeCast_apply
  rw [Shape.rowMajor_val_two, Shape.rowMajor_val_three]
  show (i.val / 512 * 512 + i.val % 512) * 1024 + l.val = i.val * 1024 + l.val
  omega

/-- The row of 1024 that a pair's word names, read through the rows of 128. -/
theorem row_at {α : Type} (y : XS.Idx → α) (h : XS.ShapeCasts S81920x1024) (w : ℕ) (hw : w ≤ 655352) (hd : 8 ∣ w) (l : Fin 1024) :
    shapeCast S81920x1024 y h (ix2 ⟨w / 8, by omega⟩ l) = y (ix2 ⟨w + l.val / 128, by omega⟩ ⟨l.val % 128, Nat.mod_lt _ (by omega)⟩) := by
  apply shapeCast_apply
  rw [Shape.rowMajor_val_two, Shape.rowMajor_val_two]
  show (w + l.val / 128) * 128 + l.val % 128 = w / 8 * 1024 + l.val
  omega

/-- What the kernel has gathered for a tile, at the row and the lane that a token's lane names. -/
theorem gathered_row {α : Type} {w : ℕ → ℕ} (hw : Inside w) (y : XS.Idx → α) (k : Fin 4) (t : Fin 32) (r : Fin 512) (l : Fin 1024) :
    gathered w t.val y (ix3 k ⟨r.val * 8 + l.val / 128, by omega⟩ ⟨l.val % 128, Nat.mod_lt _ (by omega)⟩)
      = y (ix2 ⟨w (t.val * 2048 + (k.val * 512 + r.val)) + l.val / 128, by have := hw.le (t.val * 2048 + (k.val * 512 + r.val)) (by omega); omega⟩ ⟨l.val % 128, Nat.mod_lt _ (by omega)⟩) := by
  have hle := hw.le (t.val * 2048 + (k.val * 512 + r.val)) (by omega)
  unfold gathered
  refine congrArg y (funext fun a => Fin.ext ?_)
  fin_cases a <;> [skip; rfl]
  show (w (t.val * 2048 + (k.val * 512 + (r.val * 8 + l.val / 128) / 8)) + (r.val * 8 + l.val / 128) % 8) % 655360 = _
  rw [show (r.val * 8 + l.val / 128) / 8 = r.val by omega, show (r.val * 8 + l.val / 128) % 8 = l.val / 128 by omega]
  show _ = w (t.val * 2048 + (k.val * 512 + r.val)) + l.val / 128
  omega

variable {F : FTy → Type} [FloatOps F]

theorem congr_sum {x m0 y0 m1 y1 m2 y2 m3 y3 x' m0' y0' m1' y1' m2' y2' m3' y3' : F .f32} (hx : x = x') (a0 : m0 = m0') (b0 : y0 = y0') (a1 : m1 = m1') (b1 : y1 = y1')
    (a2 : m2 = m2') (b2 : y2 = y2') (a3 : m3 = m3') (b3 : y3 = y3') : sum4 x m0 y0 m1 y1 m2 y2 m3 y3 = sum4 x' m0' y0' m1' y1' m2' y2' m3' y3' := by
  rw [hx, a0, b0, a1, b1, a2, b2, a3, b3]

/-- The reference's result is the sums that the kernel leaves. -/
theorem reference_combined (m : (ℓ : Loc Cert.Reference3Ideal.nD Cert.Reference3Ideal.τ Cert.Reference3Ideal.sig) → Buf (Elt F) ℓ) (c : Dev Cert.Reference3Ideal.nD)
    (pos : PS.Idx → BitVec 32) (y : XS.Idx → F .f32) (x : S16384x1024.Idx → F .f32) (mw : S16384x128.Idx → F .f32) (hw : Inside (wordAt pos))
    (h0 : m ((c.tc : Thread Cert.Reference3Ideal.nD Cert.Reference3Ideal.τ).loc Cert.Reference3Ideal.main_arg0) = pos)
    (h1 : m ((c.tc : Thread Cert.Reference3Ideal.nD Cert.Reference3Ideal.τ).loc Cert.Reference3Ideal.main_arg1) = y)
    (h2 : m ((c.tc : Thread Cert.Reference3Ideal.nD Cert.Reference3Ideal.τ).loc Cert.Reference3Ideal.main_arg2) = x)
    (h3 : m ((c.tc : Thread Cert.Reference3Ideal.nD Cert.Reference3Ideal.τ).loc Cert.Reference3Ideal.main_arg3) = mw) :
    Cert.Reference3Ideal.Value.res_main_v38 m c = combined (wordAt pos) y x mw := by
  unfold Cert.Reference3Ideal.Value.res_main_v38
  rw [h0, h1, h2, h3]
  refine funext fun (j : S16384x1024.Idx) => ?_
  obtain ⟨i, l, rfl⟩ : ∃ (i : Fin 16384) (l : Fin 1024), j = ix2 i l := ⟨j 0, j 1, by funext a; fin_cases a <;> rfl⟩
  have hg : ∀ (G : S65536x1024.Idx → F .f32) (hG : ∀ (p : Fin 65536) (l : Fin 1024), G (ix2 p l)
        = y (ix2 ⟨wordAt pos p.val + l.val / 128, by have := hw.le p.val p.isLt; omega⟩ ⟨l.val % 128, Nat.mod_lt _ (by omega)⟩)) (k : Fin 4) (e1 e2 e3),
      shapeCast S32x512x1024 (extractStridedSlice S32x1x512x1024 ![0, k.val, 0, 0] (shapeCast S32x4x512x1024 G e1) e2) e3 (ix3 (⟨i.val / 512, by omega⟩ : Fin 32) (⟨i.val % 512, Nat.mod_lt _ (by omega)⟩ : Fin 512) l)
        = gathered (wordAt pos) (i.val / 512) y (ix3 k ⟨i.val % 512 * 8 + l.val / 128, by omega⟩ ⟨l.val % 128, Nat.mod_lt _ (by omega)⟩) := fun G hG k e1 e2 e3 =>
    (rows_cut k.val k.isLt G e1 e2 e3 _ _ l).trans ((hG _ _).trans (gathered_row hw y k ⟨i.val / 512, by omega⟩ ⟨i.val % 512, Nat.mod_lt _ (by omega)⟩ l).symm)
  have hm : ∀ (k : Fin 128) (e1 e2 e3), broadcastInDim S32x512x1024 ![0, 1, 2] e3 (extractStridedSlice S32x512x1 ![0, 0, k.val] (shapeCast S32x512x128 mw e1) e2)
        (ix3 (⟨i.val / 512, by omega⟩ : Fin 32) (⟨i.val % 512, Nat.mod_lt _ (by omega)⟩ : Fin 512) l) = mw (ix2 i k) := fun k e1 e2 e3 =>
    (weight_cut k.val k.isLt mw e1 e2 e3 _ _ l).trans (congrArg (fun q => mw (ix2 q k)) (Fin.ext (by show i.val / 512 * 512 + i.val % 512 = i.val; omega)))
  refine (result_at _ _ i l).trans ?_
  generalize hGe : Host.gather _ _ _ = G
  have hG : ∀ (p : Fin 65536) (l : Fin 1024), G (ix2 p l)
      = y (ix2 ⟨wordAt pos p.val + l.val / 128, by have := hw.le p.val p.isLt; omega⟩ ⟨l.val % 128, Nat.mod_lt _ (by omega)⟩) := fun p l => by
    rw [← hGe]
    have hle := hw.le p.val p.isLt
    refine (gather_row _ _ _ p l ⟨wordAt pos p.val / 8, by omega⟩ (rows_at pos _ _ _ p hle)).trans ?_
    exact row_at y _ _ hle (hw.dvd p.val p.isLt) l
  have hx := (residual_at x Cert.Reference3Ideal.Gen.shapeCasts_S16384x1024_S32x512x1024 (⟨i.val / 512, by omega⟩ : Fin 32) (⟨i.val % 512, Nat.mod_lt _ (by omega)⟩ : Fin 512) l).trans
    (congrArg (fun q => x (ix2 q l)) (Fin.ext (by show i.val / 512 * 512 + i.val % 512 = i.val; omega) : _ = i))
  have w0 := hm 0 Cert.Reference3Ideal.Gen.shapeCasts_S16384x128_S32x512x128 Cert.Reference3Ideal.Gen.slices_S32x512x128_S32x512x1_0_0_0 Cert.Reference3Ideal.Gen.bcast_S32x512x1_S32x512x1024_0_1_2
  have w1 := hm 1 Cert.Reference3Ideal.Gen.shapeCasts_S16384x128_S32x512x128 Cert.Reference3Ideal.Gen.slices_S32x512x128_S32x512x1_0_0_1 Cert.Reference3Ideal.Gen.bcast_S32x512x1_S32x512x1024_0_1_2
  have w2 := hm 2 Cert.Reference3Ideal.Gen.shapeCasts_S16384x128_S32x512x128 Cert.Reference3Ideal.Gen.slices_S32x512x128_S32x512x1_0_0_2 Cert.Reference3Ideal.Gen.bcast_S32x512x1_S32x512x1024_0_1_2
  have w3 := hm 3 Cert.Reference3Ideal.Gen.shapeCasts_S16384x128_S32x512x128 Cert.Reference3Ideal.Gen.slices_S32x512x128_S32x512x1_0_0_3 Cert.Reference3Ideal.Gen.bcast_S32x512x1_S32x512x1024_0_1_2
  have g0 := hg G hG 0 Cert.Reference3Ideal.Gen.shapeCasts_S65536x1024_S32x4x512x1024 Cert.Reference3Ideal.Gen.slices_S32x4x512x1024_S32x1x512x1024_0_0_0_0 Cert.Reference3Ideal.Gen.shapeCasts_S32x1x512x1024_S32x512x1024
  have g1 := hg G hG 1 Cert.Reference3Ideal.Gen.shapeCasts_S65536x1024_S32x4x512x1024 Cert.Reference3Ideal.Gen.slices_S32x4x512x1024_S32x1x512x1024_0_1_0_0 Cert.Reference3Ideal.Gen.shapeCasts_S32x1x512x1024_S32x512x1024
  have g2 := hg G hG 2 Cert.Reference3Ideal.Gen.shapeCasts_S65536x1024_S32x4x512x1024 Cert.Reference3Ideal.Gen.slices_S32x4x512x1024_S32x1x512x1024_0_2_0_0 Cert.Reference3Ideal.Gen.shapeCasts_S32x1x512x1024_S32x512x1024
  have g3 := hg G hG 3 Cert.Reference3Ideal.Gen.shapeCasts_S65536x1024_S32x4x512x1024 Cert.Reference3Ideal.Gen.slices_S32x4x512x1024_S32x1x512x1024_0_3_0_0 Cert.Reference3Ideal.Gen.shapeCasts_S32x1x512x1024_S32x512x1024
  have key := congr_sum hx w0 g0 w1 g1 w2 g2 w3 g3
  simp only [addf_apply, mulf_apply]
  exact key

end Cert.Proof.Combine

end
-- ==== Proof.Issue.lean ====
/-
  One copy of the scatter. The tile's batch of 2048 copies is on one counter; copy `j` takes the tile's token `j / 4` to
  the rows its word names. `deliv` is what a landed copy hands back: its window of the result at its final contents, and
  the read share of the staged tokens that it borrowed. `issue` starts copy `j`.
-/
module

public import proofs.«01_k».proof.Proof.Landed
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.ViewIndex
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen Cert.Proof.Dispatch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The user algebra: the pipeline's beside the transfers' counters. -/
local notation "𝕄" => MT nD τ sig Unit (Elt F) ℕ (Pipeline.UD sig nD τ) ℕ

/-- The result's memref. -/
abbrev res : Memref sig .tc .hbm S655360x128 .f32 := Memref.whole main_v0

/-- The rows of the staged tokens that copy `j` reads. -/
theorem src_inb {j : ℕ} (hj : j < 2048) : ∀ a, (![j / 4 * 8, 0] : Fin 2 → ℕ) a + S8x128.size a ≤ S4096x128.size a := by
  intro a; fin_cases a
  · show j / 4 * 8 + 8 ≤ 4096; omega
  · show 0 + 128 ≤ 128; omega
def srcSet (c : Dev nD) (arg2 : Memref sig .tc .vmem S4096x128 .f32) (j : Fin 2048) : Finset (Idx (arg2.view.loc (c : Thread nD τ))) :=
  (arg2.slice (Rect.unit (s := S4096x128) ![j.val / 4 * 8, 0] S8x128.size (src_inb j.isLt)) (fun _ => rfl)).view.set

/-- The units that one copy pays: those of an 8 × 128 slab. -/
abbrev NN : ℕ := 128
theorem credit_one : sig.dmaCredit .tc .hbm main_v0.idx S8x128 .f32 = NN := by decide +kernel
/-- The units that one wait takes: those of 4096 × 128, 512 copies'. -/
theorem credit_wait : sig.dmaCredit .tc .hbm main_v0.idx S4096x128 .f32 = 512 * NN := by decide +kernel

theorem winSet_eq {w : ℕ → ℕ} {p : ℕ} {off : Fin 2 → ℕ} (hoff : off = ![w p, 0]) (inb : ∀ a, off a + S8x128.size a ≤ S655360x128.size a) :
    (res.slice (Rect.unit (s := S655360x128) off S8x128.size inb) (fun _ => rfl)).view.set = winSet w p := by
  subst hoff
  rw [show (res.slice (Rect.unit (s := S655360x128) ![w p, 0] S8x128.size inb) (fun _ => rfl)).view.set
      = (Rect.unit (s := S655360x128) ![w p, 0] S8x128.size inb).set from View.set_slice_whole _ _]
  ext y
  rw [Rect.mem_set_unit, mem_winSet]
  have h1 : (y 1).val < 128 := (y 1).isLt
  constructor
  · intro H; exact H 0
  · intro H a; fin_cases a
    · exact H
    · show 0 ≤ (y 1).val ∧ (y 1).val < 0 + 128; omega

/-- What a landed copy hands back. -/
def deliv (c : Dev nD) (w : ℕ → ℕ) (h3 : HS.Idx → Elt F .f32) (v : XS.Idx → Elt F .f32) (t : ℕ)
    (arg2 : Memref sig .tc .vmem S4096x128 .f32) (f2 : Buf (Elt F) (arg2.view.loc (c : Thread nD τ))) (j : Fin 2048) : sProp 𝕄 :=
  iprop(((c : Thread nD τ).loc main_v0 ↦[winSet w (pairOf t j.val)]{fullShare} landed w h3 v ((t + 1) * 2048))
    ∗ (arg2.view.loc (c : Thread nD τ) ↦[srcSet c arg2 j]{Transfers.shareTokN fullShare j.val} f2))

instance deliv_storable (c : Dev nD) (w : ℕ → ℕ) (h3 : HS.Idx → Elt F .f32) (v : XS.Idx → Elt F .f32) (t : ℕ)
    (arg2 : Memref sig .tc .vmem S4096x128 .f32) (f2 : Buf (Elt F) (arg2.view.loc (c : Thread nD τ))) (j : Fin 2048) :
    BI.Storable (upEmb : UEmb _ 𝕄) (deliv c w h3 v t arg2 f2 j) := by
  unfold deliv
  have h1 : BI.Storable (upEmb : UEmb _ 𝕄) ((c : Thread nD τ).loc main_v0 ↦[winSet w (pairOf t j.val)]{fullShare} landed w h3 v ((t + 1) * 2048) : sProp 𝕄) := inferInstance
  have h2 : BI.Storable (upEmb : UEmb _ 𝕄) (arg2.view.loc (c : Thread nD τ) ↦[srcSet c arg2 j]{Transfers.shareTokN fullShare j.val} f2 : sProp 𝕄) := inferInstance
  infer_instance

/-- The batch: `j` copies started, `u` units consumed. -/
abbrev batch (c : Dev nD) (w : ℕ → ℕ) (h3 : HS.Idx → Elt F .f32) (v : XS.Idx → Elt F .f32) (t : ℕ)
    (arg2 : Memref sig .tc .vmem S4096x128 .f32) (f2 : Buf (Elt F) (arg2.view.loc (c : Thread nD τ))) (j u : ℕ) : sProp 𝕄 :=
  Transfers.Batch (countersEmb (U := Pipeline.UD sig nD τ)) (c : Thread nD τ) (.dma cc0_scratch0.sem) () NN (deliv c w h3 v t arg2 f2) j u

/-- What the copy writes is what the result is to hold on its window. -/
theorem lands {c : Dev nD} {w : ℕ → ℕ} (hw : Good w) {h3 : HS.Idx → Elt F .f32} {v : XS.Idx → Elt F .f32} {t j : ℕ} (ht : t < 32)
    (hj : j < 2048) {arg2 : Memref sig .tc .vmem S4096x128 .f32} {f2 : Buf (Elt F) (arg2.view.loc (c : Thread nD τ))}
    (hf2 : ∀ (r : Fin 4096) (l : Fin 128), arg2.view.read (Elt F) f2 (ix2 r l) = h3 (ix2 ⟨t * 4096 + r.val, by omega⟩ l))
    (fd : XS.Idx → Elt F .f32) {off off' : Fin 2 → ℕ} (hoff : off = ![w (pairOf t j), 0]) (hoff' : off' = ![j / 4 * 8, 0])
    (inb : ∀ a, off a + S8x128.size a ≤ S655360x128.size a) (inb' : ∀ a, off' a + S8x128.size a ≤ S4096x128.size a)
    (y : XS.Idx) (hy : y ∈ winSet w (pairOf t j)) :
    (res.slice (Rect.unit (s := S655360x128) off S8x128.size inb) (fun _ => rfl)).view.write (Elt F) fd
        (ReadAs.same.apply ((arg2.slice (Rect.unit (s := S4096x128) off' S8x128.size inb') (fun _ => rfl)).view.read (Elt F) f2)) Finset.univ y
      = landed w h3 v ((t + 1) * 2048) y := by
  have hin := mem_winSet.mp hy
  rw [landed_hit hw h3 v (by omega) (pairOf_lt ht hj) hin]
  subst hoff hoff'
  obtain ⟨x, hx⟩ := View.exists_of_mem_set_slice (v := res.view) (r := Rect.unit (s := S655360x128) ![w (pairOf t j), 0] S8x128.size inb)
    (i := y) (by rw [show (res.view.slice (Rect.unit (s := S655360x128) ![w (pairOf t j), 0] S8x128.size inb)).set = winSet w (pairOf t j)
      from winSet_eq rfl inb]; exact hy)
  have hx0 : (y 0).val = w (pairOf t j) + (x 0).val := by
    rw [← hx]; show w (pairOf t j) + 1 * (x 0).val = _; omega
  have hx1 : (y 1).val = (x 1).val := by
    rw [← hx]; show 0 + 1 * (x 1).val = _; omega
  have hx0' : (x 0).val < 8 := (x 0).isLt
  have hx1' : (x 1).val < 128 := (x 1).isLt
  have e := View.write_emb_of_mem (v := (res.slice (Rect.unit (s := S655360x128) ![w (pairOf t j), 0] S8x128.size inb) (fun _ => rfl)).view) (Val := Elt F) fd
    (ReadAs.same.apply ((arg2.slice (Rect.unit (s := S4096x128) ![j / 4 * 8, 0] S8x128.size inb') (fun _ => rfl)).view.read (Elt F) f2)) (Finset.mem_univ x)
  rw [show (res.slice (Rect.unit (s := S655360x128) ![w (pairOf t j), 0] S8x128.size inb) (fun _ => rfl)).view.emb x = y from hx] at e
  refine e.trans ?_
  show arg2.view.read (Elt F) f2 ((Rect.unit (s := S4096x128) ![j / 4 * 8, 0] S8x128.size inb').emb x) = _
  rw [show (Rect.unit (s := S4096x128) ![j / 4 * 8, 0] S8x128.size inb').emb x = ix2 (⟨j / 4 * 8 + (x 0).val, by omega⟩ : Fin 4096) (⟨(x 1).val, hx1'⟩ : Fin 128) from ?_, hf2]
  · congr 1
    funext a; apply Fin.ext; fin_cases a
    · show t * 4096 + (j / 4 * 8 + (x 0).val) = (tokRow (pairOf t j) + ((y 0).val - w (pairOf t j))) % 131072
      rw [tokRow_pairOf hj]; omega
    · show (x 1).val = (y 1).val; omega
  · funext a; apply Fin.ext; fin_cases a
    · show j / 4 * 8 + 1 * (x 0).val = j / 4 * 8 + (x 0).val; omega
    · show 0 + 1 * (x 1).val = (x 1).val; omega

/-- ONE COPY STARTED: the window of the result and the read share go into the batch. -/
theorem issue (c : Dev nD) {α : Type} {w : ℕ → ℕ} (hw : Good w) {h3 : HS.Idx → Elt F .f32} {v : XS.Idx → Elt F .f32} {t j : ℕ} (ht : t < 32)
    (hj : j < 2048) {arg2 : Memref sig .tc .vmem S4096x128 .f32} {f2 : Buf (Elt F) (arg2.view.loc (c : Thread nD τ))}
    (hf2 : ∀ (r : Fin 4096) (l : Fin 128), arg2.view.read (Elt F) f2 (ix2 r l) = h3 (ix2 ⟨t * 4096 + r.val, by omega⟩ l))
    (fd : XS.Idx → Elt F .f32) {off off' : Fin 2 → ℕ} (hoff : off = ![w (pairOf t j), 0]) (hoff' : off' = ![j / 4 * 8, 0])
    {inb : ∀ a, off a + S8x128.size a ≤ S655360x128.size a} {inb' : ∀ a, off' a + S8x128.size a ≤ S4096x128.size a}
    {h1 h2 h4} {k : PUnit → Prog (TpuEff nD τ sig (Elt F) Λ₀ .tc) α} {Q : α → sProp 𝕄} :
    iprop(((c : Thread nD τ).loc main_v0 ↦[winSet w (pairOf t j)]{fullShare} fd)
        ∗ (arg2.view.loc (c : Thread nD τ) ↦[srcSet c arg2 ⟨j, hj⟩]{Transfers.shareTokN fullShare j} f2)
        ∗ batch c w h3 v t arg2 f2 j 0)
      ⊢ iprop((batch c w h3 v t arg2 f2 (j + 1) 0 -∗ wp frame (wpE (defs₀ (F := F)) Variants.none (c : Thread nD τ) none) Set.univ (k ⟨⟩) Q)
        -∗ wp frame (wpE (defs₀ (F := F)) Variants.none (c : Thread nD τ) none) Set.univ
          (.op (.enqueueDma (arg2.slice (Rect.unit (s := S4096x128) off' S8x128.size inb') (fun _ => rfl))
            (.here (res.slice (Rect.unit (s := S655360x128) off S8x128.size inb) (fun _ => rfl))) (.dma cc0_scratch0.sem) h1 h2 h4) k) Q) := by
  have hset := winSet_eq hoff inb
  have hsrc : srcSet c arg2 ⟨j, hj⟩ = (arg2.slice (Rect.unit (s := S4096x128) off' S8x128.size inb') (fun _ => rfl)).view.set := by
    subst hoff'; rfl
  iintro ⟨Hd, Hs, HB⟩ Hk
  iapply (Transfers.wp_dmaBatch (Lvl := ℕ) (countersEmb (U := Pipeline.UD sig nD τ)) Variants.none (c : Thread nD τ) none
    (src := arg2.slice (Rect.unit (s := S4096x128) off' S8x128.size inb') (fun _ => rfl))
    (dst := res.slice (Rect.unit (s := S655360x128) off S8x128.size inb) (fun _ => rfl)) (via := ReadAs.same) (hsrc := h1) (hdst := h2) (hsem := h4)
    () NN credit_one
    (Sd := winSet w (pairOf t j)) (by rw [hset]) hj (Nat.zero_le _) (D := deliv c w h3 v t arg2 f2) (fs := f2) (fd := fd)
    (q := Transfers.shareTokN fullShare j) ?_) $$ [Hd Hs HB]
  · unfold deliv
    rw [hsrc]
    refine BI.sep_mono ?_ (fun _ h => h)
    exact Entails.of_eq (pointsTo_congr fun y hy => lands hw ht hj hf2 fd hoff hoff' inb inb' y hy)
  · rw [hsrc]
    isplitl [Hs]; · iexact Hs
    isplitl [Hd]; · iexact Hd
    iexact HB
  · iexact Hk

end Cert.KernelIdeal.Hand

end
-- ==== Proof.Trip.lean ====
/-
  One trip of the scatter's loop: token `k` of the tile, its four copies. Before trip `k` the first `4 k` copies are
  under way; the windows and the read shares of the others are still in hand.
-/
module

public import proofs.«01_k».proof.Proof.Issue

@[expose] public section

set_option maxRecDepth 16384

noncomputable section

namespace Cert.KernelIdeal.Hand

open Cert.KernelIdeal Cert.KernelIdeal.Gen Cert.Proof.Dispatch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

theorem trips_eq : k0_t1_loop.trips = 512 := by decide +kernel

theorem off1_eq : ∀ k : Fin k0_t1_loop.trips, k0_off1 k = ![0, 0, k.val] := by decide +kernel
theorem off4_eq : ∀ k : Fin k0_t1_loop.trips, k0_off4 k = ![0, 0, 512 + k.val] := by decide +kernel
theorem off7_eq : ∀ k : Fin k0_t1_loop.trips, k0_off7 k = ![0, 0, 1024 + k.val] := by decide +kernel
theorem off10_eq : ∀ k : Fin k0_t1_loop.trips, k0_off10 k = ![0, 0, 1536 + k.val] := by decide +kernel
theorem off3_eq : ∀ k : Fin k0_t1_loop.trips, k0_off3 k = ![k.val * 8, 0] := by decide +kernel

theorem off6_eq : ∀ k : Fin k0_t1_loop.trips, k0_off6 k = ![k.val * 8, 0] := by decide +kernel
theorem off9_eq : ∀ k : Fin k0_t1_loop.trips, k0_off9 k = ![k.val * 8, 0] := by decide +kernel
theorem off12_eq : ∀ k : Fin k0_t1_loop.trips, k0_off12 k = ![k.val * 8, 0] := by decide +kernel

/-- A word of the position tile, read through a one-word window. -/
theorem word_eq {c : Dev nD} {w : ℕ → ℕ} {t : ℕ} {arg1 : Memref sig .tc .smem S1x1x2048 .i32} {f1 : Buf (Elt F) (arg1.view.loc (c : Thread nD τ))}
    (hf1 : ∀ q : Fin 2048, BitVec.toNat (w := 32) (arg1.view.read (Elt F) f1 (ix3 0 0 q)) = w (t * 2048 + q.val))
    {off : Fin 3 → ℕ} {q : ℕ} (hoff : off = ![0, 0, q]) (inb : ∀ a, off a + S1x1x1.size a ≤ S1x1x2048.size a) (x : S1x1x1.Idx) (hq : q < 2048)
    {n : ℕ} (hn : t * 2048 + q = n) :
    BitVec.toNat (w := 32) ((arg1.access (Rect.unit (s := S1x1x2048) off S1x1x1.size inb)).read (Elt F) f1 x) = w n := by
  subst hoff
  show BitVec.toNat (w := 32) (arg1.view.read (Elt F) f1 ((Rect.unit (s := S1x1x2048) ![0, 0, q] S1x1x1.size inb).emb x)) = _
  have x0 : (x 0).val < 1 := (x 0).isLt
  have x1 : (x 1).val < 1 := (x 1).isLt
  have x2 : (x 2).val < 1 := (x 2).isLt
  rw [show (Rect.unit (s := S1x1x2048) ![0, 0, q] S1x1x1.size inb).emb x = ix3 0 0 (⟨q, hq⟩ : Fin 2048) from ?_, hf1]
  · exact congrArg w hn
  · funext a; apply Fin.ext; fin_cases a
    · show 0 + 1 * (x 0).val = 0; omega
    · show 0 + 1 * (x 1).val = 0; omega
    · show q + 1 * (x 2).val = q; omega

theorem chk_of {w : ℕ → ℕ} (hw : Good w) {p : ℕ} {x : BitVec 32} (hx : x.toNat = w p) (hp : p < 65536) :
    8 ∣ x.toNat ∧ ∀ a : Fin 2, (![x.toNat, 0] : Fin 2 → ℕ) a + S8x128.size a ≤ S655360x128.size a := by
  refine ⟨hx ▸ hw.dvd p hp, fun a => ?_⟩
  have := hw.le p hp
  fin_cases a
  · show x.toNat + 8 ≤ 655360; omega
  · show 0 + 128 ≤ 128; omega

theorem chk1 {w : ℕ → ℕ} (hw : Good w) {p : ℕ} {x : BitVec 32} (hx : x.toNat = w p) (hp : p < 65536) : k0_chk1 x := chk_of hw hx hp
theorem chk2 {w : ℕ → ℕ} (hw : Good w) {p : ℕ} {x : BitVec 32} (hx : x.toNat = w p) (hp : p < 65536) : k0_chk2 x := chk_of hw hx hp
theorem chk3 {w : ℕ → ℕ} (hw : Good w) {p : ℕ} {x : BitVec 32} (hx : x.toNat = w p) (hp : p < 65536) : k0_chk3 x := chk_of hw hx hp
theorem chk4 {w : ℕ → ℕ} (hw : Good w) {p : ℕ} {x : BitVec 32} (hx : x.toNat = w p) (hp : p < 65536) : k0_chk4 x := chk_of hw hx hp

section Trip

variable (c : Dev nD) (w : ℕ → ℕ) (h3 : HS.Idx → Elt F .f32) (v : XS.Idx → Elt F .f32) (t : ℕ)
  (arg1 : Memref sig .tc .smem S1x1x2048 .i32) (f1 : Buf (Elt F) (arg1.view.loc (c : Thread nD τ)))
  (arg2 : Memref sig .tc .vmem S4096x128 .f32) (f2 : Buf (Elt F) (arg2.view.loc (c : Thread nD τ)))

/-- Copy `j`'s window of the result and its read share, before it starts. -/
abbrev item (j : Fin 2048) : sProp 𝕄 :=
  iprop(((c : Thread nD τ).loc main_v0 ↦[winSet w (pairOf t j.val)]{fullShare} landed w h3 v (t * 2048))
    ∗ (arg2.view.loc (c : Thread nD τ) ↦[srcSet c arg2 j]{Transfers.shareTokN fullShare j.val} f2))

/-- Before trip `k`. -/
def issueInv (k : ℕ) (_ : Unit) : sProp 𝕄 :=
  iprop(batch c w h3 v t arg2 f2 (4 * k) 0 ∗ bigSep (Ring.rangeSet 2048 (4 * k) 2048) (item c w h3 v t arg2 f2)
    ∗ (arg1.view.loc (c : Thread nD τ) ↦{fullShare} f1))

variable {w h3 v t arg1 f1 arg2 f2}

theorem trip (hw : Good w) (ht : t < 32) (i : grid0.Coords) (harg1 : arg1.IsWhole) (harg2 : arg2.IsWhole)
    (hf1 : ∀ q : Fin 2048, BitVec.toNat (w := 32) (arg1.view.read (Elt F) f1 (ix3 0 0 q)) = w (t * 2048 + q.val))
    (hf2 : ∀ (r : Fin 4096) (l : Fin 128), arg2.view.read (Elt F) f2 (ix2 r l) = h3 (ix2 ⟨t * 4096 + r.val, by omega⟩ l))
    (k : Fin k0_t1_loop.trips) (acc : Unit) :
    issueInv c w h3 v t arg1 f1 arg2 f2 k acc ⊢ wp frame (wpE (defs₀ (F := F)) Variants.none (c : Thread nD τ) none) Set.univ
      (k0_t1_body (F := F) i arg1 harg1 arg2 harg2 res (Memref.isWhole_whole _) cc0_scratch0 k acc) (issueInv c w h3 v t arg1 f1 arg2 f2 (k.val + 1)) := by
  have hk : k.val < 512 := lt_of_lt_of_eq k.isLt trips_eq
  unfold issueInv
  rw [Ring.bigSep_rangeSet_head (Φ := item c w h3 v t arg2 f2) (lo := 4 * k.val) (by omega) (by omega),
    Ring.bigSep_rangeSet_head (Φ := item c w h3 v t arg2 f2) (lo := 4 * k.val + 1) (by omega) (by omega),
    Ring.bigSep_rangeSet_head (Φ := item c w h3 v t arg2 f2) (lo := 4 * k.val + 1 + 1) (by omega) (by omega),
    Ring.bigSep_rangeSet_head (Φ := item c w h3 v t arg2 f2) (lo := 4 * k.val + 1 + 1 + 1) (by omega) (by omega),
    show 4 * (k.val + 1) = 4 * k.val + 1 + 1 + 1 + 1 by omega]
  iintro ⟨HB, ⟨⟨Hd0, Hs0⟩, ⟨Hd1, Hs1⟩, ⟨Hd2, Hs2⟩, ⟨Hd3, Hs3⟩, Hrest⟩, H1⟩
  sl_unfold [k0_t1_body]
  rw [k0_part1_eq_skeleton]
  sl_unfold [k0_part1_skel]
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x1x2048) (k0_off1 k) S1x1x1.size (k0_off1_inb k)) (f := f1) (S := Finset.univ) (Finset.subset_univ _)) $$ H1
  iintro H1
  generalize hx1 : ((arg1.access (Rect.unit (s := S1x1x2048) (k0_off1 k) S1x1x1.size (k0_off1_inb k))).read (Elt F) f1 _) = x1
  have hv1 : x1.toNat = w (pairOf t (4 * k.val)) := by
    rw [← hx1]; exact word_eq (q := k.val) hf1 (off1_eq k) _ _ (by omega) (by unfold pairOf; omega)
  iapply (wp_assume Variants.none (c : Thread nD τ) none Set.univ (chk1 hw hv1 (lt_of_lt_of_le (pairOf_lt (j := 4 * k.val) ht (by omega)) (by omega))))
  iapply (issue c hw ht (j := 4 * k.val) (by omega) hf2 _ (off := k0_off2 x1) (off' := k0_off3 k)
    (congrArg (fun n : ℕ => (![n, 0] : Fin 2 → ℕ)) hv1) ((off3_eq k).trans (congrArg (fun n : ℕ => (![n * 8, 0] : Fin 2 → ℕ)) (by omega)))) $$ [Hd0 Hs0 HB]
  · isplitl [Hd0]; · iexact Hd0
    isplitl [Hs0]; · iexact Hs0
    iexact HB
  iintro HB
  iapply (wp_load_rect Variants.none (c : Thread nD τ) none Set.univ (m := arg1) (r := Rect.unit (s := S1x1x2048) (k0_off4 k) S1x1x1.size (k0_off4_inb k)) (f := f1) (S := Finset.univ) (Finset.subset_univ _)) $$ H1
  iintro H1
  generalize hx2 : ((arg1.access (Rect.unit (s := S1x1x2048) (k0_off4 k) S1x1x1.size (k0_off4_inb k))).read (Elt F) f1 _) = x2
  have hv2 : x2.toNat = w (pairOf t (4 * k.val + 1)) := by
    rw [← hx2]; exact word_eq (q := 512 + k.val) hf1 (off4_eq k) _ _ (by omega) (by unfold pairOf; omega)
  iapply (wp_assume Variants.none (c : Thread nD τ) none Set.univ (chk2 hw hv2 (lt_of_lt_of_le (pairOf_lt (j := 4 * k.val + 1) ht (by omega)) (by omega))))
  iapply (issue c hw ht (j := 4 * k.val + 1) (by omega) hf2 _ (off := k0_off5 x2) (off' := k0_off6 k)
    (congrArg (fun n : ℕ => (![n, 0] : Fin 2 → ℕ)) hv2) ((off6_eq k).trans (congrArg (fun n : ℕ => (![n * 8, 0] : Fin 2 → ℕ)) (by omega)))) $$ [Hd1 Hs1 HB]
  · isplitl [Hd1]; · iexact Hd1
    isplitl [Hs1]; · iexact Hs1
    iexact HB
  iintro HB
  iapply (wp_load_rect Variants.none (c : Thread nD τ) none Set.univ (m := arg1) (r := Rect.unit (s := S1x1x2048) (k0_off7 k) S1x1x1.size (k0_off7_inb k)) (f := f1) (S := Finset.univ) (Finset.subset_univ _)) $$ H1
  iintro H1
  generalize hx3 : ((arg1.access (Rect.unit (s := S1x1x2048) (k0_off7 k) S1x1x1.size (k0_off7_inb k))).read (Elt F) f1 _) = x3
  have hv3 : x3.toNat = w (pairOf t (4 * k.val + 1 + 1)) := by
    rw [← hx3]; exact word_eq (q := 1024 + k.val) hf1 (off7_eq k) _ _ (by omega) (by unfold pairOf; omega)
  iapply (wp_assume Variants.none (c : Thread nD τ) none Set.univ (chk3 hw hv3 (lt_of_lt_of_le (pairOf_lt (j := 4 * k.val + 1 + 1) ht (by omega)) (by omega))))
  iapply (issue c hw ht (j := 4 * k.val + 1 + 1) (by omega) hf2 _ (off := k0_off8 x3) (off' := k0_off9 k)
    (congrArg (fun n : ℕ => (![n, 0] : Fin 2 → ℕ)) hv3) ((off9_eq k).trans (congrArg (fun n : ℕ => (![n * 8, 0] : Fin 2 → ℕ)) (by omega)))) $$ [Hd2 Hs2 HB]
  · isplitl [Hd2]; · iexact Hd2
    isplitl [Hs2]; · iexact Hs2
    iexact HB
  iintro HB
  iapply (wp_load_rect Variants.none (c : Thread nD τ) none Set.univ (m := arg1) (r := Rect.unit (s := S1x1x2048) (k0_off10 k) S1x1x1.size (k0_off10_inb k)) (f := f1) (S := Finset.univ) (Finset.subset_univ _)) $$ H1
  iintro H1
  generalize hx4 : ((arg1.access (Rect.unit (s := S1x1x2048) (k0_off10 k) S1x1x1.size (k0_off10_inb k))).read (Elt F) f1 _) = x4
  have hv4 : x4.toNat = w (pairOf t (4 * k.val + 1 + 1 + 1)) := by
    rw [← hx4]; exact word_eq (q := 1536 + k.val) hf1 (off10_eq k) _ _ (by omega) (by unfold pairOf; omega)
  iapply (wp_assume Variants.none (c : Thread nD τ) none Set.univ (chk4 hw hv4 (lt_of_lt_of_le (pairOf_lt (j := 4 * k.val + 1 + 1 + 1) ht (by omega)) (by omega))))
  iapply (issue c hw ht (j := 4 * k.val + 1 + 1 + 1) (by omega) hf2 _ (off := k0_off11 x4) (off' := k0_off12 k)
    (congrArg (fun n : ℕ => (![n, 0] : Fin 2 → ℕ)) hv4) ((off12_eq k).trans (congrArg (fun n : ℕ => (![n * 8, 0] : Fin 2 → ℕ)) (by omega)))) $$ [Hd3 Hs3 HB]
  · isplitl [Hd3]; · iexact Hd3
    isplitl [Hs3]; · iexact Hs3
    iexact HB
  iintro HB
  sl_step
  isplitl [HB]; · iexact HB
  isplitl [Hrest]; · iexact Hrest
  iexact H1

end Trip

end Cert.KernelIdeal.Hand

end
-- ==== Proof.Body.lean ====
/-
  The scatter's body at one tile: the result's windows and the token block's read shares are dealt to the 2048 copies,
  the loop starts them, the four waits bring every one of them back.
-/
module

public import proofs.«01_k».proof.Proof.Trip

@[expose] public section

set_option maxRecDepth 16384

noncomputable section

namespace Cert.KernelIdeal.Hand

open Cert.KernelIdeal Cert.KernelIdeal.Gen Cert.Proof.Dispatch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

theorem eq_of_bi {P Q : sProp 𝕄} (h : P ⊣⊢ Q) : P = Q := Idealize.SL.BI.Entails.antisymm h.1 h.2

theorem sep_deal {n : ℕ} (Φ Ψ : Fin n → sProp 𝕄) :
    (bigSep Finset.univ fun j => iprop(Φ j ∗ Ψ j)) = iprop(bigSep Finset.univ Φ ∗ bigSep Finset.univ Ψ) := BI.bigSep_sep _ Φ Ψ

theorem rot (A B C : sProp 𝕄) : iprop(A ∗ B ∗ C) = iprop((A ∗ C) ∗ B) := by
  refine eq_of_bi ⟨?_, ?_⟩
  · iintro ⟨HA, HB, HC⟩
    isplitr [HB]
    · isplitl [HA]; · iexact HA
      iexact HC
    · iexact HB
  · iintro ⟨⟨HA, HC⟩, HB⟩
    isplitl [HA]; · iexact HA
    isplitl [HB]; · iexact HB
    iexact HC

theorem congr_off {ℓ : Loc nD τ sig} {q : PosShare TreeShare} {A : Finset (Idx ℓ)} {f g : Buf (Elt F) ℓ} (h : ∀ y, y ∉ A → f y = g y) :
    (ℓ ↦[Finset.univ \ A]{q} f : sProp 𝕄) = (ℓ ↦[Finset.univ \ A]{q} g) :=
  pointsTo_congr fun y hy => h y (Finset.mem_sdiff.mp hy).2

section Deal

variable (c : Dev nD) (w : ℕ → ℕ) (t : ℕ)
  (arg2 : Memref sig .tc .vmem S4096x128 .f32) (f2 : Buf (Elt F) (arg2.view.loc (c : Thread nD τ)))

/-- What of the token block's read shares no copy takes. -/
def spare : sProp 𝕄 :=
  iprop((arg2.view.loc (c : Thread nD τ) ↦{Transfers.shareDrop fullShare 2048} f2)
    ∗ bigSep Finset.univ fun j : Fin 2048 => arg2.view.loc (c : Thread nD τ) ↦[Finset.univ \ srcSet c arg2 j]{Transfers.shareTokN fullShare j.val} f2)

/-- The token block, dealt: one read share for each copy, and the spare part. -/
theorem src_deal : (arg2.view.loc (c : Thread nD τ) ↦{fullShare} f2 : sProp 𝕄)
    = iprop(spare c arg2 f2 ∗ bigSep Finset.univ fun j : Fin 2048 => arg2.view.loc (c : Thread nD τ) ↦[srcSet c arg2 j]{Transfers.shareTokN fullShare j.val} f2) := by
  unfold spare
  rw [eq_of_bi (Transfers.pointsTo_toks_range (f := f2) fullShare 2048),
    ← Ring.bigSep_rangeSet_eq_range (NB := 2048) (lo := 0) (hi := 2048) (Φ := fun j : Fin 2048 => (arg2.view.loc (c : Thread nD τ) ↦{Transfers.shareTokN fullShare j.val} f2 : sProp 𝕄))
      le_rfl _ (fun k h => by simp only [Nat.zero_add]), Ring.rangeSet_univ,
    bigSep_congr (Ψ := fun j : Fin 2048 => iprop((arg2.view.loc (c : Thread nD τ) ↦[srcSet c arg2 j]{Transfers.shareTokN fullShare j.val} f2)
      ∗ (arg2.view.loc (c : Thread nD τ) ↦[Finset.univ \ srcSet c arg2 j]{Transfers.shareTokN fullShare j.val} f2)))
      (fun j _ => eq_of_bi (pointsTo_split_subset (Finset.subset_univ _))), sep_deal]
  exact rot _ _ _

/-- The tile's windows together. -/
def tileSet : Finset XS.Idx := Finset.univ.biUnion fun j : Fin 2048 => winSet w (pairOf t j.val)

/-- The result, dealt: one window for each copy, and the rows no copy of the tile writes. -/
theorem dst_deal (hw : Good w) (ht : t < 32) (f : XS.Idx → Elt F .f32) : ((c : Thread nD τ).loc main_v0 ↦{fullShare} f : sProp 𝕄)
    = iprop((bigSep Finset.univ fun j : Fin 2048 => (c : Thread nD τ).loc main_v0 ↦[winSet w (pairOf t j.val)]{fullShare} f)
      ∗ ((c : Thread nD τ).loc main_v0 ↦[Finset.univ \ tileSet w t]{fullShare} f)) := by
  rw [eq_of_bi (pointsTo_split_subset (ℓ := (c : Thread nD τ).loc main_v0) (Finset.subset_univ (tileSet w t)))]
  unfold tileSet
  rw [pointsTo_biUnion]
  intro a _ b _ hab
  exact winSet_disjoint hw (by have := pairOf_lt ht a.isLt; omega) (by have := pairOf_lt ht b.isLt; omega) fun h => hab (Fin.ext (pairOf_inj a.isLt b.isLt h))

theorem off_tile (hw : Good w) (ht : t < 32) (h3 : HS.Idx → Elt F .f32) (v : XS.Idx → Elt F .f32) {y : XS.Idx} (hy : y ∉ tileSet w t) :
    landed w h3 v ((t + 1) * 2048) y = landed w h3 v (t * 2048) y := by
  refine landed_off hw h3 v (n := t * 2048) (n' := (t + 1) * 2048) (by omega) (by omega) fun p hp hp' hin => ?_
  obtain ⟨j, hj, rfl⟩ := exists_pairOf hp (by omega)
  refine hy ?_
  unfold tileSet
  rw [Finset.mem_biUnion]
  exact ⟨⟨j, hj⟩, Finset.mem_univ _, mem_winSet.mpr hin⟩

theorem off_congr {f g : XS.Idx → Elt F .f32} (h : ∀ y : XS.Idx, y ∉ tileSet w t → f y = g y) :
    ((c : Thread nD τ).loc main_v0 ↦[Finset.univ \ tileSet w t]{fullShare} f : sProp 𝕄)
      = ((c : Thread nD τ).loc main_v0 ↦[Finset.univ \ tileSet w t]{fullShare} g) :=
  congr_off h

end Deal

theorem body {c : Dev nD} {w : ℕ → ℕ} (hw : Good w) {h3 : HS.Idx → Elt F .f32} {v : XS.Idx → Elt F .f32} {t : ℕ} (ht : t < 32)
    {arg1 : Memref sig .tc .smem S1x1x2048 .i32} {f1 : Buf (Elt F) (arg1.view.loc (c : Thread nD τ))}
    {arg2 : Memref sig .tc .vmem S4096x128 .f32} {f2 : Buf (Elt F) (arg2.view.loc (c : Thread nD τ))}
    (i : grid0.Coords) (harg1 : arg1.IsWhole) (harg2 : arg2.IsWhole)
    (hf1 : ∀ q : Fin 2048, BitVec.toNat (w := 32) (arg1.view.read (Elt F) f1 (ix3 0 0 q)) = w (t * 2048 + q.val))
    (hf2 : ∀ (r : Fin 4096) (l : Fin 128), arg2.view.read (Elt F) f2 (ix2 r l) = h3 (ix2 ⟨t * 4096 + r.val, by omega⟩ l))
    (W : Waits sig Unit) :
    (iprop(((c : Thread nD τ).loc main_v0 ↦{fullShare} landed w h3 v (t * 2048)) ∗ (arg1.view.loc (c : Thread nD τ) ↦{fullShare} f1)
        ∗ (arg2.view.loc (c : Thread nD τ) ↦{fullShare} f2) ∗ semVal ((c : Thread nD τ), .dma cc0_scratch0.sem) 0 ∗ owes (c : Thread nD τ) 0 W) : sProp 𝕄)
      ⊢ wp frame (wpE (defs₀ (F := F)) Variants.none (c : Thread nD τ) none) Set.univ
        (cc0_moe_dispatch (F := F) i arg1 harg1 arg2 harg2 res (Memref.isWhole_whole _) cc0_scratch0)
        (fun _ => iprop(((c : Thread nD τ).loc main_v0 ↦{fullShare} landed w h3 v ((t + 1) * 2048)) ∗ (arg1.view.loc (c : Thread nD τ) ↦{fullShare} f1)
          ∗ (arg2.view.loc (c : Thread nD τ) ↦{fullShare} f2) ∗ semVal ((c : Thread nD τ), .dma cc0_scratch0.sem) 0 ∗ ∃ W' : Waits sig Unit, owes (c : Thread nD τ) 0 W')) := by
  rw [cc0_moe_dispatch_eq_skeleton]
  sl_unfold [cc0_moe_dispatch_skel]
  rw [src_deal, dst_deal c w t hw ht (landed w h3 v (t * 2048)), dst_deal c w t hw ht (landed w h3 v ((t + 1) * 2048)), off_congr c w t fun y hy => (off_tile w t hw ht h3 v hy).symm]
  iintro ⟨⟨Hd, Hoff⟩, H1, ⟨Hsp, Hs⟩, Hsem, HO⟩
  imod (Transfers.batch_alloc' (Lvl := ℕ) (countersEmb (U := Pipeline.UD sig nD τ)) (c : Thread nD τ) (sm := .dma cc0_scratch0.sem) () NN
    (deliv c w h3 v t arg2 f2) (E := Set.univ)) $$ Hsem with HB
  sl_for (issueInv c w h3 v t arg1 f1 arg2 f2) $$ [HB Hd Hs H1]
  · exact trip c hw ht i harg1 harg2 hf1 hf2
  · unfold issueInv
    rw [show 4 * 0 = 0 from rfl, Ring.rangeSet_univ]
    unfold item
    rw [sep_deal]
    isplitl [HB]; · iexact HB
    isplitl [Hd Hs]
    · isplitl [Hd]; · iexact Hd
      iexact Hs
    · iexact H1
  iintro %acc HI
  unfold issueInv
  rw [show 4 * Scf.trips k0_t1_loop.lb k0_t1_loop.ub k0_t1_loop.st = 2048 from by rw [show Scf.trips k0_t1_loop.lb k0_t1_loop.ub k0_t1_loop.st = 512 from trips_eq]]
  icases HI with ⟨HB, -, H1⟩
  sl_unfold [body.sl.prog.cont_1]
  simp only [Prog.lift, Prog.bind_op, Prog.bind_ret, Prog.pure_eq_ret, Prog.bind_assoc]
  iapply (Transfers.wp_waitBatchMul (countersEmb (U := Pipeline.UD sig nD τ)) Variants.none (c : Thread nD τ) none () 512 (N := NN) credit_wait (j := 2048) (u := 0) (by decide)) $$ [HB HO]
  · isplitl [HB]; · iexact HB
    iexact HO
  iintro ⟨HB, HO⟩
  iapply (Transfers.wp_waitBatchMul (countersEmb (U := Pipeline.UD sig nD τ)) Variants.none (c : Thread nD τ) none () 512 (N := NN) credit_wait (j := 2048) (u := 0 + 512 * NN) (by decide)) $$ [HB HO]
  · isplitl [HB]; · iexact HB
    iexact HO
  iintro ⟨HB, HO⟩
  iapply (Transfers.wp_waitBatchMul (countersEmb (U := Pipeline.UD sig nD τ)) Variants.none (c : Thread nD τ) none () 512 (N := NN) credit_wait (j := 2048) (u := 0 + 512 * NN + 512 * NN) (by decide)) $$ [HB HO]
  · isplitl [HB]; · iexact HB
    iexact HO
  iintro ⟨HB, HO⟩
  iapply (Transfers.wp_waitBatchAll (countersEmb (U := Pipeline.UD sig nD τ)) Variants.none (c : Thread nD τ) none () (N := NN) credit_wait (by decide) (n := 2048) (u := 0 + 512 * NN + 512 * NN + 512 * NN) (by decide)) $$ [HB HO]
  · isplitl [HB]; · iexact HB
    iexact HO
  iintro ⟨HD, Hsem, HO⟩
  sl_step
  ihave HD := (show (bigSep Finset.univ (deliv c w h3 v t arg2 f2) : sProp 𝕄) ⊢ _ from Entails.of_eq (sep_deal _ _)) $$ HD
  icases HD with ⟨Hd, Hs⟩
  isplitl [Hd Hoff]
  · isplitl [Hd]; · iexact Hd
    iexact Hoff
  isplitl [H1]; · iexact H1
  isplitl [Hsp Hs]
  · isplitl [Hsp]; · iexact Hsp
    iexact Hs
  isplitl [Hsem]; · iexact Hsem
  iexists _
  iexact HO

end Cert.KernelIdeal.Hand

end
-- ==== Proof.Whole.lean ====
/-
  The scatter's run: over the 32 tiles the result goes from what it held at the launch to what all 65536 copies leave,
  and nothing else changes.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen Cert.Proof.Dispatch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one buffer the body writes itself. -/
def R0 : Finset (Ref sig .tc) := {main_v0}
theorem R0_sub : R0 ⊆ Pipeline.restRefs sig spec0 \ ∅ := by decide

abbrev osem0 : Fin 1 → SemLoc sig := fun _ => SemLoc.dma cc0_scratch0.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch0.sem) 0 := by
  rw [Pipeline.ownSems0_eq_of_list c osem0 [0] (by decide) (by decide)]; rfl

/-- A core's buffers as launched. -/
abbrev V0 (c : Dev nD) (b : Ref sig .tc) : Buf (Elt F) ((c : Thread nD τ).loc b) := m ((c : Thread nD τ).loc b)

/-- The pairs' destination rows, and the tokens' rows, of the launch. -/
abbrev wOf (c : Dev nD) : ℕ → ℕ := wordAt (V0 m c main_arg0)
abbrev hOf (c : Dev nD) : HS.Idx → Elt F .f32 := V0 m c main_arg1

/-- The buffers after the first `n` tiles. -/
def after (c : Dev nD) (n : ℕ) : (b : Ref sig .tc) → Buf (Elt F) ((c : Thread nD τ).loc b) :=
  Function.update (V0 m c) main_v0 (landed (wOf m c) (hOf m c) (V0 m c main_v0) (n * 2048))

theorem after_zero (c : Dev nD) : after m c 0 = V0 m c := by
  unfold after
  rw [show landed (wOf m c) (hOf m c) (V0 m c main_v0) (0 * 2048) = V0 m c main_v0 from by rw [Nat.zero_mul]; exact landed_zero _ _ _]
  exact Function.update_eq_self _ _

theorem main_at (𝒱₀ : Variants) : Pipeline.HMain (Ix := Unit) (Name := ℕ) (U := Pipeline.UD sig nD τ) (Lvl := ℕ) cfgs 0 defs₀ 𝒱₀ m (main (F := F)) (V0 m) :=
  Pipeline.hmain_region cfgs 0 defs₀ 𝒱₀ m main fun c => (main_chain c).trans rfl

/-- Window `w`'s block at a point. -/
def blockAt (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- What the body holds besides the staged blocks before point `n`. -/
def held (c : Dev nD) (n : ℕ) : sProp 𝕄 := Pipeline.ΦDRG osem0 spec0 ∅ R0 (V0 m) (fun c => after m c n) c

def dats (_ : Fin 1) (c : Dev nD) : Dat τ (Elt F) Unit ℕ (Pipeline.UD sig nD τ) ℕ cfg0 c where
  A w := V0 m c (Pipeline.arrRef spec0 w)
  after w t := match w with
    | ⟨0, _⟩ => blockAt m c 0 t
    | ⟨1, _⟩ => blockAt m c 1 t
  Φ t := held m c t.val
  q _ := fullShare
  owed _ := 0

theorem A_eq (c : Dev nD) (w : Fin cfg0.W) : (dats m 0 c).A w = V0 m c (Pipeline.arrRef spec0 w) := by dsimp only [dats]

theorem before_0 (c : Dev nD) (t : Fin cfg0.N) (d) : (dats m 0 c).before 0 t d = blockAt m c 0 t :=
  ((dats m 0 c).before_in_eq_fetched 0 rfl (fun _ => rfl) (fun _ _ _ => rfl) (fun t => by dsimp only [dats]; unfold Dat.blockOf blockAt; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl) (fun t => by dsimp only [dats]; unfold Dat.blockOf blockAt; try rfl) t d).trans
    (by unfold Dat.fetched Dat.blockOf blockAt; rw [A_eq]; try rfl)

theorem held_eq (c : Dev nD) (n : ℕ) : held m c n = iprop(emp ∗ (∃ r, prngReg c r) ∗ semVal ((c : Thread nD τ), SemLoc.dma cc0_scratch0.sem) 0 ∗ emp
    ∗ ((c : Thread nD τ).loc main_v0 ↦{fullShare} landed (wOf m c) (hOf m c) (V0 m c main_v0) (n * 2048))) := by
  unfold held
  rw [Pipeline.ΦDRG_eq, scopedRest0_eq, ownSems00_eq, bigSep_empty]
  unfold Pipeline.routed R0
  rw [bigSep_singleton]
  unfold after
  rw [Function.update_self]
  rfl

theorem at_0 : ∀ t : Fin grid0.N, cc0_transform_0 (grid0.coords t) = ![t.val, 0, 0] := by decide +kernel
theorem at_1 : ∀ t : Fin grid0.N, cc0_transform_1 (grid0.coords t) = ![t.val, 0] := by decide +kernel

theorem blockAt_0 (c : Dev nD) (t : Fin cfg0.N) (q : Fin 2048) :
    BitVec.toNat (w := 32) (blockAt m c 0 t (ix3 0 0 q)) = wOf m c (t.val * 2048 + q.val) := by
  have ht : t.val < 32 := lt_of_lt_of_eq t.isLt N_0
  unfold wOf wordAt
  show BitVec.toNat (w := 32) (V0 m c main_arg0 (((cfg0.win 0).blk t).view.emb (ix3 0 0 q))) = _
  congr 2
  have e := at_0 t
  funext a; apply Fin.ext; fin_cases a
  · show cc0_transform_0 (grid0.coords t) 0 * 1 + 1 * 0 = _
    rw [e]; show t.val * 1 + 1 * 0 = (t.val * 2048 + q.val) / 2048 % 32; omega
  · show cc0_transform_0 (grid0.coords t) 1 * 1 + 1 * 0 = _
    rw [e]; rfl
  · show cc0_transform_0 (grid0.coords t) 2 * 2048 + 1 * q.val = _
    rw [e]; show 0 * 2048 + 1 * q.val = (t.val * 2048 + q.val) % 2048; omega

theorem blockAt_1 (c : Dev nD) (t : Fin cfg0.N) (ht : t.val < 32) (r : Fin 4096) (l : Fin 128) :
    blockAt m c 1 t (ix2 r l) = hOf m c (ix2 ⟨t.val * 4096 + r.val, by omega⟩ l) := by
  show V0 m c main_arg1 (((cfg0.win 1).blk t).view.emb (ix2 r l)) = _
  congr 1
  have e := at_1 t
  funext a; apply Fin.ext; fin_cases a
  · show cc0_transform_1 (grid0.coords t) 0 * 4096 + 1 * r.val = _
    rw [e]; show t.val * 4096 + 1 * r.val = t.val * 4096 + r.val; omega
  · show cc0_transform_1 (grid0.coords t) 1 * 128 + 1 * l.val = _
    rw [e]; show 0 * 128 + 1 * l.val = l.val; omega

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t))

variable {m}

theorem sound_body {c : Dev nD} (hw : Good (wOf m c)) (t : Fin cfg0.N) :
    bodyPre m c t ⊢ wp frame (wpE (defs₀ (F := F)) Variants.none c none) Set.univ (bodyAt0 t) (fun _ => bodyPost m c t) := by
  have ht : t.val < 32 := lt_of_lt_of_eq t.isLt N_0
  unfold bodyPre bodyPost bodyAt0
  rw [show (dats m 0 c).Φ t.castSucc = held m c t.val from rfl, show (dats m 0 c).Φ t.succ = held m c (t.val + 1) from rfl, held_eq, held_eq]
  unfold Dat.owesAt Pipeline.owesWithin
  rw [show (dats m 0 c).owed t.castSucc = 0 from rfl, show (dats m 0 c).owed t.succ = 0 from rfl]
  rw [show (dats m 0 c).after 0 t = blockAt m c 0 t from rfl, show (dats m 0 c).after 1 t = blockAt m c 1 t from rfl]
  unfold owns
  rw [show (st0_0 t).view.set = Finset.univ from (hstage0_0 ((cfg0.slots t 0).cast nbuf0_0)).set_eq_univ,
    show (st0_1 t).view.set = Finset.univ from (hstage0_1 ((cfg0.slots t 1).cast nbuf0_1)).set_eq_univ]
  iintro ⟨⟨He, Hg, Hsem, He', Hv⟩, ⟨%W, -, HW⟩, ⟨%d0, %f0, %h0, H0⟩, ⟨%d1, %f1, %h1, H1⟩⟩
  have h0' := h0.trans (before_0 m c t d0)
  have h1' := h1.trans (before_1 m c t d1)
  iapply (wp_wand _ _ _) $$ [Hv H0 H1 Hsem HW]
  · iapply (body hw (h3 := hOf m c) (v := V0 m c main_v0) ht (arg1 := st0_0 t) (f1 := f0) (arg2 := st0_1 t) (f2 := f1) (grid0.coords t)
      (hstage0_0 ((cfg0.slots t 0).cast nbuf0_0)) (hstage0_1 ((cfg0.slots t 1).cast nbuf0_1))
      (fun q => (congrArg BitVec.toNat (congrFun h0' (ix3 0 0 q))).trans (blockAt_0 m c t q))
      (fun r l => (congrFun h1' (ix2 r l)).trans (blockAt_1 m c t ht r l)) W)
    isplitl [Hv]; · iexact Hv
    isplitl [H0]; · iexact H0
    isplitl [H1]; · iexact H1
    isplitl [Hsem]; · iexact Hsem
    iexact HW
  iintro %u ⟨Hv, H0, H1, Hsem, ⟨%W', HW'⟩⟩
  isplitl [He Hg Hsem He' Hv]
  · isplitl [He]; · iexact He
    isplitl [Hg]; · iexact Hg
    isplitl [Hsem]; · iexact Hsem
    isplitl [He']; · iexact He'
    iexact Hv
  isplitl [HW']
  · iexists W'; isplitr; · ipureintro; exact fun _ _ => Or.inl trivial
    iexact HW'
  isplitl [H0]
  · iexists f0; isplitr; · ipureintro; exact h0'
    iexact H0
  · iexists f1; isplitr; · ipureintro; exact h1'
    iexact H1

theorem body_row (t : Fin cfg0.N) : defs₀ (F := F) .tc cfg0.body (cfg0.bodyArgs t (cfg0.slots t)) = bodyAt0 t := by
  unfold defs₀; rw [Defs.onTc_tc]

theorem body_obligation {c : Dev nD} (hw : Good (wOf m c)) : BodyObligation (dats (F := F) m 0 c) (defs₀ (F := F)) Variants.none () Set.univ := fun t => by
  rw [bigSep_W0, bigSep_W0, body_row]
  exact triple_restated (sound_body hw t) rfl .rfl fun _ => .rfl

set_option backward.isDefEq.respectTransparency.types false in
theorem run_main (hw : ∀ c, Good (wOf m c)) : θ_run defs (onTc (τ := τ) (main (F := F))) (s₀ m ρ)
    (fun r => Pipeline.FramePostRG cfgs (dats m) 0 R0 (V0 m) (fun c => after m c 32) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation (hw c)).loose) (hshare := fun c => (dats m 0 c).share_full fun _ => rfl)
    (howed := fun _ _ => rfl) (V := V0 m) (hmain := main_at m Variants.none) (hA := A_eq m) (G := fun c => after m c 32)
    (hin := fun c => by
      show Pipeline.ΦDRG osem0 spec0 ∅ R0 (V0 m) (V0 m) c ⊢ Pipeline.ΦDRG osem0 spec0 ∅ R0 (V0 m) (fun c => after m c 0) c
      rw [show (fun c => after m c 0) = V0 m from funext fun c => after_zero m c])
    (hout := fun c => by
      show held m c grid0.N ⊢ _
      rw [N_0]; exact .rfl)

/-- The run's post, read: the result's contents, the arguments kept, every counter at zero. -/
theorem run_read (hw : ∀ c, Good (wOf m c)) : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1))
      ∧ r.2.mem ((c.tc : Thread nD τ).loc main_v0) = landed (wOf m c) (hOf m c) (V0 m c main_v0) 65536)
      ∧ r.2.sem = fun _ => 0) :=
  (θ_run defs _ _).mono (fun r h => ⟨fun c => ⟨⟨((h.1.1 c).1 0).trans (((dats m 0 c).arrAt_in 0 rfl _).trans (A_eq m c 0)),
      ((h.1.1 c).1 1).trans (((dats m 0 c).arrAt_in 1 rfl _).trans (A_eq m c 1))⟩,
      (h.1.2 c main_v0 (Finset.mem_singleton_self _)).trans (Function.update_self ..)⟩, h.2⟩) (run_main ρ hw)

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.ReferenceIdeal.Run
public import proofs.«01_k».proof.Proof.Gen.Pre_distinct_positions
public import proofs.«01_k».proof.Proof.Gen.On_assigned
public import proofs.«01_k».proof.Proof.Gen.Kernel2
public import proofs.«01_k».proof.Proof.Gen.Kernel2Ideal
public import proofs.«01_k».proof.Proof.Gen.Reference2
public import proofs.«01_k».proof.Proof.Gen.Reference2Ideal
public import proofs.«01_k».proof.Proof.Gen.Reference2Ideal.Run
public import proofs.«01_k».proof.Proof.Gen.Pre_tiles_of_experts
public import proofs.«01_k».proof.Proof.Gen.On_valid_rows
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Reference3
public import proofs.«01_k».proof.Proof.Gen.Reference3Ideal
public import proofs.«01_k».proof.Proof.Gen.Reference3Ideal.Run
public import proofs.«01_k».proof.Proof.Gen.Pre_rows_inside
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4
public import proofs.«01_k».proof.Proof.Gen.Reference4Ideal
public import proofs.«01_k».proof.Proof.Gen.Reference4Ideal.Run
public import proofs.«01_k».proof.Proof.ProjectReference
public import proofs.«01_k».proof.Proof.ProjectValues
public import proofs.«01_k».proof.Proof.ExpertsPre
public import proofs.«01_k».proof.Proof.CombineRun
public import proofs.«01_k».proof.Proof.CombineValues
public import proofs.«01_k».proof.Proof.Whole
public import proofs.«01_k».proof.Proof.Values
public import Idealize.ShloMosaic.Adequacy
public import Idealize.ShloMosaic.Init

@[expose] public section

set_option maxRecDepth 16384
set_option maxHeartbeats 1600000

noncomputable section

namespace Cert.Proof

open Idealize.ShloMosaic Idealize.SL.Sem
open Cert.Proof.Dispatch

/-- The dispatch kernel's run, at any float values: the result holds what has landed, the arguments are kept, every
    counter ends at zero. -/
theorem dispatch_run {F : FTy → Type} [FloatOps F] (m : (ℓ : Loc Cert.KernelIdeal.nD Cert.KernelIdeal.τ Cert.KernelIdeal.sig) → Buf (Elt F) ℓ)
    (g : Dev Cert.KernelIdeal.nD → PrngReg)
    (h : ∀ c : Dev Cert.KernelIdeal.nD, Cert.Pre_distinct_positions.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    θ_run Cert.KernelIdeal.defs (onTc (τ := Cert.KernelIdeal.τ) (Cert.KernelIdeal.main (F := F))) ⟨m, fun _ => 0, g⟩ (fun r => (∀ c : Dev Cert.KernelIdeal.nD,
      (r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v0)
        = landed (wordAt (m ((c.tc : Thread Cert.KernelIdeal.nD Cert.KernelIdeal.τ).loc Cert.KernelIdeal.main_arg0)))
          (m ((c.tc : Thread Cert.KernelIdeal.nD Cert.KernelIdeal.τ).loc Cert.KernelIdeal.main_arg1)) (m ((c.tc : Thread Cert.KernelIdeal.nD Cert.KernelIdeal.τ).loc Cert.KernelIdeal.main_v0)) 65536)
      ∧ r.2.sem = fun _ => 0) :=
  Cert.KernelIdeal.Hand.run_read (F := F) (m := m) g fun c => good_of_pre _ _ (h c)

/-- The reference's run, at any float values: the result holds the scatter of the tokens, the arguments are kept, every
    counter ends at zero. -/
theorem reference_run {F : FTy → Type} [FloatOps F] (m : (ℓ : Loc Cert.ReferenceIdeal.nD Cert.ReferenceIdeal.τ Cert.ReferenceIdeal.sig) → Buf (Elt F) ℓ)
    (g : Dev Cert.ReferenceIdeal.nD → PrngReg) :
    θ_run Cert.ReferenceIdeal.defs (onTc (τ := Cert.ReferenceIdeal.τ) (Cert.ReferenceIdeal.main (F := F))) ⟨m, fun _ => 0, g⟩ (fun r => (∀ c : Dev Cert.ReferenceIdeal.nD,
      (r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v14)
        = refOut (F := F) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)))
      ∧ r.2.sem = fun _ => 0) :=
  (θ_run Cert.ReferenceIdeal.defs _ _).mono (fun r h => ⟨fun c => ⟨(h c).2, (h c).1⟩, sem_eq_zero_of_no_sems (by decide) r.2⟩)
    (Cert.ReferenceIdeal.Value.run (F := F) m g)

/-- The same run, read at the arguments and the counters alone. -/
theorem dispatch_frame {F : FTy → Type} [FloatOps F] (m : (ℓ : Loc Cert.KernelIdeal.nD Cert.KernelIdeal.τ Cert.KernelIdeal.sig) → Buf (Elt F) ℓ)
    (g : Dev Cert.KernelIdeal.nD → PrngReg)
    (h : ∀ c : Dev Cert.KernelIdeal.nD, Cert.Pre_distinct_positions.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    θ_run Cert.KernelIdeal.defs (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).1, h.2⟩) (dispatch_run m g h)

/-- The two copies of the kernel's text are one program. -/
theorem rows_same : Cert.Kernel.defs₀ (F := Bits) = Cert.KernelIdeal.defs₀ (F := Bits) := by
  funext p ℓ a
  cases p with
  | tc =>
    match ℓ, a with
    | 0, a => rfl
  | _ => rfl
theorem defs_same : Cert.Kernel.defs (F := Bits) = Cert.KernelIdeal.defs (F := Bits) := by
  show Pipeline.defs Cert.Kernel.pcfgs Cert.Kernel.defs₀ = Pipeline.defs Cert.KernelIdeal.pcfgs Cert.KernelIdeal.defs₀
  exact congrArg (Pipeline.defs Cert.Kernel.pcfgs) rows_same

theorem frame_kernel : Cert.quiescent_Kernel := fun m g h => by
  rw [defs_same]
  exact dispatch_frame (F := Bits) m g h

theorem frame_kernelIdeal : Cert.quiescent_KernelIdeal := fun m g h => dispatch_frame (F := Ideal) m g h

theorem frame_reference : Cert.quiescent_Reference := fun m g _ =>
  (θ_run Cert.ReferenceIdeal.defs _ _).mono (fun _ h => ⟨fun c => (h.1 c).1, h.2⟩) (reference_run (F := Bits) m g)

theorem frame_referenceIdeal : Cert.quiescent_ReferenceIdeal := fun m g _ =>
  (θ_run Cert.ReferenceIdeal.defs _ _).mono (fun _ h => ⟨fun c => (h.1 c).1, h.2⟩) (reference_run (F := Ideal) m g)

theorem dispatch_value : Cert.algebraic_KernelIdeal_ReferenceIdeal_on_assigned := fun m g m' g' hp ha => by
  refine ⟨fun c => refOut (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · refine (θ_run Cert.KernelIdeal.defs _ _).mono (fun r h c => ⟨fun i hi => ?_, (h.1 c).1⟩) (dispatch_run (F := Ideal) m g hp)
    have e := (h.1 c).2
    rw [e]
    exact landed_eq_refOut (F := Ideal) (m ((c.tc : Thread Cert.KernelIdeal.nD Cert.KernelIdeal.τ).loc Cert.KernelIdeal.main_arg0)) (good_of_pre (F := Ideal) _ _ (hp c)) (m ((c.tc : Thread Cert.KernelIdeal.nD Cert.KernelIdeal.τ).loc Cert.KernelIdeal.main_arg1)) (m ((c.tc : Thread Cert.KernelIdeal.nD Cert.KernelIdeal.τ).loc Cert.KernelIdeal.main_v0)) i hi
  · refine (θ_run Cert.ReferenceIdeal.defs _ _).mono (fun r h c => ⟨fun i _ => ?_, (h.1 c).1⟩) (reference_run (F := Ideal) m' g')
    have e := (h.1 c).2
    rw [e, (ha c).1, (ha c).2]

theorem dispatch_bits : Cert.bitexact_Kernel_Reference_on_assigned := fun m g m' g' hp ha => by
  refine ⟨fun c => refOut (F := Bits) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · rw [defs_same]
    refine (θ_run Cert.KernelIdeal.defs _ _).mono (fun r h c => ⟨fun i hi => ?_, (h.1 c).1⟩) (dispatch_run (F := Bits) m g hp)
    have e := (h.1 c).2
    rw [e]
    exact landed_eq_refOut (F := Bits) (m ((c.tc : Thread Cert.KernelIdeal.nD Cert.KernelIdeal.τ).loc Cert.KernelIdeal.main_arg0)) (good_of_pre (F := Bits) _ _ (hp c)) (m ((c.tc : Thread Cert.KernelIdeal.nD Cert.KernelIdeal.τ).loc Cert.KernelIdeal.main_arg1)) (m ((c.tc : Thread Cert.KernelIdeal.nD Cert.KernelIdeal.τ).loc Cert.KernelIdeal.main_v0)) i hi
  · refine (θ_run Cert.ReferenceIdeal.defs _ _).mono (fun r h c => ⟨fun i _ => ?_, (h.1 c).1⟩) (reference_run (F := Bits) m' g')
    have e := (h.1 c).2
    rw [e, (ha c).1, (ha c).2]

/-! ## The experts -/

/-- The experts' launch, read at the arguments and the counters. -/
theorem experts_frame {F : FTy → Type} [FloatOps F] (m : (ℓ : Loc Cert.Kernel2Ideal.nD Cert.Kernel2Ideal.τ Cert.Kernel2Ideal.sig) → Buf (Elt F) ℓ) (g : Dev Cert.Kernel2Ideal.nD → PrngReg)
    (h : ∀ c : Dev Cert.Kernel2Ideal.nD, Cert.Pre_tiles_of_experts.fn (F := F) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) = fun _ => 1#1) :
    θ_run Cert.Kernel2Ideal.defs (onTc (τ := Cert.Kernel2Ideal.τ) (Cert.Kernel2Ideal.main (F := F))) ⟨m, fun _ => 0, g⟩ (fun r => (∀ c : Dev Cert.Kernel2Ideal.nD,
      (r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
        ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
        ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)))
      ∧ r.2.sem = fun _ => 0) :=
  (θ_run Cert.Kernel2Ideal.defs _ _).mono (fun _ h => ⟨fun c => (h.1 c).1, h.2⟩) (Cert.Kernel2Ideal.Hand.run_read (F := F) (m := m) g (Experts.tables m h))

/-- The reference's run, read at the arguments and the counters. -/
theorem reference2_frame {F : FTy → Type} [FloatOps F] (m : (ℓ : Loc Cert.Reference2Ideal.nD Cert.Reference2Ideal.τ Cert.Reference2Ideal.sig) → Buf (Elt F) ℓ) (g : Dev Cert.Reference2Ideal.nD → PrngReg) :
    θ_run Cert.Reference2Ideal.defs (onTc (τ := Cert.Reference2Ideal.τ) (Cert.Reference2Ideal.main (F := F))) ⟨m, fun _ => 0, g⟩ (fun r => (∀ c : Dev Cert.Reference2Ideal.nD,
      (r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)))
      ∧ r.2.sem = fun _ => 0) :=
  (θ_run Cert.Reference2Ideal.defs _ _).mono (fun r h => ⟨fun c => (h c).2, sem_eq_zero_of_no_sems (by decide) r.2⟩) (Cert.Reference2Ideal.Value.run (F := F) m g)

theorem rows_same2 : Cert.Kernel2.defs₀ (F := Bits) = Cert.Kernel2Ideal.defs₀ (F := Bits) := by
  funext p ℓ a
  cases p with
  | tc =>
    match ℓ, a with
    | 0, a => rfl
  | _ => rfl
theorem defs_same2 : Cert.Kernel2.defs (F := Bits) = Cert.Kernel2Ideal.defs (F := Bits) := by
  show Pipeline.defs Cert.Kernel2.pcfgs Cert.Kernel2.defs₀ = Pipeline.defs Cert.Kernel2Ideal.pcfgs Cert.Kernel2Ideal.defs₀
  exact congrArg (Pipeline.defs Cert.Kernel2.pcfgs) rows_same2

theorem frame_kernel2 : Cert.quiescent_Kernel2 := fun m g h => by
  rw [defs_same2]
  exact experts_frame (F := Bits) m g h

theorem frame_kernel2Ideal : Cert.quiescent_Kernel2Ideal := fun m g h => experts_frame (F := Ideal) m g h

theorem frame_reference2 : Cert.quiescent_Reference2 := fun m g _ => reference2_frame (F := Bits) m g

theorem frame_reference2Ideal : Cert.quiescent_Reference2Ideal := fun m g _ => reference2_frame (F := Ideal) m g

theorem experts_value : Cert.algebraic_Kernel2Ideal_Reference2Ideal_on_valid_rows := fun m g m' g' hp ha => by
  have ht := Experts.tables (F := Ideal) m hp
  refine ⟨fun c => Cert.Reference2Ideal.Value.res_main_v52 (F := Ideal) m' c, ?_, ?_⟩
  · refine (θ_run Cert.Kernel2Ideal.defs _ _).mono (fun r h c => ⟨fun i hi => ?_, (h.1 c).1⟩) (Cert.Kernel2Ideal.Hand.run_read (F := Ideal) (m := m) g ht)
    obtain ⟨a0, _, _, a3, a4, a5, a6, a7⟩ := ha c
    exact Experts.same m ht m' c a0 a3 a4 a5 a6 a7 _ (h.1 c).2 i hi
  · exact (θ_run Cert.Reference2Ideal.defs _ _).mono (fun r h c => ⟨fun i _ => congrFun (h c).1 i, (h c).2⟩) (Cert.Reference2Ideal.Value.run (F := Ideal) m' g')

/-! ## The combination -/

/-- The combination's launch, at any float values: the result holds every token's sums, the arguments are kept, every counter
    ends at zero. -/
theorem combine_run {F : FTy → Type} [FloatOps F] (m : (ℓ : Loc Cert.Kernel3Ideal.nD Cert.Kernel3Ideal.τ Cert.Kernel3Ideal.sig) → Buf (Elt F) ℓ) (g : Dev Cert.Kernel3Ideal.nD → PrngReg)
    (h : ∀ c : Dev Cert.Kernel3Ideal.nD, Cert.Pre_rows_inside.fn (F := F) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) = fun _ => 1#1) :
    θ_run Cert.Kernel3Ideal.defs (onTc (τ := Cert.Kernel3Ideal.τ) (Cert.Kernel3Ideal.main (F := F))) ⟨m, fun _ => 0, g⟩ (fun r => (∀ c : Dev Cert.Kernel3Ideal.nD,
      (r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.mem ((c.tc : Thread Cert.Kernel3Ideal.nD Cert.Kernel3Ideal.τ).loc Cert.Kernel3Ideal.main_v0) = Cert.Kernel3Ideal.Hand.combined (wordAt (m ((c.tc : Thread Cert.Kernel3Ideal.nD Cert.Kernel3Ideal.τ).loc Cert.Kernel3Ideal.main_arg0))) (m ((c.tc : Thread Cert.Kernel3Ideal.nD Cert.Kernel3Ideal.τ).loc Cert.Kernel3Ideal.main_arg1))
          (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)))
      ∧ r.2.sem = fun _ => 0) :=
  Cert.Kernel3Ideal.Hand.run_read (F := F) (m := m) g fun c => Combine.inside_of_pre _ _ _ _ (h c)

/-- The same run, read at the arguments and the counters. -/
theorem combine_frame {F : FTy → Type} [FloatOps F] (m : (ℓ : Loc Cert.Kernel3Ideal.nD Cert.Kernel3Ideal.τ Cert.Kernel3Ideal.sig) → Buf (Elt F) ℓ) (g : Dev Cert.Kernel3Ideal.nD → PrngReg)
    (h : ∀ c : Dev Cert.Kernel3Ideal.nD, Cert.Pre_rows_inside.fn (F := F) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) = fun _ => 1#1) :
    θ_run Cert.Kernel3Ideal.defs (onTc (τ := Cert.Kernel3Ideal.τ) (Cert.Kernel3Ideal.main (F := F))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0) :=
  (θ_run Cert.Kernel3Ideal.defs _ _).mono (fun _ h => ⟨fun c => (h.1 c).1, h.2⟩) (combine_run m g h)

/-- The reference's run, read at the arguments and the counters. -/
theorem reference3_frame {F : FTy → Type} [FloatOps F] (m : (ℓ : Loc Cert.Reference3Ideal.nD Cert.Reference3Ideal.τ Cert.Reference3Ideal.sig) → Buf (Elt F) ℓ) (g : Dev Cert.Reference3Ideal.nD → PrngReg) :
    θ_run Cert.Reference3Ideal.defs (onTc (τ := Cert.Reference3Ideal.τ) (Cert.Reference3Ideal.main (F := F))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run Cert.Reference3Ideal.defs _ _).mono (fun r h => ⟨fun c => (h c).2, sem_eq_zero_of_no_sems (by decide) r.2⟩) (Cert.Reference3Ideal.Value.run (F := F) m g)

theorem rows_same3 : Cert.Kernel3.defs₀ (F := Bits) = Cert.Kernel3Ideal.defs₀ (F := Bits) := by
  funext p ℓ a
  cases p with
  | tc =>
    match ℓ, a with
    | 0, a => rfl
  | _ => rfl
theorem defs_same3 : Cert.Kernel3.defs (F := Bits) = Cert.Kernel3Ideal.defs (F := Bits) := by
  show Pipeline.defs Cert.Kernel3.pcfgs Cert.Kernel3.defs₀ = Pipeline.defs Cert.Kernel3Ideal.pcfgs Cert.Kernel3Ideal.defs₀
  exact congrArg (Pipeline.defs Cert.Kernel3.pcfgs) rows_same3

theorem frame_kernel3 : Cert.quiescent_Kernel3 := fun m g h => by
  rw [defs_same3]
  exact combine_frame (F := Bits) m g h

theorem frame_kernel3Ideal : Cert.quiescent_Kernel3Ideal := fun m g h => combine_frame (F := Ideal) m g h

theorem frame_reference3 : Cert.quiescent_Reference3 := fun m g _ => reference3_frame (F := Bits) m g

theorem frame_reference3Ideal : Cert.quiescent_Reference3Ideal := fun m g _ => reference3_frame (F := Ideal) m g

theorem combine_value : Cert.algebraic_Kernel3Ideal_Reference3Ideal := fun m g m' g' hp ha => by
  refine ⟨fun c => Cert.Kernel3Ideal.Hand.combined (F := Ideal) (wordAt (m ((c.tc : Thread Cert.Kernel3Ideal.nD Cert.Kernel3Ideal.τ).loc Cert.Kernel3Ideal.main_arg0))) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · exact (θ_run Cert.Kernel3Ideal.defs _ _).mono (fun r h c => ⟨(h.1 c).2, (h.1 c).1⟩) (combine_run (F := Ideal) m g hp)
  · exact (θ_run Cert.Reference3Ideal.defs _ _).mono (fun r h c => ⟨(h c).1.trans (Combine.reference_combined (F := Ideal) m' c _ _ _ _ (Combine.inside_of_pre (F := Ideal) _ _ _ _ (hp c)) (ha c).1 (ha c).2.1 (ha c).2.2.1 (ha c).2.2.2), (h c).2⟩)
      (Cert.Reference3Ideal.Value.run (F := Ideal) m' g')

theorem combine_bits : Cert.bitexact_Kernel3_Reference3 := fun m g m' g' hp ha => by
  refine ⟨fun c => Cert.Kernel3Ideal.Hand.combined (F := Bits) (wordAt (m ((c.tc : Thread Cert.Kernel3Ideal.nD Cert.Kernel3Ideal.τ).loc Cert.Kernel3Ideal.main_arg0))) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · rw [defs_same3]
    exact (θ_run Cert.Kernel3Ideal.defs _ _).mono (fun r h c => ⟨(h.1 c).2, (h.1 c).1⟩) (combine_run (F := Bits) m g hp)
  · exact (θ_run Cert.Reference3Ideal.defs _ _).mono (fun r h c => ⟨(h c).1.trans (Combine.reference_combined (F := Bits) m' c _ _ _ _ (Combine.inside_of_pre (F := Bits) _ _ _ _ (hp c)) (ha c).1 (ha c).2.1 (ha c).2.2.1 (ha c).2.2.2), (h c).2⟩)
      (Cert.Reference3Ideal.Value.run (F := Bits) m' g')

/-! ## The projections -/

/-- The reference's run, read at the arguments and the counters. -/
theorem reference4_frame {F : FTy → Type} [FloatOps F] (m : (ℓ : Loc Cert.Reference4Ideal.nD Cert.Reference4Ideal.τ Cert.Reference4Ideal.sig) → Buf (Elt F) ℓ) (g : Dev Cert.Reference4Ideal.nD → PrngReg) :
    θ_run Cert.Reference4Ideal.defs (onTc (τ := Cert.Reference4Ideal.τ) (Cert.Reference4Ideal.main (F := F))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0) :=
  (θ_run Cert.Reference4Ideal.defs _ _).mono (fun r h => ⟨fun c => (h c).2.2.2.2.2, sem_eq_zero_of_no_sems (by decide) r.2⟩) (Cert.Reference4Ideal.Value.run (F := F) m g)

theorem rows_same4 : Cert.Kernel4.defs₀ (F := Bits) = Cert.Kernel4Ideal.defs₀ (F := Bits) := by
  funext p ℓ a
  cases p with
  | tc =>
    match ℓ, a with
    | 0, a => rfl
  | _ => rfl
theorem defs_same4 : Cert.Kernel4.defs (F := Bits) = Cert.Kernel4Ideal.defs (F := Bits) := by
  show Pipeline.defs Cert.Kernel4.pcfgs Cert.Kernel4.defs₀ = Pipeline.defs Cert.Kernel4Ideal.pcfgs Cert.Kernel4Ideal.defs₀
  exact congrArg (Pipeline.defs Cert.Kernel4.pcfgs) rows_same4

theorem frame_kernel4 : Cert.quiescent_Kernel4 := fun m g _ => by
  rw [defs_same4]
  exact Cert.Kernel4Ideal.Gen.frame (F := Bits) m g

theorem frame_kernel4Ideal : Cert.quiescent_Kernel4Ideal := fun m g _ => Cert.Kernel4Ideal.Gen.frame (F := Ideal) m g

theorem frame_reference4 : Cert.quiescent_Reference4 := fun m g _ => reference4_frame (F := Bits) m g

theorem frame_reference4Ideal : Cert.quiescent_Reference4Ideal := fun m g _ => reference4_frame (F := Ideal) m g

theorem project_value : Cert.algebraic_Kernel4Ideal_Reference4Ideal := fun m g m' g' _ ha => by
  refine ⟨fun c => (fun i : Cert.Kernel4Ideal.S16384x512.Idx => Project.queries (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (i 0) (i 1)),
    fun c => (fun i : Cert.Kernel4Ideal.S16384x512.Idx => Project.keys (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (i 0) (i 1)),
    fun c => (fun i : Cert.Kernel4Ideal.S16384x512.Idx => Project.values (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)),
    fun c => (fun i : Cert.Kernel4Ideal.S16384x1536.Idx => Project.deltas (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)),
    fun c => (fun i : Cert.Kernel4Ideal.S16384x512.Idx => Project.gates (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)), ?_, ?_⟩
  · exact Project.kernel_run m g
  · refine (θ_run Cert.Reference4Ideal.defs _ _).mono (fun r h c => ?_) (Project.reference_run m' g')
    obtain ⟨a0, a1, a2, a3, a4, a5, a6, a7⟩ := ha c
    have h := h c
    rw [a0, a1, a2, a4, a5] at h
    exact ⟨h.1, h.2.1, h.2.2.1, h.2.2.2.1, h.2.2.2.2.1, (h.2.2.2.2.2.1.trans a0.symm), (h.2.2.2.2.2.2.1.trans a1.symm), (h.2.2.2.2.2.2.2.1.trans a2.symm), h.2.2.2.2.2.2.2.2.1,
      (h.2.2.2.2.2.2.2.2.2.1.trans a4.symm), (h.2.2.2.2.2.2.2.2.2.2.1.trans a5.symm), h.2.2.2.2.2.2.2.2.2.2.2⟩

theorem claim : Cert.Claim :=
  ⟨Cert.Kernel.Gen.facts, Cert.KernelIdeal.Gen.facts, Cert.Reference.Gen.facts, Cert.ReferenceIdeal.Gen.facts,
    Cert.Kernel2.Gen.facts, Cert.Kernel2Ideal.Gen.facts, Cert.Reference2.Gen.facts, Cert.Reference2Ideal.Gen.facts,
    Cert.Kernel3.Gen.facts, Cert.Kernel3Ideal.Gen.facts, Cert.Reference3.Gen.facts, Cert.Reference3Ideal.Gen.facts,
    Cert.Kernel4.Gen.facts, Cert.Kernel4Ideal.Gen.facts, Cert.Reference4.Gen.facts, Cert.Reference4Ideal.Gen.facts,
    Cert.Pre_distinct_positions.Gen.facts, Cert.Pre_tiles_of_experts.Gen.facts, Cert.Pre_rows_inside.Gen.facts, Cert.On_assigned.Gen.facts, Cert.On_valid_rows.Gen.facts,
    frame_kernel, frame_kernelIdeal, frame_reference, frame_referenceIdeal, frame_kernel2, frame_kernel2Ideal, frame_reference2, frame_reference2Ideal,
    frame_kernel3, frame_kernel3Ideal, frame_reference3, frame_reference3Ideal, frame_kernel4, frame_kernel4Ideal, frame_reference4, frame_reference4Ideal,
    trivial, dispatch_bits, dispatch_value, trivial, experts_value, trivial, combine_bits, combine_value, trivial, project_value⟩

end Cert.Proof

end
